-- ==== Defs.lean ====
def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite [hPre_finite : Cert.Pre_finite.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite [hPre_finite : Cert.Pre_finite.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ r.2.sem = fun _ => 0)

def quiescent_MlstmIdeal_pre_finite [hMlstmIdeal : Cert.MlstmIdeal.Facts] [hPre_finite : Cert.Pre_finite.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2))
      ∧ r.2.sem = fun _ => 0)

def quiescent_MlstmRefIdeal_pre_finite [hMlstmRefIdeal : Cert.MlstmRefIdeal.Facts] [hPre_finite : Cert.Pre_finite.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Mlstm_MlstmIdeal : Prop :=
  True

def algebraic_MlstmIdeal_MlstmRefIdeal_pre_finite [hMlstmIdeal : Cert.MlstmIdeal.Facts] [hMlstmRefIdeal : Cert.MlstmRefIdeal.Facts] [hPre_finite : Cert.Pre_finite.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)) →
    ∃ (v0 : (c : Dev Cert.MlstmIdeal.nD) → Buf (Elt Ideal) ((c.tc : Thread Cert.MlstmIdeal.nD Cert.MlstmIdeal.τ).loc Cert.MlstmIdeal.main_v3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v3) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v69) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v15_0)) (v1 : (c : Dev Cert.InProjIdeal.nD) → Buf (Elt Ideal) ((c.tc : Thread Cert.InProjIdeal.nD Cert.InProjIdeal.τ).loc Cert.InProjIdeal.main_v15_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15_0) = v0 c
          ∧ r.2.mem ((c.tc : Thread Cert.InProjIdeal.nD Cert.InProjIdeal.τ).loc Cert.InProjIdeal.main_v15_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v69) = v0 c
          ∧ r.2.mem ((c.tc : Thread Cert.InProjRefIdeal.nD Cert.InProjRefIdeal.τ).loc Cert.InProjRefIdeal.main_v70) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v56)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v56) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v46) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hMlstm : Cert.Mlstm.Facts) (hMlstmIdeal : Cert.MlstmIdeal.Facts) (hMlstmRefIdeal : Cert.MlstmRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hBias : Cert.Bias.Facts) (hBiasIdeal : Cert.BiasIdeal.Facts) (hBiasRefIdeal : Cert.BiasRefIdeal.Facts) (hPre_finite : Cert.Pre_finite.Facts),
    quiescent_Mlstm (hMlstm := hMlstm)
    ∧ quiescent_MlstmIdeal (hMlstmIdeal := hMlstmIdeal)
    ∧ quiescent_MlstmIdeal_pre_finite (hMlstmIdeal := hMlstmIdeal) (hPre_finite := hPre_finite)
    ∧ quiescent_MlstmRefIdeal (hMlstmRefIdeal := hMlstmRefIdeal)
    ∧ quiescent_MlstmRefIdeal_pre_finite (hMlstmRefIdeal := hMlstmRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Bias (hBias := hBias)
    ∧ quiescent_BiasIdeal (hBiasIdeal := hBiasIdeal)
    ∧ quiescent_BiasRefIdeal (hBiasRefIdeal := hBiasRefIdeal)
    ∧ preserves_Mlstm_MlstmIdeal
    ∧ algebraic_MlstmIdeal_MlstmRefIdeal_pre_finite (hMlstmIdeal := hMlstmIdeal) (hMlstmRefIdeal := hMlstmRefIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Bias_BiasIdeal
    ∧ algebraic_BiasIdeal_BiasRefIdeal (hBiasIdeal := hBiasIdeal) (hBiasRefIdeal := hBiasRefIdeal)
-- ==== Pre_finite.lean ====
abbrev S32768x9216 : Shape := ⟨2, ![32768, 9216]⟩
abbrev S32768x128 : Shape := ⟨2, ![32768, 128]⟩
abbrev S1024 : Shape := ⟨1, ![1024]⟩
abbrev S32768x3072 : Shape := ⟨2, ![32768, 3072]⟩
abbrev S_ : Shape := ⟨0, ![]⟩
abbrev S32768x8 : Shape := ⟨2, ![32768, 8]⟩

class Facts : Prop where
  slices_S32768x9216_S32768x3072_0_0 : S32768x9216.Slices ![0, 0] S32768x3072
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel
  slices_S32768x128_S32768x8_0_0 : S32768x128.Slices ![0, 0] S32768x8
  bcast_S_S32768x8 : S_.BroadcastsInDim S32768x8 (![] : Fin 0 → Fin S32768x8.rank)
  reducesTo_S32768x8_S_d0_1 : S32768x8.ReducesTo [0, 1] S_

variable [Facts]

def fn {F : FTy → Type} [FloatOps F] (main_arg0 : FVec F S32768x9216 .bf16) (main_arg1 : FVec F S32768x128 .f32) (main_arg2 : FVec F S1024 .f32) : IVec S_ 1 :=
  let main_v0 : FVec F S32768x3072 .bf16 := (extractStridedSlice S32768x3072 ![0, 0] · slices_S32768x9216_S32768x3072_0_0) main_arg0
  let main_v1 : FVec F S32768x3072 .f32 := (extf .f32 · bitsLt_bf16_f32) main_v0
  let main_v2 : FVec F S32768x3072 .f32 := Host.absf main_v1
  let main_cst : FVec F S_ .f32 := constant S_ .f32 0x7F800000#32
  let main_v3 : FVec F S32768x3072 .f32 := broadcastInDim S32768x3072 ![] bcast_S_S32768x3072 main_cst
  let main_v4 : IVec S32768x3072 1 := cmpf .olt main_v2 main_v3
  let main_c : IVec S_ 1 := constantI S_ 1 1#1
  let main_v5 : IVec S_ 1 := (fun x v => Host.reduce IntOp.andi x v reducesTo_S32768x3072_S_d0_1 h_S_) main_v4 main_c
  let main_v6 : FVec F S32768x8 .f32 := (extractStridedSlice S32768x8 ![0, 0] · slices_S32768x128_S32768x8_0_0) main_arg1
  let main_v7 : FVec F S32768x8 .f32 := Host.absf main_v6
  let main_cst_0 : FVec F S_ .f32 := constant S_ .f32 0x7F800000#32
  let main_v8 : FVec F S32768x8 .f32 := broadcastInDim S32768x8 ![] bcast_S_S32768x8 main_cst_0
  let main_v9 : IVec S32768x8 1 := cmpf .olt main_v7 main_v8
  let main_c_1 : IVec S_ 1 := constantI S_ 1 1#1
  let main_v10 : IVec S_ 1 := (fun x v => Host.reduce IntOp.andi x v reducesTo_S32768x8_S_d0_1 h_S_) main_v9 main_c_1
  let main_v11 : IVec S_ 1 := andi main_v5 main_v10
  main_v11
-- ==== Mlstm.lean ====
abbrev S32768x9216 : Shape := ⟨2, ![32768, 9216]⟩
abbrev S32768x128 : Shape := ⟨2, ![32768, 128]⟩
abbrev S1024 : Shape := ⟨1, ![1024]⟩
abbrev S32768x8 : Shape := ⟨2, ![32768, 8]⟩
abbrev S8x32768 : Shape := ⟨2, ![8, 32768]⟩
abbrev S1x1024 : Shape := ⟨2, ![1, 1024]⟩
abbrev S32768x1024 : Shape := ⟨2, ![32768, 1024]⟩
abbrev S256x1024 : Shape := ⟨2, ![256, 1024]⟩
abbrev S256x128 : Shape := ⟨2, ![256, 128]⟩
abbrev S8x256 : Shape := ⟨2, ![8, 256]⟩
abbrev S4x256x256 : Shape := ⟨3, ![4, 256, 256]⟩
abbrev S4x1x256 : Shape := ⟨3, ![4, 1, 256]⟩
abbrev S4x1x1 : Shape := ⟨3, ![4, 1, 1]⟩
abbrev S256x256 : Shape := ⟨2, ![256, 256]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S1x256x256 : Shape := ⟨3, ![1, 256, 256]⟩
abbrev S1x1x256 : Shape := ⟨3, ![1, 1, 256]⟩
abbrev S256 : Shape := ⟨1, ![256]⟩
abbrev S1 : Shape := ⟨1, ![1]⟩

abbrev nBuf : Space → Nat
  | .hbm => 7
  | .vmem => 18
  | .smem => 0
  | _ => 0

abbrev bufTy : (tb : Table) → Fin (tcTables nBuf tb) → BufTy
  | .hbm, ⟨0, _⟩ => ⟨S32768x9216, .bf16⟩
  | .hbm, ⟨1, _⟩ => ⟨S32768x128, .f32⟩
  | .hbm, ⟨2, _⟩ => ⟨S1024, .f32⟩
  | .hbm, ⟨3, _⟩ => ⟨S32768x8, .f32⟩
  | .hbm, ⟨4, _⟩ => ⟨S8x32768, .f32⟩
  | .hbm, ⟨5, _⟩ => ⟨S1x1024, .f32⟩
  | .hbm, ⟨6, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S8x256, .f32⟩
  | .local _ .vmem, ⟨11, _⟩ => ⟨S8x256, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S4x256x256, .f32⟩
  | .local _ .vmem, ⟨16, _⟩ => ⟨S4x1x256, .f32⟩
  | .local _ .vmem, ⟨17, _⟩ => ⟨S4x1x1, .f32⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlstmRefIdeal.lean ====
abbrev S32768x9216 : Shape := ⟨2, ![32768, 9216]⟩
abbrev S32768x128 : Shape := ⟨2, ![32768, 128]⟩
abbrev S1024 : Shape := ⟨1, ![1024]⟩
abbrev S4x8192x9216 : Shape := ⟨3, ![4, 8192, 9216]⟩
abbrev S4x8192x128 : Shape := ⟨3, ![4, 8192, 128]⟩
abbrev S4x8192x1024 : Shape := ⟨3, ![4, 8192, 1024]⟩
abbrev S4x8192x4 : Shape := ⟨3, ![4, 8192, 4]⟩
abbrev S4x8192x4x256 : Shape := ⟨4, ![4, 8192, 4, 256]⟩
abbrev S4x4x8192x256 : Shape := ⟨4, ![4, 4, 8192, 256]⟩
abbrev S4x4x8192 : Shape := ⟨3, ![4, 4, 8192]⟩
abbrev S_ : Shape := ⟨0, ![]⟩
abbrev S4x4x128x64 : Shape := ⟨4, ![4, 4, 128, 64]⟩
abbrev S128x4x4x64 : Shape := ⟨4, ![128, 4, 4, 64]⟩
abbrev S64x64 : Shape := ⟨2, ![64, 64]⟩
abbrev S4x4x256x256 : Shape := ⟨4, ![4, 4, 256, 256]⟩
abbrev S4x4x256 : Shape := ⟨3, ![4, 4, 256]⟩
abbrev S4x4 : Shape := ⟨2, ![4, 4]⟩
abbrev S4x4x128x64x256 : Shape := ⟨5, ![4, 4, 128, 64, 256]⟩
abbrev S128x4x4x64x256 : Shape := ⟨5, ![128, 4, 4, 64, 256]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x4x8192x1 : Shape := ⟨4, ![4, 4, 8192, 1]⟩
abbrev S1x1x1024 : Shape := ⟨3, ![1, 1, 1024]⟩
abbrev S32768x1024 : Shape := ⟨2, ![32768, 1024]⟩

abbrev nBuf : Space → Nat
  | .hbm => 230
  | .vmem => 0
  | .smem => 0
  | _ => 0

abbrev hbmTy0_0 (i : Nat) : BufTy := match i % 128 with
  | 0 => ⟨S32768x9216, .bf16⟩
  | 1 => ⟨S32768x128, .f32⟩
  | 2 => ⟨S1024, .f32⟩
  | 3 => ⟨S4x8192x9216, .bf16⟩
  | 4 => ⟨S4x8192x128, .f32⟩
  | 5 => ⟨S4x8192x1024, .bf16⟩
  | 6 => ⟨S4x8192x1024, .f32⟩
  | 7 => ⟨S4x8192x1024, .bf16⟩
  | 8 => ⟨S4x8192x1024, .f32⟩
  | 9 => ⟨S4x8192x1024, .bf16⟩
  | 10 => ⟨S4x8192x1024, .f32⟩
  | 11 => ⟨S4x8192x4, .f32⟩
  | 12 => ⟨S4x8192x4, .f32⟩
  | 13 => ⟨S4x8192x4x256, .f32⟩
  | 14 => ⟨S4x4x8192x256, .f32⟩
  | 15 => ⟨S4x8192x4x256, .f32⟩
  | 16 => ⟨S4x4x8192x256, .f32⟩
  | 17 => ⟨S4x8192x4x256, .f32⟩
  | 18 => ⟨S4x4x8192x256, .f32⟩
  | 19 => ⟨S4x4x8192, .f32⟩
  | 20 => ⟨S4x4x8192, .f32⟩
  | 21 => ⟨S4x4x8192, .f32⟩
  | 22 => ⟨S_, .f32⟩
  | 23 => ⟨S4x4x8192, .f32⟩
  | 24 => ⟨S4x4x8192, .f32⟩
  | 25 => ⟨S4x4x8192, .f32⟩
  | 26 => ⟨S4x4x8192, .f32⟩
  | 27 => ⟨S4x4x8192, .i1⟩
  | 28 => ⟨S4x4x8192, .f32⟩
  | 29 => ⟨S4x4x8192, .f32⟩
  | 30 => ⟨S4x4x8192, .f32⟩
  | 31 => ⟨S4x4x8192, .f32⟩
  | 32 => ⟨S4x4x8192, .f32⟩
  | 33 => ⟨S4x4x8192, .f32⟩
  | 34 => ⟨S4x4x8192, .f32⟩
  | 35 => ⟨S4x4x8192, .f32⟩
  | 36 => ⟨S4x4x8192, .f32⟩
  | 37 => ⟨S4x4x128x64, .f32⟩
  | 38 => ⟨S128x4x4x64, .f32⟩
  | 39 => ⟨S_, .f32⟩
  | 40 => ⟨S_, .f32⟩
  | 41 => ⟨S128x4x4x64, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S_, .f32⟩
  | 54 => ⟨S4x4x256x256, .f32⟩
  | 55 => ⟨S_, .f32⟩
  | 56 => ⟨S4x4x256, .f32⟩
  | 57 => ⟨S_, .f32⟩
  | 58 => ⟨S4x4, .f32⟩
  | 59 => ⟨S4x4x128x64x256, .f32⟩
  | 60 => ⟨S128x4x4x64x256, .f32⟩
  | 61 => ⟨S4x4x128x64x256, .f32⟩
  | 62 => ⟨S128x4x4x64x256, .f32⟩
  | 63 => ⟨S4x4x128x64x256, .f32⟩
  | 64 => ⟨S128x4x4x64x256, .f32⟩
  | 65 => ⟨S4x4x128x64, .f32⟩
  | 66 => ⟨S128x4x4x64, .f32⟩
  | 67 => ⟨S_, .f32⟩
  | 68 => ⟨S128x4x4x64x256, .f32⟩
  | 69 => ⟨S_, .i32⟩
  | 70 => ⟨S128x4x4x64x256, .f32⟩
  | 71 => ⟨S128x4x4x64x256, .f32⟩
  | 72 => ⟨S128x4x4x64x256, .f32⟩
  | 73 => ⟨S128x4x4x64, .f32⟩
  | 74 => ⟨S128x4x4x64, .f32⟩
  | 75 => ⟨S64x64, .i1⟩
  | 76 => ⟨S_, .i32⟩
  | 77 => ⟨S4x4x256x256, .f32⟩
  | 78 => ⟨S4x4x256, .f32⟩
  | 79 => ⟨S4x4, .f32⟩
  | 80 => ⟨S128x4x4x64x256, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x4x4x64x256, .f32⟩
  | 88 => ⟨S4x4x64x256, .f32⟩
  | 89 => ⟨S_, .i32⟩
  | 90 => ⟨S_, .i32⟩
  | 91 => ⟨S_, .i32⟩
  | 92 => ⟨S_, .i32⟩
  | 93 => ⟨S1x4x4x64x256, .f32⟩
  | 94 => ⟨S4x4x64x256, .f32⟩
  | 95 => ⟨S_, .i32⟩
  | 96 => ⟨S_, .i32⟩
  | 97 => ⟨S_, .i32⟩
  | 98 => ⟨S_, .i32⟩
  | 99 => ⟨S1x4x4x64x256, .f32⟩
  | 100 => ⟨S4x4x64x256, .f32⟩
  | 101 => ⟨S_, .i32⟩
  | 102 => ⟨S_, .i32⟩
  | 103 => ⟨S_, .i32⟩
  | 104 => ⟨S1x4x4x64, .f32⟩
  | 105 => ⟨S4x4x64, .f32⟩
  | 106 => ⟨S_, .i32⟩
  | 107 => ⟨S_, .i32⟩
  | 108 => ⟨S_, .i32⟩
  | 109 => ⟨S1x4x4x64, .f32⟩
  | 110 => ⟨S4x4x64, .f32⟩
  | 111 => ⟨S4x4x64x1, .f32⟩
  | 112 => ⟨S4x4x1x64, .f32⟩
  | 113 => ⟨S4x4x64x64, .f32⟩
  | 114 => ⟨S4x4x64x64, .f32⟩
  | 115 => ⟨S4x4x64x64, .f32⟩
  | 116 => ⟨S4x4x1x64, .f32⟩
  | 117 => ⟨S4x4x64x64, .f32⟩
  | 118 => ⟨S4x4x64x64, .f32⟩
  | 119 => ⟨S_, .f32⟩
  | 120 => ⟨S_, .f32⟩
  | 121 => ⟨S4x4x64x64, .i1⟩
  | 122 => ⟨S4x4x64x64, .f32⟩
  | 123 => ⟨S4x4x64x64, .f32⟩
  | 124 => ⟨S4x4x1, .f32⟩
  | 125 => ⟨S4x4x64, .f32⟩
  | 126 => ⟨S4x4x64, .f32⟩
  | 127 => ⟨S_, .f32⟩
  | _ => ⟨S32768x9216, .bf16⟩

abbrev hbmTy0_1 (i : Nat) : BufTy := match i % 128 with
  | 0 => ⟨S4x4x64, .f32⟩
  | 1 => ⟨S4x4x64, .f32⟩
  | 2 => ⟨S4x4x64, .f32⟩
  | 3 => ⟨S4x4x64, .f32⟩
  | 4 => ⟨S4x4x64x64, .f32⟩
  | 5 => ⟨S4x4x64x1, .f32⟩
  | 6 => ⟨S4x4x64x64, .f32⟩
  | 7 => ⟨S4x4x64x64, .f32⟩
  | 8 => ⟨S4x4x64x64, .f32⟩
  | 9 => ⟨S4x4x64x64, .f32⟩
  | 10 => ⟨S4x4x64x1, .f32⟩
  | 11 => ⟨S4x4x64x256, .f32⟩
  | 12 => ⟨S4x4x64x256, .f32⟩
  | 13 => ⟨S4x4x64x256, .f32⟩
  | 14 => ⟨S4x4x64x256, .f32⟩
  | 15 => ⟨S4x4x64x256, .f32⟩
  | 16 => ⟨S4x4x64, .f32⟩
  | 17 => ⟨S4x4x64, .f32⟩
  | 18 => ⟨S_, .f32⟩
  | 19 => ⟨S4x4x64, .f32⟩
  | 20 => ⟨S4x4x64, .f32⟩
  | 21 => ⟨S4x4x64, .f32⟩
  | 22 => ⟨S4x4x64, .f32⟩
  | 23 => ⟨S4x4x64, .f32⟩
  | 24 => ⟨S4x4x64, .f32⟩
  | 25 => ⟨S4x4x64x1, .f32⟩
  | 26 => ⟨S4x4x64x256, .f32⟩
  | 27 => ⟨S4x4x64x256, .f32⟩
  | 28 => ⟨S4x4x1, .f32⟩
  | 29 => ⟨S4x4, .f32⟩
  | 30 => ⟨S4x4x1, .f32⟩
  | 31 => ⟨S4x4x64, .f32⟩
  | 32 => ⟨S4x4x64, .f32⟩
  | 33 => ⟨S4x4x64, .f32⟩
  | 34 => ⟨S4x4, .f32⟩
  | 35 => ⟨S_, .f32⟩
  | 36 => ⟨S4x4, .f32⟩
  | 37 => ⟨S4x4, .f32⟩
  | 38 => ⟨S4x4, .f32⟩
  | 39 => ⟨S4x4, .f32⟩
  | 40 => ⟨S4x4, .f32⟩
  | 41 => ⟨S4x4x1, .f32⟩
  | 42 => ⟨S4x4x64, .f32⟩
  | 43 => ⟨S4x4x64, .f32⟩
  | 44 => ⟨S4x4x64, .f32⟩
  | 45 => ⟨S4x4x1x1, .f32⟩
  | 46 => ⟨S4x4x256x256, .f32⟩
  | 47 => ⟨S4x4x256x256, .f32⟩
  | 48 => ⟨S4x4x64x1, .f32⟩
  | 49 => ⟨S4x4x64x256, .f32⟩
  | 50 => ⟨S4x4x64x256, .f32⟩
  | 51 => ⟨S4x4x256x256, .f32⟩
  | 52 => ⟨S4x4x256x256, .f32⟩
  | 53 => ⟨S4x4x1, .f32⟩
  | 54 => ⟨S4x4x256, .f32⟩
  | 55 => ⟨S4x4x256, .f32⟩
  | 56 => ⟨S4x4x256, .f32⟩
  | 57 => ⟨S4x4x256, .f32⟩
  | 58 => ⟨S1x4x4x64x256, .f32⟩
  | 59 => ⟨S_, .i32⟩
  | 60 => ⟨S_, .i32⟩
  | 61 => ⟨S_, .i32⟩
  | 62 => ⟨S_, .i32⟩
  | 63 => ⟨S128x4x4x64x256, .f32⟩
  | 64 => ⟨S_, .i32⟩
  | 65 => ⟨S_, .i32⟩
  | 66 => ⟨S4x4x128x64x256, .f32⟩
  | 67 => ⟨S4x4x8192x256, .f32⟩
  | 68 => ⟨S4x8192x9216, .bf16⟩
  | 69 => ⟨S4x8192x1024, .bf16⟩
  | 70 => ⟨S4x8192x1024, .f32⟩
  | 71 => ⟨S_, .f32⟩
  | 72 => ⟨S4x4x8192, .f32⟩
  | 73 => ⟨S4x4x8192x1, .f32⟩
  | 74 => ⟨S_, .f32⟩
  | 75 => ⟨S4x4x8192x1, .f32⟩
  | 76 => ⟨S4x4x8192x1, .f32⟩
  | 77 => ⟨S4x4x8192x256, .f32⟩
  | 78 => ⟨S4x4x8192x256, .f32⟩
  | 79 => ⟨S4x4x8192x256, .f32⟩
  | 80 => ⟨S_, .f32⟩
  | 81 => ⟨S4x4x8192, .f32⟩
  | 82 => ⟨S4x4x8192x1, .f32⟩
  | 83 => ⟨S_, .f32⟩
  | 84 => ⟨S4x4x8192x1, .f32⟩
  | 85 => ⟨S4x4x8192x1, .f32⟩
  | 86 => ⟨S4x4x8192x256, .f32⟩
  | 87 => ⟨S4x4x8192x256, .f32⟩
  | 88 => ⟨S_, .f32⟩
  | 89 => ⟨S4x4x8192x1, .f32⟩
  | 90 => ⟨S4x4x8192x1, .f32⟩
  | 91 => ⟨S4x4x8192x1, .f32⟩
  | 92 => ⟨S4x4x8192x256, .f32⟩
  | 93 => ⟨S4x4x8192x256, .f32⟩
  | 94 => ⟨S4x8192x4x256, .f32⟩
  | 95 => ⟨S4x8192x1024, .f32⟩
  | 96 => ⟨S1x1x1024, .f32⟩
  | 97 => ⟨S4x8192x1024, .f32⟩
  | 98 => ⟨S4x8192x1024, .f32⟩
  | 99 => ⟨S4x8192x1024, .f32⟩
  | 100 => ⟨S4x8192x1024, .bf16⟩
  | 101 => ⟨S32768x1024, .bf16⟩
  | _ => ⟨S32768x9216, .bf16⟩

abbrev hbmTy (i : Nat) : BufTy := match i / 128 with
  | 0 => hbmTy0_0 i
  | 1 => hbmTy0_1 i
  | _ => ⟨S32768x9216, .bf16⟩

abbrev bufTy : (tb : Table) → Fin (tcTables nBuf tb) → BufTy
  | .hbm, ⟨i, _⟩ => hbmTy i
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_call0_cst : Ref sig .tc := ⟨.hbm, 39, rfl⟩
abbrev main_call1_call0_v0 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_0 : Ref sig .tc := ⟨.hbm, 50, rfl⟩
abbrev main_call2_v5 : Ref sig .tc := ⟨.hbm, 51, rfl⟩
abbrev main_v25 : Ref sig .tc := ⟨.hbm, 52, rfl⟩
abbrev main_cst : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_cst_1 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_2 : Ref sig .tc := ⟨.hbm, 67, rfl⟩
abbrev main_v37 : Ref sig .tc := ⟨.hbm, 68, rfl⟩
abbrev main_c_3 : Ref sig .tc := ⟨.hbm, 69, rfl⟩
abbrev main_v38_0 : Ref sig .tc := ⟨.hbm, 70, rfl⟩
abbrev main_v38_1 : Ref sig .tc := ⟨.hbm, 71, rfl⟩
abbrev main_v38_2 : Ref sig .tc := ⟨.hbm, 72, rfl⟩
abbrev main_v38_3 : Ref sig .tc := ⟨.hbm, 73, rfl⟩
abbrev main_v38_4 : Ref sig .tc := ⟨.hbm, 74, rfl⟩
abbrev main_v38_5 : Ref sig .tc := ⟨.hbm, 75, rfl⟩
abbrev main_v38_6 : Ref sig .tc := ⟨.hbm, 76, rfl⟩
abbrev main_v38_7 : Ref sig .tc := ⟨.hbm, 77, rfl⟩
abbrev main_v38_8 : Ref sig .tc := ⟨.hbm, 78, rfl⟩
abbrev main_v38_9 : Ref sig .tc := ⟨.hbm, 79, rfl⟩
abbrev main_v38_10 : Ref sig .tc := ⟨.hbm, 80, rfl⟩
abbrev main_while0c_c_19 : Ref sig .tc := ⟨.hbm, 81, rfl⟩
abbrev main_while0c_v70 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v70 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v71 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v72 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_v0 : Ref sig .tc := ⟨.hbm, 104, rfl⟩
abbrev main_while0b_v73 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_v0 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_v77 : Ref sig .tc := ⟨.hbm, 113, rfl⟩
abbrev main_while0b_v78 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_cst_19 : Ref sig .tc := ⟨.hbm, 119, rfl⟩
abbrev main_while0b_call8_v0 : Ref sig .tc := ⟨.hbm, 120, rfl⟩
abbrev main_while0b_call8_v1 : Ref sig .tc := ⟨.hbm, 121, rfl⟩
abbrev main_while0b_call8_v2 : Ref sig .tc := ⟨.hbm, 122, rfl⟩
abbrev main_while0b_v83 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_cst_20 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_v95 : Ref sig .tc := ⟨.hbm, 136, rfl⟩
abbrev main_while0b_v96 : Ref sig .tc := ⟨.hbm, 137, rfl⟩
abbrev main_while0b_v97 : Ref sig .tc := ⟨.hbm, 138, rfl⟩
abbrev main_while0b_v98 : Ref sig .tc := ⟨.hbm, 139, rfl⟩
abbrev main_while0b_v99 : Ref sig .tc := ⟨.hbm, 140, rfl⟩
abbrev main_while0b_v100 : Ref sig .tc := ⟨.hbm, 141, rfl⟩
abbrev main_while0b_v101 : Ref sig .tc := ⟨.hbm, 142, rfl⟩
abbrev main_while0b_v102 : Ref sig .tc := ⟨.hbm, 143, rfl⟩
abbrev main_while0b_v103 : Ref sig .tc := ⟨.hbm, 144, rfl⟩
abbrev main_while0b_v104 : Ref sig .tc := ⟨.hbm, 145, rfl⟩
abbrev main_while0b_cst_21 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_v114 : Ref sig .tc := ⟨.hbm, 156, rfl⟩
abbrev main_while0b_v115 : Ref sig .tc := ⟨.hbm, 157, rfl⟩
abbrev main_while0b_v116 : Ref sig .tc := ⟨.hbm, 158, rfl⟩
abbrev main_while0b_v117 : Ref sig .tc := ⟨.hbm, 159, rfl⟩
abbrev main_while0b_v118 : Ref sig .tc := ⟨.hbm, 160, rfl⟩
abbrev main_while0b_v119 : Ref sig .tc := ⟨.hbm, 161, rfl⟩
abbrev main_while0b_v120 : Ref sig .tc := ⟨.hbm, 162, rfl⟩
abbrev main_while0b_cst_22 : Ref sig .tc := ⟨.hbm, 163, rfl⟩
abbrev main_while0b_v121 : Ref sig .tc := ⟨.hbm, 164, rfl⟩
abbrev main_while0b_v122 : Ref sig .tc := ⟨.hbm, 165, rfl⟩
abbrev main_while0b_v123 : Ref sig .tc := ⟨.hbm, 166, rfl⟩
abbrev main_while0b_v124 : Ref sig .tc := ⟨.hbm, 167, rfl⟩
abbrev main_while0b_v125 : Ref sig .tc := ⟨.hbm, 168, rfl⟩
abbrev main_while0b_v126 : Ref sig .tc := ⟨.hbm, 169, rfl⟩
abbrev main_while0b_v127 : Ref sig .tc := ⟨.hbm, 170, rfl⟩
abbrev main_while0b_v128 : Ref sig .tc := ⟨.hbm, 171, rfl⟩
abbrev main_while0b_v129 : Ref sig .tc := ⟨.hbm, 172, rfl⟩
abbrev main_while0b_v130 : Ref sig .tc := ⟨.hbm, 173, rfl⟩
abbrev main_while0b_v131 : Ref sig .tc := ⟨.hbm, 174, rfl⟩
abbrev main_while0b_v132 : Ref sig .tc := ⟨.hbm, 175, rfl⟩
abbrev main_while0b_v133 : Ref sig .tc := ⟨.hbm, 176, rfl⟩
abbrev main_while0b_v134 : Ref sig .tc := ⟨.hbm, 177, rfl⟩
abbrev main_while0b_v135 : Ref sig .tc := ⟨.hbm, 178, rfl⟩
abbrev main_while0b_v136 : Ref sig .tc := ⟨.hbm, 179, rfl⟩
abbrev main_while0b_v137 : Ref sig .tc := ⟨.hbm, 180, rfl⟩
abbrev main_while0b_v138 : Ref sig .tc := ⟨.hbm, 181, rfl⟩
abbrev main_while0b_v139 : Ref sig .tc := ⟨.hbm, 182, rfl⟩
abbrev main_while0b_v140 : Ref sig .tc := ⟨.hbm, 183, rfl⟩
abbrev main_while0b_v141 : Ref sig .tc := ⟨.hbm, 184, rfl⟩
abbrev main_while0b_v142 : Ref sig .tc := ⟨.hbm, 185, rfl⟩
abbrev main_while0b_call9_v0 : Ref sig .tc := ⟨.hbm, 186, rfl⟩
abbrev main_while0b_call9_c : Ref sig .tc := ⟨.hbm, 187, rfl⟩
abbrev main_while0b_call9_c_0 : Ref sig .tc := ⟨.hbm, 188, rfl⟩
abbrev main_while0b_call9_c_1 : Ref sig .tc := ⟨.hbm, 189, rfl⟩
abbrev main_while0b_call9_c_2 : Ref sig .tc := ⟨.hbm, 190, rfl⟩
abbrev main_while0b_v143 : Ref sig .tc := ⟨.hbm, 191, rfl⟩
abbrev main_while0b_c_23 : Ref sig .tc := ⟨.hbm, 192, rfl⟩
abbrev main_while0b_v144 : Ref sig .tc := ⟨.hbm, 193, rfl⟩
abbrev main_v39 : Ref sig .tc := ⟨.hbm, 194, rfl⟩
abbrev main_v40 : Ref sig .tc := ⟨.hbm, 195, rfl⟩
abbrev main_v41 : Ref sig .tc := ⟨.hbm, 196, rfl⟩
abbrev main_v42 : Ref sig .tc := ⟨.hbm, 197, rfl⟩
abbrev main_v43 : Ref sig .tc := ⟨.hbm, 198, rfl⟩
abbrev main_cst_4 : Ref sig .tc := ⟨.hbm, 199, rfl⟩
abbrev main_v44 : Ref sig .tc := ⟨.hbm, 200, rfl⟩
abbrev main_v45 : Ref sig .tc := ⟨.hbm, 201, rfl⟩
abbrev main_cst_5 : Ref sig .tc := ⟨.hbm, 202, rfl⟩
abbrev main_v46 : Ref sig .tc := ⟨.hbm, 203, rfl⟩
abbrev main_v47 : Ref sig .tc := ⟨.hbm, 204, rfl⟩
abbrev main_v48 : Ref sig .tc := ⟨.hbm, 205, rfl⟩
abbrev main_v49 : Ref sig .tc := ⟨.hbm, 206, rfl⟩
abbrev main_v50 : Ref sig .tc := ⟨.hbm, 207, rfl⟩
abbrev main_cst_6 : Ref sig .tc := ⟨.hbm, 208, rfl⟩
abbrev main_v51 : Ref sig .tc := ⟨.hbm, 209, rfl⟩
abbrev main_v52 : Ref sig .tc := ⟨.hbm, 210, rfl⟩
abbrev main_cst_7 : Ref sig .tc := ⟨.hbm, 211, rfl⟩
abbrev main_v53 : Ref sig .tc := ⟨.hbm, 212, rfl⟩
abbrev main_v54 : Ref sig .tc := ⟨.hbm, 213, rfl⟩
abbrev main_v55 : Ref sig .tc := ⟨.hbm, 214, rfl⟩
abbrev main_v56 : Ref sig .tc := ⟨.hbm, 215, rfl⟩
abbrev main_cst_8 : Ref sig .tc := ⟨.hbm, 216, rfl⟩
abbrev main_v57 : Ref sig .tc := ⟨.hbm, 217, rfl⟩
abbrev main_v58 : Ref sig .tc := ⟨.hbm, 218, rfl⟩
abbrev main_v59 : Ref sig .tc := ⟨.hbm, 219, rfl⟩
abbrev main_v60 : Ref sig .tc := ⟨.hbm, 220, rfl⟩
abbrev main_v61 : Ref sig .tc := ⟨.hbm, 221, rfl⟩
abbrev main_v62 : Ref sig .tc := ⟨.hbm, 222, rfl⟩
abbrev main_v63 : Ref sig .tc := ⟨.hbm, 223, rfl⟩
abbrev main_v64 : Ref sig .tc := ⟨.hbm, 224, rfl⟩
abbrev main_v65 : Ref sig .tc := ⟨.hbm, 225, rfl⟩
abbrev main_v66 : Ref sig .tc := ⟨.hbm, 226, rfl⟩
abbrev main_v67 : Ref sig .tc := ⟨.hbm, 227, rfl⟩
abbrev main_v68 : Ref sig .tc := ⟨.hbm, 228, rfl⟩
abbrev main_v69 : Ref sig .tc := ⟨.hbm, 229, rfl⟩

abbrev nD : Nat := 1
abbrev τ : Topo := Topo.v7x

variable {F : FTy → Type} [FloatOps F]

abbrev main_while0_count : Scf.Loop 32 := ⟨0#32, 128#32, 1#32⟩
-- ==== InProj.lean ====
abbrev S4x8192x1024 : Shape := ⟨3, ![4, 8192, 1024]⟩
abbrev S1024x9224 : Shape := ⟨2, ![1024, 9224]⟩
abbrev S9224 : Shape := ⟨1, ![9224]⟩
abbrev S4x2048 : Shape := ⟨2, ![4, 2048]⟩
abbrev S32768x1024 : Shape := ⟨2, ![32768, 1024]⟩
abbrev S1024x4096 : Shape := ⟨2, ![1024, 4096]⟩
abbrev S1024x5120 : Shape := ⟨2, ![1024, 5120]⟩
abbrev S1024x9216 : Shape := ⟨2, ![1024, 9216]⟩
abbrev S4096 : Shape := ⟨1, ![4096]⟩
abbrev S5120 : Shape := ⟨1, ![5120]⟩
abbrev S9216 : Shape := ⟨1, ![9216]⟩
abbrev S1x9216 : Shape := ⟨2, ![1, 9216]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S32768x9216 : Shape := ⟨2, ![32768, 9216]⟩
abbrev S32768x128 : Shape := ⟨2, ![32768, 128]⟩
abbrev S512x1024 : Shape := ⟨2, ![512, 1024]⟩
abbrev S1024x1024 : Shape := ⟨2, ![1024, 1024]⟩
abbrev S1x1024 : Shape := ⟨2, ![1, 1024]⟩
abbrev S4x1024 : Shape := ⟨2, ![4, 1024]⟩
abbrev S512x128 : Shape := ⟨2, ![512, 128]⟩
abbrev S2x8x1024 : Shape := ⟨3, ![2, 8, 1024]⟩
abbrev S512x256 : Shape := ⟨2, ![512, 256]⟩
abbrev S1x8x256 : Shape := ⟨3, ![1, 8, 256]⟩
abbrev S8x256 : Shape := ⟨2, ![8, 256]⟩
abbrev S4x256 : Shape := ⟨2, ![4, 256]⟩
abbrev S1x256 : Shape := ⟨2, ![1, 256]⟩
abbrev S504x256 : Shape := ⟨2, ![504, 256]⟩

abbrev nBuf : Space → Nat
  | .hbm => 25
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S1024x9224, .f32⟩
  | .hbm, ⟨2, _⟩ => ⟨S9224, .f32⟩
  | .hbm, ⟨3, _⟩ => ⟨S4x2048, .f32⟩
  | .hbm, ⟨4, _⟩ => ⟨S32768x1024, .f32⟩
  | .hbm, ⟨5, _⟩ => ⟨S1024x4096, .f32⟩
  | .hbm, ⟨6, _⟩ => ⟨S1024x5120, .f32⟩
  | .hbm, ⟨7, _⟩ => ⟨S1024x9216, .f32⟩
  | .hbm, ⟨8, _⟩ => ⟨S1024x9216, .bf16⟩
  | .hbm, ⟨9, _⟩ => ⟨S4096, .f32⟩
  | .hbm, ⟨10, _⟩ => ⟨S5120, .f32⟩
  | .hbm, ⟨11, _⟩ => ⟨S9216, .f32⟩
  | .hbm, ⟨12, _⟩ => ⟨S1x9216, .f32⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S8, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S32768x9216, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .bf16⟩
  | .local _ .vmem, ⟨7, _⟩ => ⟨S1x128, .f32⟩
  | .local _ .vmem, ⟨8, _⟩ => ⟨S4x1024, .f32⟩
  | .local _ .vmem, ⟨9, _⟩ => ⟨S4x1024, .f32⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .f32⟩
  | .local _ .vmem, ⟨16, _⟩ => ⟨S2x8x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![64, 9], ![false, false]⟩

def k0_cond3 (i : grid0.Coords) : BitVec 1 :=
  let arg1 : BitVec 32 := BitVec.ofNat 32 (i 1).val
  let c1_i32 : BitVec 32 := 1#32
  let v19 : BitVec 1 := Scalar.cmpi .sle arg1 c1_i32
  let v20 : BitVec 32 := Scalar.extui v19
  let c0_i32_11 : BitVec 32 := 0#32
  let v21 : BitVec 1 := Scalar.cmpi .ne v20 c0_i32_11
  v21

def k0_off1 (i : grid0.Coords) : Fin 3 → Nat :=
  let arg1 : BitVec 32 := BitVec.ofNat 32 (i 1).val
  let v48 : Index := Scalar.indexCast arg1
  let c0_25 : Index := 0#32
  let c0_26 : Index := 0#32
  ![v48.toNat, 0, 0]
def k0_off2 (i : grid0.Coords) : Fin 3 → Nat :=
  let arg1 : BitVec 32 := BitVec.ofNat 32 (i 1).val
  let v112 : Index := Scalar.indexCast arg1
  let c0_47 : Index := 0#32
  let c256_48 : Index := 256#32
  ![v112.toNat, 0, 256]
def k0_off3 (i : grid0.Coords) : Fin 3 → Nat :=
  let arg1 : BitVec 32 := BitVec.ofNat 32 (i 1).val
  let v176 : Index := Scalar.indexCast arg1
  let c0_69 : Index := 0#32
  let c512_70 : Index := 512#32
  ![v176.toNat, 0, 512]
def k0_off4 (i : grid0.Coords) : Fin 3 → Nat :=
  let arg1 : BitVec 32 := BitVec.ofNat 32 (i 1).val
  let v240 : Index := Scalar.indexCast arg1
  let c0_91 : Index := 0#32
  let c768_92 : Index := 768#32
  ![v240.toNat, 0, 768]
def k0_cond4 (i : grid0.Coords) : BitVec 1 :=
  let arg1 : BitVec 32 := BitVec.ofNat 32 (i 1).val
  let c3_i32 : BitVec 32 := 3#32
  let v22 : BitVec 1 := Scalar.cmpi .eq arg1 c3_i32
  let c7_i32 : BitVec 32 := 7#32
  let v23 : BitVec 1 := Scalar.cmpi .sge arg1 c7_i32
  let v24 : BitVec 1 := Scalar.ori v22 v23
  let v25 : BitVec 32 := Scalar.extui v24
  let c0_i32_12 : BitVec 32 := 0#32
  let v26 : BitVec 1 := Scalar.cmpi .ne v25 c0_i32_12
  v26

def k0_cond5 (i : grid0.Coords) : BitVec 1 :=
  let arg1 : BitVec 32 := BitVec.ofNat 32 (i 1).val
  let c2_i32 : BitVec 32 := 2#32
  let v27 : BitVec 1 := Scalar.cmpi .eq arg1 c2_i32
  let c4_i32 : BitVec 32 := 4#32
  let v28 : BitVec 1 := Scalar.cmpi .sge arg1 c4_i32
  let c6_i32 : BitVec 32 := 6#32
  let v29 : BitVec 1 := Scalar.cmpi .sle arg1 c6_i32
  let v30 : BitVec 1 := Scalar.andi v28 v29
  let v31 : BitVec 1 := Scalar.ori v27 v30
  let v32 : BitVec 32 := Scalar.extui v31
  let c0_i32_13 : BitVec 32 := 0#32
  let v33 : BitVec 1 := Scalar.cmpi .ne v32 c0_i32_13
  v33

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjRefIdeal.lean ====
abbrev S4x8192x1024 : Shape := ⟨3, ![4, 8192, 1024]⟩
abbrev S1024x9224 : Shape := ⟨2, ![1024, 9224]⟩
abbrev S9224 : Shape := ⟨1, ![9224]⟩
abbrev S4x2048 : Shape := ⟨2, ![4, 2048]⟩
abbrev S4x8192x9224 : Shape := ⟨3, ![4, 8192, 9224]⟩
abbrev S1x1x9224 : Shape := ⟨3, ![1, 1, 9224]⟩
abbrev S4x8192x4 : Shape := ⟨3, ![4, 8192, 4]⟩
abbrev S4x8192x3072 : Shape := ⟨3, ![4, 8192, 3072]⟩
abbrev S4x8192x2048 : Shape := ⟨3, ![4, 8192, 2048]⟩
abbrev S_ : Shape := ⟨0, ![]⟩
abbrev S4x8195x2048 : Shape := ⟨3, ![4, 8195, 2048]⟩
abbrev S1x2048 : Shape := ⟨2, ![1, 2048]⟩
abbrev S2048 : Shape := ⟨1, ![2048]⟩
abbrev S1x1x2048 : Shape := ⟨3, ![1, 1, 2048]⟩
abbrev S4x8192x9216 : Shape := ⟨3, ![4, 8192, 9216]⟩
abbrev S4x8192x8 : Shape := ⟨3, ![4, 8192, 8]⟩
abbrev S4x8192x128 : Shape := ⟨3, ![4, 8192, 128]⟩
abbrev S32768x9216 : Shape := ⟨2, ![32768, 9216]⟩
abbrev S32768x128 : Shape := ⟨2, ![32768, 128]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x9224, .f32⟩
  | .hbm, ⟨2, _⟩ => ⟨S9224, .f32⟩
  | .hbm, ⟨3, _⟩ => ⟨S4x2048, .f32⟩
  | .hbm, ⟨4, _⟩ => ⟨S4x8192x9224, .f32⟩
  | .hbm, ⟨5, _⟩ => ⟨S1x1x9224, .f32⟩
  | .hbm, ⟨6, _⟩ => ⟨S4x8192x9224, .f32⟩
  | .hbm, ⟨7, _⟩ => ⟨S4x8192x9224, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x4, .f32⟩
  | .hbm, ⟨13, _⟩ => ⟨S4x8192x4, .f32⟩
  | .hbm, ⟨14, _⟩ => ⟨S4x8192x3072, .f32⟩
  | .hbm, ⟨15, _⟩ => ⟨S4x8192x1024, .f32⟩
  | .hbm, ⟨16, _⟩ => ⟨S4x8192x1024, .f32⟩
  | .hbm, ⟨17, _⟩ => ⟨S4x8192x2048, .f32⟩
  | .hbm, ⟨18, _⟩ => ⟨S_, .i32⟩
  | .hbm, ⟨19, _⟩ => ⟨S_, .f32⟩
  | .hbm, ⟨20, _⟩ => ⟨S4x8195x2048, .f32⟩
  | .hbm, ⟨21, _⟩ => ⟨S4x8192x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S4x8192x2048, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S4x8192x2048, .f32⟩
  | .hbm, ⟨42, _⟩ => ⟨S1x2048, .f32⟩
  | .hbm, ⟨43, _⟩ => ⟨S2048, .f32⟩
  | .hbm, ⟨44, _⟩ => ⟨S1x1x2048, .f32⟩
  | .hbm, ⟨45, _⟩ => ⟨S4x8192x2048, .f32⟩
  | .hbm, ⟨46, _⟩ => ⟨S4x8192x2048, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S_, .f32⟩
  | .hbm, ⟨51, _⟩ => ⟨S4x8192x2048, .f32⟩
  | .hbm, ⟨52, _⟩ => ⟨S4x8192x2048, .f32⟩
  | .hbm, ⟨53, _⟩ => ⟨S_, .f32⟩
  | .hbm, ⟨54, _⟩ => ⟨S4x8192x2048, .f32⟩
  | .hbm, ⟨55, _⟩ => ⟨S4x8192x2048, .f32⟩
  | .hbm, ⟨56, _⟩ => ⟨S4x8192x2048, .f32⟩
  | .hbm, ⟨57, _⟩ => ⟨S4x8192x1024, .f32⟩
  | .hbm, ⟨58, _⟩ => ⟨S4x8192x1024, .f32⟩
  | .hbm, ⟨59, _⟩ => ⟨S_, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S_, .f32⟩
  | .hbm, ⟨65, _⟩ => ⟨S4x8192x1024, .f32⟩
  | .hbm, ⟨66, _⟩ => ⟨S4x8192x1024, .f32⟩
  | .hbm, ⟨67, _⟩ => ⟨S_, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192x1024, .f32⟩
  | .hbm, ⟨74, _⟩ => ⟨S4x8192x1024, .f32⟩
  | .hbm, ⟨75, _⟩ => ⟨S_, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S_, .f32⟩
  | .hbm, ⟨81, _⟩ => ⟨S4x8192x1024, .f32⟩
  | .hbm, ⟨82, _⟩ => ⟨S4x8192x1024, .f32⟩
  | .hbm, ⟨83, _⟩ => ⟨S_, .f32⟩
  | .hbm, ⟨84, _⟩ => ⟨S4x8192x1024, .f32⟩
  | .hbm, ⟨85, _⟩ => ⟨S4x8192x1024, .f32⟩
  | .hbm, ⟨86, _⟩ => ⟨S4x8192x9216, .f32⟩
  | .hbm, ⟨87, _⟩ => ⟨S4x8192x8, .f32⟩
  | .hbm, ⟨88, _⟩ => ⟨S_, .i32⟩
  | .hbm, ⟨89, _⟩ => ⟨S_, .f32⟩
  | .hbm, ⟨90, _⟩ => ⟨S4x8192x128, .f32⟩
  | .hbm, ⟨91, _⟩ => ⟨S4x8192x9216, .bf16⟩
  | .hbm, ⟨92, _⟩ => ⟨S32768x9216, .bf16⟩
  | .hbm, ⟨93, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_0 : Ref sig .tc := ⟨.hbm, 64, rfl⟩
abbrev main_v49 : Ref sig .tc := ⟨.hbm, 65, rfl⟩
abbrev main_v50 : Ref sig .tc := ⟨.hbm, 66, rfl⟩
abbrev main_cst_1 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_2 : Ref sig .tc := ⟨.hbm, 72, rfl⟩
abbrev main_v55 : Ref sig .tc := ⟨.hbm, 73, rfl⟩
abbrev main_v56 : Ref sig .tc := ⟨.hbm, 74, rfl⟩
abbrev main_cst_3 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_4 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_6 : Ref sig .tc := ⟨.hbm, 88, rfl⟩
abbrev main_call2_v0 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Merge.lean ====
abbrev S32768x1024 : Shape := ⟨2, ![32768, 1024]⟩
abbrev S32768x9216 : Shape := ⟨2, ![32768, 9216]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x9216, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32768x1024 : Shape := ⟨2, ![32768, 1024]⟩
abbrev S32768x9216 : Shape := ⟨2, ![32768, 9216]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x9216, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32768x1024, .bf16⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Ffn.lean ====
abbrev S32768x1024 : Shape := ⟨2, ![32768, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S3x256 : Shape := ⟨2, ![3, 256]⟩
abbrev S256x1024 : Shape := ⟨2, ![256, 1024]⟩
abbrev S11x8x512 : Shape := ⟨3, ![11, 8, 512]⟩
abbrev S512x256 : Shape := ⟨2, ![512, 256]⟩
abbrev S1x8x256 : Shape := ⟨3, ![1, 8, 256]⟩
abbrev S8x256 : Shape := ⟨2, ![8, 256]⟩
abbrev S1x256 : Shape := ⟨2, ![1, 256]⟩
abbrev S504x256 : Shape := ⟨2, ![504, 256]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | .local _ .vmem, ⟨18, _⟩ => ⟨S11x8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 11], ![false, false]⟩

def k0_off1 (i : grid0.Coords) : Fin 3 → Nat :=
  let arg1 : BitVec 32 := BitVec.ofNat 32 (i 1).val
  let v26 : Index := Scalar.indexCast arg1
  let c0_15 : Index := 0#32
  let c0_16 : Index := 0#32
  ![v26.toNat, 0, 0]
def k0_off2 (i : grid0.Coords) : Fin 3 → Nat :=
  let arg1 : BitVec 32 := BitVec.ofNat 32 (i 1).val
  let v31 : Index := Scalar.indexCast arg1
  let c0_18 : Index := 0#32
  let c256 : Index := 256#32
  ![v31.toNat, 0, 256]
def k0_cond3 (i : grid0.Coords) : BitVec 1 :=
  let arg1 : BitVec 32 := BitVec.ofNat 32 (i 1).val
  let c10_i32 : BitVec 32 := 10#32
  let v122 : BitVec 1 := Scalar.cmpi .eq arg1 c10_i32
  let v123 : BitVec 32 := Scalar.extui v122
  let c0_i32_49 : BitVec 32 := 0#32
  let v124 : BitVec 1 := Scalar.cmpi .ne v123 c0_i32_49
  v124

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S32768x1024 : Shape := ⟨2, ![32768, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S4x8192x1024 : Shape := ⟨3, ![4, 8192, 1024]⟩
abbrev S4x8192x5632 : Shape := ⟨3, ![4, 8192, 5632]⟩
abbrev S_ : Shape := ⟨0, ![]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4x8192x1024, .f32⟩
  | .hbm, ⟨7, _⟩ => ⟨S4x8192x5632, .f32⟩
  | .hbm, ⟨8, _⟩ => ⟨S_, .i32⟩
  | .hbm, ⟨9, _⟩ => ⟨S_, .f32⟩
  | .hbm, ⟨10, _⟩ => ⟨S4x8194x5632, .f32⟩
  | .hbm, ⟨11, _⟩ => ⟨S4x8192x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S4x8192x5632, .f32⟩
  | .hbm, ⟨16, _⟩ => ⟨S4x8192x5632, .f32⟩
  | .hbm, ⟨17, _⟩ => ⟨S4x8192x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S4x8192x5632, .f32⟩
  | .hbm, ⟨22, _⟩ => ⟨S4x8192x5632, .f32⟩
  | .hbm, ⟨23, _⟩ => ⟨S4x8192x5632, .f32⟩
  | .hbm, ⟨24, _⟩ => ⟨S4x8192x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S4x8192x5632, .f32⟩
  | .hbm, ⟨29, _⟩ => ⟨S4x8192x5632, .f32⟩
  | .hbm, ⟨30, _⟩ => ⟨S4x8192x5632, .f32⟩
  | .hbm, ⟨31, _⟩ => ⟨S4x8192x2816, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S_, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S4x8192x1024, .f32⟩
  | .hbm, ⟨44, _⟩ => ⟨S_, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192x1024, .f32⟩
  | .hbm, ⟨70, _⟩ => ⟨S4x8192x1024, .f32⟩
  | .hbm, ⟨71, _⟩ => ⟨S1x1x1024, .f32⟩
  | .hbm, ⟨72, _⟩ => ⟨S4x8192x1024, .f32⟩
  | .hbm, ⟨73, _⟩ => ⟨S4x8192x1024, .f32⟩
  | .hbm, ⟨74, _⟩ => ⟨S1x1x1024, .f32⟩
  | .hbm, ⟨75, _⟩ => ⟨S4x8192x1024, .f32⟩
  | .hbm, ⟨76, _⟩ => ⟨S4x8192x1024, .f32⟩
  | .hbm, ⟨77, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Bias.lean ====
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S8x32 : Shape := ⟨2, ![8, 32]⟩
abbrev S8x2x256x256 : Shape := ⟨4, ![8, 2, 256, 256]⟩
abbrev S1x2x256x256 : Shape := ⟨4, ![1, 2, 256, 256]⟩
abbrev S1x1 : Shape := ⟨2, ![1, 1]⟩
abbrev S1x1x256x256 : Shape := ⟨4, ![1, 1, 256, 256]⟩

abbrev nBuf : Space → Nat
  | .hbm => 79
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i1⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S256x256, .i32⟩
  | .hbm, ⟨39, _⟩ => ⟨S_, .i32⟩
  | .hbm, ⟨40, _⟩ => ⟨S_, .i32⟩
  | .hbm, ⟨41, _⟩ => ⟨S256x256, .i32⟩
  | .hbm, ⟨42, _⟩ => ⟨S256x256, .i32⟩
  | .hbm, ⟨43, _⟩ => ⟨S_, .i32⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S256x256, .i32⟩
  | .hbm, ⟨51, _⟩ => ⟨S256x256, .i32⟩
  | .hbm, ⟨52, _⟩ => ⟨S256x256, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x256, .f32⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S_, .f32⟩
  | .hbm, ⟨61, _⟩ => ⟨S256x256, .f32⟩
  | .hbm, ⟨62, _⟩ => ⟨S256x256, .f32⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S_, .i32⟩
  | .hbm, ⟨68, _⟩ => ⟨S256x256, .i32⟩
  | .hbm, ⟨69, _⟩ => ⟨S256x256, .i32⟩
  | .hbm, ⟨70, _⟩ => ⟨S_, .i32⟩
  | .hbm, ⟨71, _⟩ => ⟨S256x256, .i32⟩
  | .hbm, ⟨72, _⟩ => ⟨S256x256, .i1⟩
  | .hbm, ⟨73, _⟩ => ⟨S256x256, .i32⟩
  | .hbm, ⟨74, _⟩ => ⟨S1x256x256, .i32⟩
  | .hbm, ⟨75, _⟩ => ⟨S1x256x256, .i32⟩
  | .hbm, ⟨76, _⟩ => ⟨S2x256x256, .i32⟩
  | .hbm, ⟨77, _⟩ => ⟨S8x32, .f32⟩
  | .hbm, ⟨78, _⟩ => ⟨S8x2x256x256, .f32⟩
  | .local _ .vmem, ⟨0, _⟩ => ⟨S2x256x256, .i32⟩
  | .local _ .vmem, ⟨1, _⟩ => ⟨S1x2x256x256, .f32⟩
  | .local _ .vmem, ⟨2, _⟩ => ⟨S1x2x256x256, .f32⟩
  | .local _ .smem, ⟨0, _⟩ => ⟨S8x32, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_14 : Ref sig .tc := ⟨.hbm, 64, rfl⟩
abbrev main_v45 : Ref sig .tc := ⟨.hbm, 65, rfl⟩
abbrev main_v46 : Ref sig .tc := ⟨.hbm, 66, rfl⟩
abbrev main_c_15 : Ref sig .tc := ⟨.hbm, 67, rfl⟩
abbrev main_v47 : Ref sig .tc := ⟨.hbm, 68, rfl⟩
abbrev main_v48 : Ref sig .tc := ⟨.hbm, 69, rfl⟩
abbrev main_c_16 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v0 : Index := Scalar.indexCast arg0
  let c31 : Index := 31#32
  ![v0.toNat, 31]
def k0_off2 (i : grid0.Coords) : Fin 2 → Nat :=
  let arg0 : BitVec 32 := BitVec.ofNat 32 (i 0).val
  let v7 : Index := Scalar.indexCast arg0
  let c0_2 : Index := 0#32
  ![v7.toNat, 0]
def k0_off3 (i : grid0.Coords) : Fin 2 → Nat :=
  let arg0 : BitVec 32 := BitVec.ofNat 32 (i 0).val
  let v13 : Index := Scalar.indexCast arg0
  let c1 : Index := 1#32
  ![v13.toNat, 1]
def k0_off4 (i : grid0.Coords) : Fin 2 → Nat :=
  let arg0 : BitVec 32 := BitVec.ofNat 32 (i 0).val
  let v19 : Index := Scalar.indexCast arg0
  let c2 : Index := 2#32
  ![v19.toNat, 2]
def k0_off5 (i : grid0.Coords) : Fin 2 → Nat :=
  let arg0 : BitVec 32 := BitVec.ofNat 32 (i 0).val
  let v25 : Index := Scalar.indexCast arg0
  let c3 : Index := 3#32
  ![v25.toNat, 3]
def k0_off6 (i : grid0.Coords) : Fin 2 → Nat :=
  let arg0 : BitVec 32 := BitVec.ofNat 32 (i 0).val
  let v31 : Index := Scalar.indexCast arg0
  let c4 : Index := 4#32
  ![v31.toNat, 4]
def k0_off7 (i : grid0.Coords) : Fin 2 → Nat :=
  let arg0 : BitVec 32 := BitVec.ofNat 32 (i 0).val
  let v37 : Index := Scalar.indexCast arg0
  let c5 : Index := 5#32
  ![v37.toNat, 5]
def k0_off8 (i : grid0.Coords) : Fin 2 → Nat :=
  let arg0 : BitVec 32 := BitVec.ofNat 32 (i 0).val
  let v43 : Index := Scalar.indexCast arg0
  let c6 : Index := 6#32
  ![v43.toNat, 6]
def k0_off9 (i : grid0.Coords) : Fin 2 → Nat :=
  let arg0 : BitVec 32 := BitVec.ofNat 32 (i 0).val
  let v49 : Index := Scalar.indexCast arg0
  let c7 : Index := 7#32
  ![v49.toNat, 7]
def k0_off10 (i : grid0.Coords) : Fin 2 → Nat :=
  let arg0 : BitVec 32 := BitVec.ofNat 32 (i 0).val
  let v55 : Index := Scalar.indexCast arg0
  let c8 : Index := 8#32
  ![v55.toNat, 8]
def k0_off11 (i : grid0.Coords) : Fin 2 → Nat :=
  let arg0 : BitVec 32 := BitVec.ofNat 32 (i 0).val
  let v61 : Index := Scalar.indexCast arg0
  let c9 : Index := 9#32
  ![v61.toNat, 9]
def k0_off12 (i : grid0.Coords) : Fin 2 → Nat :=
  let arg0 : BitVec 32 := BitVec.ofNat 32 (i 0).val
  let v67 : Index := Scalar.indexCast arg0
  let c10 : Index := 10#32
  ![v67.toNat, 10]
def k0_off13 (i : grid0.Coords) : Fin 2 → Nat :=
  let arg0 : BitVec 32 := BitVec.ofNat 32 (i 0).val
  let v73 : Index := Scalar.indexCast arg0
  let c11 : Index := 11#32
  ![v73.toNat, 11]
def k0_off14 (i : grid0.Coords) : Fin 2 → Nat :=
  let arg0 : BitVec 32 := BitVec.ofNat 32 (i 0).val
  let v79 : Index := Scalar.indexCast arg0
  let c12 : Index := 12#32
  ![v79.toNat, 12]
def k0_off15 (i : grid0.Coords) : Fin 2 → Nat :=
  let arg0 : BitVec 32 := BitVec.ofNat 32 (i 0).val
  let v85 : Index := Scalar.indexCast arg0
  let c13 : Index := 13#32
  ![v85.toNat, 13]
def k0_off16 (i : grid0.Coords) : Fin 2 → Nat :=
  let arg0 : BitVec 32 := BitVec.ofNat 32 (i 0).val
  let v91 : Index := Scalar.indexCast arg0
  let c14 : Index := 14#32
  ![v91.toNat, 14]
def k0_off17 (i : grid0.Coords) : Fin 2 → Nat :=
  let arg0 : BitVec 32 := BitVec.ofNat 32 (i 0).val
  let v97 : Index := Scalar.indexCast arg0
  let c15 : Index := 15#32
  ![v97.toNat, 15]
def k0_off18 (i : grid0.Coords) : Fin 2 → Nat :=
  let arg0 : BitVec 32 := BitVec.ofNat 32 (i 0).val
  let v103 : Index := Scalar.indexCast arg0
  let c16 : Index := 16#32
  ![v103.toNat, 16]
def k0_off19 (i : grid0.Coords) : Fin 2 → Nat :=
  let arg0 : BitVec 32 := BitVec.ofNat 32 (i 0).val
  let v109 : Index := Scalar.indexCast arg0
  let c17 : Index := 17#32
  ![v109.toNat, 17]
def k0_off20 (i : grid0.Coords) : Fin 2 → Nat :=
  let arg0 : BitVec 32 := BitVec.ofNat 32 (i 0).val
  let v115 : Index := Scalar.indexCast arg0
  let c18 : Index := 18#32
  ![v115.toNat, 18]
def k0_off21 (i : grid0.Coords) : Fin 2 → Nat :=
  let arg0 : BitVec 32 := BitVec.ofNat 32 (i 0).val
  let v121 : Index := Scalar.indexCast arg0
  let c19 : Index := 19#32
  ![v121.toNat, 19]
def k0_off22 (i : grid0.Coords) : Fin 2 → Nat :=
  let arg0 : BitVec 32 := BitVec.ofNat 32 (i 0).val
  let v127 : Index := Scalar.indexCast arg0
  let c20 : Index := 20#32
  ![v127.toNat, 20]
def k0_off23 (i : grid0.Coords) : Fin 2 → Nat :=
  let arg0 : BitVec 32 := BitVec.ofNat 32 (i 0).val
  let v133 : Index := Scalar.indexCast arg0
  let c21 : Index := 21#32
  ![v133.toNat, 21]
def k0_off24 (i : grid0.Coords) : Fin 2 → Nat :=
  let arg0 : BitVec 32 := BitVec.ofNat 32 (i 0).val
  let v139 : Index := Scalar.indexCast arg0
  let c22 : Index := 22#32
  ![v139.toNat, 22]
def k0_off25 (i : grid0.Coords) : Fin 2 → Nat :=
  let arg0 : BitVec 32 := BitVec.ofNat 32 (i 0).val
  let v145 : Index := Scalar.indexCast arg0
  let c23 : Index := 23#32
  ![v145.toNat, 23]
def k0_off26 (i : grid0.Coords) : Fin 2 → Nat :=
  let arg0 : BitVec 32 := BitVec.ofNat 32 (i 0).val
  let v151 : Index := Scalar.indexCast arg0
  let c24 : Index := 24#32
  ![v151.toNat, 24]
def k0_off27 (i : grid0.Coords) : Fin 2 → Nat :=
  let arg0 : BitVec 32 := BitVec.ofNat 32 (i 0).val
  let v157 : Index := Scalar.indexCast arg0
  let c25 : Index := 25#32
  ![v157.toNat, 25]
def k0_off28 (i : grid0.Coords) : Fin 2 → Nat :=
  let arg0 : BitVec 32 := BitVec.ofNat 32 (i 0).val
  let v163 : Index := Scalar.indexCast arg0
  let c26 : Index := 26#32
  ![v163.toNat, 26]
def k0_off29 (i : grid0.Coords) : Fin 2 → Nat :=
  let arg0 : BitVec 32 := BitVec.ofNat 32 (i 0).val
  let v169 : Index := Scalar.indexCast arg0
  let c27 : Index := 27#32
  ![v169.toNat, 27]
def k0_off30 (i : grid0.Coords) : Fin 2 → Nat :=
  let arg0 : BitVec 32 := BitVec.ofNat 32 (i 0).val
  let v175 : Index := Scalar.indexCast arg0
  let c28 : Index := 28#32
  ![v175.toNat, 28]
def k0_off31 (i : grid0.Coords) : Fin 2 → Nat :=
  let arg0 : BitVec 32 := BitVec.ofNat 32 (i 0).val
  let v181 : Index := Scalar.indexCast arg0
  let c29 : Index := 29#32
  ![v181.toNat, 29]
def k0_off32 (i : grid0.Coords) : Fin 2 → Nat :=
  let arg0 : BitVec 32 := BitVec.ofNat 32 (i 0).val
  let v187 : Index := Scalar.indexCast arg0
  let c30 : Index := 30#32
  ![v187.toNat, 30]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x256x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasRefIdeal.lean ====
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S2x256x256x1 : Shape := ⟨4, ![2, 256, 256, 1]⟩
abbrev S2x256x256x8 : Shape := ⟨4, ![2, 256, 256, 8]⟩
abbrev S1x8 : Shape := ⟨2, ![1, 8]⟩
abbrev S8 : Shape := ⟨1, ![8]⟩
abbrev S1x1x1x8 : Shape := ⟨4, ![1, 1, 1, 8]⟩
abbrev S8x2x256x256 : Shape := ⟨4, ![8, 2, 256, 256]⟩

abbrev nBuf : Space → Nat
  | .hbm => 64
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S1x256x256, .i32⟩
  | .hbm, ⟨11, _⟩ => ⟨S1x256x256, .i32⟩
  | .hbm, ⟨12, _⟩ => ⟨S2x256x256, .i32⟩
  | .hbm, ⟨13, _⟩ => ⟨S_, .i32⟩
  | .hbm, ⟨14, _⟩ => ⟨S2x256x256, .i32⟩
  | .hbm, ⟨15, _⟩ => ⟨S2x256x256, .i32⟩
  | .hbm, ⟨16, _⟩ => ⟨S_, .i32⟩
  | .hbm, ⟨17, _⟩ => ⟨S2x256x256, .i32⟩
  | .hbm, ⟨18, _⟩ => ⟨S2x256x256, .i32⟩
  | .hbm, ⟨19, _⟩ => ⟨S2x256x256, .f32⟩
  | .hbm, ⟨20, _⟩ => ⟨S_, .f32⟩
  | .hbm, ⟨21, _⟩ => ⟨S2x256x256, .f32⟩
  | .hbm, ⟨22, _⟩ => ⟨S2x256x256, .f32⟩
  | .hbm, ⟨23, _⟩ => ⟨S2x256x256, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S2x256x256, .i32⟩
  | .hbm, ⟨31, _⟩ => ⟨S_, .i32⟩
  | .hbm, ⟨32, _⟩ => ⟨S2x256x256, .i32⟩
  | .hbm, ⟨33, _⟩ => ⟨S2x256x256, .i32⟩
  | .hbm, ⟨34, _⟩ => ⟨S_, .i32⟩
  | .hbm, ⟨35, _⟩ => ⟨S2x256x256, .i32⟩
  | .hbm, ⟨36, _⟩ => ⟨S2x256x256, .i32⟩
  | .hbm, ⟨37, _⟩ => ⟨S_, .i32⟩
  | .hbm, ⟨38, _⟩ => ⟨S2x256x256, .i32⟩
  | .hbm, ⟨39, _⟩ => ⟨S2x256x256, .i1⟩
  | .hbm, ⟨40, _⟩ => ⟨S2x256x256, .i32⟩
  | .hbm, ⟨41, _⟩ => ⟨S_, .i32⟩
  | .hbm, ⟨42, _⟩ => ⟨S2x256x256, .i32⟩
  | .hbm, ⟨43, _⟩ => ⟨S2x256x256, .i1⟩
  | .hbm, ⟨44, _⟩ => ⟨S_, .i32⟩
  | .hbm, ⟨45, _⟩ => ⟨S2x256x256, .i32⟩
  | .hbm, ⟨46, _⟩ => ⟨S2x256x256, .i32⟩
  | .hbm, ⟨47, _⟩ => ⟨S2x256x256, .i32⟩
  | .hbm, ⟨48, _⟩ => ⟨S2x256x256x1, .i32⟩
  | .hbm, ⟨49, _⟩ => ⟨S2x256x256x8, .f32⟩
  | .hbm, ⟨50, _⟩ => ⟨S1x8, .f32⟩
  | .hbm, ⟨51, _⟩ => ⟨S8, .f32⟩
  | .hbm, ⟨52, _⟩ => ⟨S1x1x1x8, .f32⟩
  | .hbm, ⟨53, _⟩ => ⟨S2x256x256x8, .f32⟩
  | .hbm, ⟨54, _⟩ => ⟨S2x256x256x8, .f32⟩
  | .hbm, ⟨55, _⟩ => ⟨S8x2x256x256, .f32⟩
  | .hbm, ⟨56, _⟩ => ⟨S_, .i32⟩
  | .hbm, ⟨57, _⟩ => ⟨S2x256x256, .i32⟩
  | .hbm, ⟨58, _⟩ => ⟨S2x256x256, .i1⟩
  | .hbm, ⟨59, _⟩ => ⟨S_, .f32⟩
  | .hbm, ⟨60, _⟩ => ⟨S_, .f32⟩
  | .hbm, ⟨61, _⟩ => ⟨S8x2x256x256, .i1⟩
  | .hbm, ⟨62, _⟩ => ⟨S8x2x256x256, .f32⟩
  | .hbm, ⟨63, _⟩ => ⟨S8x2x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_c_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_9 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Chunk.lean ====
/-
  The gated recurrence of the mLSTM, one head of one sequence, token by token over the reals, and the theorem that a
  chunk of any length computes it: from the state the recurrence has at token `T`, the chunkwise formulas at the `l`-th
  token of the chunk give the maximum, the numerator and the denominator the recurrence has after token `T + l`, and the
  chunk's last formulas give the recurrence's state at `T + L`.
-/
module

public import Idealize.ShloMosaic.Lib.Pointwise

@[expose] public section

noncomputable section

namespace Cert.Chunk

open Idealize.ShloMosaic

/-- One head's tokens: query, key and value vectors, the logarithm of the forget gate and the input gate. -/
structure Tok (D : ℕ) where
  q : ℕ → Fin D → ℝ
  k : ℕ → Fin D → ℝ
  v : ℕ → Fin D → ℝ
  lf : ℕ → ℝ
  ig : ℕ → ℝ

variable {D : ℕ} (a : Tok D)

/-- The running maximum that keeps the exponentials bounded, before token `t`. -/
def Tok.M : ℕ → ℝ
  | 0 => 0
  | t + 1 => max (Tok.M t + a.lf t) (a.ig t)

/-- The matrix memory before token `t`, scaled by `exp (-M t)`. -/
def Tok.C : ℕ → Fin D → Fin D → ℝ
  | 0, _, _ => 0
  | t + 1, d, e => Real.exp (a.lf t + a.M t - a.M (t + 1)) * Tok.C t d e
      + Real.exp (a.ig t - a.M (t + 1)) * (a.k t d * a.v t e)

/-- The normalizer before token `t`, scaled likewise. -/
def Tok.N : ℕ → Fin D → ℝ
  | 0, _ => 0
  | t + 1, d => Real.exp (a.lf t + a.M t - a.M (t + 1)) * Tok.N t d + Real.exp (a.ig t - a.M (t + 1)) * a.k t d

/-- The numerator at token `t`: the query read from the memory after the token. -/
def Tok.num (t : ℕ) (e : Fin D) : ℝ := ∑ d, a.q t d * a.C (t + 1) d e

/-- The denominator at token `t`: the query against the normalizer after the token. -/
def Tok.den (t : ℕ) : ℝ := ∑ d, a.q t d * a.N (t + 1) d

/-- The sum of the first `j` log forget gates from token `T` on. -/
def Tok.G (T j : ℕ) : ℝ := ∑ i ∈ Finset.range j, a.lf (T + i)

theorem Tok.G_succ (T j : ℕ) : a.G T (j + 1) = a.G T j + a.lf (T + j) := by
  simp [Tok.G, Finset.sum_range_succ]

/-- The running maximum after `j` more tokens is the least bound of the decayed old maximum and of every token's
decayed input gate. -/
theorem Tok.M_le_iff (T j : ℕ) (x : ℝ) : a.M (T + j) ≤ x ↔
    a.G T j + a.M T ≤ x ∧ ∀ i, i < j → a.G T j - a.G T (i + 1) + a.ig (T + i) ≤ x := by
  induction j generalizing x with
  | zero => simp [Tok.G]
  | succ j ih =>
    have h : a.M (T + (j + 1)) = max (a.M (T + j) + a.lf (T + j)) (a.ig (T + j)) := rfl
    rw [h, max_le_iff, ← le_sub_iff_add_le, ih, a.G_succ T j]
    constructor
    · rintro ⟨⟨h1, h2⟩, h3⟩
      refine ⟨by linarith, fun i hi => ?_⟩
      rcases Nat.lt_succ_iff_lt_or_eq.mp hi with h | rfl
      · have := h2 i h; linarith
      · rw [a.G_succ]; linarith
    · rintro ⟨h1, h2⟩
      refine ⟨⟨by linarith, fun i hi => ?_⟩, ?_⟩
      · have := h2 i (by omega); linarith
      · have := h2 j (by omega); rw [a.G_succ] at this; linarith

/-- The memory after `j` more tokens, in one sum. -/
theorem Tok.C_add (T j : ℕ) (d e : Fin D) : a.C (T + j) d e =
    Real.exp (a.G T j + a.M T - a.M (T + j)) * a.C T d e
      + ∑ i ∈ Finset.range j, Real.exp (a.G T j - a.G T (i + 1) + a.ig (T + i) - a.M (T + j))
          * (a.k (T + i) d * a.v (T + i) e) := by
  induction j with
  | zero => simp [Tok.G]
  | succ j ih =>
    have h : a.C (T + (j + 1)) d e = Real.exp (a.lf (T + j) + a.M (T + j) - a.M (T + (j + 1))) * a.C (T + j) d e
      + Real.exp (a.ig (T + j) - a.M (T + (j + 1))) * (a.k (T + j) d * a.v (T + j) e) := rfl
    rw [h, ih, mul_add, ← mul_assoc, ← Real.exp_add, Finset.mul_sum, Finset.sum_range_succ, add_assoc]
    congr 1
    · congr 2; rw [a.G_succ]; ring
    · congr 1
      · refine Finset.sum_congr rfl fun i _ => ?_
        rw [← mul_assoc, ← Real.exp_add, a.G_succ T j]; congr 2; ring
      · congr 2; ring

/-- The normalizer after `j` more tokens, in one sum. -/
theorem Tok.N_add (T j : ℕ) (d : Fin D) : a.N (T + j) d =
    Real.exp (a.G T j + a.M T - a.M (T + j)) * a.N T d
      + ∑ i ∈ Finset.range j, Real.exp (a.G T j - a.G T (i + 1) + a.ig (T + i) - a.M (T + j)) * a.k (T + i) d := by
  induction j with
  | zero => simp [Tok.G]
  | succ j ih =>
    have h : a.N (T + (j + 1)) d = Real.exp (a.lf (T + j) + a.M (T + j) - a.M (T + (j + 1))) * a.N (T + j) d
      + Real.exp (a.ig (T + j) - a.M (T + (j + 1))) * a.k (T + j) d := rfl
    rw [h, ih, mul_add, ← mul_assoc, ← Real.exp_add, Finset.mul_sum, Finset.sum_range_succ, add_assoc]
    congr 1
    · congr 2; rw [a.G_succ]; ring
    · congr 1
      · refine Finset.sum_congr rfl fun i _ => ?_
        rw [← mul_assoc, ← Real.exp_add, a.G_succ T j]; congr 2; ring
      · congr 2; ring

/-! ## The chunk's formulas over the extended reals, at real inputs -/

/-- A sum of real numbers, read among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- A sum of products of real numbers, read among the extended reals. -/
theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]; simp only [EReal.coe_mul]

/-- Two extended reals, the first of them a real, are equal when they have the same upper bounds among the reals and
the second is not `⊤`... stated through bounds: equality of the sets of real upper bounds suffices for reals. -/
theorem eq_coe_of_le_iff {x : EReal} {y : ℝ} (h : ∀ c : ℝ, x ≤ c ↔ y ≤ c) : x = y := by
  apply le_antisymm
  · exact (h y).2 le_rfl
  · induction x with
    | bot => exact absurd ((h (y - 1)).1 bot_le) (by linarith)
    | top => exact le_top
    | coe r => exact_mod_cast (h r).1 le_rfl

variable {L : ℕ} (T : ℕ)

/-- The log weight the `s`-th token of the chunk has at its `l`-th token. -/
def Tok.dI (l s : ℕ) : EReal :=
  if s ≤ l then ((a.G T (l + 1) : ℝ) : EReal) - ((a.G T (s + 1) : ℝ) : EReal) + ((a.ig (T + s) : ℝ) : EReal) else ⊥

theorem Tok.dI_le_iff (l s : ℕ) (c : ℝ) : a.dI T l s ≤ (c : EReal) ↔
    (s ≤ l → a.G T (l + 1) - a.G T (s + 1) + a.ig (T + s) ≤ c) := by
  unfold Tok.dI
  split
  · next h =>
    rw [← EReal.coe_sub, ← EReal.coe_add, EReal.coe_le_coe_iff]
    exact ⟨fun x _ => x, fun x => x h⟩
  · next h => exact ⟨fun _ x => absurd x h, fun _ => bot_le⟩

/-- The maximum the chunk takes at its `l`-th token is the recurrence's after that token. -/
theorem Tok.max_query (l : Fin L) :
    max (((a.G T (l.val + 1) : ℝ) : EReal) + ((a.M T : ℝ) : EReal)) (Finset.univ.fold max ⊥ fun s : Fin L => a.dI T l.val s.val)
      = ((a.M (T + (l.val + 1)) : ℝ) : EReal) := by
  refine eq_coe_of_le_iff fun c => ?_
  rw [max_le_iff, Finset.fold_max_le, ← EReal.coe_add, EReal.coe_le_coe_iff, a.M_le_iff]
  simp only [Tok.dI_le_iff, bot_le, true_and, Finset.mem_univ, true_implies]
  refine and_congr_right fun _ => ⟨fun h i hi => h ⟨i, by omega⟩ (Nat.lt_succ_iff.mp hi), fun h s hs => h s.val (by omega)⟩

/-- The maximum the chunk hands on is the recurrence's at the chunk's end. -/
theorem Tok.max_state : max (((a.G T L : ℝ) : EReal) + ((a.M T : ℝ) : EReal))
      (Finset.univ.fold max ⊥ fun s : Fin L => ((a.G T L : ℝ) : EReal) - ((a.G T (s.val + 1) : ℝ) : EReal) + ((a.ig (T + s.val) : ℝ) : EReal))
      = ((a.M (T + L) : ℝ) : EReal) := by
  refine eq_coe_of_le_iff fun c => ?_
  rw [max_le_iff, Finset.fold_max_le, ← EReal.coe_add, EReal.coe_le_coe_iff, a.M_le_iff]
  simp only [← EReal.coe_sub, ← EReal.coe_add, EReal.coe_le_coe_iff, bot_le, true_and, Finset.mem_univ, true_implies]
  exact and_congr_right fun _ => ⟨fun h i hi => h ⟨i, hi⟩, fun h s => h s.val s.isLt⟩

/-- The weight of the old state at the chunk's `l`-th token, or (with `j = L`) at its end. -/
theorem Tok.exp_inter (j : ℕ) : Ideal.exp (((a.G T j : ℝ) : EReal) + ((a.M T : ℝ) : EReal) - ((a.M (T + j) : ℝ) : EReal))
    = ((Real.exp (a.G T j + a.M T - a.M (T + j)) : ℝ) : EReal) := by
  rw [← EReal.coe_add, ← EReal.coe_sub, Ideal.exp_coe]

/-- The real weight of the `s`-th token at the `l`-th, against the maximum after the latter. -/
def Tok.wt (l s : ℕ) : ℝ := if s ≤ l then Real.exp (a.G T (l + 1) - a.G T (s + 1) + a.ig (T + s) - a.M (T + (l + 1))) else 0

theorem Tok.exp_dI (l s : ℕ) : Ideal.exp (a.dI T l s - ((a.M (T + (l + 1)) : ℝ) : EReal)) = ((a.wt T l s : ℝ) : EReal) := by
  unfold Tok.dI Tok.wt
  split
  · rw [← EReal.coe_sub, ← EReal.coe_add, ← EReal.coe_sub, Ideal.exp_coe]
  · rw [EReal.bot_sub, Ideal.exp_bot]; rfl

/-- The weight of the `s`-th token in the state at the chunk's end. -/
theorem Tok.exp_state (s : ℕ) : Ideal.exp (((a.G T L : ℝ) : EReal) - ((a.G T (s + 1) : ℝ) : EReal) + ((a.ig (T + s) : ℝ) : EReal)
      - ((a.M (T + L) : ℝ) : EReal)) = ((Real.exp (a.G T L - a.G T (s + 1) + a.ig (T + s) - a.M (T + L)) : ℝ) : EReal) := by
  rw [← EReal.coe_sub, ← EReal.coe_add, ← EReal.coe_sub, Ideal.exp_coe]

theorem sum_wt (l : Fin L) (f : ℕ → ℝ) : ∑ s : Fin L, a.wt T l.val s.val * f s.val = ∑ i ∈ Finset.range (l.val + 1),
    Real.exp (a.G T (l.val + 1) - a.G T (i + 1) + a.ig (T + i) - a.M (T + (l.val + 1))) * f i := by
  rw [Fin.sum_univ_eq_sum_range (fun s => a.wt T l.val s * f s) L]
  have hsub : Finset.range (l.val + 1) ⊆ Finset.range L := Finset.range_subset_range.mpr l.isLt
  rw [← Finset.sum_subset hsub]
  · refine Finset.sum_congr rfl fun i hi => ?_
    rw [Finset.mem_range] at hi
    rw [Tok.wt, if_pos (by omega)]
  · intro i _ hi
    rw [Finset.mem_range] at hi
    rw [Tok.wt, if_neg (by omega), zero_mul]

/-- The chunk's score of its `s`-th token at its `l`-th. -/
def Tok.score (l s : ℕ) : ℝ := (∑ d, a.q (T + l) d * a.k (T + s) d) * a.wt T l s

theorem Tok.score_eq (l s : ℕ) :
    (∑ d, ((a.q (T + l) d : ℝ) : EReal) * ((a.k (T + s) d : ℝ) : EReal)) * ((a.wt T l s : ℝ) : EReal)
      = ((a.score T l s : ℝ) : EReal) := by
  rw [coe_sum_mul, ← EReal.coe_mul]; rfl

/-- The chunk's numerator at its `l`-th token is the recurrence's. -/
theorem Tok.num_eq (l : Fin L) (e : Fin D) :
    ((Real.exp (a.G T (l.val + 1) + a.M T - a.M (T + (l.val + 1))) : ℝ) : EReal)
        * (∑ d, ((a.q (T + l.val) d : ℝ) : EReal) * ((a.C T d e : ℝ) : EReal))
      + (∑ s : Fin L, ((a.score T l.val s.val : ℝ) : EReal) * ((a.v (T + s.val) e : ℝ) : EReal))
      = ((a.num (T + l.val) e : ℝ) : EReal) := by
  rw [coe_sum_mul, coe_sum_mul, ← EReal.coe_mul, ← EReal.coe_add]
  congr 1
  unfold Tok.num
  have h1 : ∑ d, a.q (T + l.val) d * a.C (T + l.val + 1) d e = ∑ d, (a.q (T + l.val) d *
      (Real.exp (a.G T (l.val + 1) + a.M T - a.M (T + (l.val + 1))) * a.C T d e)
      + a.q (T + l.val) d * ∑ s : Fin L, a.wt T l.val s.val * (a.k (T + s.val) d * a.v (T + s.val) e)) := by
    refine Finset.sum_congr rfl fun d _ => ?_
    rw [add_assoc T, a.C_add, mul_add, sum_wt a T l fun i => a.k (T + i) d * a.v (T + i) e]
  rw [h1, Finset.sum_add_distrib, Finset.mul_sum]
  congr 1
  · exact Finset.sum_congr rfl fun d _ => by ring
  · simp only [Finset.mul_sum]
    rw [Finset.sum_comm]
    refine Finset.sum_congr rfl fun s _ => ?_
    rw [Tok.score, Finset.sum_mul, Finset.sum_mul]
    exact Finset.sum_congr rfl fun d _ => by ring

/-- The chunk's denominator at its `l`-th token is the recurrence's. -/
theorem Tok.den_eq (l : Fin L) :
    ((Real.exp (a.G T (l.val + 1) + a.M T - a.M (T + (l.val + 1))) : ℝ) : EReal)
        * (∑ d, ((a.q (T + l.val) d : ℝ) : EReal) * ((a.N T d : ℝ) : EReal))
      + (∑ s : Fin L, ((a.score T l.val s.val : ℝ) : EReal))
      = ((a.den (T + l.val) : ℝ) : EReal) := by
  rw [coe_sum_mul, coe_sum, ← EReal.coe_mul, ← EReal.coe_add]
  congr 1
  unfold Tok.den
  have h1 : ∑ d, a.q (T + l.val) d * a.N (T + l.val + 1) d = ∑ d, (a.q (T + l.val) d *
      (Real.exp (a.G T (l.val + 1) + a.M T - a.M (T + (l.val + 1))) * a.N T d)
      + a.q (T + l.val) d * ∑ s : Fin L, a.wt T l.val s.val * a.k (T + s.val) d) := by
    refine Finset.sum_congr rfl fun d _ => ?_
    rw [add_assoc T, a.N_add, mul_add, sum_wt a T l fun i => a.k (T + i) d]
  rw [h1, Finset.sum_add_distrib, Finset.mul_sum]
  congr 1
  · exact Finset.sum_congr rfl fun d _ => by ring
  · simp only [Finset.mul_sum]
    rw [Finset.sum_comm]
    refine Finset.sum_congr rfl fun s _ => ?_
    rw [Tok.score, Finset.sum_mul]
    exact Finset.sum_congr rfl fun d _ => by ring

/-- The real weight of the `s`-th token in the state at the chunk's end. -/
def Tok.ws (L s : ℕ) : ℝ := Real.exp (a.G T L - a.G T (s + 1) + a.ig (T + s) - a.M (T + L))

/-- The memory the chunk hands on is the recurrence's at the chunk's end. -/
theorem Tok.C_eq (d e : Fin D) :
    ((Real.exp (a.G T L + a.M T - a.M (T + L)) : ℝ) : EReal) * ((a.C T d e : ℝ) : EReal)
      + (∑ s : Fin L, ((a.k (T + s.val) d : ℝ) : EReal) * ((a.ws T L s.val : ℝ) : EReal) * ((a.v (T + s.val) e : ℝ) : EReal))
      = ((a.C (T + L) d e : ℝ) : EReal) := by
  simp only [← EReal.coe_mul]
  rw [coe_sum, ← EReal.coe_add]
  congr 1
  rw [a.C_add T L]
  congr 1
  rw [Fin.sum_univ_eq_sum_range (fun s => a.k (T + s) d * a.ws T L s * a.v (T + s) e) L]
  exact Finset.sum_congr rfl fun i _ => by rw [Tok.ws]; ring

/-- The normalizer the chunk hands on is the recurrence's at the chunk's end. -/
theorem Tok.N_eq (d : Fin D) :
    ((Real.exp (a.G T L + a.M T - a.M (T + L)) : ℝ) : EReal) * ((a.N T d : ℝ) : EReal)
      + (∑ s : Fin L, ((a.k (T + s.val) d : ℝ) : EReal) * ((a.ws T L s.val : ℝ) : EReal))
      = ((a.N (T + L) d : ℝ) : EReal) := by
  simp only [← EReal.coe_mul]
  rw [coe_sum, ← EReal.coe_add]
  congr 1
  rw [a.N_add T L]
  congr 1
  rw [Fin.sum_univ_eq_sum_range (fun s => a.k (T + s) d * a.ws T L s) L]
  exact Finset.sum_congr rfl fun i _ => by rw [Tok.ws]; ring

/-- What the head gives at token `t` before its norm: the numerator over the denominator, held away from zero. -/
def Tok.h (t : ℕ) (e : Fin D) : EReal :=
  Ideal.div ((a.num t e : ℝ) : EReal)
    (max (max ((a.den t : ℝ) : EReal) (-((a.den t : ℝ) : EReal))) (Ideal.exp (-((a.M (t + 1) : ℝ) : EReal))))

end Cert.Chunk
-- ==== Proof.Gate.lean ====
/-
  The logarithm of the sigmoid as the kernel and as the reference spell it, at a real argument; the pattern of minus
  infinity; and the words of a causal mask.
-/
module

public import proofs.«01_k».proof.Proof.Chunk
public import Idealize.ShloMosaic.Lib.WordCmp

@[expose] public section

noncomputable section

namespace Cert.Gate

open Idealize.ShloMosaic

/-- The logarithm of the sigmoid of a real number. -/
def logsig (x : ℝ) : ℝ := min x 0 - Real.log (1 + Real.exp (-|x|))

theorem log1p_exp (y : ℝ) : Ideal.log1p (Ideal.exp ((y : ℝ) : EReal)) = ((Real.log (1 + Real.exp y) : ℝ) : EReal) := by
  have h : ¬ (1 + Real.exp y ≤ 0) := by have := Real.exp_pos y; linarith
  rw [Ideal.exp_coe, Ideal.log1p, ← EReal.coe_one, ← EReal.coe_add]
  show (if 1 + Real.exp y ≤ 0 then (⊥ : EReal) else ((Real.log (1 + Real.exp y) : ℝ) : EReal)) = _
  rw [if_neg h]

theorem coe_max' (x y : ℝ) : ((max x y : ℝ) : EReal) = max (x : EReal) (y : EReal) :=
  (EReal.coe_strictMono.monotone.map_max (a := x) (b := y))

theorem coe_min' (x y : ℝ) : ((min x y : ℝ) : EReal) = min (x : EReal) (y : EReal) :=
  (EReal.coe_strictMono.monotone.map_min (a := x) (b := y))

/-- The larger of a real and its negation, among the extended reals, is its absolute value. -/
theorem coe_abs (x : ℝ) : max ((x : ℝ) : EReal) (-((x : ℝ) : EReal)) = ((|x| : ℝ) : EReal) := by
  rw [← EReal.coe_neg, ← coe_max']; rfl

/-- The kernel's spelling. -/
theorem kernel_logsig (x : ℝ) : min ((x : ℝ) : EReal) 0 - Ideal.log1p (Ideal.exp (0 - max ((x : ℝ) : EReal) (-((x : ℝ) : EReal))))
    = ((logsig x : ℝ) : EReal) := by
  rw [coe_abs, zero_sub, ← EReal.coe_neg, log1p_exp, ← EReal.coe_zero, ← coe_min', ← EReal.coe_sub]; rfl

/-- The reference's spelling: minus the softplus of minus the argument. -/
theorem reference_logsig (x : ℝ) : -(max (-((x : ℝ) : EReal)) 0
      + Ideal.log1p (Ideal.exp (-(max (-((x : ℝ) : EReal)) (- -((x : ℝ) : EReal))))))
    = ((logsig x : ℝ) : EReal) := by
  have h1 : max (-((x : ℝ) : EReal)) (- -((x : ℝ) : EReal)) = ((|x| : ℝ) : EReal) := by
    rw [neg_neg, max_comm, coe_abs]
  rw [h1, ← EReal.coe_neg |x|, log1p_exp, ← EReal.coe_neg, ← EReal.coe_zero, ← coe_max', ← EReal.coe_add, ← EReal.coe_neg]
  congr 1
  unfold logsig
  rcases le_total x 0 with h | h
  · rw [min_eq_left h, max_eq_left (by linarith)]; ring
  · rw [min_eq_right h, max_eq_right (by linarith)]; ring

/-- The pattern of minus infinity. -/
theorem ofBits_bot : Ideal.ofBits .f32 0xFF800000#32 = ⊥ := by simp [Ideal.ofBits, Ideal.ieee]

/-- The pattern of plus infinity. -/
theorem ofBits_top : Ideal.ofBits .f32 0x7F800000#32 = ⊤ := by simp [Ideal.ofBits, Ideal.ieee]

/-- A "not before" test of two small positions, as a bit. -/
theorem sge_word {n m : ℕ} (hn : n < 2 ^ 31) (hm : m < 2 ^ 31) :
    IntOp.cmpi .sge (BitVec.ofNat 32 n) (BitVec.ofNat 32 m) = BitVec.ofBool (decide (m ≤ n)) := by
  rw [WordCmp.cmpi_sge_ofNat (w := 32) hn hm]

/-- A "not after" test of two small positions, as a bit. -/
theorem sle_word {n m : ℕ} (hn : n < 2 ^ 31) (hm : m < 2 ^ 31) :
    IntOp.cmpi .sle (BitVec.ofNat 32 n) (BitVec.ofNat 32 m) = BitVec.ofBool (decide (n ≤ m)) := by
  rw [WordCmp.cmpi_sle_ofNat (w := 32) hn hm]

/-- A bit widened and made a number is one or zero. -/
theorem sitofp_bit (p : Bool) : FloatOps.sitofp (F := Ideal) FTy.f32 (BitVec.setWidth 32 (BitVec.ofBool p))
    = if p then (1 : EReal) else 0 := by
  cases p
  · show (((BitVec.setWidth 32 (BitVec.ofBool false)).toInt : ℝ) : EReal) = 0
    simp
  · show (((BitVec.setWidth 32 (BitVec.ofBool true)).toInt : ℝ) : EReal) = 1
    have : (BitVec.setWidth 32 (BitVec.ofBool true)).toInt = 1 := by decide
    rw [this]; simp

theorem select_bit (p : Bool) (x y : EReal) : Scalar.select (BitVec.ofBool p) x y = if p then x else y := by
  cases p <;> rfl

/-- A sum of the first `l + 1` of `L` reals, written as a sum over all of them against a zero–one weight. -/
theorem sum_prefix {L : ℕ} (l : Fin L) (f : ℕ → ℝ) :
    (∑ s : Fin L, (if s.val ≤ l.val then (1 : EReal) else 0) * ((f s.val : ℝ) : EReal))
      = ((∑ i ∈ Finset.range (l.val + 1), f i : ℝ) : EReal) := by
  have h : ∀ s : Fin L, (if s.val ≤ l.val then (1 : EReal) else 0) * ((f s.val : ℝ) : EReal)
      = (((if s.val ≤ l.val then f s.val else 0 : ℝ)) : EReal) := by
    intro s; split <;> simp
  simp only [h]
  rw [Chunk.coe_sum, Fin.sum_univ_eq_sum_range (fun s => if s ≤ l.val then f s else 0) L]
  congr 1
  have hsub : Finset.range (l.val + 1) ⊆ Finset.range L := Finset.range_subset_range.mpr l.isLt
  rw [← Finset.sum_subset hsub]
  · refine Finset.sum_congr rfl fun i hi => ?_
    rw [Finset.mem_range] at hi
    rw [if_pos (by omega)]
  · intro i _ hi
    rw [Finset.mem_range] at hi
    rw [if_neg (by omega)]

end Cert.Gate
-- ==== Proof.Tokens.lean ====
/-
  The tokens of the mLSTM's four heads and four sequences, read out of the program's arguments: queries, keys and values
  from the first three thousand and seventy-two columns of the projections, the gates' preactivations from the first eight
  columns of the gate array.
-/
module

public import proofs.«01_k».proof.Proof.Gate

@[expose] public section

noncomputable section

namespace Cert.Tokens

open Idealize.ShloMosaic Cert.Chunk Cert.Gate

/-- The row of the arrays that holds token `t` of sequence `b` (for `t` below 8192). -/
def row (b : Fin 4) (t : ℕ) : Fin 32768 := ⟨(8192 * b.val + t) % 32768, Nat.mod_lt _ (by decide)⟩

/-- The column of the projections that holds element `d` of head `h` in the `n`-th group of 1024. -/
def pcol (n : Fin 9) (h : Fin 4) (d : Fin 256) : Fin 9216 := ⟨1024 * n.val + (256 * h.val + d.val), by omega⟩

/-- The column of the gate array that holds head `h`'s input gate. -/
def icol (h : Fin 4) : Fin 128 := ⟨h.val, by omega⟩

/-- The column of the gate array that holds head `h`'s forget gate. -/
def fcol (h : Fin 4) : Fin 128 := ⟨4 + h.val, by omega⟩

variable (P : Fin 32768 → Fin 9216 → EReal) (I : Fin 32768 → Fin 128 → EReal)

/-- The forget gate's preactivation. -/
def fpre (b h : Fin 4) (t : ℕ) : ℝ := (I (row b t) (fcol h)).toReal

/-- The tokens of head `h` of sequence `b`. -/
def tok (b h : Fin 4) : Tok 256 where
  q t d := (P (row b t) (pcol 0 h d)).toReal
  k t d := (P (row b t) (pcol 1 h d)).toReal
  v t d := (P (row b t) (pcol 2 h d)).toReal
  lf t := logsig (fpre I b h t)
  ig t := (I (row b t) (icol h)).toReal

/-- The entries the recurrence reads are real numbers. -/
structure Finite : Prop where
  proj : ∀ r (n : Fin 9) h d, n.val < 3 → P r (pcol n h d) = (((P r (pcol n h d)).toReal : ℝ) : EReal)
  ig : ∀ r h, I r (icol h) = (((I r (icol h)).toReal : ℝ) : EReal)
  fg : ∀ r h, I r (fcol h) = (((I r (fcol h)).toReal : ℝ) : EReal)

/-- What a head gives after its norm: the value's distance from the row's mean over the row's deviation, times the gain,
times the output gate. -/
def normed (h : Fin 256 → EReal) (g o : EReal) (e : Fin 256) : EReal :=
  o * ((h e - Ideal.div (∑ x, h x) (Ideal.ofBits .f32 0x43800000#32))
    * Ideal.rsqrt (Ideal.div (∑ x, (h x - Ideal.div (∑ y, h y) (Ideal.ofBits .f32 0x43800000#32))
        * (h x - Ideal.div (∑ y, h y) (Ideal.ofBits .f32 0x43800000#32))) (Ideal.ofBits .f32 0x43800000#32)
      + Ideal.ofBits .f32 0x3727C5AC#32) * g)

/-- The column of head `h`'s `d`-th element in a block of all the heads. -/
def col (h : Fin 4) (d : Fin 256) : Fin 1024 := ⟨256 * h.val + d.val, by omega⟩

/-- The head a column of the block belongs to. -/
def headOf (j : Fin 1024) : Fin 4 := ⟨j.val / 256, by omega⟩

/-- The column's place within its head. -/
def within (j : Fin 1024) : Fin 256 := ⟨j.val % 256, by omega⟩

theorem headOf_col (h : Fin 4) (d : Fin 256) : headOf (col h d) = h := Fin.ext (by show (256 * h.val + d.val) / 256 = h.val; omega)
theorem within_col (h : Fin 4) (d : Fin 256) : within (col h d) = d := Fin.ext (by show (256 * h.val + d.val) % 256 = d.val; omega)

/-- The sequence a row of the arrays belongs to. -/
def seqAt (r : Fin 32768) : Fin 4 := ⟨r.val / 8192, by omega⟩

/-- The mLSTM's output at row `r` and column `j`: the recurrence's output of the column's head at the row's token, normed
over the head, times the gain, times the output gate, which is the fourth group of 1024 columns of the projections. -/
def outAt (g : Fin 1024 → EReal) (r : Fin 32768) (j : Fin 1024) : EReal :=
  normed ((tok P I (seqAt r) (headOf j)).h (r.val % 8192)) (g j) (P r ⟨3072 + j.val, by omega⟩) (within j)

end Cert.Tokens
-- ==== Proof.KernelHead.lean ====
/-
  One head of the kernel's block of 256 tokens, read at an index over the extended reals. Where the block's operands are
  the tokens `T … T + 255` of a head and the scratch holds the recurrence's state at token `T`, every value the block
  computes for that head is the recurrence's.
-/
module

public import proofs.«01_k».proof.Proof.Gen.MlstmIdeal.Frame
public import proofs.«01_k».proof.Proof.Tokens

@[expose] public section

set_option maxRecDepth 16384

noncomputable section

namespace Cert.KernelHead

open Idealize.ShloMosaic Cert.Chunk Cert.Gate Cert.Tokens
open Cert.MlstmIdeal Cert.MlstmIdeal.Gen

/-- The causal mask at row `r` and column `c`. -/
theorem mask (r c : Fin 256) : k0_pay5 (ix2 r c) = BitVec.ofBool (decide (c.val ≤ r.val)) := by
  pointwise [k0_pay5]
  exact sge_word (by omega) (by omega)

/-- A column of log forget gates summed from the block's top, by the lower triangle of ones. -/
theorem gate_col (a : Tok 256) (T : ℕ) (X : Vec Ideal S256x128 .f32) (j : Fin 128) (f : ℕ → ℝ)
    (hX : ∀ l : Fin 256, X (ix2 l j) = ((f l.val : ℝ) : EReal)) (hf : ∀ l, a.lf (T + l) = logsig (f l)) (r : Fin 256) :
    k0_pay7 X (ix2 r j) = ((a.G T (r.val + 1) : ℝ) : EReal) := by
  pointwise [k0_pay7]
  simp only [mask, sitofp_bit, Ideal.absf_def, hX, kernel_logsig, ← hf, decide_eq_true_eq]
  exact sum_prefix r fun i => a.lf (T + i)

/-- A row of log forget gates summed from the block's left, by the upper triangle of ones. -/
theorem gate_row (a : Tok 256) (T : ℕ) (X : Vec Ideal S8x256 .f32) (j : Fin 8) (f : ℕ → ℝ)
    (hX : ∀ l : Fin 256, X (ix2 j l) = ((f l.val : ℝ) : EReal)) (hf : ∀ l, a.lf (T + l) = logsig (f l)) (r : Fin 256) :
    k0_pay8 X (ix2 j r) = ((a.G T (r.val + 1) : ℝ) : EReal) := by
  pointwise [k0_pay8, k0_pay6]
  have h : ∀ x : Fin 256, IntOp.cmpi .sle (BitVec.ofNat 32 x.val) (BitVec.ofNat 32 r.val) = BitVec.ofBool (decide (x.val ≤ r.val)) :=
    fun x => sle_word (by omega) (by omega)
  simp only [h, sitofp_bit, Ideal.absf_def, hX, kernel_logsig, ← hf, decide_eq_true_eq]
  refine Eq.trans ?_ (sum_prefix r fun i => a.lf (T + i))
  exact Finset.sum_congr rfl fun _ _ => mul_comm _ _

/-- The operands of one head of a block are the recurrence's tokens from `T` on and its state at `T`. -/
structure Reads (a : Tok 256) (T : ℕ) (q k v : Vec Ideal S256x256 .bf16) (bc li : FVec Ideal S256x1 .f32)
    (br lr : FVec Ideal S1x256 .f32) (m : Vec Ideal S1x1x1 .f32) (C : Vec Ideal S1x256x256 .f32)
    (n : Vec Ideal S1x1x256 .f32) : Prop where
  q : ∀ l d : Fin 256, q (ix2 l d) = ((a.q (T + l.val) d : ℝ) : EReal)
  k : ∀ l d : Fin 256, k (ix2 l d) = ((a.k (T + l.val) d : ℝ) : EReal)
  v : ∀ l d : Fin 256, v (ix2 l d) = ((a.v (T + l.val) d : ℝ) : EReal)
  bc : ∀ l : Fin 256, bc (ix2 l 0) = ((a.G T (l.val + 1) : ℝ) : EReal)
  li : ∀ l : Fin 256, li (ix2 l 0) = ((a.ig (T + l.val) : ℝ) : EReal)
  br : ∀ l : Fin 256, br (ix2 0 l) = ((a.G T (l.val + 1) : ℝ) : EReal)
  lr : ∀ l : Fin 256, lr (ix2 0 l) = ((a.ig (T + l.val) : ℝ) : EReal)
  m : m (ix3 0 0 0) = ((a.M T : ℝ) : EReal)
  C : ∀ d e : Fin 256, C (ix3 0 d e) = ((a.C T d e : ℝ) : EReal)
  n : ∀ d : Fin 256, n (ix3 0 0 d) = ((a.N T d : ℝ) : EReal)

variable {a : Tok 256} {T : ℕ} {q k v : Vec Ideal S256x256 .bf16} {bc li : FVec Ideal S256x1 .f32}
  {br lr : FVec Ideal S1x256 .f32} {m : Vec Ideal S1x1x1 .f32} {C : Vec Ideal S1x256x256 .f32} {n : Vec Ideal S1x1x256 .f32}

/-- The masked log weight of the block's token `s` at its token `l`. -/
theorem Reads.d (h : Reads a T q k v bc li br lr m C n) (l s : Fin 256) :
    k0_pay16 k0_pay5 bc br lr (ix2 l s) = a.dI T l.val s.val := by
  pointwise [k0_pay16]
  simp only [mask, select_bit, ofBits_bot, h.bc, h.br, h.lr, decide_eq_true_eq]
  rfl

/-- The maximum at the block's token `l` is the recurrence's after it. -/
theorem Reads.max (h : Reads a T q k v bc li br lr m C n) (l : Fin 256) :
    k0_pay18 k0_pay5 bc br lr m (ix2 l 0) = ((a.M (T + (l.val + 1)) : ℝ) : EReal) := by
  pointwise [k0_pay18, k0_pay17, k0_pay13]
  simp only [h.d, ofBits_bot, h.bc, h.m]
  exact a.max_query T l

/-- The old state's weight at the block's token `l`. -/
theorem Reads.inter (h : Reads a T q k v bc li br lr m C n) (l : Fin 256) :
    k0_pay19 k0_pay5 bc br lr m (ix2 l 0) = ((Real.exp (a.G T (l.val + 1) + a.M T - a.M (T + (l.val + 1))) : ℝ) : EReal) := by
  pointwise [k0_pay19, k0_pay17, k0_pay13]
  rw [h.max, h.bc, h.m]
  exact a.exp_inter T (l.val + 1)

/-- The score of the block's token `s` at its token `l`. -/
theorem Reads.score (h : Reads a T q k v bc li br lr m C n) (l s : Fin 256) :
    k0_pay20 k0_pay5 q k bc br lr m (ix2 l s) = ((a.score T l.val s.val : ℝ) : EReal) := by
  pointwise [k0_pay20]
  simp only [h.d, h.max, h.q, h.k, Tok.exp_dI]
  exact a.score_eq T l.val s.val

/-- The numerator at the block's token `l` is the recurrence's. -/
theorem Reads.num (h : Reads a T q k v bc li br lr m C n) (l e : Fin 256) :
    k0_pay21 k0_pay5 q k v bc br lr m C (ix2 l e) = ((a.num (T + l.val) e : ℝ) : EReal) := by
  pointwise [k0_pay21, k0_pay14]
  simp only [h.inter, h.score, h.q, h.v, h.C]
  exact a.num_eq T l e

/-- The denominator's absolute value at the block's token `l` is the recurrence's. -/
theorem Reads.den (h : Reads a T q k v bc li br lr m C n) (l : Fin 256) :
    k0_pay22 k0_pay5 q k bc br lr m n (ix2 l 0)
      = Max.max ((a.den (T + l.val) : ℝ) : EReal) (-((a.den (T + l.val) : ℝ) : EReal)) := by
  pointwise [k0_pay22, k0_pay15]
  simp only [h.inter, h.score, h.q, h.n, Ideal.absf_def]
  rw [a.den_eq T l]

/-- What the block stores for the head at its token `l`: the recurrence's output there, normed, scaled and gated. -/
theorem Reads.out (h : Reads a T q k v bc li br lr m C n) (g : Vec Ideal S1x256 .f32) (o : Vec Ideal S256x256 .bf16) (l e : Fin 256) :
    k0_pay24 (k0_pay18 k0_pay5 bc br lr m) (k0_pay21 k0_pay5 q k v bc br lr m C) (k0_pay22 k0_pay5 q k bc br lr m n)
      k0_pay23 g o (ix2 l e) = normed (a.h (T + l.val)) (g (ix2 0 e)) (o (ix2 l e)) e := by
  pointwise [k0_pay24, k0_pay23]
  simp only [h.max, h.num, h.den, zero_sub]
  rfl

/-- The maximum the block hands on is the recurrence's at the block's end. -/
theorem Reads.max' (h : Reads a T q k v bc li br lr m C n) :
    k0_pay26 br lr (k0_pay13 m) (ix2 0 0) = ((a.M (T + 256) : ℝ) : EReal) := by
  pointwise [k0_pay26, k0_pay25, k0_pay13]
  simp only [h.br, h.lr, h.m, ofBits_bot]
  exact a.max_state T

/-- The old state's weight in the state handed on. -/
theorem Reads.prev (h : Reads a T q k v bc li br lr m C n) :
    k0_pay27 br lr (k0_pay13 m) (ix2 0 0) = ((Real.exp (a.G T 256 + a.M T - a.M (T + 256)) : ℝ) : EReal) := by
  have hm : k0_pay13 m (ix2 0 0) = ((a.M T : ℝ) : EReal) := by pointwise [k0_pay13]; exact h.m
  pointwise [k0_pay27, k0_pay25]
  rw [h.max', h.br, hm]
  exact a.exp_inter T 256

/-- The weight of the block's token `s` in the state handed on. -/
theorem Reads.wk (h : Reads a T q k v bc li br lr m C n) (s : Fin 256) :
    k0_pay28 bc br lr li (k0_pay13 m) (ix2 s 0) = ((a.ws T 256 s.val : ℝ) : EReal) := by
  pointwise [k0_pay28, k0_pay25]
  rw [h.max', h.br, h.bc, h.li]
  exact a.exp_state T s.val

/-- The memory the block hands on is the recurrence's at the block's end. -/
theorem Reads.C' (h : Reads a T q k v bc li br lr m C n) (d e : Fin 256) :
    k0_pay30 k v (k0_pay14 C) (k0_pay27 br lr (k0_pay13 m)) (k0_pay28 bc br lr li (k0_pay13 m)) (ix3 0 d e)
      = ((a.C (T + 256) d e : ℝ) : EReal) := by
  pointwise [k0_pay30, k0_pay29, k0_pay14]
  simp only [h.prev, h.wk, h.k, h.v, h.C]
  exact a.C_eq T d e

/-- The normalizer the block hands on is the recurrence's at the block's end. -/
theorem Reads.n' (h : Reads a T q k v bc li br lr m C n) (d : Fin 256) :
    k0_pay31 k (k0_pay15 n) (k0_pay27 br lr (k0_pay13 m)) (k0_pay28 bc br lr li (k0_pay13 m)) (ix3 0 0 d)
      = ((a.N (T + 256) d : ℝ) : EReal) := by
  pointwise [k0_pay31, k0_pay29, k0_pay15]
  simp only [h.prev, h.wk, h.k, h.n]
  exact a.N_eq T d

/-- The maximum as the block stores it. -/
theorem Reads.m' (h : Reads a T q k v bc li br lr m C n) :
    k0_pay32 (k0_pay26 br lr (k0_pay13 m)) (ix3 0 0 0) = ((a.M (T + 256) : ℝ) : EReal) := by
  pointwise [k0_pay32]
  exact h.max'

end Cert.KernelHead
-- ==== Proof.KernelForms.lean ====
/-
  The kernel's four heads are one computation at four places: the payloads the kernel stores for heads 1, 2 and 3 are
  head 0's payloads of their own operands.
-/
module

public import proofs.«01_k».proof.Proof.Gen.MlstmIdeal.Frame

@[expose] public section

set_option maxRecDepth 16384

noncomputable section

namespace Cert.KernelForms

open Idealize.ShloMosaic
open Cert.MlstmIdeal Cert.MlstmIdeal.Gen

variable {F : FTy → Type} [FloatOps F]

/-- The memory a head hands on. -/
def headC (k v : Vec F S256x256 .bf16) (bc li : FVec F S256x1 .f32) (br lr : FVec F S1x256 .f32) (m : Vec F S1x1x1 .f32)
    (C : Vec F S1x256x256 .f32) : FVec F S1x256x256 .f32 :=
  k0_pay30 k v (k0_pay14 C) (k0_pay27 br lr (k0_pay13 m)) (k0_pay28 bc br lr li (k0_pay13 m))

/-- The normalizer a head hands on. -/
def headN (k : Vec F S256x256 .bf16) (bc li : FVec F S256x1 .f32) (br lr : FVec F S1x256 .f32) (m : Vec F S1x1x1 .f32)
    (n : Vec F S1x1x256 .f32) : FVec F S1x1x256 .f32 :=
  k0_pay31 k (k0_pay15 n) (k0_pay27 br lr (k0_pay13 m)) (k0_pay28 bc br lr li (k0_pay13 m))

/-- The maximum a head hands on. -/
def headM (br lr : FVec F S1x256 .f32) (m : Vec F S1x1x1 .f32) : FVec F S1x1x1 .f32 := k0_pay32 (k0_pay26 br lr (k0_pay13 m))

/-- What a head stores into the result. -/
def headY (q k v : Vec F S256x256 .bf16) (bc : FVec F S256x1 .f32) (br lr : FVec F S1x256 .f32) (m : Vec F S1x1x1 .f32)
    (C : Vec F S1x256x256 .f32) (n : Vec F S1x1x256 .f32) (g : Vec F S1x256 .f32) (o : Vec F S256x256 .bf16) : FVec F S256x256 .bf16 :=
  k0_pay24 (k0_pay18 k0_pay5 bc br lr m) (k0_pay21 k0_pay5 q k v bc br lr m C) (k0_pay22 k0_pay5 q k bc br lr m n) k0_pay23 g o

variable (q k v o : Vec F S256x256 .bf16) (B : FVec F S256x128 .f32) (R I : FVec F S8x256 .f32) (X : Vec F S256x128 .f32)
  (X5 : Vec F S8x256 .f32) (m : Vec F S1x1x1 .f32) (C : Vec F S1x256x256 .f32) (n : Vec F S1x1x256 .f32) (g : Vec F S1x256 .f32)

theorem C0 : k0_pay30 k v (k0_pay14 C) (k0_pay27 (k0_pay10 X5) (k0_pay11 X5) (k0_pay13 m))
      (k0_pay28 (k0_pay9 X) (k0_pay10 X5) (k0_pay11 X5) (k0_pay12 X) (k0_pay13 m))
    = headC k v (k0_pay9 X) (k0_pay12 X) (k0_pay10 X5) (k0_pay11 X5) m C := rfl

theorem C1 : k0_pay48 (k0_pay47 k v (k0_pay33 B) (k0_pay34 R) (k0_pay35 I) (k0_pay36 X) (k0_pay37 m) (k0_pay38 C))
    = headC k v (k0_pay33 B) (k0_pay36 X) (k0_pay34 R) (k0_pay35 I) m C := rfl

theorem C2 : k0_pay68 k v (k0_pay51 B) (k0_pay52 R) (k0_pay53 I) (k0_pay54 X) (k0_pay55 m) (k0_pay56 C)
    = headC k v (k0_pay51 B) (k0_pay54 X) (k0_pay52 R) (k0_pay53 I) m C := rfl

theorem C3 : k0_pay90 k v (k0_pay72 B) (k0_pay73 R) (k0_pay74 I) (k0_pay75 X) (k0_pay76 m) (k0_pay77 C)
    = headC k v (k0_pay72 B) (k0_pay75 X) (k0_pay73 R) (k0_pay74 I) m C := rfl

theorem N0 : k0_pay31 k (k0_pay15 n) (k0_pay27 (k0_pay10 X5) (k0_pay11 X5) (k0_pay13 m))
      (k0_pay28 (k0_pay9 X) (k0_pay10 X5) (k0_pay11 X5) (k0_pay12 X) (k0_pay13 m))
    = headN k (k0_pay9 X) (k0_pay12 X) (k0_pay10 X5) (k0_pay11 X5) m n := rfl

theorem N1 : k0_pay49 (k0_pay39 n) (k0_pay45 (k0_pay34 R) (k0_pay35 I) (k0_pay37 m))
      (k0_pay46 k (k0_pay33 B) (k0_pay34 R) (k0_pay35 I) (k0_pay36 X) (k0_pay37 m))
    = headN k (k0_pay33 B) (k0_pay36 X) (k0_pay34 R) (k0_pay35 I) m n := rfl

theorem N2 : k0_pay70 (k0_pay69 k (k0_pay51 B) (k0_pay52 R) (k0_pay53 I) (k0_pay54 X) (k0_pay55 m) (k0_pay57 n))
    = headN k (k0_pay51 B) (k0_pay54 X) (k0_pay52 R) (k0_pay53 I) m n := rfl

theorem N3 : k0_pay91 k (k0_pay72 B) (k0_pay73 R) (k0_pay74 I) (k0_pay75 X) (k0_pay76 m) (k0_pay78 n)
    = headN k (k0_pay72 B) (k0_pay75 X) (k0_pay73 R) (k0_pay74 I) m n := rfl

theorem M0 : k0_pay32 (k0_pay26 (k0_pay10 X5) (k0_pay11 X5) (k0_pay13 m)) = headM (k0_pay10 X5) (k0_pay11 X5) m := rfl

theorem M1 : k0_pay50 (k0_pay44 (k0_pay34 R) (k0_pay35 I) (k0_pay37 m)) = headM (k0_pay34 R) (k0_pay35 I) m := rfl

theorem M2 : k0_pay71 (k0_pay65 (k0_pay52 R) (k0_pay53 I) (k0_pay55 m)) = headM (k0_pay52 R) (k0_pay53 I) m := rfl

theorem M3 : k0_pay1 (k0_pay87 (k0_pay73 R) (k0_pay74 I) (k0_pay76 m)) = headM (k0_pay73 R) (k0_pay74 I) m := rfl

theorem Y0 : k0_pay24 (k0_pay18 k0_pay5 (k0_pay9 X) (k0_pay10 X5) (k0_pay11 X5) m)
      (k0_pay21 k0_pay5 q k v (k0_pay9 X) (k0_pay10 X5) (k0_pay11 X5) m C)
      (k0_pay22 k0_pay5 q k (k0_pay9 X) (k0_pay10 X5) (k0_pay11 X5) m n) k0_pay23 g o
    = headY q k v (k0_pay9 X) (k0_pay10 X5) (k0_pay11 X5) m C n g o := rfl

theorem Y1 : k0_pay42 (k0_pay40 k0_pay5 q k v (k0_pay33 B) (k0_pay34 R) (k0_pay35 I) (k0_pay37 m) (k0_pay38 C) n)
      (k0_pay41 k0_pay5 q k v (k0_pay33 B) (k0_pay34 R) (k0_pay35 I) (k0_pay37 m) (k0_pay38 C) n) g o
    = headY q k v (k0_pay33 B) (k0_pay34 R) (k0_pay35 I) m C n g o := rfl

theorem Y2 : k0_pay63 (k0_pay60 k0_pay5 q k v (k0_pay51 B) (k0_pay55 m) (k0_pay56 C) (k0_pay57 n) (k0_pay58 I B R) k0_pay59)
      (k0_pay61 k0_pay5 q k v (k0_pay51 B) (k0_pay55 m) (k0_pay56 C) (k0_pay57 n) (k0_pay58 I B R) k0_pay59) k0_pay62 g o
    = headY q k v (k0_pay51 B) (k0_pay52 R) (k0_pay53 I) m C n g o := rfl

theorem Y3 : k0_pay85 (k0_pay84 q v (k0_pay77 C) (k0_pay78 n) (k0_pay79 k0_pay5 I B R) (k0_pay81 k0_pay5 I B R m)
      (k0_pay82 k0_pay5 I B R m) (k0_pay83 q k) g) o
    = headY q k v (k0_pay72 B) (k0_pay73 R) (k0_pay74 I) m C n g o := rfl

end Cert.KernelForms
-- ==== Proof.KernelBlock.lean ====
/-
  One block of 256 tokens of the kernel, all four heads: where the block's operands are the tokens `T … T + 255` of each
  head and the scratch it finds (or, at a sequence's first block, the zeros it writes) is the recurrence's state at `T`,
  the scratch it leaves is the state at `T + 256` and what it stores is the heads' output, normed, scaled and gated.
-/
module

public import proofs.«01_k».proof.Proof.KernelHead
public import proofs.«01_k».proof.Proof.KernelForms
public import Idealize.ShloMosaic.Lib.Pipeline.ReadBack
public import Idealize.ShloMosaic.Lib.Pipeline.ValueKit.Tiles
public import Idealize.ShloMosaic.Lib.Tactic

@[expose] public section

set_option maxRecDepth 16384

noncomputable section

namespace Cert.KernelBlock

open Idealize.ShloMosaic Idealize.ShloMosaic.TcCoe Idealize.SL.Sem
open Cert.Chunk Cert.Gate Cert.Tokens Cert.KernelHead Cert.KernelForms
open Cert.MlstmIdeal Cert.MlstmIdeal.Gen

/-- A block's operands are the tokens of the four heads from `T` on, and its scratch the recurrences' state at `T`. -/
structure BlockReads (a : Fin 4 → Tok 256) (f : Fin 4 → ℕ → ℝ) (T : ℕ) (x0 x1 x2 : Vec Ideal S256x1024 .bf16)
    (x4 : Vec Ideal S256x128 .f32) (x5 : Vec Ideal S8x256 .f32) (c : Vec Ideal S4x256x256 .f32) (n : Vec Ideal S4x1x256 .f32)
    (m : Vec Ideal S4x1x1 .f32) : Prop where
  q : ∀ h l d, x0 (ix2 l (col h d)) = (((a h).q (T + l.val) d : ℝ) : EReal)
  k : ∀ h l d, x1 (ix2 l (col h d)) = (((a h).k (T + l.val) d : ℝ) : EReal)
  v : ∀ h l d, x2 (ix2 l (col h d)) = (((a h).v (T + l.val) d : ℝ) : EReal)
  lf : ∀ h l, (a h).lf (T + l) = logsig (f h l)
  ic : ∀ (h : Fin 4) (l : Fin 256), x4 (ix2 l ⟨h.val, by omega⟩) = (((a h).ig (T + l.val) : ℝ) : EReal)
  fc : ∀ (h : Fin 4) (l : Fin 256), x4 (ix2 l ⟨4 + h.val, by omega⟩) = ((f h l.val : ℝ) : EReal)
  ir : ∀ (h : Fin 4) (l : Fin 256), x5 (ix2 ⟨h.val, by omega⟩ l) = (((a h).ig (T + l.val) : ℝ) : EReal)
  fr : ∀ (h : Fin 4) (l : Fin 256), x5 (ix2 ⟨4 + h.val, by omega⟩ l) = ((f h l.val : ℝ) : EReal)
  c : ∀ h d e, c (ix3 h d e) = (((a h).C T d e : ℝ) : EReal)
  n : ∀ h d, n (ix3 h 0 d) = (((a h).N T d : ℝ) : EReal)
  m : ∀ h, m (ix3 h 0 0) = (((a h).M T : ℝ) : EReal)

variable {a : Fin 4 → Tok 256} {f : Fin 4 → ℕ → ℝ} {T : ℕ} {x0 x1 x2 x3 : Vec Ideal S256x1024 .bf16}
  {x4 : Vec Ideal S256x128 .f32} {x5 : Vec Ideal S8x256 .f32} {x6 : Vec Ideal S1x1024 .f32} {xs0 : Vec Ideal S4x256x256 .f32}
  {xs1 : Vec Ideal S4x1x256 .f32} {xs2 : Vec Ideal S4x1x1 .f32}

/-- One head of the block, its operands cut out of the block's however they are. -/
theorem BlockReads.head (H : BlockReads a f T x0 x1 x2 x4 x5 xs0 xs1 xs2) (h : Fin 4) {q k v : Vec Ideal S256x256 .bf16}
    {bc li : FVec Ideal S256x1 .f32} {br lr : FVec Ideal S1x256 .f32} {m : Vec Ideal S1x1x1 .f32}
    {C : Vec Ideal S1x256x256 .f32} {n : Vec Ideal S1x1x256 .f32}
    (hq : ∀ l d, q (ix2 l d) = x0 (ix2 l (col h d))) (hk : ∀ l d, k (ix2 l d) = x1 (ix2 l (col h d)))
    (hv : ∀ l d, v (ix2 l d) = x2 (ix2 l (col h d)))
    (hbc : ∀ l, bc (ix2 l 0) = k0_pay7 x4 (ix2 l ⟨4 + h.val, by omega⟩)) (hli : ∀ l, li (ix2 l 0) = x4 (ix2 l ⟨h.val, by omega⟩))
    (hbr : ∀ l, br (ix2 0 l) = k0_pay8 x5 (ix2 ⟨4 + h.val, by omega⟩ l)) (hlr : ∀ l, lr (ix2 0 l) = x5 (ix2 ⟨h.val, by omega⟩ l))
    (hm : m (ix3 0 0 0) = xs2 (ix3 h 0 0)) (hC : ∀ d e, C (ix3 0 d e) = xs0 (ix3 h d e))
    (hn : ∀ d, n (ix3 0 0 d) = xs1 (ix3 h 0 d)) : Reads (a h) T q k v bc li br lr m C n where
  q := fun l d => (hq l d).trans (H.q h l d)
  k := fun l d => (hk l d).trans (H.k h l d)
  v := fun l d => (hv l d).trans (H.v h l d)
  bc := fun l => (hbc l).trans (gate_col (a h) T x4 _ (f h) (H.fc h) (H.lf h) l)
  li := fun l => (hli l).trans (H.ic h l)
  br := fun l => (hbr l).trans (gate_row (a h) T x5 _ (f h) (H.fr h) (H.lf h) l)
  lr := fun l => (hlr l).trans (H.ir h l)
  m := hm.trans (H.m h)
  C := fun d e => (hC d e).trans (H.c h d e)
  n := fun d => (hn d).trans (H.n h d)

/-- Head 0 of the block. -/
theorem BlockReads.head0 (H : BlockReads a f T x0 x1 x2 x4 x5 xs0 xs1 xs2) {i0 i1 i2 i3 i4 i5} :
    Reads (a 0) T (View.ld x0 (Rect.unit ![0, 0] ![256, 256] i0)) (View.ld x1 (Rect.unit ![0, 0] ![256, 256] i1))
      (View.ld x2 (Rect.unit ![0, 0] ![256, 256] i2)) (k0_pay9 x4) (k0_pay12 x4) (k0_pay10 x5) (k0_pay11 x5)
      (View.ld xs2 (Rect.unit ![0, 0, 0] ![1, 1, 1] i3)) (View.ld xs0 (Rect.unit ![0, 0, 0] ![1, 256, 256] i4))
      (View.ld xs1 (Rect.unit ![0, 0, 0] ![1, 1, 256] i5)) := by
  refine H.head 0 (fun l d => ?_) (fun l d => ?_) (fun l d => ?_) (fun l => ?_) (fun l => ?_) (fun l => ?_) (fun l => ?_) ?_
    (fun d e => ?_) (fun d => ?_)
  · pointwise; exact congrArg x0 (congrArg (ix2 l) (Fin.ext (show d.val = 256 * 0 + d.val by omega)))
  · pointwise; exact congrArg x1 (congrArg (ix2 l) (Fin.ext (show d.val = 256 * 0 + d.val by omega)))
  · pointwise; exact congrArg x2 (congrArg (ix2 l) (Fin.ext (show d.val = 256 * 0 + d.val by omega)))
  · pointwise [k0_pay9]
  · pointwise [k0_pay12]
  · pointwise [k0_pay10]
  · pointwise [k0_pay11, k0_pay6]
  · pointwise
  · pointwise
  · pointwise

/-- Head 1 of the block. -/
theorem BlockReads.head1 (H : BlockReads a f T x0 x1 x2 x4 x5 xs0 xs1 xs2) {i0 i1 i2 i3 i4 i5} :
    Reads (a 1) T (View.ld x0 (Rect.unit ![0, 256] ![256, 256] i0)) (View.ld x1 (Rect.unit ![0, 256] ![256, 256] i1))
      (View.ld x2 (Rect.unit ![0, 256] ![256, 256] i2)) (k0_pay33 (k0_pay7 x4)) (k0_pay36 x4) (k0_pay34 (k0_pay8 x5)) (k0_pay35 (k0_pay6 x5))
      (View.ld xs2 (Rect.unit ![1, 0, 0] ![1, 1, 1] i3)) (View.ld xs0 (Rect.unit ![1, 0, 0] ![1, 256, 256] i4))
      (View.ld xs1 (Rect.unit ![1, 0, 0] ![1, 1, 256] i5)) := by
  refine H.head 1 (fun l d => ?_) (fun l d => ?_) (fun l d => ?_) (fun l => ?_) (fun l => ?_) (fun l => ?_) (fun l => ?_) ?_
    (fun d e => ?_) (fun d => ?_)
  · pointwise; exact congrArg x0 (congrArg (ix2 l) (Fin.ext (show 256 + d.val = 256 * 1 + d.val by omega)))
  · pointwise; exact congrArg x1 (congrArg (ix2 l) (Fin.ext (show 256 + d.val = 256 * 1 + d.val by omega)))
  · pointwise; exact congrArg x2 (congrArg (ix2 l) (Fin.ext (show 256 + d.val = 256 * 1 + d.val by omega)))
  · pointwise [k0_pay33]
  · pointwise [k0_pay36]
  · pointwise [k0_pay34]
  · pointwise [k0_pay35, k0_pay6]
  · pointwise
  · pointwise
  · pointwise

/-- Head 2 of the block. -/
theorem BlockReads.head2 (H : BlockReads a f T x0 x1 x2 x4 x5 xs0 xs1 xs2) {i0 i1 i2 i3 i4 i5} :
    Reads (a 2) T (View.ld x0 (Rect.unit ![0, 512] ![256, 256] i0)) (View.ld x1 (Rect.unit ![0, 512] ![256, 256] i1))
      (View.ld x2 (Rect.unit ![0, 512] ![256, 256] i2)) (k0_pay51 (k0_pay7 x4)) (k0_pay54 x4) (k0_pay52 (k0_pay8 x5)) (k0_pay53 (k0_pay6 x5))
      (View.ld xs2 (Rect.unit ![2, 0, 0] ![1, 1, 1] i3)) (View.ld xs0 (Rect.unit ![2, 0, 0] ![1, 256, 256] i4))
      (View.ld xs1 (Rect.unit ![2, 0, 0] ![1, 1, 256] i5)) := by
  refine H.head 2 (fun l d => ?_) (fun l d => ?_) (fun l d => ?_) (fun l => ?_) (fun l => ?_) (fun l => ?_) (fun l => ?_) ?_
    (fun d e => ?_) (fun d => ?_)
  · pointwise; exact congrArg x0 (congrArg (ix2 l) (Fin.ext (show 512 + d.val = 256 * 2 + d.val by omega)))
  · pointwise; exact congrArg x1 (congrArg (ix2 l) (Fin.ext (show 512 + d.val = 256 * 2 + d.val by omega)))
  · pointwise; exact congrArg x2 (congrArg (ix2 l) (Fin.ext (show 512 + d.val = 256 * 2 + d.val by omega)))
  · pointwise [k0_pay51]
  · pointwise [k0_pay54]
  · pointwise [k0_pay52]
  · pointwise [k0_pay53, k0_pay6]
  · pointwise
  · pointwise
  · pointwise

/-- Head 3 of the block. -/
theorem BlockReads.head3 (H : BlockReads a f T x0 x1 x2 x4 x5 xs0 xs1 xs2) {i0 i1 i2 i3 i4 i5} :
    Reads (a 3) T (View.ld x0 (Rect.unit ![0, 768] ![256, 256] i0)) (View.ld x1 (Rect.unit ![0, 768] ![256, 256] i1))
      (View.ld x2 (Rect.unit ![0, 768] ![256, 256] i2)) (k0_pay72 (k0_pay7 x4)) (k0_pay75 x4) (k0_pay73 (k0_pay8 x5)) (k0_pay74 (k0_pay6 x5))
      (View.ld xs2 (Rect.unit ![3, 0, 0] ![1, 1, 1] i3)) (View.ld xs0 (Rect.unit ![3, 0, 0] ![1, 256, 256] i4))
      (View.ld xs1 (Rect.unit ![3, 0, 0] ![1, 1, 256] i5)) := by
  refine H.head 3 (fun l d => ?_) (fun l d => ?_) (fun l d => ?_) (fun l => ?_) (fun l => ?_) (fun l => ?_) (fun l => ?_) ?_
    (fun d e => ?_) (fun d => ?_)
  · pointwise; exact congrArg x0 (congrArg (ix2 l) (Fin.ext (show 768 + d.val = 256 * 3 + d.val by omega)))
  · pointwise; exact congrArg x1 (congrArg (ix2 l) (Fin.ext (show 768 + d.val = 256 * 3 + d.val by omega)))
  · pointwise; exact congrArg x2 (congrArg (ix2 l) (Fin.ext (show 768 + d.val = 256 * 3 + d.val by omega)))
  · pointwise [k0_pay72]
  · pointwise [k0_pay75]
  · pointwise [k0_pay73]
  · pointwise [k0_pay74, k0_pay6]
  · pointwise
  · pointwise
  · pointwise

/-- A head's place in the memory scratch. -/
theorem emb_c (h : Fin 4) (n : ℕ) (hn : n = h.val) (inb) (d e : Fin 256) :
    (Rect.unit (s := S4x256x256) ![n, 0, 0] ![1, 256, 256] inb).emb (ix3 0 d e) = ix3 h d e := by
  subst hn; funext b; apply Fin.ext; rw [Rect.emb_apply]
  match b with
  | ⟨0, _⟩ => exact (show h.val + 1 * 0 = h.val by omega)
  | ⟨1, _⟩ => exact (show 0 + 1 * d.val = d.val by omega)
  | ⟨2, _⟩ => exact (show 0 + 1 * e.val = e.val by omega)

/-- A head's place in the normalizer scratch. -/
theorem emb_n (h : Fin 4) (n : ℕ) (hn : n = h.val) (inb) (d : Fin 256) :
    (Rect.unit (s := S4x1x256) ![n, 0, 0] ![1, 1, 256] inb).emb (ix3 0 0 d) = ix3 h 0 d := by
  subst hn; funext b; apply Fin.ext; rw [Rect.emb_apply]
  match b with
  | ⟨0, _⟩ => exact (show h.val + 1 * 0 = h.val by omega)
  | ⟨1, _⟩ => exact (show 0 + 1 * 0 = 0 by omega)
  | ⟨2, _⟩ => exact (show 0 + 1 * d.val = d.val by omega)

/-- A head's place in the scratch of maxima. -/
theorem emb_m (h : Fin 4) (n : ℕ) (hn : n = h.val) (inb) :
    (Rect.unit (s := S4x1x1) ![n, 0, 0] ![1, 1, 1] inb).emb (ix3 0 0 0) = ix3 h 0 0 := by
  subst hn; funext b; apply Fin.ext; rw [Rect.emb_apply]
  match b with
  | ⟨0, _⟩ => exact (show h.val + 1 * 0 = h.val by omega)
  | ⟨1, _⟩ => exact (show 0 + 1 * 0 = 0 by omega)
  | ⟨2, _⟩ => exact (show 0 + 1 * 0 = 0 by omega)

/-- A head's columns in the block stored. -/
theorem emb_y (h : Fin 4) (n : ℕ) (hn : n = 256 * h.val) (inb) (l e : Fin 256) :
    (Rect.unit (s := S256x1024) ![0, n] ![256, 256] inb).emb (ix2 l e) = ix2 l (col h e) := by
  subst hn; funext b; apply Fin.ext; rw [Rect.emb_apply]
  match b with
  | ⟨0, _⟩ => exact (show 0 + 1 * l.val = l.val by omega)
  | ⟨1, _⟩ => exact (show 256 * h.val + 1 * e.val = 256 * h.val + e.val by omega)

/-- What the block leaves in the memory scratch, as a function of its index. -/
def leftC (a : Fin 4 → Tok 256) (T : ℕ) : Vec Ideal S4x256x256 .f32 := fun y => (((a (y 0)).C (T + 256) (y 1) (y 2) : ℝ) : EReal)

/-- What the block leaves in the normalizer scratch. -/
def leftN (a : Fin 4 → Tok 256) (T : ℕ) : Vec Ideal S4x1x256 .f32 := fun y => (((a (y 0)).N (T + 256) (y 2) : ℝ) : EReal)

/-- What the block leaves in the scratch of maxima. -/
def leftM (a : Fin 4 → Tok 256) (T : ℕ) : Vec Ideal S4x1x1 .f32 := fun y => (((a (y 0)).M (T + 256) : ℝ) : EReal)

/-- What the block stores, as a function of its index: the head's output at the token, normed, scaled and gated. -/
def leftY (a : Fin 4 → Tok 256) (T : ℕ) (x3 : Vec Ideal S256x1024 .bf16) (x6 : Vec Ideal S1x1024 .f32) : Vec Ideal S256x1024 .bf16 :=
  fun y => normed ((a (headOf (y 1))).h (T + (y 0).val)) (x6 (ix2 0 (y 1))) (x3 y) (within (y 1))

/-- Four stores, one for each head, that write the memories handed on leave them in the scratch. -/
theorem canonC (a : Fin 4 → Tok 256) (T : ℕ) (p3 p2 p1 p0 : Vec Ideal S1x256x256 .f32) (i3 i2 i1 i0)
    (L : List (View.Piece (Elt Ideal) S4x256x256 .f32))
    (h3 : ∀ d e, p3 (ix3 0 d e) = (((a 3).C (T + 256) d e : ℝ) : EReal)) (h2 : ∀ d e, p2 (ix3 0 d e) = (((a 2).C (T + 256) d e : ℝ) : EReal))
    (h1 : ∀ d e, p1 (ix3 0 d e) = (((a 1).C (T + 256) d e : ℝ) : EReal)) (h0 : ∀ d e, p0 (ix3 0 d e) = (((a 0).C (T + 256) d e : ℝ) : EReal)) :
    View.canon (⟨Rect.unit (s := S4x256x256) ![3, 0, 0] ![1, 256, 256] i3, p3⟩ :: ⟨Rect.unit (s := S4x256x256) ![2, 0, 0] ![1, 256, 256] i2, p2⟩ ::
      ⟨Rect.unit (s := S4x256x256) ![1, 0, 0] ![1, 256, 256] i1, p1⟩ :: ⟨Rect.unit (s := S4x256x256) ![0, 0, 0] ![1, 256, 256] i0, p0⟩ :: L) = leftC a T := by
  funext y
  refine View.canon_append_of_piecesOf (leftC a T) L [_, _, _, _] ⟨?_, ?_, ?_, ?_, trivial⟩ y (View.cover_of_tiled_head _ _ _ (by sl_kernel_rfl) y)
  · intro x; idx_vars x; obtain rfl : x0 = 0 := Subsingleton.elim _ _
    exact (h3 x1 x2).trans (congrArg (leftC a T) (emb_c 3 3 rfl i3 x1 x2)).symm
  · intro x; idx_vars x; obtain rfl : x0 = 0 := Subsingleton.elim _ _
    exact (h2 x1 x2).trans (congrArg (leftC a T) (emb_c 2 2 rfl i2 x1 x2)).symm
  · intro x; idx_vars x; obtain rfl : x0 = 0 := Subsingleton.elim _ _
    exact (h1 x1 x2).trans (congrArg (leftC a T) (emb_c 1 1 rfl i1 x1 x2)).symm
  · intro x; idx_vars x; obtain rfl : x0 = 0 := Subsingleton.elim _ _
    exact (h0 x1 x2).trans (congrArg (leftC a T) (emb_c 0 0 rfl i0 x1 x2)).symm

/-- Four stores, one for each head, that write the normalizers handed on leave them in the scratch. -/
theorem canonN (a : Fin 4 → Tok 256) (T : ℕ) (p3 p2 p1 p0 : Vec Ideal S1x1x256 .f32) (i3 i2 i1 i0)
    (L : List (View.Piece (Elt Ideal) S4x1x256 .f32))
    (h3 : ∀ d, p3 (ix3 0 0 d) = (((a 3).N (T + 256) d : ℝ) : EReal)) (h2 : ∀ d, p2 (ix3 0 0 d) = (((a 2).N (T + 256) d : ℝ) : EReal))
    (h1 : ∀ d, p1 (ix3 0 0 d) = (((a 1).N (T + 256) d : ℝ) : EReal)) (h0 : ∀ d, p0 (ix3 0 0 d) = (((a 0).N (T + 256) d : ℝ) : EReal)) :
    View.canon (⟨Rect.unit (s := S4x1x256) ![3, 0, 0] ![1, 1, 256] i3, p3⟩ :: ⟨Rect.unit (s := S4x1x256) ![2, 0, 0] ![1, 1, 256] i2, p2⟩ ::
      ⟨Rect.unit (s := S4x1x256) ![1, 0, 0] ![1, 1, 256] i1, p1⟩ :: ⟨Rect.unit (s := S4x1x256) ![0, 0, 0] ![1, 1, 256] i0, p0⟩ :: L) = leftN a T := by
  funext y
  refine View.canon_append_of_piecesOf (leftN a T) L [_, _, _, _] ⟨?_, ?_, ?_, ?_, trivial⟩ y (View.cover_of_tiled_head _ _ _ (by sl_kernel_rfl) y)
  · intro x; idx_vars x; obtain rfl : x0 = 0 := Subsingleton.elim _ _; obtain rfl : x1 = 0 := Subsingleton.elim _ _
    exact (h3 x2).trans (congrArg (leftN a T) (emb_n 3 3 rfl i3 x2)).symm
  · intro x; idx_vars x; obtain rfl : x0 = 0 := Subsingleton.elim _ _; obtain rfl : x1 = 0 := Subsingleton.elim _ _
    exact (h2 x2).trans (congrArg (leftN a T) (emb_n 2 2 rfl i2 x2)).symm
  · intro x; idx_vars x; obtain rfl : x0 = 0 := Subsingleton.elim _ _; obtain rfl : x1 = 0 := Subsingleton.elim _ _
    exact (h1 x2).trans (congrArg (leftN a T) (emb_n 1 1 rfl i1 x2)).symm
  · intro x; idx_vars x; obtain rfl : x0 = 0 := Subsingleton.elim _ _; obtain rfl : x1 = 0 := Subsingleton.elim _ _
    exact (h0 x2).trans (congrArg (leftN a T) (emb_n 0 0 rfl i0 x2)).symm

/-- Four stores, one for each head, that write the maxima handed on leave them in the scratch. -/
theorem canonM (a : Fin 4 → Tok 256) (T : ℕ) (p3 p2 p1 p0 : Vec Ideal S1x1x1 .f32) (i3 i2 i1 i0)
    (L : List (View.Piece (Elt Ideal) S4x1x1 .f32))
    (h3 : p3 (ix3 0 0 0) = (((a 3).M (T + 256) : ℝ) : EReal)) (h2 : p2 (ix3 0 0 0) = (((a 2).M (T + 256) : ℝ) : EReal))
    (h1 : p1 (ix3 0 0 0) = (((a 1).M (T + 256) : ℝ) : EReal)) (h0 : p0 (ix3 0 0 0) = (((a 0).M (T + 256) : ℝ) : EReal)) :
    View.canon (⟨Rect.unit (s := S4x1x1) ![3, 0, 0] ![1, 1, 1] i3, p3⟩ :: ⟨Rect.unit (s := S4x1x1) ![2, 0, 0] ![1, 1, 1] i2, p2⟩ ::
      ⟨Rect.unit (s := S4x1x1) ![1, 0, 0] ![1, 1, 1] i1, p1⟩ :: ⟨Rect.unit (s := S4x1x1) ![0, 0, 0] ![1, 1, 1] i0, p0⟩ :: L) = leftM a T := by
  funext y
  refine View.canon_append_of_piecesOf (leftM a T) L [_, _, _, _] ⟨?_, ?_, ?_, ?_, trivial⟩ y (View.cover_of_tiled_head _ _ _ (by sl_kernel_rfl) y)
  · intro x; idx_vars x; obtain rfl : x0 = 0 := Subsingleton.elim _ _; obtain rfl : x1 = 0 := Subsingleton.elim _ _; obtain rfl : x2 = 0 := Subsingleton.elim _ _
    exact h3.trans (congrArg (leftM a T) (emb_m 3 3 rfl i3)).symm
  · intro x; idx_vars x; obtain rfl : x0 = 0 := Subsingleton.elim _ _; obtain rfl : x1 = 0 := Subsingleton.elim _ _; obtain rfl : x2 = 0 := Subsingleton.elim _ _
    exact h2.trans (congrArg (leftM a T) (emb_m 2 2 rfl i2)).symm
  · intro x; idx_vars x; obtain rfl : x0 = 0 := Subsingleton.elim _ _; obtain rfl : x1 = 0 := Subsingleton.elim _ _; obtain rfl : x2 = 0 := Subsingleton.elim _ _
    exact h1.trans (congrArg (leftM a T) (emb_m 1 1 rfl i1)).symm
  · intro x; idx_vars x; obtain rfl : x0 = 0 := Subsingleton.elim _ _; obtain rfl : x1 = 0 := Subsingleton.elim _ _; obtain rfl : x2 = 0 := Subsingleton.elim _ _
    exact h0.trans (congrArg (leftM a T) (emb_m 0 0 rfl i0)).symm

/-- Four stores, one for each head, that write the heads' normed, scaled and gated outputs leave them in the block. -/
theorem canonY (a : Fin 4 → Tok 256) (T : ℕ) (x3 : Vec Ideal S256x1024 .bf16) (x6 : Vec Ideal S1x1024 .f32) (p3 p2 p1 p0 : Vec Ideal S256x256 .bf16) (i3 i2 i1 i0)
    (h3 : ∀ l e, p3 (ix2 l e) = normed ((a 3).h (T + l.val)) (x6 (ix2 0 (col 3 e))) (x3 (ix2 l (col 3 e))) e)
    (h2 : ∀ l e, p2 (ix2 l e) = normed ((a 2).h (T + l.val)) (x6 (ix2 0 (col 2 e))) (x3 (ix2 l (col 2 e))) e)
    (h1 : ∀ l e, p1 (ix2 l e) = normed ((a 1).h (T + l.val)) (x6 (ix2 0 (col 1 e))) (x3 (ix2 l (col 1 e))) e)
    (h0 : ∀ l e, p0 (ix2 l e) = normed ((a 0).h (T + l.val)) (x6 (ix2 0 (col 0 e))) (x3 (ix2 l (col 0 e))) e) :
    View.canon [(⟨Rect.unit (s := S256x1024) ![0, 768] ![256, 256] i3, p3⟩ : View.Piece (Elt Ideal) S256x1024 .bf16), ⟨Rect.unit (s := S256x1024) ![0, 512] ![256, 256] i2, p2⟩,
      ⟨Rect.unit (s := S256x1024) ![0, 256] ![256, 256] i1, p1⟩, ⟨Rect.unit (s := S256x1024) ![0, 0] ![256, 256] i0, p0⟩] = leftY a T x3 x6 := by
  have at_col (h : Fin 4) (l e : Fin 256) : leftY a T x3 x6 (ix2 l (col h e)) = normed ((a h).h (T + l.val)) (x6 (ix2 0 (col h e))) (x3 (ix2 l (col h e))) e := by
    show normed ((a (headOf (col h e))).h (T + l.val)) (x6 (ix2 0 (col h e))) (x3 (ix2 l (col h e))) (within (col h e)) = _
    rw [headOf_col, within_col]
  funext y
  refine View.canon_append_of_piecesOf (leftY a T x3 x6) [] [_, _, _, _] ⟨?_, ?_, ?_, ?_, trivial⟩ y (View.cover_of_tiled_head _ _ _ (by sl_kernel_rfl) y)
  · intro x; idx_vars x
    exact ((h3 x0 x1).trans (at_col 3 x0 x1).symm).trans (congrArg (leftY a T x3 x6) (emb_y 3 768 rfl i3 x0 x1)).symm
  · intro x; idx_vars x
    exact ((h2 x0 x1).trans (at_col 2 x0 x1).symm).trans (congrArg (leftY a T x3 x6) (emb_y 2 512 rfl i2 x0 x1)).symm
  · intro x; idx_vars x
    exact ((h1 x0 x1).trans (at_col 1 x0 x1).symm).trans (congrArg (leftY a T x3 x6) (emb_y 1 256 rfl i1 x0 x1)).symm
  · intro x; idx_vars x
    exact ((h0 x0 x1).trans (at_col 0 x0 x1).symm).trans (congrArg (leftY a T x3 x6) (emb_y 0 0 rfl i0 x0 x1)).symm

/-- A head's columns of the gain. -/
theorem ld_gain (h : Fin 4) (n : ℕ) (hn : n = 256 * h.val) (inb) (x6 : Vec Ideal S1x1024 .f32) (e : Fin 256) :
    View.ld x6 (Rect.unit (s := S1x1024) ![0, n] ![1, 256] inb) (ix2 0 e) = x6 (ix2 0 (col h e)) := by
  subst hn
  pointwise
  exact congrArg x6 (congrArg (ix2 0) (Fin.ext (show 256 * h.val + e.val = 256 * h.val + e.val from rfl)))

/-- A head's columns of the output gate. -/
theorem ld_gate (h : Fin 4) (n : ℕ) (hn : n = 256 * h.val) (inb) (x3 : Vec Ideal S256x1024 .bf16) (l e : Fin 256) :
    View.ld x3 (Rect.unit (s := S256x1024) ![0, n] ![256, 256] inb) (ix2 l e) = x3 (ix2 l (col h e)) := congrArg x3 (emb_y h n hn inb l e)

/-- What a block that finds the scratch filled leaves in the memory scratch. -/
theorem leftC_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (H : BlockReads a f T x0 x1 x2 x4 x5 xs0 xs1 xs2) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = leftC a T := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg10.read_unread, harg11.read_unread, harg12.read_unread, View.ld_unit_lit]
  refine canonC a T _ _ _ _ _ _ _ _ _ (fun d e => ?_) (fun d e => ?_) (fun d e => ?_) (fun d e => ?_)
  · rw [C3]; exact (H.head3 (i0 := by decide) (i1 := by decide) (i2 := by decide) (i3 := by decide) (i4 := by decide) (i5 := by decide)).C' d e
  · rw [C2]; exact (H.head2 (i0 := by decide) (i1 := by decide) (i2 := by decide) (i3 := by decide) (i4 := by decide) (i5 := by decide)).C' d e
  · rw [C1]; exact (H.head1 (i0 := by decide) (i1 := by decide) (i2 := by decide) (i3 := by decide) (i4 := by decide) (i5 := by decide)).C' d e
  · rw [C0]; exact (H.head0 (i0 := by decide) (i1 := by decide) (i2 := by decide) (i3 := by decide) (i4 := by decide) (i5 := by decide)).C' d e

/-- What a block that finds the scratch filled leaves in the normalizer scratch. -/
theorem leftN_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (H : BlockReads a f T x0 x1 x2 x4 x5 xs0 xs1 xs2) :
    sout0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = leftN a T := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg10.read_unread, harg11.read_unread, harg12.read_unread, View.ld_unit_lit]
  refine canonN a T _ _ _ _ _ _ _ _ _ (fun d => ?_) (fun d => ?_) (fun d => ?_) (fun d => ?_)
  · rw [N3]; exact (H.head3 (i0 := by decide) (i1 := by decide) (i2 := by decide) (i3 := by decide) (i4 := by decide) (i5 := by decide)).n' d
  · rw [N2]; exact (H.head2 (i0 := by decide) (i1 := by decide) (i2 := by decide) (i3 := by decide) (i4 := by decide) (i5 := by decide)).n' d
  · rw [N1]; exact (H.head1 (i0 := by decide) (i1 := by decide) (i2 := by decide) (i3 := by decide) (i4 := by decide) (i5 := by decide)).n' d
  · rw [N0]; exact (H.head0 (i0 := by decide) (i1 := by decide) (i2 := by decide) (i3 := by decide) (i4 := by decide) (i5 := by decide)).n' d

/-- What a block that finds the scratch filled leaves in the scratch of maxima. -/
theorem leftM_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (H : BlockReads a f T x0 x1 x2 x4 x5 xs0 xs1 xs2) :
    sout0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = leftM a T := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg10.read_unread, harg11.read_unread, harg12.read_unread, View.ld_unit_lit]
  refine canonM a T _ _ _ _ _ _ _ _ _ ?_ ?_ ?_ ?_
  · rw [M3]; exact (H.head3 (i0 := by decide) (i1 := by decide) (i2 := by decide) (i3 := by decide) (i4 := by decide) (i5 := by decide)).m'
  · rw [M2]; exact (H.head2 (i0 := by decide) (i1 := by decide) (i2 := by decide) (i3 := by decide) (i4 := by decide) (i5 := by decide)).m'
  · rw [M1]; exact (H.head1 (i0 := by decide) (i1 := by decide) (i2 := by decide) (i3 := by decide) (i4 := by decide) (i5 := by decide)).m'
  · rw [M0]; exact (H.head0 (i0 := by decide) (i1 := by decide) (i2 := by decide) (i3 := by decide) (i4 := by decide) (i5 := by decide)).m'

/-- What a block that finds the scratch filled stores. -/
theorem leftY_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : ¬cond0_0 i)
    (H : BlockReads a f T x0 x1 x2 x4 x5 xs0 xs1 xs2) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = leftY a T x3 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg10.read_unread, harg11.read_unread, harg12.read_unread, View.ld_unit_lit]
  refine canonY a T x3 x6 _ _ _ _ _ _ _ _ (fun l e => ?_) (fun l e => ?_) (fun l e => ?_) (fun l e => ?_)
  · rw [Y3]; refine (H.head3.out _ _ l e).trans ?_; rw [ld_gain 3 768 rfl, ld_gate 3 768 rfl]
  · rw [Y2]; refine (H.head2.out _ _ l e).trans ?_; rw [ld_gain 2 512 rfl, ld_gate 2 512 rfl]
  · rw [Y1]; refine (H.head1.out _ _ l e).trans ?_; rw [ld_gain 1 256 rfl, ld_gate 1 256 rfl]
  · rw [Y0]; refine (H.head0.out _ _ l e).trans ?_; rw [ld_gain 0 0 rfl, ld_gate 0 0 rfl]

/-- What a block that first zeroes the scratch leaves in the memory scratch. -/
theorem leftC_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (H : BlockReads a f T x0 x1 x2 x4 x5 (k0_pay2 (F := Ideal)) (k0_pay3 (F := Ideal)) (k0_pay4 (F := Ideal))) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = leftC a T := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp (disch := first | rfl | decide) only [↓View.readCov_skip, ↓View.readCov_fill, View.readAt_eq_ld, harg2.read_unread, harg3.read_unread, harg4.read_unread, harg5.read_unread, harg6.read_unread, harg7.read_unread, harg8.read_unread, View.ld_unit_lit]
  refine canonC a T _ _ _ _ _ _ _ _ _ (fun d e => ?_) (fun d e => ?_) (fun d e => ?_) (fun d e => ?_)
  · rw [C3]; exact (H.head3 (i0 := by decide) (i1 := by decide) (i2 := by decide) (i3 := by decide) (i4 := by decide) (i5 := by decide)).C' d e
  · rw [C2]; exact (H.head2 (i0 := by decide) (i1 := by decide) (i2 := by decide) (i3 := by decide) (i4 := by decide) (i5 := by decide)).C' d e
  · rw [C1]; exact (H.head1 (i0 := by decide) (i1 := by decide) (i2 := by decide) (i3 := by decide) (i4 := by decide) (i5 := by decide)).C' d e
  · rw [C0]; exact (H.head0 (i0 := by decide) (i1 := by decide) (i2 := by decide) (i3 := by decide) (i4 := by decide) (i5 := by decide)).C' d e

/-- What a block that first zeroes the scratch leaves in the normalizer scratch. -/
theorem leftN_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (H : BlockReads a f T x0 x1 x2 x4 x5 (k0_pay2 (F := Ideal)) (k0_pay3 (F := Ideal)) (k0_pay4 (F := Ideal))) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = leftN a T := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp (disch := first | rfl | decide) only [↓View.readCov_skip, ↓View.readCov_fill, View.readAt_eq_ld, harg2.read_unread, harg3.read_unread, harg4.read_unread, harg5.read_unread, harg6.read_unread, harg7.read_unread, harg8.read_unread, View.ld_unit_lit]
  refine canonN a T _ _ _ _ _ _ _ _ _ (fun d => ?_) (fun d => ?_) (fun d => ?_) (fun d => ?_)
  · rw [N3]; exact (H.head3 (i0 := by decide) (i1 := by decide) (i2 := by decide) (i3 := by decide) (i4 := by decide) (i5 := by decide)).n' d
  · rw [N2]; exact (H.head2 (i0 := by decide) (i1 := by decide) (i2 := by decide) (i3 := by decide) (i4 := by decide) (i5 := by decide)).n' d
  · rw [N1]; exact (H.head1 (i0 := by decide) (i1 := by decide) (i2 := by decide) (i3 := by decide) (i4 := by decide) (i5 := by decide)).n' d
  · rw [N0]; exact (H.head0 (i0 := by decide) (i1 := by decide) (i2 := by decide) (i3 := by decide) (i4 := by decide) (i5 := by decide)).n' d

/-- What a block that first zeroes the scratch leaves in the scratch of maxima. -/
theorem leftM_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (H : BlockReads a f T x0 x1 x2 x4 x5 (k0_pay2 (F := Ideal)) (k0_pay3 (F := Ideal)) (k0_pay4 (F := Ideal))) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6 = leftM a T := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp (disch := first | rfl | decide) only [↓View.readCov_skip, ↓View.readCov_fill, View.readAt_eq_ld, harg2.read_unread, harg3.read_unread, harg4.read_unread, harg5.read_unread, harg6.read_unread, harg7.read_unread, harg8.read_unread, View.ld_unit_lit]
  refine canonM a T _ _ _ _ _ _ _ _ _ ?_ ?_ ?_ ?_
  · rw [M3]; exact (H.head3 (i0 := by decide) (i1 := by decide) (i2 := by decide) (i3 := by decide) (i4 := by decide) (i5 := by decide)).m'
  · rw [M2]; exact (H.head2 (i0 := by decide) (i1 := by decide) (i2 := by decide) (i3 := by decide) (i4 := by decide) (i5 := by decide)).m'
  · rw [M1]; exact (H.head1 (i0 := by decide) (i1 := by decide) (i2 := by decide) (i3 := by decide) (i4 := by decide) (i5 := by decide)).m'
  · rw [M0]; exact (H.head0 (i0 := by decide) (i1 := by decide) (i2 := by decide) (i3 := by decide) (i4 := by decide) (i5 := by decide)).m'

/-- What a block that first zeroes the scratch stores. -/
theorem leftY_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S8x256 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S4x256x256 .f32) (harg10 : arg10.IsWhole) (arg11 : Memref sig .tc .vmem S4x1x256 .f32) (harg11 : arg11.IsWhole) (arg12 : Memref sig .tc .vmem S4x1x1 .f32) (harg12 : arg12.IsWhole) (hc0 : cond0_0 i)
    (H : BlockReads a f T x0 x1 x2 x4 x5 (k0_pay2 (F := Ideal)) (k0_pay3 (F := Ideal)) (k0_pay4 (F := Ideal))) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = leftY a T x3 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp (disch := first | rfl | decide) only [↓View.readCov_skip, ↓View.readCov_fill, View.readAt_eq_ld, harg2.read_unread, harg3.read_unread, harg4.read_unread, harg5.read_unread, harg6.read_unread, harg7.read_unread, harg8.read_unread, View.ld_unit_lit]
  refine canonY a T x3 x6 _ _ _ _ _ _ _ _ (fun l e => ?_) (fun l e => ?_) (fun l e => ?_) (fun l e => ?_)
  · rw [Y3]; refine (H.head3.out _ _ l e).trans ?_; rw [ld_gain 3 768 rfl, ld_gate 3 768 rfl]
  · rw [Y2]; refine (H.head2.out _ _ l e).trans ?_; rw [ld_gain 2 512 rfl, ld_gate 2 512 rfl]
  · rw [Y1]; refine (H.head1.out _ _ l e).trans ?_; rw [ld_gain 1 256 rfl, ld_gate 1 256 rfl]
  · rw [Y0]; refine (H.head0.out _ _ l e).trans ?_; rw [ld_gain 0 0 rfl, ld_gate 0 0 rfl]

end Cert.KernelBlock
-- ==== Proof.KernelRun.lean ====
/-
  What the kernel's result holds: by induction over the grid's points, the scratch after a block is the recurrences' state
  at the block's end, and the block stored is the heads' outputs at its tokens.
-/
module

public import proofs.«01_k».proof.Proof.KernelBlock
public import proofs.«01_k».proof.Proof.Tokens
public import proofs.«01_k».proof.Proof.Gen.MlstmIdeal.Value

@[expose] public section

set_option maxRecDepth 16384

noncomputable section

namespace Cert.KernelRun

open Idealize.ShloMosaic Idealize.ShloMosaic.TcCoe Idealize.SL.Sem
open Cert.Chunk Cert.Gate Cert.KernelHead Cert.KernelBlock Cert.Tokens
open Cert.MlstmIdeal Cert.MlstmIdeal.Gen Cert.MlstmIdeal.Value

variable (m : (ℓ : Loc nD τ sig) → Buf (Elt Ideal) ℓ) (c : Dev nD)

/-- The projections, by row and column. -/
def projOf : Fin 32768 → Fin 9216 → EReal := fun r j => (m ((c : Thread nD τ).loc main_arg0) : Vec Ideal S32768x9216 .bf16) (ix2 r j)

/-- The gate array, by row and column. -/
def gateOf : Fin 32768 → Fin 128 → EReal := fun r j => (m ((c : Thread nD τ).loc main_arg1) : Vec Ideal S32768x128 .f32) (ix2 r j)

/-- The gain. -/
def gainOf : Fin 1024 → EReal := fun j => (m ((c : Thread nD τ).loc main_arg2) : Vec Ideal S1024 .f32) (ix1 j)

/-- The array row that block `t`'s row `l` is. -/
def brow (t : Fin cfg0.N) (l : Fin 256) : Fin 32768 := ⟨256 * t.val + l.val, by have := lt_of_lt_of_eq t.isLt (show cfg0.N = 128 from N_0); omega⟩

/-- Which block of its array each operand's block is, at each point. -/
theorem win_index : ∀ t : Fin cfg0.N,
    (win0_0.index t (0 : Fin 2) = t.val ∧ win0_0.index t (1 : Fin 2) = 0) ∧ (win0_1.index t (0 : Fin 2) = t.val ∧ win0_1.index t (1 : Fin 2) = 1)
    ∧ (win0_2.index t (0 : Fin 2) = t.val ∧ win0_2.index t (1 : Fin 2) = 2) ∧ (win0_3.index t (0 : Fin 2) = t.val ∧ win0_3.index t (1 : Fin 2) = 3)
    ∧ (win0_4.index t (0 : Fin 2) = t.val ∧ win0_4.index t (1 : Fin 2) = 0) ∧ (win0_5.index t (0 : Fin 2) = 0 ∧ win0_5.index t (1 : Fin 2) = t.val)
    ∧ (win0_6.index t (0 : Fin 2) = 0 ∧ win0_6.index t (1 : Fin 2) = 0) :=
  (by decide +kernel : ∀ t : Fin grid0.N, _)

/-- The block of queries. -/
theorem blk0 (t : Fin cfg0.N) (l : Fin 256) (j : Fin 1024) :
    (iblk m c 0 t : Vec Ideal S256x1024 .bf16) (ix2 l j) = projOf m c (brow t l) ⟨1024 * 0 + j.val, by omega⟩ := by
  obtain ⟨⟨h0, h1⟩, -⟩ := win_index t
  unfold iblk; rw [View.read_apply]
  show V m c main_arg0 _ = _
  rw [V_main_arg0]
  refine congrArg _ (funext fun a => Fin.ext ?_)
  match a with
  | ⟨0, _⟩ => show win0_0.index t (0 : Fin 2) * 256 + 1 * l.val = 256 * t.val + l.val; rw [h0]; omega
  | ⟨1, _⟩ => show win0_0.index t (1 : Fin 2) * 1024 + 1 * j.val = 1024 * 0 + j.val; rw [h1]; omega

/-- The block of keys. -/
theorem blk1 (t : Fin cfg0.N) (l : Fin 256) (j : Fin 1024) :
    (iblk m c 1 t : Vec Ideal S256x1024 .bf16) (ix2 l j) = projOf m c (brow t l) ⟨1024 * 1 + j.val, by omega⟩ := by
  obtain ⟨-, ⟨h0, h1⟩, -⟩ := win_index t
  unfold iblk; rw [View.read_apply]
  show V m c main_arg0 _ = _
  rw [V_main_arg0]
  refine congrArg _ (funext fun a => Fin.ext ?_)
  match a with
  | ⟨0, _⟩ => show win0_1.index t (0 : Fin 2) * 256 + 1 * l.val = 256 * t.val + l.val; rw [h0]; omega
  | ⟨1, _⟩ => show win0_1.index t (1 : Fin 2) * 1024 + 1 * j.val = 1024 * 1 + j.val; rw [h1]; omega

/-- The block of values. -/
theorem blk2 (t : Fin cfg0.N) (l : Fin 256) (j : Fin 1024) :
    (iblk m c 2 t : Vec Ideal S256x1024 .bf16) (ix2 l j) = projOf m c (brow t l) ⟨1024 * 2 + j.val, by omega⟩ := by
  obtain ⟨-, -, ⟨h0, h1⟩, -⟩ := win_index t
  unfold iblk; rw [View.read_apply]
  show V m c main_arg0 _ = _
  rw [V_main_arg0]
  refine congrArg _ (funext fun a => Fin.ext ?_)
  match a with
  | ⟨0, _⟩ => show win0_2.index t (0 : Fin 2) * 256 + 1 * l.val = 256 * t.val + l.val; rw [h0]; omega
  | ⟨1, _⟩ => show win0_2.index t (1 : Fin 2) * 1024 + 1 * j.val = 1024 * 2 + j.val; rw [h1]; omega

/-- The block of output gates. -/
theorem blk3 (t : Fin cfg0.N) (l : Fin 256) (j : Fin 1024) :
    (iblk m c 3 t : Vec Ideal S256x1024 .bf16) (ix2 l j) = projOf m c (brow t l) ⟨1024 * 3 + j.val, by omega⟩ := by
  obtain ⟨-, -, -, ⟨h0, h1⟩, -⟩ := win_index t
  unfold iblk; rw [View.read_apply]
  show V m c main_arg0 _ = _
  rw [V_main_arg0]
  refine congrArg _ (funext fun a => Fin.ext ?_)
  match a with
  | ⟨0, _⟩ => show win0_3.index t (0 : Fin 2) * 256 + 1 * l.val = 256 * t.val + l.val; rw [h0]; omega
  | ⟨1, _⟩ => show win0_3.index t (1 : Fin 2) * 1024 + 1 * j.val = 1024 * 3 + j.val; rw [h1]; omega

/-- The block of gates, a row for each token. -/
theorem blk4 (t : Fin cfg0.N) (l : Fin 256) (j : Fin 128) :
    (iblk m c 4 t : Vec Ideal S256x128 .f32) (ix2 l j) = gateOf m c (brow t l) j := by
  obtain ⟨-, -, -, -, ⟨h0, h1⟩, -⟩ := win_index t
  unfold iblk; rw [View.read_apply]
  show V m c main_arg1 _ = _
  rw [V_main_arg1]
  refine congrArg _ (funext fun a => Fin.ext ?_)
  match a with
  | ⟨0, _⟩ => show win0_4.index t (0 : Fin 2) * 256 + 1 * l.val = 256 * t.val + l.val; rw [h0]; omega
  | ⟨1, _⟩ => show win0_4.index t (1 : Fin 2) * 128 + 1 * j.val = j.val; rw [h1]; omega

/-- The gates the host lays out a column for each token. -/
theorem gates_across (i : Fin 8) (r : Fin 32768) : (V m c main_v1 : Vec Ideal S8x32768 .f32) (ix2 i r) = gateOf m c r ⟨i.val, by omega⟩ := by
  unfold_abbrev_sides
  after_results
  pointwise
  rfl

/-- The gain the host lays out as one row. -/
theorem gain_row (j : Fin 1024) : (V m c main_v2 : Vec Ideal S1x1024 .f32) (ix2 0 j) = gainOf m c j := by
  unfold_abbrev_sides
  after_results
  pointwise
  rfl

/-- The block of gates, a column for each token. -/
theorem blk5 (t : Fin cfg0.N) (i : Fin 8) (l : Fin 256) :
    (iblk m c 5 t : Vec Ideal S8x256 .f32) (ix2 i l) = gateOf m c (brow t l) ⟨i.val, by omega⟩ := by
  obtain ⟨-, -, -, -, -, ⟨h0, h1⟩, -⟩ := win_index t
  unfold iblk; rw [View.read_apply]
  show V m c main_v1 _ = _
  refine Eq.trans (congrArg (V m c main_v1) (funext fun a => Fin.ext ?_)) (gates_across m c i (brow t l))
  match a with
  | ⟨0, _⟩ => show win0_5.index t (0 : Fin 2) * 8 + 1 * i.val = i.val; rw [h0]; omega
  | ⟨1, _⟩ => show win0_5.index t (1 : Fin 2) * 256 + 1 * l.val = 256 * t.val + l.val; rw [h1]; omega

/-- The gain, at every block. -/
theorem blk6 (t : Fin cfg0.N) (j : Fin 1024) :
    (iblk m c 6 t : Vec Ideal S1x1024 .f32) (ix2 0 j) = gainOf m c j := by
  obtain ⟨-, -, -, -, -, -, ⟨h0, h1⟩⟩ := win_index t
  unfold iblk; rw [View.read_apply]
  show V m c main_v2 _ = _
  refine Eq.trans (congrArg (V m c main_v2) (funext fun a => Fin.ext ?_)) (gain_row m c j)
  match a with
  | ⟨0, _⟩ => show win0_6.index t (0 : Fin 2) * 1 + 1 * 0 = 0; rw [h0]
  | ⟨1, _⟩ => show win0_6.index t (1 : Fin 2) * 1024 + 1 * j.val = j.val; rw [h1]; omega

/-- The sequence a block belongs to. -/
def seqOf (n : ℕ) : Fin 4 := ⟨n / 32 % 4, Nat.mod_lt _ (by decide)⟩

/-- The heads of a block's sequence. -/
def heads (n : ℕ) (h : Fin 4) : Tok 256 := tok (projOf m c) (gateOf m c) (seqOf n) h

/-- Row `l` of block `t` is a token of the block's sequence. -/
theorem brow_eq (t : Fin cfg0.N) (l : Fin 256) : brow t l = row (seqOf t.val) (256 * (t.val % 32) + l.val) := by
  have := lt_of_lt_of_eq t.isLt (show cfg0.N = 128 from N_0)
  apply Fin.ext
  show 256 * t.val + l.val = (8192 * (t.val / 32 % 4) + (256 * (t.val % 32) + l.val)) % 32768
  omega

variable (hfin : Finite (projOf m c) (gateOf m c))
include hfin

/-- The operands of block `t` are its tokens, whatever scratch agrees with the recurrences at the block's start. -/
theorem reads (t : Fin cfg0.N) (xs0 : Vec Ideal S4x256x256 .f32) (xs1 : Vec Ideal S4x1x256 .f32) (xs2 : Vec Ideal S4x1x1 .f32)
    (h0 : ∀ h d e, xs0 (ix3 h d e) = (((heads m c t.val h).C (256 * (t.val % 32)) d e : ℝ) : EReal))
    (h1 : ∀ h d, xs1 (ix3 h 0 d) = (((heads m c t.val h).N (256 * (t.val % 32)) d : ℝ) : EReal))
    (h2 : ∀ h, xs2 (ix3 h 0 0) = (((heads m c t.val h).M (256 * (t.val % 32)) : ℝ) : EReal)) :
    BlockReads (heads m c t.val) (fun h l => fpre (gateOf m c) (seqOf t.val) h (256 * (t.val % 32) + l)) (256 * (t.val % 32))
      (iblk m c 0 t) (iblk m c 1 t) (iblk m c 2 t) (iblk m c 4 t) (iblk m c 5 t) xs0 xs1 xs2 where
  q h l d := by
    rw [blk0, brow_eq]; exact hfin.proj _ 0 h d (by decide)
  k h l d := by
    rw [blk1, brow_eq]; exact hfin.proj _ 1 h d (by decide)
  v h l d := by
    rw [blk2, brow_eq]; exact hfin.proj _ 2 h d (by decide)
  lf h l := rfl
  ic h l := by rw [blk4, brow_eq]; exact hfin.ig _ h
  fc h l := by rw [blk4, brow_eq]; exact hfin.fg _ h
  ir h l := by rw [blk5, brow_eq]; exact hfin.ig _ h
  fr h l := by rw [blk5, brow_eq]; exact hfin.fg _ h
  c := h0
  n := h1
  m := h2

/-- What a sequence's first block leaves: it zeroes the scratch, and the recurrences start at zero. -/
theorem first (t : Fin cfg0.N) (h0 : t.val % 32 = 0) : outsAt0 m c t.val t.isLt
    = (leftY (heads m c t.val) (256 * (t.val % 32)) (iblk m c 3 t) (iblk m c 6 t),
       leftC (heads m c t.val) (256 * (t.val % 32)), leftN (heads m c t.val) (256 * (t.val % 32)), leftM (heads m c t.val) (256 * (t.val % 32))) := by
  have H := reads m c hfin t (k0_pay2 (F := Ideal)) (k0_pay3 (F := Ideal)) (k0_pay4 (F := Ideal))
    (fun h d e => by rw [h0]; pointwise [k0_pay2]; simp [Tok.C])
    (fun h d => by rw [h0]; pointwise [k0_pay3]; simp [Tok.N])
    (fun h => by rw [h0]; pointwise [k0_pay4]; simp [Tok.M])
  rw [outsAt0_A m c t h0, leftY_A (H := H), leftC_A (H := H), leftN_A (H := H), leftM_A (H := H)]

/-- After every point the buffers hold the block's output and the recurrences' state at the block's end. -/
theorem outs_eq : ∀ (n : ℕ) (hn : n < cfg0.N), outsAt0 m c n hn
    = (leftY (heads m c n) (256 * (n % 32)) (iblk m c 3 ⟨n, hn⟩) (iblk m c 6 ⟨n, hn⟩),
       leftC (heads m c n) (256 * (n % 32)), leftN (heads m c n) (256 * (n % 32)), leftM (heads m c n) (256 * (n % 32))) := by
  intro n
  induction n with
  | zero => intro hn; exact first m c hfin ⟨0, hn⟩ rfl
  | succ n ih =>
    intro hn
    by_cases h0 : (n + 1) % 32 = 0
    · exact first m c hfin ⟨n + 1, hn⟩ h0
    · have hs : heads m c (n + 1) = heads m c n := by
        unfold heads; rw [show seqOf (n + 1) = seqOf n from Fin.ext (by show (n + 1) / 32 % 4 = n / 32 % 4; omega)]
      have hT : 256 * ((n + 1) % 32) = 256 * (n % 32) + 256 := by omega
      have H := reads m c hfin ⟨n + 1, hn⟩ _ _ _
        (fun h d e => show leftC (heads m c n) (256 * (n % 32)) (ix3 h d e) = _ by rw [hs, hT]; rfl)
        (fun h d => show leftN (heads m c n) (256 * (n % 32)) (ix3 h 0 d) = _ by rw [hs, hT]; rfl)
        (fun h => show leftM (heads m c n) (256 * (n % 32)) (ix3 h 0 0) = _ by rw [hs, hT]; rfl)
      rw [outsAt0_B m c ⟨n + 1, hn⟩ h0]
      simp only [Nat.add_sub_cancel, ih]
      rw [leftY_B (H := H), leftC_B (H := H), leftN_B (H := H), leftM_B (H := H)]

/-- The kernel's result at every row and column. -/
theorem result (r : Fin 32768) (j : Fin 1024) :
    (G7 m c : Vec Ideal S32768x1024 .bf16) (ix2 r j) = outAt (projOf m c) (gateOf m c) (gainOf m c) r j := by
  have hN : cfg0.N = 128 := N_0
  have hp : pt7Of (ix2 r j) = r.val / 256 := by
    show 1 * (r.val / 256 - 0) + 1 * (j.val / 1024 - 0) = r.val / 256; omega
  have hlt : r.val / 256 < cfg0.N := by rw [hN]; omega
  unfold G7
  rw [dif_pos (by rw [hp]; exact hlt), fold0_congr m c _ _ (r.val / 256) (by omega) hp, ← outsAt0_sweep m c _ hlt, outs_eq m c hfin _ hlt]
  have hl : loc7Of (ix2 r j) = ix2 (⟨r.val % 256, Nat.mod_lt _ (by decide)⟩ : Fin 256) j := by
    funext a; apply Fin.ext
    match a with
    | ⟨0, _⟩ => rfl
    | ⟨1, _⟩ => show j.val % 1024 = j.val; omega
  rw [hl]
  show normed ((heads m c (r.val / 256) (headOf j)).h (256 * (r.val / 256 % 32) + r.val % 256))
    ((iblk m c 6 ⟨r.val / 256, hlt⟩ : Vec Ideal S1x1024 .f32) (ix2 0 j))
    ((iblk m c 3 ⟨r.val / 256, hlt⟩ : Vec Ideal S256x1024 .bf16) (ix2 _ j)) (within j) = _
  rw [blk6, blk3]
  unfold outAt heads
  rw [show seqOf (r.val / 256) = seqAt r from Fin.ext (by show r.val / 256 / 32 % 4 = r.val / 8192; omega),
    show 256 * (r.val / 256 % 32) + r.val % 256 = r.val % 8192 by omega,
    show brow ⟨r.val / 256, hlt⟩ (⟨r.val % 256, Nat.mod_lt _ (by decide)⟩ : Fin 256) = r from
      Fin.ext (by show 256 * (r.val / 256) + r.val % 256 = r.val; omega)]

end Cert.KernelRun
-- ==== Proof.RefStep.lean ====
/-
  One step of the reference's loop over chunks of 64 tokens, read at an index over the extended reals. Where the step's
  state is the recurrence's at token `T` and its chunk holds the tokens `T … T + 63` of every head, every value the step
  computes is the recurrence's.
-/
module

public import proofs.«01_k».proof.Proof.Gen.MlstmRefIdeal.Step
public import proofs.«01_k».proof.Proof.Tokens

@[expose] public section

set_option maxRecDepth 16384

noncomputable section

namespace Cert.RefStep

open Idealize.ShloMosaic Cert.Chunk Cert.Gate Cert.Tokens
open Cert.MlstmRefIdeal Cert.MlstmRefIdeal.Gen Cert.MlstmRefIdeal.Step

/-- The trip's number, as the word the loop holds it in. -/
theorem start_word (j : Fin 128) :
    ((constantI S_ 32 (BitVec.ofNat 32 j.val) : Vec Ideal S_ .i32) (Shape.Idx.first h_S_)).toInt = (j.val : Int) :=
  WordCmp.toInt_ofNat_of_lt (by omega)

/-- The trip's number and zeros, one on each axis: where a trip's slice starts. -/
theorem starts5 (j : Fin 128) (z0 z1 z2 z3 : Vec Ideal S_ .i32) (h0 : z0 = constantI S_ 32 0#32) (h1 : z1 = constantI S_ 32 0#32)
    (h2 : z2 = constantI S_ 32 0#32) (h3 : z3 = constantI S_ 32 0#32) (a : Fin 5) :
    (((![(constantI S_ 32 (BitVec.ofNat 32 j.val) : Vec Ideal S_ .i32), z0, z1, z2, z3] : Fin 5 → Vec Ideal S_ .i32)) a
      (Shape.Idx.first h_S_)).toInt = (((![j.val, 0, 0, 0, 0] : Fin 5 → ℕ) a : ℕ) : Int) := by
  subst h0 h1 h2 h3
  fin_cases a
  · exact start_word j
  all_goals rfl

/-- The same for the gates, which have four axes. -/
theorem starts4 (j : Fin 128) (z0 z1 z2 : Vec Ideal S_ .i32) (h0 : z0 = constantI S_ 32 0#32) (h1 : z1 = constantI S_ 32 0#32)
    (h2 : z2 = constantI S_ 32 0#32) (a : Fin 4) :
    (((![(constantI S_ 32 (BitVec.ofNat 32 j.val) : Vec Ideal S_ .i32), z0, z1, z2] : Fin 4 → Vec Ideal S_ .i32)) a
      (Shape.Idx.first h_S_)).toInt = (((![j.val, 0, 0, 0] : Fin 4 → ℕ) a : ℕ) : Int) := by
  subst h0 h1 h2
  fin_cases a
  · exact start_word j
  all_goals rfl

/-- A chunk's block fits in the array of all the chunks. -/
theorem fits5 : ∀ j : Fin 128, S128x4x4x64x256.Slices ![j.val, 0, 0, 0, 0] S1x4x4x64x256 := by decide

/-- A chunk's gates fit in the array of all the chunks' gates. -/
theorem fits4 : ∀ j : Fin 128, S128x4x4x64.Slices ![j.val, 0, 0, 0] S1x4x4x64 := by decide

variable (j : Fin 128) (s : State Ideal)

/-- The trip's queries are the `j`-th chunk's. -/
theorem query_at (b h : Fin 4) (l : Fin 64) (d : Fin 256) : b5 j s (ix4 b h l d) = s.main_v38_0 (ix5 j b h l d) := by
  unfold b5 b4
  rw [WordCmp.dynamicSlice_eq_extract _ _ _ _ ![j.val, 0, 0, 0, 0] (fits5 j) (starts5 j _ _ _ _ rfl rfl rfl rfl)]
  pointwise

/-- The trip's keys are the `j`-th chunk's. -/
theorem key_at (b h : Fin 4) (l : Fin 64) (d : Fin 256) : b11 j s (ix4 b h l d) = s.main_v38_1 (ix5 j b h l d) := by
  unfold b11 b10
  rw [WordCmp.dynamicSlice_eq_extract _ _ _ _ ![j.val, 0, 0, 0, 0] (fits5 j) (starts5 j _ _ _ _ rfl rfl rfl rfl)]
  pointwise

/-- The trip's values are the `j`-th chunk's. -/
theorem value_at (b h : Fin 4) (l : Fin 64) (d : Fin 256) : b17 j s (ix4 b h l d) = s.main_v38_2 (ix5 j b h l d) := by
  unfold b17 b16
  rw [WordCmp.dynamicSlice_eq_extract _ _ _ _ ![j.val, 0, 0, 0, 0] (fits5 j) (starts5 j _ _ _ _ rfl rfl rfl rfl)]
  pointwise

/-- The trip's summed log forget gates are the `j`-th chunk's. -/
theorem forget_at (b h : Fin 4) (l : Fin 64) : b22 j s (ix3 b h l) = s.main_v38_3 (ix4 j b h l) := by
  unfold b22 b21
  rw [WordCmp.dynamicSlice_eq_extract _ _ _ _ ![j.val, 0, 0, 0] (fits4 j) (starts4 j _ _ _ rfl rfl rfl)]
  pointwise

/-- The trip's input gates are the `j`-th chunk's. -/
theorem input_at (b h : Fin 4) (l : Fin 64) : b27 j s (ix3 b h l) = s.main_v38_4 (ix4 j b h l) := by
  unfold b27 b26
  rw [WordCmp.dynamicSlice_eq_extract _ _ _ _ ![j.val, 0, 0, 0] (fits4 j) (starts4 j _ _ _ rfl rfl rfl)]
  pointwise

/-- The trip writes its outputs at the `j`-th chunk and leaves the other chunks' as they were. -/
theorem outs_at (c : Fin 128) (b h : Fin 4) (l : Fin 64) (d : Fin 256) :
    b108 j s (ix5 c b h l d) = if c = j then b72 j s (ix4 b h l d) else s.main_v38_10 (ix5 c b h l d) := by
  unfold b108
  rw [WordCmp.dynamicUpdateSlice_eq_update _ _ _ _ ![j.val, 0, 0, 0, 0] (fits5 j) (starts5 j _ _ _ _ rfl rfl rfl rfl)]
  pointwise [b103]
  by_cases hc : c = j
  · subst hc
    rw [if_pos rfl, dif_pos ⟨le_rfl, by omega⟩]
  · rw [if_neg hc, dif_neg]
    rintro ⟨h1, h2⟩
    exact hc (Fin.ext (by omega))

/-- The causal mask at row `r` and column `c`. -/
theorem mask (r c : Fin 64) : (K_main_v25 : Vec Ideal S64x64 .i1) (ix2 r c) = BitVec.ofBool (decide (c.val ≤ r.val)) := by
  pointwise [K_main_v25, K_main_call2_v0, K_main_call2_c, K_main_call2_v1, K_main_call2_v2, K_main_call2_v3, K_main_call2_v4,
    K_main_call2_c_0, K_main_call2_v5, K_main_c, K_main_v24]
  rw [show IntOp.addi (BitVec.ofNat 32 r.val) 0#32 = BitVec.ofNat 32 r.val from BitVec.add_zero _, sge_word (by omega) (by omega)]
  cases decide (c.val ≤ r.val) <;> rfl

/-- The trip's state and chunk are the recurrences' of all the heads at token `T`. -/
structure Reads (a : Fin 4 → Fin 4 → Tok 256) (T : ℕ) : Prop where
  q : ∀ b h (l : Fin 64) (d : Fin 256), s.main_v38_0 (ix5 j b h l d) = (((a b h).q (T + l.val) d : ℝ) : EReal)
  k : ∀ b h (l : Fin 64) (d : Fin 256), s.main_v38_1 (ix5 j b h l d) = (((a b h).k (T + l.val) d : ℝ) : EReal)
  v : ∀ b h (l : Fin 64) (d : Fin 256), s.main_v38_2 (ix5 j b h l d) = (((a b h).v (T + l.val) d : ℝ) : EReal)
  bc : ∀ b h (l : Fin 64), s.main_v38_3 (ix4 j b h l) = (((a b h).G T (l.val + 1) : ℝ) : EReal)
  li : ∀ b h (l : Fin 64), s.main_v38_4 (ix4 j b h l) = (((a b h).ig (T + l.val) : ℝ) : EReal)
  C : ∀ b h (d e : Fin 256), s.main_v38_7 (ix4 b h d e) = (((a b h).C T d e : ℝ) : EReal)
  n : ∀ b h (d : Fin 256), s.main_v38_8 (ix3 b h d) = (((a b h).N T d : ℝ) : EReal)
  m : ∀ b h, s.main_v38_9 (ix2 b h) = (((a b h).M T : ℝ) : EReal)

variable {j s} {a : Fin 4 → Fin 4 → Tok 256} {T : ℕ}

/-- The masked log weight of the chunk's token `t` at its token `l`. -/
theorem Reads.d (r : Reads j s a T) (b h : Fin 4) (l t : Fin 64) : b40 j s (ix4 b h l t) = (a b h).dI T l.val t.val := by
  pointwise [b40, b38, b39, b37, b36, b35, b34, b33, b32, b31, b30, b29, b28]
  simp only [mask, select_bit, ofBits_bot, forget_at, input_at, r.bc, r.li, decide_eq_true_eq]
  rfl

/-- The maximum at the chunk's token `l` is the recurrence's after it. -/
theorem Reads.max (r : Reads j s a T) (b h : Fin 4) (l : Fin 64) :
    b46 j s (ix3 b h l) = (((a b h).M (T + (l.val + 1)) : ℝ) : EReal) := by
  pointwise [b46, b45, b44, b43, b42, b41]
  simp only [r.d, ofBits_bot, forget_at, r.bc, r.m]
  exact (a b h).max_query T l

/-- The old state's weight at the chunk's token `l`. -/
theorem Reads.inter (r : Reads j s a T) (b h : Fin 4) (l : Fin 64) :
    b48 j s (ix3 b h l) = ((Real.exp ((a b h).G T (l.val + 1) + (a b h).M T - (a b h).M (T + (l.val + 1))) : ℝ) : EReal) := by
  pointwise [b48, b47, b43, b42, b41]
  rw [r.max, forget_at, r.bc, r.m]
  exact (a b h).exp_inter T (l.val + 1)

/-- The score of the chunk's token `t` at its token `l`. -/
theorem Reads.score (r : Reads j s a T) (b h : Fin 4) (l t : Fin 64) :
    b54 j s (ix4 b h l t) = (((a b h).score T l.val t.val : ℝ) : EReal) := by
  pointwise [b54, b53, b52, b51, b50, b49]
  simp only [r.d, r.max, query_at, key_at, r.q, r.k, Tok.exp_dI]
  exact (a b h).score_eq T l.val t.val

/-- The numerator at the chunk's token `l` is the recurrence's. -/
theorem Reads.num (r : Reads j s a T) (b h : Fin 4) (l : Fin 64) (e : Fin 256) :
    b60 j s (ix4 b h l e) = (((a b h).num (T + l.val) e : ℝ) : EReal) := by
  pointwise [b60, b59, b58, b57, b56, b55]
  simp only [r.inter, r.score, query_at, value_at, r.q, r.v, r.C]
  exact (a b h).num_eq T l e

/-- The denominator at the chunk's token `l` is the recurrence's. -/
theorem Reads.den (r : Reads j s a T) (b h : Fin 4) (l : Fin 64) :
    b65 j s (ix3 b h l) = (((a b h).den (T + l.val) : ℝ) : EReal) := by
  pointwise [b65, b64, b63, b62, b61]
  simp only [r.inter, r.score, query_at, r.q, r.n]
  exact (a b h).den_eq T l

/-- The trip's output at the chunk's token `l` is the recurrence's. -/
theorem Reads.out (r : Reads j s a T) (b h : Fin 4) (l : Fin 64) (e : Fin 256) :
    b72 j s (ix4 b h l e) = (a b h).h (T + l.val) e := by
  pointwise [b72, b71, b70, b69, b68, b67, b66]
  rw [r.num, r.den, r.max]
  rfl

/-- The chunk's last summed log forget gate. -/
theorem Reads.last (r : Reads j s a T) (b h : Fin 4) : b74 j s (ix2 b h) = (((a b h).G T 64 : ℝ) : EReal) := by
  pointwise [b74, b73]
  rw [forget_at, r.bc]
  rfl

/-- The maximum the trip hands on is the recurrence's at the chunk's end. -/
theorem Reads.max' (r : Reads j s a T) (b h : Fin 4) : b82 j s (ix2 b h) = (((a b h).M (T + 64) : ℝ) : EReal) := by
  pointwise [b82, b81, b80, b79, b78, b77, b76, b75]
  simp only [r.last, r.m, forget_at, input_at, r.bc, r.li, ofBits_bot]
  exact (a b h).max_state T

/-- The old state's weight in the state handed on. -/
theorem Reads.prev (r : Reads j s a T) (b h : Fin 4) :
    b85 j s (ix2 b h) = ((Real.exp ((a b h).G T 64 + (a b h).M T - (a b h).M (T + 64)) : ℝ) : EReal) := by
  pointwise [b85, b84, b83]
  rw [r.max', r.last, r.m]
  exact (a b h).exp_inter T 64

/-- The weight of the chunk's token `t` in the state handed on. -/
theorem Reads.wk (r : Reads j s a T) (b h : Fin 4) (t : Fin 64) : b89 j s (ix3 b h t) = (((a b h).ws T 64 t.val : ℝ) : EReal) := by
  pointwise [b89, b88, b87, b86, b78, b77, b76, b75]
  rw [r.max', r.last, forget_at, input_at, r.bc, r.li]
  exact (a b h).exp_state T t.val

/-- The memory the trip hands on is the recurrence's at the chunk's end. -/
theorem Reads.C' (r : Reads j s a T) (b h : Fin 4) (d e : Fin 256) :
    b97 j s (ix4 b h d e) = (((a b h).C (T + 64) d e : ℝ) : EReal) := by
  pointwise [b97, b96, b95, b94, b93, b92, b91, b90]
  simp only [r.prev, r.wk, key_at, value_at, r.k, r.v, r.C]
  rw [← (a b h).C_eq T d e]
  simp only [mul_comm (((a b h).ws T 64 _ : ℝ) : EReal)]

/-- The normalizer the trip hands on is the recurrence's at the chunk's end. -/
theorem Reads.n' (r : Reads j s a T) (b h : Fin 4) (d : Fin 256) :
    b102 j s (ix3 b h d) = (((a b h).N (T + 64) d : ℝ) : EReal) := by
  pointwise [b102, b101, b100, b99, b98]
  simp only [r.prev, r.wk, key_at, r.k, r.n]
  rw [← (a b h).N_eq T d]
  simp only [mul_comm (((a b h).ws T 64 _ : ℝ) : EReal)]

end Cert.RefStep

end
-- ==== Proof.RefWindow.lean ====
/- The reference's running sum of log forget gates: a float window sum over 64 positions padded 63 low, read at an index. -/
module

public import proofs.«01_k».proof.Proof.Gen.MlstmRefIdeal.Step
public import proofs.«01_k».proof.Proof.Tokens

@[expose] public section

set_option maxRecDepth 16384

noncomputable section

namespace Cert.RefWindow

open Idealize.ShloMosaic Cert.MlstmRefIdeal Cert.MlstmRefIdeal.Gen Finset Cert.Chunk

/-- A left fold that adds a term at each index is its starting value plus the sum of the terms. -/
theorem foldl_add {n : ℕ} (g : Fin n → EReal) (v : EReal) :
    (List.finRange n).foldl (fun r i => r + g i) v = v + ∑ i, g i := by
  rw [← List.sum_ofFn, List.ofFn_eq_map]
  generalize List.finRange n = l
  induction l generalizing v with
  | nil => simp
  | cons a l ih => simp [ih, add_assoc]

/-- The window's positions: one on each axis but the last, which has 64. -/
abbrev W : Shape := ⟨4, ![1, 1, 1, 64]⟩

/-- A window position is its last coordinate. -/
def lastCoord : W.Idx ≃ Fin 64 where
  toFun i := i 3
  invFun n := ix4 0 0 0 n
  left_inv i := by
    idx_vars i
    obtain rfl : i0 = 0 := Subsingleton.elim _ _
    obtain rfl : i1 = 0 := Subsingleton.elim _ _
    obtain rfl : i2 = 0 := Subsingleton.elim _ _
    rfl
  right_inv n := rfl

theorem windowSum (x : FVec Ideal S128x4x4x64 .f32) (z : FVec Ideal S_ .f32)
    (hz : z (Shape.Idx.first h_S_) = 0) (c : Fin 128) (b h : Fin 4) (f : ℕ → ℝ) (hx : ∀ i : Fin 64, x (ix4 c b h i) = ((f i : ℝ) : EReal)) (l : Fin 64) :
    (Host.reduceWindowAdd ![1, 1, 1, 64] ![1, 1, 1, 1] ![0, 0, 0, 63] ![0, 0, 0, 0] x z
      reduceWindows_S128x4x4x64_S128x4x4x64_w1s1p0_0_w1s1p0_0_w1s1p0_0_w64s1p63_0 h_S_ : FVec Ideal S128x4x4x64 .f32) (ix4 c b h l)
      = ((∑ i ∈ range (l + 1), f i : ℝ) : EReal) := by
  unfold Host.reduceWindowAdd
  rw [Ideal.hostReduceWindowAdd_def]
  unfold Ideal.hostReduceWindowAdd Host.reduceWindow
  simp only [foldl_add, hz, zero_add]
  rw [← Equiv.sum_comp (W.rowMajor.symm.trans lastCoord).symm]
  have term : ∀ w : Fin 64, (if hin : ∀ a : Fin 4, (![0, 0, 0, 63] : Fin 4 → ℕ) a ≤ ((ix4 c b h l : S128x4x4x64.Idx) a).val * (![1, 1, 1, 1] : Fin 4 → ℕ) a + (lastCoord.symm w a).val
        ∧ ((ix4 c b h l : S128x4x4x64.Idx) a).val * (![1, 1, 1, 1] : Fin 4 → ℕ) a + (lastCoord.symm w a).val - (![0, 0, 0, 63] : Fin 4 → ℕ) a < (![128, 4, 4, 64] : Fin 4 → ℕ) a
      then x fun a => ⟨((ix4 c b h l : S128x4x4x64.Idx) a).val * (![1, 1, 1, 1] : Fin 4 → ℕ) a + (lastCoord.symm w a).val - (![0, 0, 0, 63] : Fin 4 → ℕ) a, (hin a).2⟩ else 0)
      = (if 63 ≤ l.val + w.val then ((f (l.val + w.val - 63) : ℝ) : EReal) else 0) := by
    intro w
    have hw := w.isLt
    have hl := l.isLt
    by_cases hin : 63 ≤ l.val + w.val
    · rw [if_pos hin, dif_pos]
      · rw [← hx ⟨l.val + w.val - 63, by omega⟩]
        refine congrArg x (funext fun a => Fin.ext ?_)
        fin_cases a
        · exact Nat.mul_one _
        · exact Nat.mul_one _
        · exact Nat.mul_one _
        · exact congrArg (fun n => n + w.val - 63) (Nat.mul_one l.val)
      · intro a
        fin_cases a
        · exact ⟨Nat.zero_le _, lt_of_eq_of_lt (Nat.mul_one _) c.isLt⟩
        · exact ⟨Nat.zero_le _, lt_of_eq_of_lt (Nat.mul_one _) b.isLt⟩
        · exact ⟨Nat.zero_le _, lt_of_eq_of_lt (Nat.mul_one _) h.isLt⟩
        · constructor
          · show 63 ≤ l.val * 1 + w.val
            omega
          · show l.val * 1 + w.val - 63 < 64
            omega
    · rw [if_neg hin, dif_neg]
      intro h'
      have h3 : 63 ≤ l.val * 1 + w.val := (h' 3).1
      omega
  simp only [Equiv.symm_trans_apply, Equiv.symm_symm, Equiv.symm_apply_apply]
  have all := Finset.sum_congr (rfl : (univ : Finset (Fin 64)) = univ) fun w _ => term w
  refine Eq.trans all ?_
  rw [Fin.sum_univ_eq_sum_range (fun w => if 63 ≤ l.val + w then ((f (l.val + w - 63) : ℝ) : EReal) else 0) 64,
    ← Finset.sum_filter, coe_sum]
  have hl := l.isLt
  refine congrArg (fun x : ℝ => (x : EReal)) (Finset.sum_bij' (fun w _ => l.val + w - 63) (fun i _ => 63 + i - l.val) ?_ ?_ ?_ ?_ fun _ _ => rfl)
  all_goals
    intro w hw
    simp only [Finset.mem_filter, Finset.mem_range] at hw ⊢
    omega

end Cert.RefWindow
end
-- ==== Proof.RefTokens.lean ====
/-
  What the reference prepares before its loop, read at an index over the extended reals: at chunk `c` and place `l` the
  tokens' entries at `64 c + l`, and the chunk's log forget gates summed.
-/
module

public import proofs.«01_k».proof.Proof.RefWindow

@[expose] public section

set_option maxRecDepth 16384

noncomputable section

namespace Cert.RefTokens

open Idealize.ShloMosaic Cert.Chunk Cert.Gate Cert.Tokens
open Cert.MlstmRefIdeal Cert.MlstmRefIdeal.Gen Cert.MlstmRefIdeal.Step

variable (x : Vec Ideal S32768x9216 .bf16) (y : Vec Ideal S32768x128 .f32)

/-- The projections as a function of row and column. -/
abbrev projs : Fin 32768 → Fin 9216 → EReal := fun r j => x (ix2 r j)

/-- The gate array as a function of row and column. -/
abbrev gates : Fin 32768 → Fin 128 → EReal := fun r j => y (ix2 r j)

/-- The row of a token, written as the reference's reshapes write it. -/
theorem row_eq (b : Fin 4) (c : Fin 128) (l : Fin 64) (p : b.val * 8192 + (c.val * 64 + l.val) < 32768) :
    (⟨b.val * 8192 + (c.val * 64 + l.val), p⟩ : Fin 32768) = row b (64 * c.val + l.val) :=
  Fin.ext (by show b.val * 8192 + (c.val * 64 + l.val) = (8192 * b.val + (64 * c.val + l.val)) % 32768; omega)

/-- The queries. -/
theorem queries (fin : Finite (projs x) (gates y)) (c : Fin 128) (b h : Fin 4) (l : Fin 64) (d : Fin 256) :
    (A_main_v30 x y : Vec Ideal _ .f32) (ix5 c b h l d) = (((tok (projs x) (gates y) b h).q (64 * c.val + l.val) d : ℝ) : EReal) := by
  pointwise [A_main_v30, A_main_v29, A_main_v11]
  pointwise [A_main_v10]
  pointwise [A_main_v3, A_main_v2, A_main_v0]
  rw [row_eq]
  refine Eq.trans (congrArg (fun z => x (ix2 _ z)) (Fin.ext ?_)) (fin.proj _ 0 h d (by decide))
  show h.val * 256 + d.val = 1024 * 0 + (256 * h.val + d.val)
  omega

/-- The keys. -/
theorem keys (fin : Finite (projs x) (gates y)) (c : Fin 128) (b h : Fin 4) (l : Fin 64) (d : Fin 256) :
    (A_main_v32 x y : Vec Ideal _ .f32) (ix5 c b h l d) = (((tok (projs x) (gates y) b h).k (64 * c.val + l.val) d : ℝ) : EReal) := by
  pointwise [A_main_v32, A_main_v31, A_main_v13]
  pointwise [A_main_v12]
  pointwise [A_main_v5, A_main_v4, A_main_v0]
  rw [row_eq]
  refine Eq.trans (congrArg (fun z => x (ix2 _ z)) (Fin.ext ?_)) (fin.proj _ 1 h d (by decide))
  show 1024 + (h.val * 256 + d.val) = 1024 * 1 + (256 * h.val + d.val)
  omega

/-- The values. -/
theorem values (fin : Finite (projs x) (gates y)) (c : Fin 128) (b h : Fin 4) (l : Fin 64) (d : Fin 256) :
    (A_main_v34 x y : Vec Ideal _ .f32) (ix5 c b h l d) = (((tok (projs x) (gates y) b h).v (64 * c.val + l.val) d : ℝ) : EReal) := by
  pointwise [A_main_v34, A_main_v33, A_main_v15]
  pointwise [A_main_v14]
  pointwise [A_main_v7, A_main_v6, A_main_v0]
  rw [row_eq]
  refine Eq.trans (congrArg (fun z => x (ix2 _ z)) (Fin.ext ?_)) (fin.proj _ 2 h d (by decide))
  show 2048 + (h.val * 256 + d.val) = 1024 * 2 + (256 * h.val + d.val)
  omega

/-- The input gates. -/
theorem inputs (fin : Finite (projs x) (gates y)) (c : Fin 128) (b h : Fin 4) (l : Fin 64) :
    (A_main_v36 x y : Vec Ideal _ .f32) (ix4 c b h l) = (((tok (projs x) (gates y) b h).ig (64 * c.val + l.val) : ℝ) : EReal) := by
  pointwise [A_main_v36, A_main_v35, A_main_v16]
  pointwise [A_main_v8]
  pointwise [A_main_v1]
  rw [row_eq]
  exact fin.ig _ h

/-- The forget gates' preactivations. -/
theorem forgets (fin : Finite (projs x) (gates y)) (b h : Fin 4) (c : Fin 128) (l : Fin 64) (p : c.val * 64 + l.val < 8192) :
    (A_main_v17 x y : Vec Ideal _ .f32) (ix3 b h ⟨c.val * 64 + l.val, p⟩) = ((fpre (gates y) b h (64 * c.val + l.val) : ℝ) : EReal) := by
  pointwise [A_main_v17]
  pointwise [A_main_v9]
  pointwise [A_main_v1]
  rw [row_eq]
  exact fin.fg _ h

/-- The log forget gates. -/
theorem logs (fin : Finite (projs x) (gates y)) (c : Fin 128) (b h : Fin 4) (l : Fin 64) :
    (A_main_v22 x y : Vec Ideal _ .f32) (ix4 c b h l) = (((tok (projs x) (gates y) b h).lf (64 * c.val + l.val) : ℝ) : EReal) := by
  pointwise [A_main_v22, A_main_v21, A_main_v20, A_main_v19]
  pointwise [A_main_call0_v4, A_main_call0_v6, A_main_call0_v11, A_main_call0_v10, A_main_call0_v9, A_main_call0_v8, A_main_call0_v7,
    A_main_call0_v3, A_main_call0_v1, A_main_v18, K_main_call0_v0, K_main_call0_v2, K_main_call0_v5, K_main_call0_cst]
  rw [forgets x y fin]
  rw [if_neg (fun hne => hne rfl), Ideal.absf_def]
  exact reference_logsig _

/-- The chunk's log forget gates, summed from its first token. -/
theorem sums (fin : Finite (projs x) (gates y)) (c : Fin 128) (b h : Fin 4) (l : Fin 64) :
    (A_main_v23 x y : Vec Ideal _ .f32) (ix4 c b h l) = (((tok (projs x) (gates y) b h).G (64 * c.val) (l.val + 1) : ℝ) : EReal) := by
  refine RefWindow.windowSum _ _ ?_ c b h (fun i => (tok (projs x) (gates y) b h).lf (64 * c.val + i)) (fun i => logs x y fin c b h i) l
  pointwise [K_main_call1_call0_v0, K_main_call1_call0_cst]

end Cert.RefTokens

end
-- ==== Proof.RefLoop.lean ====
/-
  The reference's run stated over the step of Gen/MlstmRefIdeal/Step.lean. A valuation holds a state when the carried
  buffers hold its fields, the set-up buffers hold the set-up values and the counters hold the trip's number. At such a
  valuation every value of one trip is the step's, one lemma each, so one trip keeps holding with `step` applied; what is
  there before the loop holds `init`; and the run's result is made of `step` iterated from `init`.
-/
module

public import proofs.«01_k».proof.Proof.Gen.MlstmRefIdeal.Run
public import proofs.«01_k».proof.Proof.Gen.MlstmRefIdeal.Step

@[expose] public section

noncomputable section

namespace Cert.MlstmRefIdeal.StepRun

open Idealize.ShloMosaic Idealize.ShloMosaic.TcCoe Idealize.SL.Sem Idealize.ShloMosaic.StableHlo
open Cert.MlstmRefIdeal Cert.MlstmRefIdeal.Gen Cert.MlstmRefIdeal.Value
open Cert.MlstmRefIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v38_7) = s.main_v38_7
  f_8 : V0 (Proc.devRef .tc main_v38_8) = s.main_v38_8
  f_9 : V0 (Proc.devRef .tc main_v38_9) = s.main_v38_9
  f_10 : V0 (Proc.devRef .tc main_v38_10) = s.main_v38_10
  f_0 : V0 (Proc.devRef .tc main_v38_0) = s.main_v38_0
  f_1 : V0 (Proc.devRef .tc main_v38_1) = s.main_v38_1
  f_2 : V0 (Proc.devRef .tc main_v38_2) = s.main_v38_2
  f_3 : V0 (Proc.devRef .tc main_v38_3) = s.main_v38_3
  f_4 : V0 (Proc.devRef .tc main_v38_4) = s.main_v38_4
  n_6 : V0 (Proc.devRef .tc main_v38_6) = constantI S_ 32 (BitVec.ofNat 32 j)
  k_5 : V0 (Proc.devRef .tc main_v38_5) = Cert.MlstmRefIdeal.Step.K_main_v25 (F := F)

variable {V0 s j}

set_option maxRecDepth 8192 in
theorem al_0 (h : Holds V0 s j) : (constantI S_ 32 0#32 : (Proc.devRef .tc main_while0b_call3_c : DevRef τ sig).ty.Contents (Elt F)) = Cert.MlstmRefIdeal.Step.b0 j s := by
  unfold Cert.MlstmRefIdeal.Step.b0
  rfl
set_option maxRecDepth 8192 in
theorem al_1 (h : Holds V0 s j) : (constantI S_ 32 0#32 : (Proc.devRef .tc main_while0b_call3_c_0 : DevRef τ sig).ty.Contents (Elt F)) = Cert.MlstmRefIdeal.Step.b1 j s := by
  unfold Cert.MlstmRefIdeal.Step.b1
  rfl
set_option maxRecDepth 8192 in
theorem al_2 (h : Holds V0 s j) : (constantI S_ 32 0#32 : (Proc.devRef .tc main_while0b_call3_c_1 : DevRef τ sig).ty.Contents (Elt F)) = Cert.MlstmRefIdeal.Step.b2 j s := by
  unfold Cert.MlstmRefIdeal.Step.b2
  rfl
set_option maxRecDepth 8192 in
theorem al_3 (h : Holds V0 s j) : (constantI S_ 32 0#32 : (Proc.devRef .tc main_while0b_call3_c_2 : DevRef τ sig).ty.Contents (Elt F)) = Cert.MlstmRefIdeal.Step.b3 j s := by
  unfold Cert.MlstmRefIdeal.Step.b3
  rfl
set_option maxRecDepth 8192 in
theorem al_4 (h : Holds V0 s j) : (Host.dynamicSlice S1x4x4x64x256 (V0 (Proc.devRef .tc main_v38_0)) (fun k => (((![V0 (Proc.devRef .tc main_v38_6), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x256_S1x4x4x64x256 : (Proc.devRef .tc main_while0b_call3_v0 : DevRef τ sig).ty.Contents (Elt F)) = Cert.MlstmRefIdeal.Step.b4 j s := by
  unfold Cert.MlstmRefIdeal.Step.b4
  rw [← al_0 h, ← al_1 h, ← al_2 h, ← al_3 h, h.f_0, h.n_6]
  try rfl
set_option maxRecDepth 8192 in
theorem al_5 (h : Holds V0 s j) : (res_main_while0b_v70 V0 : (Proc.devRef .tc main_while0b_v70 : DevRef τ sig).ty.Contents (Elt F)) = Cert.MlstmRefIdeal.Step.b5 j s := by
  unfold res_main_while0b_v70 Cert.MlstmRefIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.MlstmRefIdeal.Step.b6 j s := by
  unfold Cert.MlstmRefIdeal.Step.b6
  rfl
set_option maxRecDepth 8192 in
theorem al_7 (h : Holds V0 s j) : (constantI S_ 32 0#32 : (Proc.devRef .tc main_while0b_call4_c_0 : DevRef τ sig).ty.Contents (Elt F)) = Cert.MlstmRefIdeal.Step.b7 j s := by
  unfold Cert.MlstmRefIdeal.Step.b7
  rfl
set_option maxRecDepth 8192 in
theorem al_8 (h : Holds V0 s j) : (constantI S_ 32 0#32 : (Proc.devRef .tc main_while0b_call4_c_1 : DevRef τ sig).ty.Contents (Elt F)) = Cert.MlstmRefIdeal.Step.b8 j s := by
  unfold Cert.MlstmRefIdeal.Step.b8
  rfl
set_option maxRecDepth 8192 in
theorem al_9 (h : Holds V0 s j) : (constantI S_ 32 0#32 : (Proc.devRef .tc main_while0b_call4_c_2 : DevRef τ sig).ty.Contents (Elt F)) = Cert.MlstmRefIdeal.Step.b9 j s := by
  unfold Cert.MlstmRefIdeal.Step.b9
  rfl
set_option maxRecDepth 8192 in
theorem al_10 (h : Holds V0 s j) : (Host.dynamicSlice S1x4x4x64x256 (V0 (Proc.devRef .tc main_v38_1)) (fun k => (((![V0 (Proc.devRef .tc main_v38_6), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x256_S1x4x4x64x256 : (Proc.devRef .tc main_while0b_call4_v0 : DevRef τ sig).ty.Contents (Elt F)) = Cert.MlstmRefIdeal.Step.b10 j s := by
  unfold Cert.MlstmRefIdeal.Step.b10
  rw [← al_6 h, ← al_7 h, ← al_8 h, ← al_9 h, h.f_1, h.n_6]
  try rfl
set_option maxRecDepth 8192 in
theorem al_11 (h : Holds V0 s j) : (res_main_while0b_v71 V0 : (Proc.devRef .tc main_while0b_v71 : DevRef τ sig).ty.Contents (Elt F)) = Cert.MlstmRefIdeal.Step.b11 j s := by
  unfold res_main_while0b_v71 Cert.MlstmRefIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.MlstmRefIdeal.Step.b12 j s := by
  unfold Cert.MlstmRefIdeal.Step.b12
  rfl
set_option maxRecDepth 8192 in
theorem al_13 (h : Holds V0 s j) : (constantI S_ 32 0#32 : (Proc.devRef .tc main_while0b_call5_c_0 : DevRef τ sig).ty.Contents (Elt F)) = Cert.MlstmRefIdeal.Step.b13 j s := by
  unfold Cert.MlstmRefIdeal.Step.b13
  rfl
set_option maxRecDepth 8192 in
theorem al_14 (h : Holds V0 s j) : (constantI S_ 32 0#32 : (Proc.devRef .tc main_while0b_call5_c_1 : DevRef τ sig).ty.Contents (Elt F)) = Cert.MlstmRefIdeal.Step.b14 j s := by
  unfold Cert.MlstmRefIdeal.Step.b14
  rfl
set_option maxRecDepth 8192 in
theorem al_15 (h : Holds V0 s j) : (constantI S_ 32 0#32 : (Proc.devRef .tc main_while0b_call5_c_2 : DevRef τ sig).ty.Contents (Elt F)) = Cert.MlstmRefIdeal.Step.b15 j s := by
  unfold Cert.MlstmRefIdeal.Step.b15
  rfl
set_option maxRecDepth 8192 in
theorem al_16 (h : Holds V0 s j) : (Host.dynamicSlice S1x4x4x64x256 (V0 (Proc.devRef .tc main_v38_2)) (fun k => (((![V0 (Proc.devRef .tc main_v38_6), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x256_S1x4x4x64x256 : (Proc.devRef .tc main_while0b_call5_v0 : DevRef τ sig).ty.Contents (Elt F)) = Cert.MlstmRefIdeal.Step.b16 j s := by
  unfold Cert.MlstmRefIdeal.Step.b16
  rw [← al_12 h, ← al_13 h, ← al_14 h, ← al_15 h, h.f_2, h.n_6]
  try rfl
set_option maxRecDepth 8192 in
theorem al_17 (h : Holds V0 s j) : (res_main_while0b_v72 V0 : (Proc.devRef .tc main_while0b_v72 : DevRef τ sig).ty.Contents (Elt F)) = Cert.MlstmRefIdeal.Step.b17 j s := by
  unfold res_main_while0b_v72 Cert.MlstmRefIdeal.Step.b17
  rw [← al_16 h]
  try rfl
set_option maxRecDepth 8192 in
theorem al_18 (h : Holds V0 s j) : (constantI S_ 32 0#32 : (Proc.devRef .tc main_while0b_call6_c : DevRef τ sig).ty.Contents (Elt F)) = Cert.MlstmRefIdeal.Step.b18 j s := by
  unfold Cert.MlstmRefIdeal.Step.b18
  rfl
set_option maxRecDepth 8192 in
theorem al_19 (h : Holds V0 s j) : (constantI S_ 32 0#32 : (Proc.devRef .tc main_while0b_call6_c_0 : DevRef τ sig).ty.Contents (Elt F)) = Cert.MlstmRefIdeal.Step.b19 j s := by
  unfold Cert.MlstmRefIdeal.Step.b19
  rfl
set_option maxRecDepth 8192 in
theorem al_20 (h : Holds V0 s j) : (constantI S_ 32 0#32 : (Proc.devRef .tc main_while0b_call6_c_1 : DevRef τ sig).ty.Contents (Elt F)) = Cert.MlstmRefIdeal.Step.b20 j s := by
  unfold Cert.MlstmRefIdeal.Step.b20
  rfl
set_option maxRecDepth 8192 in
theorem al_21 (h : Holds V0 s j) : (Host.dynamicSlice S1x4x4x64 (V0 (Proc.devRef .tc main_v38_3)) (fun k => (((![V0 (Proc.devRef .tc main_v38_6), constantI S_ 32 0#32, constantI S_ 32 0#32, constantI S_ 32 0#32] : Fin 4 → (⟨S_, .i32⟩ : BufTy).Contents (Elt F))) k (Shape.Idx.first h_S_)).toInt) sliceFits_S128x4x4x64_S1x4x4x64 : (Proc.devRef .tc main_while0b_call6_v0 : DevRef τ sig).ty.Contents (Elt F)) = Cert.MlstmRefIdeal.Step.b21 j s := by
  unfold Cert.MlstmRefIdeal.Step.b21
  rw [← al_18 h, ← al_19 h, ← al_20 h, h.f_3, h.n_6]
  try rfl
set_option maxRecDepth 8192 in
theorem al_22 (h : Holds V0 s j) : (res_main_while0b_v73 V0 : (Proc.devRef .tc main_while0b_v73 : DevRef τ sig).ty.Contents (Elt F)) = Cert.MlstmRefIdeal.Step.b22 j s := by
  unfold res_main_while0b_v73 Cert.MlstmRefIdeal.Step.b22
  rw [← al_21 h]
  try rfl
set_option maxRecDepth 8192 in
theorem al_23 (h : Holds V0 s j) : (constantI S_ 32 0#32 : (Proc.devRef .tc main_while0b_call7_c : DevRef τ sig).ty.Contents (Elt F)) = Cert.MlstmRefIdeal.Step.b23 j s := by
  unfold Cert.MlstmRefIdeal.Step.b23
  rfl
set_option maxRecDepth 8192 in
theorem al_24 (h : Holds V0 s j) : (constantI S_ 32 0#32 : (Proc.devRef .tc main_while0b_call7_c_0 : DevRef τ sig).ty.Contents (Elt F)) = Cert.MlstmRefIdeal.Step.b24 j s := by
  unfold Cert.MlstmRefIdeal.Step.b24
  rfl
set_option maxRecDepth 8192 in
theorem al_25 (h : Holds V0 s j) : (constantI S_ 32 0#32 : (Proc.devRef .tc main_while0b_call7_c_1 : DevRef τ sig).ty.Contents (Elt F)) = Cert.MlstmRefIdeal.Step.b25 j s := by
  unfold Cert.MlstmRefIdeal.Step.b25
  rfl
set_option maxRecDepth 8192 in
theorem al_26 (h : Holds V0 s j) : (Host.dynamicSlice S1x4x4x64 (V0 (Proc.devRef .tc main_v38_4)) (fun k => (((![V0 (Proc.devRef .tc main_v38_6), constantI S_ 32 0#32, constantI S_ 32 0#32, constantI S_ 32 0#32] : Fin 4 → (⟨S_, .i32⟩ : BufTy).Contents (Elt F))) k (Shape.Idx.first h_S_)).toInt) sliceFits_S128x4x4x64_S1x4x4x64 : (Proc.devRef .tc main_while0b_call7_v0 : DevRef τ sig).ty.Contents (Elt F)) = Cert.MlstmRefIdeal.Step.b26 j s := by
  unfold Cert.MlstmRefIdeal.Step.b26
  rw [← al_23 h, ← al_24 h, ← al_25 h, h.f_4, h.n_6]
  try rfl
set_option maxRecDepth 8192 in
theorem al_27 (h : Holds V0 s j) : (res_main_while0b_v74 V0 : (Proc.devRef .tc main_while0b_v74 : DevRef τ sig).ty.Contents (Elt F)) = Cert.MlstmRefIdeal.Step.b27 j s := by
  unfold res_main_while0b_v74 Cert.MlstmRefIdeal.Step.b27
  rw [← al_26 h]
  try rfl
set_option maxRecDepth 8192 in
theorem al_28 (h : Holds V0 s j) : (broadcastInDim S4x4x64x1 ![0, 1, 2] bcast_S4x4x64_S4x4x64x1_0_1_2 (res_main_while0b_v73 V0) : (Proc.devRef .tc main_while0b_v75 : DevRef τ sig).ty.Contents (Elt F)) = Cert.MlstmRefIdeal.Step.b28 j s := by
  unfold Cert.MlstmRefIdeal.Step.b28
  rw [← al_22 h]
  try rfl
set_option maxRecDepth 8192 in
theorem al_29 (h : Holds V0 s j) : (broadcastInDim S4x4x1x64 ![0, 1, 3] bcast_S4x4x64_S4x4x1x64_0_1_3 (res_main_while0b_v73 V0) : (Proc.devRef .tc main_while0b_v76 : DevRef τ sig).ty.Contents (Elt F)) = Cert.MlstmRefIdeal.Step.b29 j s := by
  unfold Cert.MlstmRefIdeal.Step.b29
  rw [← al_22 h]
  try rfl
set_option maxRecDepth 8192 in
theorem al_30 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v73 V0)) : (Proc.devRef .tc main_while0b_v77 : DevRef τ sig).ty.Contents (Elt F)) = Cert.MlstmRefIdeal.Step.b30 j s := by
  unfold Cert.MlstmRefIdeal.Step.b30
  rw [← al_28 h]
  try rfl
set_option maxRecDepth 8192 in
theorem al_31 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v73 V0)) : (Proc.devRef .tc main_while0b_v78 : DevRef τ sig).ty.Contents (Elt F)) = Cert.MlstmRefIdeal.Step.b31 j s := by
  unfold Cert.MlstmRefIdeal.Step.b31
  rw [← al_29 h]
  try rfl
set_option maxRecDepth 8192 in
theorem al_32 (h : Holds V0 s j) : (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v73 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v73 V0))) : (Proc.devRef .tc main_while0b_v79 : DevRef τ sig).ty.Contents (Elt F)) = Cert.MlstmRefIdeal.Step.b32 j s := by
  unfold Cert.MlstmRefIdeal.Step.b32
  rw [← al_30 h, ← al_31 h]
  try rfl
set_option maxRecDepth 8192 in
theorem al_33 (h : Holds V0 s j) : (broadcastInDim S4x4x1x64 ![0, 1, 3] bcast_S4x4x64_S4x4x1x64_0_1_3 (res_main_while0b_v74 V0) : (Proc.devRef .tc main_while0b_v80 : DevRef τ sig).ty.Contents (Elt F)) = Cert.MlstmRefIdeal.Step.b33 j s := by
  unfold Cert.MlstmRefIdeal.Step.b33
  rw [← al_27 h]
  try rfl
set_option maxRecDepth 8192 in
theorem al_34 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v74 V0)) : (Proc.devRef .tc main_while0b_v81 : DevRef τ sig).ty.Contents (Elt F)) = Cert.MlstmRefIdeal.Step.b34 j s := by
  unfold Cert.MlstmRefIdeal.Step.b34
  rw [← al_33 h]
  try rfl
set_option maxRecDepth 8192 in
theorem al_35 (h : Holds V0 s j) : (addf (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v73 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v73 V0)))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v74 V0))) : (Proc.devRef .tc main_while0b_v82 : DevRef τ sig).ty.Contents (Elt F)) = Cert.MlstmRefIdeal.Step.b35 j s := by
  unfold Cert.MlstmRefIdeal.Step.b35
  rw [← al_32 h, ← al_34 h]
  try rfl
set_option maxRecDepth 8192 in
theorem al_36 (h : Holds V0 s j) : (constant S_ .f32 0xFF800000#32 : (Proc.devRef .tc main_while0b_cst_19 : DevRef τ sig).ty.Contents (Elt F)) = Cert.MlstmRefIdeal.Step.b36 j s := by
  unfold Cert.MlstmRefIdeal.Step.b36
  rfl
set_option maxRecDepth 8192 in
theorem al_37 (h : Holds V0 s j) : (id (constant S_ .f32 0xFF800000#32) : (Proc.devRef .tc main_while0b_call8_v0 : DevRef τ sig).ty.Contents (Elt F)) = Cert.MlstmRefIdeal.Step.b37 j s := by
  unfold Cert.MlstmRefIdeal.Step.b37
  rw [← al_36 h]
  try rfl
set_option maxRecDepth 8192 in
theorem al_38 (h : Holds V0 s j) : (broadcastInDim S4x4x64x64 ![2, 3] bcast_S64x64_S4x4x64x64_2_3 (V0 (Proc.devRef .tc main_v38_5)) : (Proc.devRef .tc main_while0b_call8_v1 : DevRef τ sig).ty.Contents (Elt F)) = Cert.MlstmRefIdeal.Step.b38 j s := by
  unfold Cert.MlstmRefIdeal.Step.b38
  rw [h.k_5]
  try rfl
set_option maxRecDepth 8192 in
theorem al_39 (h : Holds V0 s j) : (broadcastInDim S4x4x64x64 ![] bcast_S_S4x4x64x64 (id (constant S_ .f32 0xFF800000#32)) : (Proc.devRef .tc main_while0b_call8_v2 : DevRef τ sig).ty.Contents (Elt F)) = Cert.MlstmRefIdeal.Step.b39 j s := by
  unfold Cert.MlstmRefIdeal.Step.b39
  rw [← al_37 h]
  try rfl
set_option maxRecDepth 8192 in
theorem al_40 (h : Holds V0 s j) : (res_main_while0b_v83 V0 : (Proc.devRef .tc main_while0b_v83 : DevRef τ sig).ty.Contents (Elt F)) = Cert.MlstmRefIdeal.Step.b40 j s := by
  unfold res_main_while0b_v83 Cert.MlstmRefIdeal.Step.b40
  rw [← al_38 h, ← al_35 h, ← al_39 h]
  try rfl
set_option maxRecDepth 8192 in
theorem al_41 (h : Holds V0 s j) : (broadcastInDim S4x4x1 ![0, 1] bcast_S4x4_S4x4x1_0_1 (V0 (Proc.devRef .tc main_v38_9)) : (Proc.devRef .tc main_while0b_v84 : DevRef τ sig).ty.Contents (Elt F)) = Cert.MlstmRefIdeal.Step.b41 j s := by
  unfold Cert.MlstmRefIdeal.Step.b41
  rw [h.f_9]
  try rfl
set_option maxRecDepth 8192 in
theorem al_42 (h : Holds V0 s j) : (broadcastInDim S4x4x64 ![0, 1, 2] bcast_S4x4x1_S4x4x64_0_1_2 (broadcastInDim S4x4x1 ![0, 1] bcast_S4x4_S4x4x1_0_1 (V0 (Proc.devRef .tc main_v38_9))) : (Proc.devRef .tc main_while0b_v85 : DevRef τ sig).ty.Contents (Elt F)) = Cert.MlstmRefIdeal.Step.b42 j s := by
  unfold Cert.MlstmRefIdeal.Step.b42
  rw [← al_41 h]
  try rfl
set_option maxRecDepth 8192 in
theorem al_43 (h : Holds V0 s j) : (res_main_while0b_v86 V0 : (Proc.devRef .tc main_while0b_v86 : DevRef τ sig).ty.Contents (Elt F)) = Cert.MlstmRefIdeal.Step.b43 j s := by
  unfold res_main_while0b_v86 Cert.MlstmRefIdeal.Step.b43
  rw [← al_22 h, ← al_42 h]
  try rfl
set_option maxRecDepth 8192 in
theorem al_44 (h : Holds V0 s j) : (constant S_ .f32 0xFF800000#32 : (Proc.devRef .tc main_while0b_cst_20 : DevRef τ sig).ty.Contents (Elt F)) = Cert.MlstmRefIdeal.Step.b44 j s := by
  unfold Cert.MlstmRefIdeal.Step.b44
  rfl
set_option maxRecDepth 8192 in
theorem al_45 (h : Holds V0 s j) : (Host.reduce FloatOps.maximumf (res_main_while0b_v83 V0) (constant S_ .f32 0xFF800000#32) reducesTo_S4x4x64x64_S4x4x64_d3 h_S_ : (Proc.devRef .tc main_while0b_v87 : DevRef τ sig).ty.Contents (Elt F)) = Cert.MlstmRefIdeal.Step.b45 j s := by
  unfold Cert.MlstmRefIdeal.Step.b45
  rw [← al_40 h, ← al_44 h]
  try rfl
set_option maxRecDepth 8192 in
theorem al_46 (h : Holds V0 s j) : (res_main_while0b_v88 V0 : (Proc.devRef .tc main_while0b_v88 : DevRef τ sig).ty.Contents (Elt F)) = Cert.MlstmRefIdeal.Step.b46 j s := by
  unfold res_main_while0b_v88 Cert.MlstmRefIdeal.Step.b46
  rw [← al_43 h, ← al_45 h]
  try rfl
set_option maxRecDepth 8192 in
theorem al_47 (h : Holds V0 s j) : (subf (res_main_while0b_v86 V0) (res_main_while0b_v88 V0) : (Proc.devRef .tc main_while0b_v89 : DevRef τ sig).ty.Contents (Elt F)) = Cert.MlstmRefIdeal.Step.b47 j s := by
  unfold Cert.MlstmRefIdeal.Step.b47
  rw [← al_43 h, ← al_46 h]
  try rfl
set_option maxRecDepth 8192 in
theorem al_48 (h : Holds V0 s j) : (res_main_while0b_v90 V0 : (Proc.devRef .tc main_while0b_v90 : DevRef τ sig).ty.Contents (Elt F)) = Cert.MlstmRefIdeal.Step.b48 j s := by
  unfold res_main_while0b_v90 Cert.MlstmRefIdeal.Step.b48
  rw [← al_47 h]
  try rfl
set_option maxRecDepth 8192 in
theorem al_49 (h : Holds V0 s j) : (Host.dotGeneral dot_S4x4x64x256_S4x4x64x256_S4x4x64x64_3_3_2_2_01_01 none (res_main_while0b_v70 V0) (res_main_while0b_v71 V0) : (Proc.devRef .tc main_while0b_v91 : DevRef τ sig).ty.Contents (Elt F)) = Cert.MlstmRefIdeal.Step.b49 j s := by
  unfold Cert.MlstmRefIdeal.Step.b49
  rw [← al_5 h, ← al_11 h]
  try rfl
set_option maxRecDepth 8192 in
theorem al_50 (h : Holds V0 s j) : (broadcastInDim S4x4x64x1 ![0, 1, 2] bcast_S4x4x64_S4x4x64x1_0_1_2 (res_main_while0b_v88 V0) : (Proc.devRef .tc main_while0b_v92 : DevRef τ sig).ty.Contents (Elt F)) = Cert.MlstmRefIdeal.Step.b50 j s := by
  unfold Cert.MlstmRefIdeal.Step.b50
  rw [← al_46 h]
  try rfl
set_option maxRecDepth 8192 in
theorem al_51 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v88 V0)) : (Proc.devRef .tc main_while0b_v93 : DevRef τ sig).ty.Contents (Elt F)) = Cert.MlstmRefIdeal.Step.b51 j s := by
  unfold Cert.MlstmRefIdeal.Step.b51
  rw [← al_50 h]
  try rfl
set_option maxRecDepth 8192 in
theorem al_52 (h : Holds V0 s j) : (subf (res_main_while0b_v83 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v88 V0))) : (Proc.devRef .tc main_while0b_v94 : DevRef τ sig).ty.Contents (Elt F)) = Cert.MlstmRefIdeal.Step.b52 j s := by
  unfold Cert.MlstmRefIdeal.Step.b52
  rw [← al_40 h, ← al_51 h]
  try rfl
set_option maxRecDepth 8192 in
theorem al_53 (h : Holds V0 s j) : (Host.exp (subf (res_main_while0b_v83 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v88 V0)))) : (Proc.devRef .tc main_while0b_v95 : DevRef τ sig).ty.Contents (Elt F)) = Cert.MlstmRefIdeal.Step.b53 j s := by
  unfold Cert.MlstmRefIdeal.Step.b53
  rw [← al_52 h]
  try rfl
set_option maxRecDepth 8192 in
theorem al_54 (h : Holds V0 s j) : (res_main_while0b_v96 V0 : (Proc.devRef .tc main_while0b_v96 : DevRef τ sig).ty.Contents (Elt F)) = Cert.MlstmRefIdeal.Step.b54 j s := by
  unfold res_main_while0b_v96 Cert.MlstmRefIdeal.Step.b54
  rw [← al_49 h, ← al_53 h]
  try rfl
set_option maxRecDepth 8192 in
theorem al_55 (h : Holds V0 s j) : (broadcastInDim S4x4x64x1 ![0, 1, 2] bcast_S4x4x64_S4x4x64x1_0_1_2 (res_main_while0b_v90 V0) : (Proc.devRef .tc main_while0b_v97 : DevRef τ sig).ty.Contents (Elt F)) = Cert.MlstmRefIdeal.Step.b55 j s := by
  unfold Cert.MlstmRefIdeal.Step.b55
  rw [← al_48 h]
  try rfl
set_option maxRecDepth 8192 in
theorem al_56 (h : Holds V0 s j) : (Host.dotGeneral dot_S4x4x64x256_S4x4x256x256_S4x4x64x256_3_2_2_3_01_01 none (res_main_while0b_v70 V0) (V0 (Proc.devRef .tc main_v38_7)) : (Proc.devRef .tc main_while0b_v98 : DevRef τ sig).ty.Contents (Elt F)) = Cert.MlstmRefIdeal.Step.b56 j s := by
  unfold Cert.MlstmRefIdeal.Step.b56
  rw [← al_5 h, h.f_7]
  try rfl
set_option maxRecDepth 8192 in
theorem al_57 (h : Holds V0 s j) : (broadcastInDim S4x4x64x256 ![0, 1, 2, 3] bcast_S4x4x64x1_S4x4x64x256_0_1_2_3 (broadcastInDim S4x4x64x1 ![0, 1, 2] bcast_S4x4x64_S4x4x64x1_0_1_2 (res_main_while0b_v90 V0)) : (Proc.devRef .tc main_while0b_v99 : DevRef τ sig).ty.Contents (Elt F)) = Cert.MlstmRefIdeal.Step.b57 j s := by
  unfold Cert.MlstmRefIdeal.Step.b57
  rw [← al_55 h]
  try rfl
set_option maxRecDepth 8192 in
theorem al_58 (h : Holds V0 s j) : (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v90 V0))) (Host.dotGeneral dot_S4x4x64x256_S4x4x256x256_S4x4x64x256_3_2_2_3_01_01 none (res_main_while0b_v70 V0) (V0 (Proc.devRef .tc main_v38_7))) : (Proc.devRef .tc main_while0b_v100 : DevRef τ sig).ty.Contents (Elt F)) = Cert.MlstmRefIdeal.Step.b58 j s := by
  unfold Cert.MlstmRefIdeal.Step.b58
  rw [← al_57 h, ← al_56 h]
  try rfl
set_option maxRecDepth 8192 in
theorem al_59 (h : Holds V0 s j) : (Host.dotGeneral dot_S4x4x64x64_S4x4x64x256_S4x4x64x256_3_2_2_3_01_01 none (res_main_while0b_v96 V0) (res_main_while0b_v72 V0) : (Proc.devRef .tc main_while0b_v101 : DevRef τ sig).ty.Contents (Elt F)) = Cert.MlstmRefIdeal.Step.b59 j s := by
  unfold Cert.MlstmRefIdeal.Step.b59
  rw [← al_54 h, ← al_17 h]
  try rfl
set_option maxRecDepth 8192 in
theorem al_60 (h : Holds V0 s j) : (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v90 V0))) (Host.dotGeneral dot_S4x4x64x256_S4x4x256x256_S4x4x64x256_3_2_2_3_01_01 none (res_main_while0b_v70 V0) (V0 (Proc.devRef .tc main_v38_7)))) (Host.dotGeneral dot_S4x4x64x64_S4x4x64x256_S4x4x64x256_3_2_2_3_01_01 none (res_main_while0b_v96 V0) (res_main_while0b_v72 V0)) : (Proc.devRef .tc main_while0b_v102 : DevRef τ sig).ty.Contents (Elt F)) = Cert.MlstmRefIdeal.Step.b60 j s := by
  unfold Cert.MlstmRefIdeal.Step.b60
  rw [← al_58 h, ← al_59 h]
  try rfl
set_option maxRecDepth 8192 in
theorem al_61 (h : Holds V0 s j) : (Host.dotGeneral dot_S4x4x64x256_S4x4x256_S4x4x64_3_2_2_n_01_01 none (res_main_while0b_v70 V0) (V0 (Proc.devRef .tc main_v38_8)) : (Proc.devRef .tc main_while0b_v103 : DevRef τ sig).ty.Contents (Elt F)) = Cert.MlstmRefIdeal.Step.b61 j s := by
  unfold Cert.MlstmRefIdeal.Step.b61
  rw [← al_5 h, h.f_8]
  try rfl
set_option maxRecDepth 8192 in
theorem al_62 (h : Holds V0 s j) : (mulf (res_main_while0b_v90 V0) (Host.dotGeneral dot_S4x4x64x256_S4x4x256_S4x4x64_3_2_2_n_01_01 none (res_main_while0b_v70 V0) (V0 (Proc.devRef .tc main_v38_8))) : (Proc.devRef .tc main_while0b_v104 : DevRef τ sig).ty.Contents (Elt F)) = Cert.MlstmRefIdeal.Step.b62 j s := by
  unfold Cert.MlstmRefIdeal.Step.b62
  rw [← al_48 h, ← al_61 h]
  try rfl
set_option maxRecDepth 8192 in
theorem al_63 (h : Holds V0 s j) : (constant S_ .f32 0x00000000#32 : (Proc.devRef .tc main_while0b_cst_21 : DevRef τ sig).ty.Contents (Elt F)) = Cert.MlstmRefIdeal.Step.b63 j s := by
  unfold Cert.MlstmRefIdeal.Step.b63
  rfl
set_option maxRecDepth 8192 in
theorem al_64 (h : Holds V0 s j) : (Host.reduceAdd (res_main_while0b_v96 V0) (constant S_ .f32 0x00000000#32) reducesTo_S4x4x64x64_S4x4x64_d3 h_S_ : (Proc.devRef .tc main_while0b_v105 : DevRef τ sig).ty.Contents (Elt F)) = Cert.MlstmRefIdeal.Step.b64 j s := by
  unfold Cert.MlstmRefIdeal.Step.b64
  rw [← al_54 h, ← al_63 h]
  try rfl
set_option maxRecDepth 8192 in
theorem al_65 (h : Holds V0 s j) : (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_) : (Proc.devRef .tc main_while0b_v106 : DevRef τ sig).ty.Contents (Elt F)) = Cert.MlstmRefIdeal.Step.b65 j s := by
  unfold Cert.MlstmRefIdeal.Step.b65
  rw [← al_62 h, ← al_64 h]
  try rfl
set_option maxRecDepth 8192 in
theorem al_66 (h : Holds V0 s j) : (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_)) : (Proc.devRef .tc main_while0b_v107 : DevRef τ sig).ty.Contents (Elt F)) = Cert.MlstmRefIdeal.Step.b66 j s := by
  unfold Cert.MlstmRefIdeal.Step.b66
  rw [← al_65 h]
  try rfl
set_option maxRecDepth 8192 in
theorem al_67 (h : Holds V0 s j) : (Host.negf (res_main_while0b_v88 V0) : (Proc.devRef .tc main_while0b_v108 : DevRef τ sig).ty.Contents (Elt F)) = Cert.MlstmRefIdeal.Step.b67 j s := by
  unfold Cert.MlstmRefIdeal.Step.b67
  rw [← al_46 h]
  try rfl
set_option maxRecDepth 8192 in
theorem al_68 (h : Holds V0 s j) : (Host.exp (Host.negf (res_main_while0b_v88 V0)) : (Proc.devRef .tc main_while0b_v109 : DevRef τ sig).ty.Contents (Elt F)) = Cert.MlstmRefIdeal.Step.b68 j s := by
  unfold Cert.MlstmRefIdeal.Step.b68
  rw [← al_67 h]
  try rfl
set_option maxRecDepth 8192 in
theorem al_69 (h : Holds V0 s j) : (maximumf (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_))) (Host.exp (Host.negf (res_main_while0b_v88 V0))) : (Proc.devRef .tc main_while0b_v110 : DevRef τ sig).ty.Contents (Elt F)) = Cert.MlstmRefIdeal.Step.b69 j s := by
  unfold Cert.MlstmRefIdeal.Step.b69
  rw [← al_66 h, ← al_68 h]
  try rfl
set_option maxRecDepth 8192 in
theorem al_70 (h : Holds V0 s j) : (broadcastInDim S4x4x64x1 ![0, 1, 2] bcast_S4x4x64_S4x4x64x1_0_1_2 (maximumf (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_))) (Host.exp (Host.negf (res_main_while0b_v88 V0)))) : (Proc.devRef .tc main_while0b_v111 : DevRef τ sig).ty.Contents (Elt F)) = Cert.MlstmRefIdeal.Step.b70 j s := by
  unfold Cert.MlstmRefIdeal.Step.b70
  rw [← al_69 h]
  try rfl
set_option maxRecDepth 8192 in
theorem al_71 (h : Holds V0 s j) : (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_))) (Host.exp (Host.negf (res_main_while0b_v88 V0))))) : (Proc.devRef .tc main_while0b_v112 : DevRef τ sig).ty.Contents (Elt F)) = Cert.MlstmRefIdeal.Step.b71 j s := by
  unfold Cert.MlstmRefIdeal.Step.b71
  rw [← al_70 h]
  try rfl
set_option maxRecDepth 8192 in
theorem al_72 (h : Holds V0 s j) : (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v90 V0))) (Host.dotGeneral dot_S4x4x64x256_S4x4x256x256_S4x4x64x256_3_2_2_3_01_01 none (res_main_while0b_v70 V0) (V0 (Proc.devRef .tc main_v38_7)))) (Host.dotGeneral dot_S4x4x64x64_S4x4x64x256_S4x4x64x256_3_2_2_3_01_01 none (res_main_while0b_v96 V0) (res_main_while0b_v72 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_))) (Host.exp (Host.negf (res_main_while0b_v88 V0)))))) : (Proc.devRef .tc main_while0b_v113 : DevRef τ sig).ty.Contents (Elt F)) = Cert.MlstmRefIdeal.Step.b72 j s := by
  unfold Cert.MlstmRefIdeal.Step.b72
  rw [← al_60 h, ← al_71 h]
  try rfl
set_option maxRecDepth 8192 in
theorem al_73 (h : Holds V0 s j) : (extractStridedSlice S4x4x1 ![0, 0, 63] (res_main_while0b_v73 V0) slices_S4x4x64_S4x4x1_0_0_63 : (Proc.devRef .tc main_while0b_v114 : DevRef τ sig).ty.Contents (Elt F)) = Cert.MlstmRefIdeal.Step.b73 j s := by
  unfold Cert.MlstmRefIdeal.Step.b73
  rw [← al_22 h]
  try rfl
set_option maxRecDepth 8192 in
theorem al_74 (h : Holds V0 s j) : (res_main_while0b_v115 V0 : (Proc.devRef .tc main_while0b_v115 : DevRef τ sig).ty.Contents (Elt F)) = Cert.MlstmRefIdeal.Step.b74 j s := by
  unfold res_main_while0b_v115 Cert.MlstmRefIdeal.Step.b74
  rw [← al_73 h]
  try rfl
set_option maxRecDepth 8192 in
theorem al_75 (h : Holds V0 s j) : (broadcastInDim S4x4x1 ![0, 1] bcast_S4x4_S4x4x1_0_1 (res_main_while0b_v115 V0) : (Proc.devRef .tc main_while0b_v116 : DevRef τ sig).ty.Contents (Elt F)) = Cert.MlstmRefIdeal.Step.b75 j s := by
  unfold Cert.MlstmRefIdeal.Step.b75
  rw [← al_74 h]
  try rfl
set_option maxRecDepth 8192 in
theorem al_76 (h : Holds V0 s j) : (broadcastInDim S4x4x64 ![0, 1, 2] bcast_S4x4x1_S4x4x64_0_1_2 (broadcastInDim S4x4x1 ![0, 1] bcast_S4x4_S4x4x1_0_1 (res_main_while0b_v115 V0)) : (Proc.devRef .tc main_while0b_v117 : DevRef τ sig).ty.Contents (Elt F)) = Cert.MlstmRefIdeal.Step.b76 j s := by
  unfold Cert.MlstmRefIdeal.Step.b76
  rw [← al_75 h]
  try rfl
set_option maxRecDepth 8192 in
theorem al_77 (h : Holds V0 s j) : (subf (broadcastInDim S4x4x64 ![0, 1, 2] bcast_S4x4x1_S4x4x64_0_1_2 (broadcastInDim S4x4x1 ![0, 1] bcast_S4x4_S4x4x1_0_1 (res_main_while0b_v115 V0))) (res_main_while0b_v73 V0) : (Proc.devRef .tc main_while0b_v118 : DevRef τ sig).ty.Contents (Elt F)) = Cert.MlstmRefIdeal.Step.b77 j s := by
  unfold Cert.MlstmRefIdeal.Step.b77
  rw [← al_76 h, ← al_22 h]
  try rfl
set_option maxRecDepth 8192 in
theorem al_78 (h : Holds V0 s j) : (res_main_while0b_v119 V0 : (Proc.devRef .tc main_while0b_v119 : DevRef τ sig).ty.Contents (Elt F)) = Cert.MlstmRefIdeal.Step.b78 j s := by
  unfold res_main_while0b_v119 Cert.MlstmRefIdeal.Step.b78
  rw [← al_77 h, ← al_27 h]
  try rfl
set_option maxRecDepth 8192 in
theorem al_79 (h : Holds V0 s j) : (addf (res_main_while0b_v115 V0) (V0 (Proc.devRef .tc main_v38_9)) : (Proc.devRef .tc main_while0b_v120 : DevRef τ sig).ty.Contents (Elt F)) = Cert.MlstmRefIdeal.Step.b79 j s := by
  unfold Cert.MlstmRefIdeal.Step.b79
  rw [← al_74 h, h.f_9]
  try rfl
set_option maxRecDepth 8192 in
theorem al_80 (h : Holds V0 s j) : (constant S_ .f32 0xFF800000#32 : (Proc.devRef .tc main_while0b_cst_22 : DevRef τ sig).ty.Contents (Elt F)) = Cert.MlstmRefIdeal.Step.b80 j s := by
  unfold Cert.MlstmRefIdeal.Step.b80
  rfl
set_option maxRecDepth 8192 in
theorem al_81 (h : Holds V0 s j) : (Host.reduce FloatOps.maximumf (res_main_while0b_v119 V0) (constant S_ .f32 0xFF800000#32) reducesTo_S4x4x64_S4x4_d2 h_S_ : (Proc.devRef .tc main_while0b_v121 : DevRef τ sig).ty.Contents (Elt F)) = Cert.MlstmRefIdeal.Step.b81 j s := by
  unfold Cert.MlstmRefIdeal.Step.b81
  rw [← al_78 h, ← al_80 h]
  try rfl
set_option maxRecDepth 8192 in
theorem al_82 (h : Holds V0 s j) : (res_main_while0b_v122 V0 : (Proc.devRef .tc main_while0b_v122 : DevRef τ sig).ty.Contents (Elt F)) = Cert.MlstmRefIdeal.Step.b82 j s := by
  unfold res_main_while0b_v122 Cert.MlstmRefIdeal.Step.b82
  rw [← al_79 h, ← al_81 h]
  try rfl
set_option maxRecDepth 8192 in
theorem al_83 (h : Holds V0 s j) : (addf (res_main_while0b_v115 V0) (V0 (Proc.devRef .tc main_v38_9)) : (Proc.devRef .tc main_while0b_v123 : DevRef τ sig).ty.Contents (Elt F)) = Cert.MlstmRefIdeal.Step.b83 j s := by
  unfold Cert.MlstmRefIdeal.Step.b83
  rw [← al_74 h, h.f_9]
  try rfl
set_option maxRecDepth 8192 in
theorem al_84 (h : Holds V0 s j) : (subf (addf (res_main_while0b_v115 V0) (V0 (Proc.devRef .tc main_v38_9))) (res_main_while0b_v122 V0) : (Proc.devRef .tc main_while0b_v124 : DevRef τ sig).ty.Contents (Elt F)) = Cert.MlstmRefIdeal.Step.b84 j s := by
  unfold Cert.MlstmRefIdeal.Step.b84
  rw [← al_83 h, ← al_82 h]
  try rfl
set_option maxRecDepth 8192 in
theorem al_85 (h : Holds V0 s j) : (res_main_while0b_v125 V0 : (Proc.devRef .tc main_while0b_v125 : DevRef τ sig).ty.Contents (Elt F)) = Cert.MlstmRefIdeal.Step.b85 j s := by
  unfold res_main_while0b_v125 Cert.MlstmRefIdeal.Step.b85
  rw [← al_84 h]
  try rfl
set_option maxRecDepth 8192 in
theorem al_86 (h : Holds V0 s j) : (broadcastInDim S4x4x1 ![0, 1] bcast_S4x4_S4x4x1_0_1 (res_main_while0b_v122 V0) : (Proc.devRef .tc main_while0b_v126 : DevRef τ sig).ty.Contents (Elt F)) = Cert.MlstmRefIdeal.Step.b86 j s := by
  unfold Cert.MlstmRefIdeal.Step.b86
  rw [← al_82 h]
  try rfl
set_option maxRecDepth 8192 in
theorem al_87 (h : Holds V0 s j) : (broadcastInDim S4x4x64 ![0, 1, 2] bcast_S4x4x1_S4x4x64_0_1_2 (broadcastInDim S4x4x1 ![0, 1] bcast_S4x4_S4x4x1_0_1 (res_main_while0b_v122 V0)) : (Proc.devRef .tc main_while0b_v127 : DevRef τ sig).ty.Contents (Elt F)) = Cert.MlstmRefIdeal.Step.b87 j s := by
  unfold Cert.MlstmRefIdeal.Step.b87
  rw [← al_86 h]
  try rfl
set_option maxRecDepth 8192 in
theorem al_88 (h : Holds V0 s j) : (subf (res_main_while0b_v119 V0) (broadcastInDim S4x4x64 ![0, 1, 2] bcast_S4x4x1_S4x4x64_0_1_2 (broadcastInDim S4x4x1 ![0, 1] bcast_S4x4_S4x4x1_0_1 (res_main_while0b_v122 V0))) : (Proc.devRef .tc main_while0b_v128 : DevRef τ sig).ty.Contents (Elt F)) = Cert.MlstmRefIdeal.Step.b88 j s := by
  unfold Cert.MlstmRefIdeal.Step.b88
  rw [← al_78 h, ← al_87 h]
  try rfl
set_option maxRecDepth 8192 in
theorem al_89 (h : Holds V0 s j) : (res_main_while0b_v129 V0 : (Proc.devRef .tc main_while0b_v129 : DevRef τ sig).ty.Contents (Elt F)) = Cert.MlstmRefIdeal.Step.b89 j s := by
  unfold res_main_while0b_v129 Cert.MlstmRefIdeal.Step.b89
  rw [← al_88 h]
  try rfl
set_option maxRecDepth 8192 in
theorem al_90 (h : Holds V0 s j) : (broadcastInDim S4x4x1x1 ![0, 1] bcast_S4x4_S4x4x1x1_0_1 (res_main_while0b_v125 V0) : (Proc.devRef .tc main_while0b_v130 : DevRef τ sig).ty.Contents (Elt F)) = Cert.MlstmRefIdeal.Step.b90 j s := by
  unfold Cert.MlstmRefIdeal.Step.b90
  rw [← al_85 h]
  try rfl
set_option maxRecDepth 8192 in
theorem al_91 (h : Holds V0 s j) : (broadcastInDim S4x4x256x256 ![0, 1, 2, 3] bcast_S4x4x1x1_S4x4x256x256_0_1_2_3 (broadcastInDim S4x4x1x1 ![0, 1] bcast_S4x4_S4x4x1x1_0_1 (res_main_while0b_v125 V0)) : (Proc.devRef .tc main_while0b_v131 : DevRef τ sig).ty.Contents (Elt F)) = Cert.MlstmRefIdeal.Step.b91 j s := by
  unfold Cert.MlstmRefIdeal.Step.b91
  rw [← al_90 h]
  try rfl
set_option maxRecDepth 8192 in
theorem al_92 (h : Holds V0 s j) : (mulf (broadcastInDim S4x4x256x256 ![0, 1, 2, 3] bcast_S4x4x1x1_S4x4x256x256_0_1_2_3 (broadcastInDim S4x4x1x1 ![0, 1] bcast_S4x4_S4x4x1x1_0_1 (res_main_while0b_v125 V0))) (V0 (Proc.devRef .tc main_v38_7)) : (Proc.devRef .tc main_while0b_v132 : DevRef τ sig).ty.Contents (Elt F)) = Cert.MlstmRefIdeal.Step.b92 j s := by
  unfold Cert.MlstmRefIdeal.Step.b92
  rw [← al_91 h, h.f_7]
  try rfl
set_option maxRecDepth 8192 in
theorem al_93 (h : Holds V0 s j) : (broadcastInDim S4x4x64x1 ![0, 1, 2] bcast_S4x4x64_S4x4x64x1_0_1_2 (res_main_while0b_v129 V0) : (Proc.devRef .tc main_while0b_v133 : DevRef τ sig).ty.Contents (Elt F)) = Cert.MlstmRefIdeal.Step.b93 j s := by
  unfold Cert.MlstmRefIdeal.Step.b93
  rw [← al_89 h]
  try rfl
set_option maxRecDepth 8192 in
theorem al_94 (h : Holds V0 s j) : (broadcastInDim S4x4x64x256 ![0, 1, 2, 3] bcast_S4x4x64x1_S4x4x64x256_0_1_2_3 (broadcastInDim S4x4x64x1 ![0, 1, 2] bcast_S4x4x64_S4x4x64x1_0_1_2 (res_main_while0b_v129 V0)) : (Proc.devRef .tc main_while0b_v134 : DevRef τ sig).ty.Contents (Elt F)) = Cert.MlstmRefIdeal.Step.b94 j s := by
  unfold Cert.MlstmRefIdeal.Step.b94
  rw [← al_93 h]
  try rfl
set_option maxRecDepth 8192 in
theorem al_95 (h : Holds V0 s j) : (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v129 V0))) (res_main_while0b_v71 V0) : (Proc.devRef .tc main_while0b_v135 : DevRef τ sig).ty.Contents (Elt F)) = Cert.MlstmRefIdeal.Step.b95 j s := by
  unfold Cert.MlstmRefIdeal.Step.b95
  rw [← al_94 h, ← al_11 h]
  try rfl
set_option maxRecDepth 8192 in
theorem al_96 (h : Holds V0 s j) : (Host.dotGeneral dot_S4x4x64x256_S4x4x64x256_S4x4x256x256_2_2_3_3_01_01 none (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v129 V0))) (res_main_while0b_v71 V0)) (res_main_while0b_v72 V0) : (Proc.devRef .tc main_while0b_v136 : DevRef τ sig).ty.Contents (Elt F)) = Cert.MlstmRefIdeal.Step.b96 j s := by
  unfold Cert.MlstmRefIdeal.Step.b96
  rw [← al_95 h, ← al_17 h]
  try rfl
set_option maxRecDepth 8192 in
theorem al_97 (h : Holds V0 s j) : (addf (mulf (broadcastInDim S4x4x256x256 ![0, 1, 2, 3] bcast_S4x4x1x1_S4x4x256x256_0_1_2_3 (broadcastInDim S4x4x1x1 ![0, 1] bcast_S4x4_S4x4x1x1_0_1 (res_main_while0b_v125 V0))) (V0 (Proc.devRef .tc main_v38_7))) (Host.dotGeneral dot_S4x4x64x256_S4x4x64x256_S4x4x256x256_2_2_3_3_01_01 none (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v129 V0))) (res_main_while0b_v71 V0)) (res_main_while0b_v72 V0)) : (Proc.devRef .tc main_while0b_v137 : DevRef τ sig).ty.Contents (Elt F)) = Cert.MlstmRefIdeal.Step.b97 j s := by
  unfold Cert.MlstmRefIdeal.Step.b97
  rw [← al_92 h, ← al_96 h]
  try rfl
set_option maxRecDepth 8192 in
theorem al_98 (h : Holds V0 s j) : (broadcastInDim S4x4x1 ![0, 1] bcast_S4x4_S4x4x1_0_1 (res_main_while0b_v125 V0) : (Proc.devRef .tc main_while0b_v138 : DevRef τ sig).ty.Contents (Elt F)) = Cert.MlstmRefIdeal.Step.b98 j s := by
  unfold Cert.MlstmRefIdeal.Step.b98
  rw [← al_85 h]
  try rfl
set_option maxRecDepth 8192 in
theorem al_99 (h : Holds V0 s j) : (broadcastInDim S4x4x256 ![0, 1, 2] bcast_S4x4x1_S4x4x256_0_1_2 (broadcastInDim S4x4x1 ![0, 1] bcast_S4x4_S4x4x1_0_1 (res_main_while0b_v125 V0)) : (Proc.devRef .tc main_while0b_v139 : DevRef τ sig).ty.Contents (Elt F)) = Cert.MlstmRefIdeal.Step.b99 j s := by
  unfold Cert.MlstmRefIdeal.Step.b99
  rw [← al_98 h]
  try rfl
set_option maxRecDepth 8192 in
theorem al_100 (h : Holds V0 s j) : (mulf (broadcastInDim S4x4x256 ![0, 1, 2] bcast_S4x4x1_S4x4x256_0_1_2 (broadcastInDim S4x4x1 ![0, 1] bcast_S4x4_S4x4x1_0_1 (res_main_while0b_v125 V0))) (V0 (Proc.devRef .tc main_v38_8)) : (Proc.devRef .tc main_while0b_v140 : DevRef τ sig).ty.Contents (Elt F)) = Cert.MlstmRefIdeal.Step.b100 j s := by
  unfold Cert.MlstmRefIdeal.Step.b100
  rw [← al_99 h, h.f_8]
  try rfl
set_option maxRecDepth 8192 in
theorem al_101 (h : Holds V0 s j) : (Host.dotGeneral dot_S4x4x64_S4x4x64x256_S4x4x256_2_2_n_3_01_01 none (res_main_while0b_v129 V0) (res_main_while0b_v71 V0) : (Proc.devRef .tc main_while0b_v141 : DevRef τ sig).ty.Contents (Elt F)) = Cert.MlstmRefIdeal.Step.b101 j s := by
  unfold Cert.MlstmRefIdeal.Step.b101
  rw [← al_89 h, ← al_11 h]
  try rfl
set_option maxRecDepth 8192 in
theorem al_102 (h : Holds V0 s j) : (addf (mulf (broadcastInDim S4x4x256 ![0, 1, 2] bcast_S4x4x1_S4x4x256_0_1_2 (broadcastInDim S4x4x1 ![0, 1] bcast_S4x4_S4x4x1_0_1 (res_main_while0b_v125 V0))) (V0 (Proc.devRef .tc main_v38_8))) (Host.dotGeneral dot_S4x4x64_S4x4x64x256_S4x4x256_2_2_n_3_01_01 none (res_main_while0b_v129 V0) (res_main_while0b_v71 V0)) : (Proc.devRef .tc main_while0b_v142 : DevRef τ sig).ty.Contents (Elt F)) = Cert.MlstmRefIdeal.Step.b102 j s := by
  unfold Cert.MlstmRefIdeal.Step.b102
  rw [← al_100 h, ← al_101 h]
  try rfl
set_option maxRecDepth 8192 in
theorem al_103 (h : Holds V0 s j) : (broadcastInDim S1x4x4x64x256 ![1, 2, 3, 4] bcast_S4x4x64x256_S1x4x4x64x256_1_2_3_4 (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v90 V0))) (Host.dotGeneral dot_S4x4x64x256_S4x4x256x256_S4x4x64x256_3_2_2_3_01_01 none (res_main_while0b_v70 V0) (V0 (Proc.devRef .tc main_v38_7)))) (Host.dotGeneral dot_S4x4x64x64_S4x4x64x256_S4x4x64x256_3_2_2_3_01_01 none (res_main_while0b_v96 V0) (res_main_while0b_v72 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_))) (Host.exp (Host.negf (res_main_while0b_v88 V0))))))) : (Proc.devRef .tc main_while0b_call9_v0 : DevRef τ sig).ty.Contents (Elt F)) = Cert.MlstmRefIdeal.Step.b103 j s := by
  unfold Cert.MlstmRefIdeal.Step.b103
  rw [← al_72 h]
  try rfl
set_option maxRecDepth 8192 in
theorem al_104 (h : Holds V0 s j) : (constantI S_ 32 0#32 : (Proc.devRef .tc main_while0b_call9_c : DevRef τ sig).ty.Contents (Elt F)) = Cert.MlstmRefIdeal.Step.b104 j s := by
  unfold Cert.MlstmRefIdeal.Step.b104
  rfl
set_option maxRecDepth 8192 in
theorem al_105 (h : Holds V0 s j) : (constantI S_ 32 0#32 : (Proc.devRef .tc main_while0b_call9_c_0 : DevRef τ sig).ty.Contents (Elt F)) = Cert.MlstmRefIdeal.Step.b105 j s := by
  unfold Cert.MlstmRefIdeal.Step.b105
  rfl
set_option maxRecDepth 8192 in
theorem al_106 (h : Holds V0 s j) : (constantI S_ 32 0#32 : (Proc.devRef .tc main_while0b_call9_c_1 : DevRef τ sig).ty.Contents (Elt F)) = Cert.MlstmRefIdeal.Step.b106 j s := by
  unfold Cert.MlstmRefIdeal.Step.b106
  rfl
set_option maxRecDepth 8192 in
theorem al_107 (h : Holds V0 s j) : (constantI S_ 32 0#32 : (Proc.devRef .tc main_while0b_call9_c_2 : DevRef τ sig).ty.Contents (Elt F)) = Cert.MlstmRefIdeal.Step.b107 j s := by
  unfold Cert.MlstmRefIdeal.Step.b107
  rfl
set_option maxRecDepth 8192 in
theorem al_108 (h : Holds V0 s j) : (Host.dynamicUpdateSlice (V0 (Proc.devRef .tc main_v38_10)) (broadcastInDim S1x4x4x64x256 ![1, 2, 3, 4] bcast_S4x4x64x256_S1x4x4x64x256_1_2_3_4 (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v90 V0))) (Host.dotGeneral dot_S4x4x64x256_S4x4x256x256_S4x4x64x256_3_2_2_3_01_01 none (res_main_while0b_v70 V0) (V0 (Proc.devRef .tc main_v38_7)))) (Host.dotGeneral dot_S4x4x64x64_S4x4x64x256_S4x4x64x256_3_2_2_3_01_01 none (res_main_while0b_v96 V0) (res_main_while0b_v72 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_))) (Host.exp (Host.negf (res_main_while0b_v88 V0)))))))) (fun k => (((![V0 (Proc.devRef .tc main_v38_6), constantI S_ 32 0#32, constantI S_ 32 0#32, constantI S_ 32 0#32, constantI S_ 32 0#32] : Fin 5 → (⟨S_, .i32⟩ : BufTy).Contents (Elt F))) k (Shape.Idx.first h_S_)).toInt) updateFits_S128x4x4x64x256_S1x4x4x64x256 : (Proc.devRef .tc main_while0b_v143 : DevRef τ sig).ty.Contents (Elt F)) = Cert.MlstmRefIdeal.Step.b108 j s := by
  unfold Cert.MlstmRefIdeal.Step.b108
  rw [← al_103 h, ← al_104 h, ← al_105 h, ← al_106 h, ← al_107 h, h.f_10, h.n_6]
  try rfl

/-! One trip's step of the carried values is `step`, field by field; a counter steps to the next number. -/

theorem step_7 (h : Holds V0 s j) : step_main_v38_7 V0 = (step j s).main_v38_7 := by
  unfold step_main_v38_7 Cert.MlstmRefIdeal.Step.step
  show id (addf (mulf (broadcastInDim S4x4x256x256 ![0, 1, 2, 3] bcast_S4x4x1x1_S4x4x256x256_0_1_2_3 (broadcastInDim S4x4x1x1 ![0, 1] bcast_S4x4_S4x4x1x1_0_1 (res_main_while0b_v125 V0))) (V0 (Proc.devRef .tc main_v38_7))) (Host.dotGeneral dot_S4x4x64x256_S4x4x64x256_S4x4x256x256_2_2_3_3_01_01 none (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v129 V0))) (res_main_while0b_v71 V0)) (res_main_while0b_v72 V0))) = _
  rw [al_97 h]
  try rfl
theorem step_8 (h : Holds V0 s j) : step_main_v38_8 V0 = (step j s).main_v38_8 := by
  unfold step_main_v38_8 Cert.MlstmRefIdeal.Step.step
  show id (addf (mulf (broadcastInDim S4x4x256 ![0, 1, 2] bcast_S4x4x1_S4x4x256_0_1_2 (broadcastInDim S4x4x1 ![0, 1] bcast_S4x4_S4x4x1_0_1 (res_main_while0b_v125 V0))) (V0 (Proc.devRef .tc main_v38_8))) (Host.dotGeneral dot_S4x4x64_S4x4x64x256_S4x4x256_2_2_n_3_01_01 none (res_main_while0b_v129 V0) (res_main_while0b_v71 V0))) = _
  rw [al_102 h]
  try rfl
theorem step_9 (h : Holds V0 s j) : step_main_v38_9 V0 = (step j s).main_v38_9 := by
  unfold step_main_v38_9 Cert.MlstmRefIdeal.Step.step
  show id (res_main_while0b_v122 V0) = _
  rw [al_82 h]
  try rfl
theorem step_10 (h : Holds V0 s j) : step_main_v38_10 V0 = (step j s).main_v38_10 := by
  unfold step_main_v38_10 Cert.MlstmRefIdeal.Step.step
  show id (Host.dynamicUpdateSlice (V0 (Proc.devRef .tc main_v38_10)) (broadcastInDim S1x4x4x64x256 ![1, 2, 3, 4] bcast_S4x4x64x256_S1x4x4x64x256_1_2_3_4 (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v90 V0))) (Host.dotGeneral dot_S4x4x64x256_S4x4x256x256_S4x4x64x256_3_2_2_3_01_01 none (res_main_while0b_v70 V0) (V0 (Proc.devRef .tc main_v38_7)))) (Host.dotGeneral dot_S4x4x64x64_S4x4x64x256_S4x4x64x256_3_2_2_3_01_01 none (res_main_while0b_v96 V0) (res_main_while0b_v72 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v90 V0) (Host.dotGeneral dot_S4x4x64x256_S4x4x256_S4x4x64_3_2_2_n_01_01 none (res_main_while0b_v70 V0) (V0 (Proc.devRef .tc main_v38_8)))) (Host.reduceAdd (res_main_while0b_v96 V0) (constant S_ .f32 0x00000000#32) reducesTo_S4x4x64x64_S4x4x64_d3 h_S_))) (Host.exp (Host.negf (res_main_while0b_v88 V0)))))))) (fun k => (((![V0 (Proc.devRef .tc main_v38_6), constantI S_ 32 0#32, constantI S_ 32 0#32, constantI S_ 32 0#32, constantI S_ 32 0#32] : Fin 5 → (⟨S_, .i32⟩ : BufTy).Contents (Elt F))) k (Shape.Idx.first h_S_)).toInt) updateFits_S128x4x4x64x256_S1x4x4x64x256) = _
  exact al_108 h
theorem step_6 (h : Holds V0 s j) : step_main_v38_6 V0 = constantI S_ 32 (BitVec.ofNat 32 (j + 1)) := by
  unfold step_main_v38_6
  rw [h.n_6]
  funext i
  show BitVec.ofNat 32 j + 1#32 = BitVec.ofNat 32 (j + 1)
  simp only [BitVec.ofNat_add]

set_option maxRecDepth 8192 in
theorem out_main_v69_holds (h : Holds V0 s j) {x_main_arg0 : (⟨S32768x9216, .bf16⟩ : BufTy).Contents (Elt F)} (h_main_arg0 : V0 (Proc.devRef .tc main_arg0) = x_main_arg0) {x_main_arg2 : (⟨S1024, .f32⟩ : BufTy).Contents (Elt F)} (h_main_arg2 : V0 (Proc.devRef .tc main_arg2) = x_main_arg2) : out_main_v69 V0 = Cert.MlstmRefIdeal.Step.R_main_v69 s x_main_arg0 x_main_arg2 := by
  unfold out_main_v69 Cert.MlstmRefIdeal.Step.R_main_v69
  rw [h.f_10, h_main_arg0, h_main_arg2]
  try rfl

/-- One trip keeps the valuation holding: `step` of the state, the same set-up values, the next number. -/
theorem holds_step (h : Holds V0 s j) : Holds (STEP V0) (step j s) (j + 1) where
  f_7 := (STEP_main_v38_7 V0).trans (step_7 h)
  f_8 := (STEP_main_v38_8 V0).trans (step_8 h)
  f_9 := (STEP_main_v38_9 V0).trans (step_9 h)
  f_10 := (STEP_main_v38_10 V0).trans (step_10 h)
  n_6 := (STEP_main_v38_6 V0).trans (step_6 h)
  k_5 := (STEP_main_v38_5 V0).trans h.k_5
  f_0 := (STEP_main_v38_0 V0).trans h.f_0
  f_1 := (STEP_main_v38_1 V0).trans h.f_1
  f_2 := (STEP_main_v38_2 V0).trans h.f_2
  f_3 := (STEP_main_v38_3 V0).trans h.f_3
  f_4 := (STEP_main_v38_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MlstmRefIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v69) = Cert.MlstmRefIdeal.Step.R_main_v69 (it c 128) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 128
    ⟨(h c).1.trans (out_main_v69_holds hk (iter_main_arg0 m c 128) (iter_main_arg2 m c 128)), (h c).2.1, (h c).2.2.1, (h c).2.2.2⟩) (Value.run m ρ)

end Cert.MlstmRefIdeal.StepRun

end
-- ==== Proof.RefRun.lean ====
/-
  What the reference's loop over the 128 chunks leaves, and the reference's result, as the recurrences' outputs.
-/
module

public import proofs.«01_k».proof.Proof.RefStep
public import proofs.«01_k».proof.Proof.RefTokens
public import proofs.«01_k».proof.Proof.RefLoop

@[expose] public section

set_option maxRecDepth 16384

noncomputable section

namespace Cert.RefRun

open Idealize.ShloMosaic Cert.Chunk Cert.Gate Cert.Tokens Cert.RefTokens
open Cert.MlstmRefIdeal Cert.MlstmRefIdeal.Gen Cert.MlstmRefIdeal.Step

variable (x : Vec Ideal S32768x9216 .bf16) (y : Vec Ideal S32768x128 .f32)

/-- The state before the `n`-th trip. -/
def before : ℕ → State Ideal
  | 0 => init x y
  | n + 1 => step n (before n)

/-- What holds before the `t`-th trip: the chunks are the arguments', the carried state is the recurrences' at token
`64 t`, and the chunks already done hold the recurrences' outputs. -/
structure Done (t : ℕ) (s : State Ideal) : Prop where
  q : s.main_v38_0 = A_main_v30 x y
  k : s.main_v38_1 = A_main_v32 x y
  v : s.main_v38_2 = A_main_v34 x y
  bc : s.main_v38_3 = A_main_v23 x y
  li : s.main_v38_4 = A_main_v36 x y
  C : ∀ b h (d e : Fin 256), s.main_v38_7 (ix4 b h d e) = (((tok (projs x) (gates y) b h).C (64 * t) d e : ℝ) : EReal)
  n : ∀ b h (d : Fin 256), s.main_v38_8 (ix3 b h d) = (((tok (projs x) (gates y) b h).N (64 * t) d : ℝ) : EReal)
  m : ∀ b h, s.main_v38_9 (ix2 b h) = (((tok (projs x) (gates y) b h).M (64 * t) : ℝ) : EReal)
  out : ∀ (c : Fin 128), c.val < t → ∀ b h (l : Fin 64) (e : Fin 256),
    s.main_v38_10 (ix5 c b h l e) = (tok (projs x) (gates y) b h).h (64 * c.val + l.val) e

/-- Before the first trip the state is zero. -/
theorem done_zero : Done x y 0 (init x y) where
  q := rfl
  k := rfl
  v := rfl
  bc := rfl
  li := rfl
  C b h d e := by
    show K_main_v26 (ix4 b h d e) = _
    pointwise [K_main_v26, K_main_cst]
    rfl
  n b h d := by
    show K_main_v27 (ix3 b h d) = _
    pointwise [K_main_v27, K_main_cst_0]
    rfl
  m b h := by
    show K_main_v28 (ix2 b h) = _
    pointwise [K_main_v28, K_main_cst_1]
    rfl
  out c hc := absurd hc (Nat.not_lt_zero _)

variable {x y}

/-- A trip reads the recurrences' tokens and state. -/
theorem Done.reads (fin : Finite (projs x) (gates y)) {n : Fin 128} {s : State Ideal} (h : Done x y n.val s) :
    RefStep.Reads n s (tok (projs x) (gates y)) (64 * n.val) where
  q b i l d := by rw [h.q]; exact queries x y fin n b i l d
  k b i l d := by rw [h.k]; exact keys x y fin n b i l d
  v b i l d := by rw [h.v]; exact values x y fin n b i l d
  bc b i l := by rw [h.bc]; exact sums x y fin n b i l
  li b i l := by rw [h.li]; exact inputs x y fin n b i l
  C := h.C
  n := h.n
  m := h.m

/-- A trip carries what holds before it over to the next. -/
theorem Done.step (fin : Finite (projs x) (gates y)) {n : Fin 128} {s : State Ideal} (h : Done x y n.val s) :
    Done x y (n.val + 1) (step n.val s) where
  q := h.q
  k := h.k
  v := h.v
  bc := h.bc
  li := h.li
  C := (h.reads fin).C'
  n := (h.reads fin).n'
  m := (h.reads fin).max'
  out c hc b i l e := by
    refine (RefStep.outs_at n s c b i l e).trans ?_
    by_cases hcn : c = n
    · subst hcn
      rw [if_pos rfl]
      exact (h.reads fin).out b i l e
    · rw [if_neg hcn]
      exact h.out c (by have : c.val ≠ n.val := fun e => hcn (Fin.ext e); omega) b i l e

/-- What holds before every trip, and after the last. -/
theorem done (fin : Finite (projs x) (gates y)) : ∀ n, n ≤ 128 → Done x y n (before x y n)
  | 0, _ => done_zero x y
  | n + 1, hn => (done fin n (by omega)).step (n := ⟨n, hn⟩) fin

/-- The operations after the loop, of a state in which every chunk is done: the recurrences' outputs, normed, scaled and
gated. -/
theorem tail {s : State Ideal} (hd : Done x y 128 s) (g : Vec Ideal S1024 .f32) (r : Fin 32768) (j : Fin 1024) :
    (R_main_v69 s x g : Vec Ideal _ .bf16) (ix2 r j) = outAt (projs x) (gates y) (fun j => g (ix1 j)) r j := by
  have out : ∀ (p1 p2 p3 p4) (e : Fin 256), s.main_v38_10
      (ix5 (⟨r.val % 8192 / 64, p1⟩ : Fin 128) (⟨r.val / 8192, p2⟩ : Fin 4) (⟨j.val / 256, p3⟩ : Fin 4) (⟨r.val % 8192 % 64, p4⟩ : Fin 64) e)
      = (tok (projs x) (gates y) (seqAt r) (headOf j)).h (r.val % 8192) e := by
    intro p1 p2 p3 p4 e
    refine (hd.out ⟨r.val % 8192 / 64, p1⟩ p1 _ _ _ _).trans ?_
    have ht : 64 * (r.val % 8192 / 64) + r.val % 8192 % 64 = r.val % 8192 := Nat.div_add_mod _ _
    show (tok (projs x) (gates y) (seqAt r) (headOf j)).h (64 * (r.val % 8192 / 64) + r.val % 8192 % 64) e = _
    rw [ht]
  pointwise [R_main_v69]
  simp only [out]
  rfl

/-- The reference's result is the recurrences' outputs, normed, scaled and gated. -/
theorem result (fin : Finite (projs x) (gates y)) (g : Vec Ideal S1024 .f32) (r : Fin 32768) (j : Fin 1024) :
    (R_main_v69 (before x y 128) x g : Vec Ideal _ .bf16) (ix2 r j) = outAt (projs x) (gates y) (fun j => g (ix1 j)) r j :=
  tail (done fin 128 le_rfl) g r j

end Cert.RefRun

end
-- ==== Proof.PreFinite.lean ====
/-
  What the precondition says: every entry the recurrence reads, of the projections' first 3072 columns and of the gate
  array's first 8, is a real number.
-/
module

public import proofs.«01_k».proof.Proof.Gen.Pre_finite
public import proofs.«01_k».proof.Proof.Tokens
public import Idealize.ShloMosaic.Lib.ReduceAll
public import Idealize.ShloMosaic.Lib.Affine

@[expose] public section

set_option maxRecDepth 16384

noncomputable section

namespace Cert.PreFinite

open Idealize.ShloMosaic Cert.Pre_finite Cert.Pre_finite.Gen Cert.Gate Cert.Tokens

/-- An extended real whose absolute value is below plus infinity is a real. -/
theorem real_of_abs (z : EReal) (h : max z (-z) < ⊤) : z = ((z.toReal : ℝ) : EReal) := by
  induction z with
  | bot => simp at h
  | coe z => rfl
  | top => simp at h

/-- The precondition's test of one entry, as it is printed. -/
theorem real_of_bit (z : EReal) (h : BitVec.ofBool (decide ((FloatOps.absf (F := Ideal) (φ := .f32) z : EReal) < Ideal.ofBits .f32 0x7F800000#32)) = 1#1) :
    z = ((z.toReal : ℝ) : EReal) := by
  apply real_of_abs
  rw [← ofBits_top]
  by_contra hn
  rw [show decide ((FloatOps.absf (F := Ideal) (φ := .f32) z : EReal) < Ideal.ofBits .f32 0x7F800000#32) = false from decide_eq_false hn] at h
  exact absurd h (by decide)

/-- The index of a result of a reduction over all axes is the only one. -/
instance : Subsingleton S_.Idx := ⟨fun a b => funext fun i => i.elim0⟩

/-- The precondition gives the entries' finiteness. -/
theorem finite (x : FVec Ideal S32768x9216 .bf16) (y : FVec Ideal S32768x128 .f32) (g : FVec Ideal S1024 .f32)
    (h : Cert.Pre_finite.fn x y g = fun _ => 1#1) : Finite (fun r j => x (ix2 r j)) (fun r j => y (ix2 r j)) := by
  have h0 := congrFun h (Shape.Idx.first h_S_)
  dsimp only [Cert.Pre_finite.fn] at h0
  rw [andi_apply, IntOp.andi_eq_one] at h0
  obtain ⟨hx, hy⟩ := h0
  have hx' := fun i => Host.reduce_andi_all _ _ _ _ _ hx i
  have hy' := fun i => Host.reduce_andi_all _ _ _ _ _ hy i
  have hp : ∀ (r : Fin 32768) (c : Fin 3072), x (ix2 r ⟨c.val, by omega⟩) = (((x (ix2 r ⟨c.val, by omega⟩)).toReal : ℝ) : EReal) := by
    intro r c
    have := hx' (ix2 r c)
    pointwise at this
    exact real_of_bit _ this
  have hg : ∀ (r : Fin 32768) (c : Fin 8), y (ix2 r ⟨c.val, by omega⟩) = (((y (ix2 r ⟨c.val, by omega⟩)).toReal : ℝ) : EReal) := by
    intro r c
    have := hy' (ix2 r c)
    pointwise at this
    exact real_of_bit _ this
  exact {
    proj := fun r n h d hn => hp r ⟨1024 * n.val + (256 * h.val + d.val), by omega⟩
    ig := fun r h => hg r ⟨h.val, by omega⟩
    fg := fun r h => hg r ⟨4 + h.val, by omega⟩ }

end Cert.PreFinite

end
-- ==== Proof.MlstmClaims.lean ====
/-
  The mLSTM's claims: the reference's frame, and the kernel's result and the reference's equal at every index, both being
  the recurrences' outputs normed, scaled and gated.
-/
module

public import proofs.«01_k».proof.Defs
public import proofs.«01_k».proof.Proof.KernelRun
public import proofs.«01_k».proof.Proof.RefRun
public import proofs.«01_k».proof.Proof.PreFinite
public import Idealize.ShloMosaic.Adequacy
public import Idealize.ShloMosaic.Init

@[expose] public section

set_option maxRecDepth 16384

noncomputable section

namespace Cert.MlstmClaims

open Idealize.ShloMosaic Idealize.ShloMosaic.TcCoe Idealize.SL.Sem Cert.Tokens

open Cert.MlstmRefIdeal in
/-- The reference ends, its arguments as they were, with its result the operations after the loop make of the last state. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v69) = Step.R_main_v69
        (RefRun.before (m ((c.tc : Thread nD τ).loc main_arg0)) (m ((c.tc : Thread nD τ).loc main_arg1)) 128)
        (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  StepRun.run_iter m ρ (fun c => RefRun.before (m ((c.tc : Thread nD τ).loc main_arg0)) (m ((c.tc : Thread nD τ).loc main_arg1)))
    (fun _ => rfl) (fun _ _ => rfl)

/-- The reference's frame; it declares no semaphore. -/
theorem ref_frame : Cert.quiescent_MlstmRefIdeal := fun m ρ _ =>
  (θ_run Cert.MlstmRefIdeal.defs _ _).mono (fun r h => ⟨fun c => (h c).2, sem_eq_zero_of_no_sems (by decide) r.2⟩) (ref_run m ρ)

/-- The kernel's result and the reference's are equal, element by element. -/
theorem algebraic : Cert.algebraic_MlstmIdeal_MlstmRefIdeal_pre_finite := by
  intro m ρ m' ρ' hpre hagree
  refine ⟨fun c => Cert.MlstmIdeal.Value.G7 m c, Cert.MlstmIdeal.Value.run m ρ, ?_⟩
  refine (θ_run Cert.MlstmRefIdeal.defs _ _).mono (fun r h c => ⟨(h c).1.trans ?_, (h c).2⟩) (ref_run m' ρ')
  have hf := PreFinite.finite _ _ _ (hpre c)
  obtain ⟨e0, e1, e2⟩ := hagree c
  rw [e0, e1, e2]
  funext i
  idx_vars i
  exact (RefRun.result hf _ _ _).trans (KernelRun.result m c hf _ _).symm

end Cert.MlstmClaims

end
-- ==== Proof.LayerNorm.lean ====
/-
  The layer norm of a row of 1024 numbers, which closes the merge and the feed-forward.
-/
module

public import Idealize.ShloMosaic.Init
public import Idealize.ShloMosaic.Lib.Pointwise

@[expose] public section

noncomputable section

namespace Cert.LayerNorm

open Idealize.ShloMosaic

/-- A row's mean. -/
def mean (z : Fin 1024 → EReal) : EReal := Ideal.div (∑ x, z x) (Ideal.ofBits .f32 0x44800000#32)

/-- The layer norm at column `e`: the element's distance from the row's mean over the row's deviation, times the gain,
plus the bias. -/
def normed (z : Fin 1024 → EReal) (g b : Fin 1024 → EReal) (e : Fin 1024) : EReal :=
  (z e - mean z) * Ideal.rsqrt (Ideal.div (∑ x, (z x - mean z) * (z x - mean z)) (Ideal.ofBits .f32 0x44800000#32)
    + Ideal.ofBits .f32 0x3727C5AC#32) * g e + b e

end Cert.LayerNorm

end
-- ==== Proof.MergeKernel.lean ====
/-
  What the merge kernel's result holds: each row gated, projected, added to the scaled input and normed.
-/
module

public import proofs.«01_k».proof.Proof.LayerNorm
public import proofs.«01_k».proof.Proof.Gen.MergeIdeal.Value
public import Idealize.ShloMosaic.Lib.Pipeline.ValueKit

@[expose] public section

set_option maxRecDepth 16384

noncomputable section

namespace Cert.MergeKernel

open Idealize.ShloMosaic Idealize.ShloMosaic.TcCoe Idealize.SL.Sem
open Cert.LayerNorm
open Cert.MergeIdeal Cert.MergeIdeal.Gen Cert.MergeIdeal.Value

/-- A row before the norm: the scaled input plus the gated branches through the output projection. -/
def mixed (x : Fin 1024 → EReal) (ya yb ga gb : Fin 1024 → EReal) (wa wb wo : Fin 1024 → Fin 1024 → EReal) (e : Fin 1024) : EReal :=
  Ideal.ofBits .f32 0x3FB504F3#32 * x e + ∑ d, (ga d * (∑ w, ya w * wa w d) + gb d * (∑ w, yb w * wb w d)) * wo d e

/-- The kernel's row before the norm, less its mean. -/
theorem centred (ga ya : Vec Ideal S512x1024 .bf16) (wa : Vec Ideal S1024x1024 .bf16) (gb yb : Vec Ideal S512x1024 .bf16)
    (wb wo : Vec Ideal S1024x1024 .bf16) (x : Vec Ideal S512x1024 .f32) (l : Fin 512) (e : Fin 1024) :
    k0_pay4 ga ya wa gb yb wb wo x (ix2 l e)
      = mixed (fun j => x (ix2 l j)) (fun j => ya (ix2 l j)) (fun j => yb (ix2 l j)) (fun j => ga (ix2 l j)) (fun j => gb (ix2 l j))
          (fun i j => wa (ix2 i j)) (fun i j => wb (ix2 i j)) (fun i j => wo (ix2 i j)) e
        - mean (mixed (fun j => x (ix2 l j)) (fun j => ya (ix2 l j)) (fun j => yb (ix2 l j)) (fun j => ga (ix2 l j)) (fun j => gb (ix2 l j))
          (fun i j => wa (ix2 i j)) (fun i j => wb (ix2 i j)) (fun i j => wo (ix2 i j))) := by
  pointwise [k0_pay4]
  rfl

/-- The kernel's stored row. -/
theorem stored (g b : Vec Ideal S1x1024 .f32) (ga ya : Vec Ideal S512x1024 .bf16) (wa : Vec Ideal S1024x1024 .bf16) (gb yb : Vec Ideal S512x1024 .bf16)
    (wb wo : Vec Ideal S1024x1024 .bf16) (x : Vec Ideal S512x1024 .f32) (l : Fin 512) (e : Fin 1024) :
    k0_pay1 (k0_pay2 g) (k0_pay3 b) (k0_pay4 ga ya wa gb yb wb wo x) (ix2 l e)
      = normed (mixed (fun j => x (ix2 l j)) (fun j => ya (ix2 l j)) (fun j => yb (ix2 l j)) (fun j => ga (ix2 l j)) (fun j => gb (ix2 l j))
          (fun i j => wa (ix2 i j)) (fun i j => wb (ix2 i j)) (fun i j => wo (ix2 i j))) (fun j => g (ix2 0 j)) (fun j => b (ix2 0 j)) e := by
  pointwise [k0_pay1, k0_pay2, k0_pay3]
  simp only [centred]
  rfl

variable (m : (ℓ : Loc nD τ sig) → Buf (Elt Ideal) ℓ) (c : Dev nD)

/-- The result's row `r` at column `e`, of the call's arguments: the gates are the last two groups of 1024 columns of the
projections. -/
def rowAt (x : Vec Ideal S32768x1024 .f32) (ya yb : Vec Ideal S32768x1024 .bf16) (p : Vec Ideal S32768x9216 .bf16)
    (wa wb wo : Vec Ideal S1024x1024 .f32) (g b : Vec Ideal S1024 .f32) (r : Fin 32768) (e : Fin 1024) : EReal :=
  normed (mixed (fun j => x (ix2 r j)) (fun j => ya (ix2 r j)) (fun j => yb (ix2 r j)) (fun j => p (ix2 r ⟨7168 + j.val, by omega⟩))
    (fun j => p (ix2 r ⟨8192 + j.val, by omega⟩)) (fun i j => wa (ix2 i j)) (fun i j => wb (ix2 i j)) (fun i j => wo (ix2 i j)))
    (fun j => g (ix1 j)) (fun j => b (ix1 j)) e

/-- Which block of its array each operand's block is, at each point. -/
theorem win_index : ∀ t : Fin cfg0.N, win0_0.index t = ![t.val, 0] ∧ win0_1.index t = ![t.val, 0] ∧ win0_2.index t = ![t.val, 0]
    ∧ win0_3.index t = ![t.val, 7] ∧ win0_4.index t = ![t.val, 8] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The array row that block `t`'s row `l` is. -/
def brow (t : Fin cfg0.N) (l : Fin 512) : Fin 32768 := ⟨512 * t.val + l.val, by have := lt_of_lt_of_eq t.isLt (show cfg0.N = 64 from N_0); omega⟩

/-- The block of inputs. -/
theorem blk0 (t : Fin cfg0.N) (l : Fin 512) (j : Fin 1024) : (iblk m c 0 t : Vec Ideal S512x1024 .f32) (ix2 l j) = (m ((c : Thread nD τ).loc main_arg0) : Vec Ideal S32768x1024 .f32) (ix2 (brow t l) j) := by
  have ht := t.isLt
  obtain ⟨e0, e1, e2, e3, e4, e5, e6, e7, e8, e9, -⟩ := win_index t
  blk_ext [iblk, V, e0]
  show t.val * 512 + l.val = 512 * t.val + l.val; omega

/-- The block of the first branch's outputs. -/
theorem blk1 (t : Fin cfg0.N) (l : Fin 512) (j : Fin 1024) : (iblk m c 1 t : Vec Ideal S512x1024 .bf16) (ix2 l j) = (m ((c : Thread nD τ).loc main_arg1) : Vec Ideal S32768x1024 .bf16) (ix2 (brow t l) j) := by
  have ht := t.isLt
  obtain ⟨e0, e1, e2, e3, e4, e5, e6, e7, e8, e9, -⟩ := win_index t
  blk_ext [iblk, V, e1]
  show t.val * 512 + l.val = 512 * t.val + l.val; omega

/-- The block of the second branch's outputs. -/
theorem blk2 (t : Fin cfg0.N) (l : Fin 512) (j : Fin 1024) : (iblk m c 2 t : Vec Ideal S512x1024 .bf16) (ix2 l j) = (m ((c : Thread nD τ).loc main_arg2) : Vec Ideal S32768x1024 .bf16) (ix2 (brow t l) j) := by
  have ht := t.isLt
  obtain ⟨e0, e1, e2, e3, e4, e5, e6, e7, e8, e9, -⟩ := win_index t
  blk_ext [iblk, V, e2]
  show t.val * 512 + l.val = 512 * t.val + l.val; omega

/-- The block of the first branch's gates. -/
theorem blk3 (t : Fin cfg0.N) (l : Fin 512) (j : Fin 1024) : (iblk m c 3 t : Vec Ideal S512x1024 .bf16) (ix2 l j) = (m ((c : Thread nD τ).loc main_arg3) : Vec Ideal S32768x9216 .bf16) (ix2 (brow t l) ⟨7168 + j.val, by omega⟩) := by
  have ht := t.isLt
  obtain ⟨e0, e1, e2, e3, e4, e5, e6, e7, e8, e9, -⟩ := win_index t
  blk_ext [iblk, V, e3]
  show t.val * 512 + l.val = 512 * t.val + l.val; omega

/-- The block of the second branch's gates. -/
theorem blk4 (t : Fin cfg0.N) (l : Fin 512) (j : Fin 1024) : (iblk m c 4 t : Vec Ideal S512x1024 .bf16) (ix2 l j) = (m ((c : Thread nD τ).loc main_arg3) : Vec Ideal S32768x9216 .bf16) (ix2 (brow t l) ⟨8192 + j.val, by omega⟩) := by
  have ht := t.isLt
  obtain ⟨e0, e1, e2, e3, e4, e5, e6, e7, e8, e9, -⟩ := win_index t
  blk_ext [iblk, V, e4]
  show t.val * 512 + l.val = 512 * t.val + l.val; omega

/-- The first branch's weights, at every block. -/
theorem blk5 (t : Fin cfg0.N) (i j : Fin 1024) : (iblk m c 5 t : Vec Ideal S1024x1024 .bf16) (ix2 i j) = (m ((c : Thread nD τ).loc main_arg4) : Vec Ideal S1024x1024 .f32) (ix2 i j) := by
  have ht := t.isLt
  obtain ⟨e0, e1, e2, e3, e4, e5, e6, e7, e8, e9, -⟩ := win_index t
  blk_ext [iblk, V, e5]

/-- The second branch's weights, at every block. -/
theorem blk6 (t : Fin cfg0.N) (i j : Fin 1024) : (iblk m c 6 t : Vec Ideal S1024x1024 .bf16) (ix2 i j) = (m ((c : Thread nD τ).loc main_arg5) : Vec Ideal S1024x1024 .f32) (ix2 i j) := by
  have ht := t.isLt
  obtain ⟨e0, e1, e2, e3, e4, e5, e6, e7, e8, e9, -⟩ := win_index t
  blk_ext [iblk, V, e6]

/-- The output weights, at every block. -/
theorem blk7 (t : Fin cfg0.N) (i j : Fin 1024) : (iblk m c 7 t : Vec Ideal S1024x1024 .bf16) (ix2 i j) = (m ((c : Thread nD τ).loc main_arg6) : Vec Ideal S1024x1024 .f32) (ix2 i j) := by
  have ht := t.isLt
  obtain ⟨e0, e1, e2, e3, e4, e5, e6, e7, e8, e9, -⟩ := win_index t
  blk_ext [iblk, V, e7]

/-- The gain the host lays out as one row. -/
theorem gain_row (j : Fin 1024) : (V m c main_v3 : Vec Ideal S1x1024 .f32) (ix2 0 j) = (m ((c : Thread nD τ).loc main_arg7) : Vec Ideal S1024 .f32) (ix1 j) := by
  unfold_abbrev_sides
  after_results
  pointwise

/-- The bias the host lays out as one row. -/
theorem bias_row (j : Fin 1024) : (V m c main_v4 : Vec Ideal S1x1024 .f32) (ix2 0 j) = (m ((c : Thread nD τ).loc main_arg8) : Vec Ideal S1024 .f32) (ix1 j) := by
  unfold_abbrev_sides
  after_results
  pointwise

/-- The gain, at every block. -/
theorem blk8 (t : Fin cfg0.N) (j : Fin 1024) : (iblk m c 8 t : Vec Ideal S1x1024 .f32) (ix2 0 j) = (m ((c : Thread nD τ).loc main_arg7) : Vec Ideal S1024 .f32) (ix1 j) := by
  have ht := t.isLt
  obtain ⟨e0, e1, e2, e3, e4, e5, e6, e7, e8, e9, -⟩ := win_index t
  unfold iblk; rw [View.read_apply]
  show V m c main_v3 _ = _
  refine Eq.trans (congrArg (V m c main_v3) ?_) (gain_row m c j)
  blk_ext [e8]

/-- The bias, at every block. -/
theorem blk9 (t : Fin cfg0.N) (j : Fin 1024) : (iblk m c 9 t : Vec Ideal S1x1024 .f32) (ix2 0 j) = (m ((c : Thread nD τ).loc main_arg8) : Vec Ideal S1024 .f32) (ix1 j) := by
  have ht := t.isLt
  obtain ⟨e0, e1, e2, e3, e4, e5, e6, e7, e8, e9, -⟩ := win_index t
  unfold iblk; rw [View.read_apply]
  show V m c main_v4 _ = _
  refine Eq.trans (congrArg (V m c main_v4) ?_) (bias_row m c j)
  blk_ext [e9]

/-- The result array holds the rows. -/
theorem result : (dats m 0 c).arrAt 10 cfg0.N = fun i : S32768x1024.Idx =>
    rowAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (i 0) (i 1) := by
  refine (dats m 0 c).arrAt_eq_of_covers 10 _ (by decide +kernel) fun t hf y => ?_
  blk_simp
  rw [after0_10]
  frame_out
  idx_vars y
  obtain ⟨-, -, -, -, -, -, -, -, -, -, e10⟩ := win_index t
  have h0 : (((View.whole main_v5).slice (win0_10.rect t)).emb (ix2 y0 y1) : S32768x1024.Idx) 0 = brow t y0 := by
    apply Fin.ext
    show win0_10.index t (0 : Fin 2) * 512 + 1 * y0.val = 512 * t.val + y0.val
    rw [e10]; show t.val * 512 + 1 * y0.val = 512 * t.val + y0.val; omega
  have h1 : (((View.whole main_v5).slice (win0_10.rect t)).emb (ix2 y0 y1) : S32768x1024.Idx) 1 = y1 := by
    apply Fin.ext
    show win0_10.index t (1 : Fin 2) * 1024 + 1 * y1.val = y1.val
    rw [e10]; show 0 * 1024 + 1 * y1.val = y1.val; omega
  rw [h0, h1]
  refine (stored _ _ _ _ _ _ _ _ _ _ _ _).trans ?_
  simp only [blk0, blk1, blk2, blk3, blk4, blk5, blk6, blk7, blk8, blk9]
  rfl

end Cert.MergeKernel

end
-- ==== Proof.MergeClaims.lean ====
/-
  The merge's claims: the reference's frame, and the kernel's result and the reference's equal at every index, both being
  the gated, projected and normed rows.
-/
module

public import proofs.«01_k».proof.Defs
public import proofs.«01_k».proof.Proof.MergeKernel
public import proofs.«01_k».proof.Proof.Gen.MergeRefIdeal.Run
public import Idealize.ShloMosaic.Adequacy
public import Idealize.ShloMosaic.Init

@[expose] public section

set_option maxRecDepth 16384

noncomputable section

namespace Cert.MergeClaims

open Idealize.ShloMosaic Idealize.ShloMosaic.TcCoe Idealize.SL.Sem
open Cert.LayerNorm Cert.MergeKernel

section Ref
open Cert.MergeRefIdeal Cert.MergeRefIdeal.Gen Cert.MergeRefIdeal.Value

/-- The reference's rows before the norm. -/
def refMixed (x : FVec Ideal S32768x1024 .f32) (ya yb : FVec Ideal S32768x1024 .bf16) (p : FVec Ideal S32768x9216 .bf16)
    (wa wb wo : FVec Ideal S1024x1024 .f32) : FVec Ideal S32768x1024 .f32 :=
  addf (mulf (broadcastInDim S32768x1024 ![] bcast_S_S32768x1024 (constant S_ .f32 0x3FB504F3#32)) x)
    (Host.dotGeneral dot_S32768x1024_S1024x1024_S32768x1024_1_0_0_1_n_n none
      (addf (mulf (extf .f32 (extractStridedSlice S32768x1024 ![0, 7168] p slices_S32768x9216_S32768x1024_0_7168) bitsLt_bf16_f32)
          (Host.dotGeneral dot_S32768x1024_S1024x1024_S32768x1024_1_0_0_1_n_n none (extf .f32 ya bitsLt_bf16_f32) wa))
        (mulf (extf .f32 (extractStridedSlice S32768x1024 ![0, 8192] p slices_S32768x9216_S32768x1024_0_8192) bitsLt_bf16_f32)
          (Host.dotGeneral dot_S32768x1024_S1024x1024_S32768x1024_1_0_0_1_n_n none (extf .f32 yb bitsLt_bf16_f32) wb))) wo)

/-- The reference's rows less their means. -/
def refCentred (z : FVec Ideal S32768x1024 .f32) : FVec Ideal S32768x1024 .f32 :=
  subf z (broadcastInDim S32768x1024 ![0, 1] bcast_S32768x1_S32768x1024_0_1
    (Host.divf (broadcastInDim S32768x1 ![0] bcast_S32768_S32768x1_0 (Host.reduceAdd z (constant S_ .f32 0x00000000#32) reducesTo_S32768x1024_S32768_d1 h_S_))
      (broadcastInDim S32768x1 ![] bcast_S_S32768x1 (constant S_ .f32 0x44800000#32))))

/-- A row of `refMixed`. -/
theorem refMixed_apply (x : FVec Ideal S32768x1024 .f32) (ya yb : FVec Ideal S32768x1024 .bf16) (p : FVec Ideal S32768x9216 .bf16)
    (wa wb wo : FVec Ideal S1024x1024 .f32) (r : Fin 32768) (e : Fin 1024) : refMixed x ya yb p wa wb wo (ix2 r e)
      = mixed (fun j => x (ix2 r j)) (fun j => ya (ix2 r j)) (fun j => yb (ix2 r j)) (fun j => p (ix2 r ⟨7168 + j.val, by omega⟩))
        (fun j => p (ix2 r ⟨8192 + j.val, by omega⟩)) (fun i j => wa (ix2 i j)) (fun i j => wb (ix2 i j)) (fun i j => wo (ix2 i j)) e := by
  pointwise [refMixed]
  rfl

/-- A row of `refCentred`. -/
theorem refCentred_apply (z : FVec Ideal S32768x1024 .f32) (r : Fin 32768) (e : Fin 1024) :
    refCentred z (ix2 r e) = z (ix2 r e) - mean (fun j => z (ix2 r j)) := by
  pointwise [refCentred]
  rfl

variable (m : (ℓ : Loc nD τ sig) → Buf (Elt Ideal) ℓ) (c : Dev nD)

/-- The reference's result at every row and column. -/
theorem ref_result (r : Fin 32768) (e : Fin 1024) : (res_out0 m c : Vec Ideal S32768x1024 .f32) (ix2 r e)
    = rowAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) r e := by
  let z := refMixed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))
  have h : (res_out0 m c : FVec Ideal S32768x1024 .f32) = addf (mulf (mulf (refCentred z) (broadcastInDim S32768x1024 ![0, 1] bcast_S32768x1_S32768x1024_0_1
      (Host.rsqrt (addf (Host.divf (broadcastInDim S32768x1 ![0] bcast_S32768_S32768x1_0 (Host.reduceAdd (mulf (refCentred z) (refCentred z)) (constant S_ .f32 0x00000000#32) reducesTo_S32768x1024_S32768_d1 h_S_))
        (broadcastInDim S32768x1 ![] bcast_S_S32768x1 (constant S_ .f32 0x44800000#32))) (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 (m ((c.tc : Thread nD τ).loc main_arg7)))))
      (broadcastInDim S32768x1024 ![0, 1] bcast_S1x1024_S32768x1024_0_1 (broadcastInDim S1x1024 ![1] bcast_S1024_S1x1024_1 (m ((c.tc : Thread nD τ).loc main_arg8)))) := rfl
  rw [h]
  pointwise
  simp only [refCentred_apply, z, refMixed_apply]
  rfl

end Ref

/-- The reference's frame. -/
theorem ref_frame : Cert.quiescent_MergeRefIdeal := fun m ρ _ =>
  (θ_run Cert.MergeRefIdeal.defs _ _).mono (fun r h => ⟨fun c => (h c).2, sem_eq_zero_of_no_sems (by decide) r.2⟩) (Cert.MergeRefIdeal.Value.run m ρ)

/-- The kernel's result and the reference's are equal, element by element. -/
theorem algebraic : Cert.algebraic_MergeIdeal_MergeRefIdeal := by
  intro m ρ m' ρ' _ hagree
  refine ⟨fun c => (Cert.MergeIdeal.Gen.dats m 0 c).arrAt 10 Cert.MergeIdeal.cfg0.N, Cert.MergeIdeal.Value.run_blocks m ρ, ?_⟩
  refine (θ_run Cert.MergeRefIdeal.defs _ _).mono (fun r h c => ⟨(h c).1.trans ?_, (h c).2⟩) (Cert.MergeRefIdeal.Value.run m' ρ')
  obtain ⟨e0, e1, e2, e3, e4, e5, e6, e7, e8⟩ := hagree c
  refine Eq.trans ?_ (MergeKernel.result m c).symm
  funext i
  idx_vars i
  refine (ref_result m' c _ _).trans ?_
  rw [e0, e1, e2, e3, e4, e5, e6, e7, e8]

end Cert.MergeClaims

end
-- ==== Proof.FfnConv.lean ====
/-
  What the feed-forward kernel computes of one tile: its two projections, their convolutions over the tokens before, and the
  gated product through the down projection.
-/
module

public import proofs.«01_k».proof.Proof.LayerNorm
public import proofs.«01_k».proof.Proof.Gen.FfnIdeal.Skeleton
public import Idealize.ShloMosaic.Lib.Pipeline.ValueKit

@[expose] public section

set_option maxRecDepth 16384

noncomputable section

namespace Cert.FfnConv

open Idealize.ShloMosaic
open Cert.LayerNorm
open Cert.FfnIdeal Cert.FfnIdeal.Gen

/-- The row `k` before row `l` of a tile: before the tile's first row, one of the eight rows kept of the tile before. -/
def back (u : Fin 512 → EReal) (p : Fin 8 → EReal) (k : ℕ) (l : Fin 512) : EReal :=
  if h : l.val < k then p ⟨(8 + l.val - k) % 8, Nat.mod_lt _ (by decide)⟩ else u ⟨l.val - k, by omega⟩

/-- The convolution of a tile. -/
theorem conv (u : FVec Ideal S512x256 .f32) (p : FVec Ideal S8x256 .f32) (w : Vec Ideal S3x256 .f32) (l : Fin 512) (e : Fin 256) :
    k0_pay12 u p w (ix2 l e) = u (ix2 l e) * w (ix2 2 e) + back (fun i => u (ix2 i e)) (fun i => p (ix2 i e)) 1 l * w (ix2 1 e)
      + back (fun i => u (ix2 i e)) (fun i => p (ix2 i e)) 2 l * w (ix2 0 e) := by
  pointwise [k0_pay12]
  have h1 : ∀ n < 8, IntOp.cmpi CmpIPredicate.slt (BitVec.ofNat 32 n) 1#32 = if n < 1 then 1#1 else 0#1 := by decide
  have h2 : ∀ n < 8, IntOp.cmpi CmpIPredicate.slt (BitVec.ofNat 32 n) 2#32 = if n < 2 then 1#1 else 0#1 := by decide
  have e1 : (if h : l.val < 8 then Scalar.select (IntOp.cmpi CmpIPredicate.slt (BitVec.ofNat 32 l.val) 1#32)
      (p (ix2 ⟨(l.val + 8 - 1) % 8, Nat.mod_lt _ (by decide)⟩ e)) (u (ix2 ⟨(l.val + 512 - 1) % 512, Nat.mod_lt _ (by decide)⟩ e))
      else u (ix2 ⟨(8 + (l.val - 8) + 512 - 1) % 512, Nat.mod_lt _ (by decide)⟩ e))
      = back (fun i => u (ix2 i e)) (fun i => p (ix2 i e)) 1 l := by
    unfold back
    split_ifs with a b b
    · rw [h1 _ a, if_pos b]; show p _ = p _; congr 3; omega
    · rw [h1 _ a, if_neg b]; show u _ = u _; congr 3; omega
    · omega
    · congr 3; omega
  have e2 : (if h : l.val < 8 then Scalar.select (IntOp.cmpi CmpIPredicate.slt (BitVec.ofNat 32 l.val) 2#32)
      (p (ix2 ⟨(l.val + 8 - 2) % 8, Nat.mod_lt _ (by decide)⟩ e)) (u (ix2 ⟨(l.val + 512 - 2) % 512, Nat.mod_lt _ (by decide)⟩ e))
      else u (ix2 ⟨(8 + (l.val - 8) + 512 - 2) % 512, Nat.mod_lt _ (by decide)⟩ e))
      = back (fun i => u (ix2 i e)) (fun i => p (ix2 i e)) 2 l := by
    unfold back
    split_ifs with a b b
    · rw [h2 _ a, if_pos b]; show p _ = p _; congr 3; omega
    · rw [h2 _ a, if_neg b]; show u _ = u _; congr 3; omega
    · omega
    · congr 3; omega
  rw [e1, e2]

/-- The second convolution is the first's arithmetic. -/
theorem second (v : FVec Ideal S512x256 .f32) (p : FVec Ideal S8x256 .f32) (cg : FVec Ideal S512x256 .f32) (w : Vec Ideal S3x256 .f32)
    (acc : Vec Ideal S512x1024 .f32) (d : Vec Ideal S256x1024 .bf16) (l : Fin 512) (e : Fin 1024) :
    k0_pay13 v p cg w acc d (ix2 l e) = acc (ix2 l e) + ∑ f : Fin 256, (cg (ix2 l f) * Ideal.logistic (cg (ix2 l f)) * k0_pay12 v p w (ix2 l f)) * d (ix2 f e) := by
  have h : k0_pay13 v p cg w acc d = addf acc (matmul dot_S512x256_S256x1024_S512x1024_1_0_0_1_n_n none
    (truncf .bf16 (mulf (mulf cg (divf (broadcast S512x256 (Scalar.ofBits .f32 0x3F800000#32)) (addf (broadcast S512x256 (Scalar.ofBits .f32 0x3F800000#32)) (exp (subf (broadcast S512x256 (Scalar.ofBits .f32 0x00000000#32)) cg))))) (k0_pay12 v p w)) bitsLt_bf16_f32)
     (shapeCast S256x1024 d shapeCasts_S256x1024_S256x1024) (constant S512x1024 .f32 0x00000000#32)) := rfl
  rw [h]
  pointwise
  simp only [zero_sub]
  rfl

/-- The first projection of a tile. -/
theorem proj_g (x : Vec Ideal S512x1024 .bf16) (w : Vec Ideal S1024x256 .bf16) (l : Fin 512) (e : Fin 256) :
    k0_pay6 x w (ix2 l e) = ∑ k : Fin 1024, x (ix2 l k) * w (ix2 k e) := by
  pointwise [k0_pay6]

/-- The second projection of a tile. -/
theorem proj_u (x : Vec Ideal S512x1024 .bf16) (w : Vec Ideal S1024x256 .bf16) (l : Fin 512) (e : Fin 256) :
    k0_pay7 x w (ix2 l e) = ∑ k : Fin 1024, x (ix2 l k) * w (ix2 k e) := by
  pointwise [k0_pay7]

/-- The stored sum is the sum. -/
theorem stored (a : FVec Ideal S512x1024 .f32) : k0_pay1 a = a := by
  funext i; idx_vars i; pointwise [k0_pay1]

/-- The tile kept at its own type. -/
theorem kept (x : Vec Ideal S512x1024 .f32) (l : Fin 512) (e : Fin 1024) : k0_pay4 x (ix2 l e) = x (ix2 l e) := by
  pointwise [k0_pay4]

/-- The sum starts at zero. -/
theorem zeroed (l : Fin 512) (e : Fin 1024) : (k0_pay5 (F := Ideal)) (ix2 l e) = 0 := by
  pointwise [k0_pay5]

/-- The kept rows start at zero. -/
theorem cleared (j : Fin 11) (k : Fin 8) (e : Fin 512) : (k0_pay3 (F := Ideal)) (ix3 j k e) = 0 := by
  pointwise [k0_pay3]

/-- The rows kept of the first projection are its last eight. -/
theorem last_g (u : FVec Ideal S512x256 .f32) (k : Fin 8) (e : Fin 256) : k0_pay10 u (ix3 0 k e) = u (ix2 ⟨504 + k.val, by omega⟩ e) := by
  pointwise [k0_pay10]

/-- The rows kept of the second projection are its last eight. -/
theorem last_u (u : FVec Ideal S512x256 .f32) (k : Fin 8) (e : Fin 256) : k0_pay11 u (ix3 0 k e) = u (ix2 ⟨504 + k.val, by omega⟩ e) := by
  pointwise [k0_pay11]

/-- The result's row: the scaled input plus the sum, normed. -/
theorem final (x acc : Vec Ideal S512x1024 .f32) (g b : Vec Ideal S1x1024 .f32) (l : Fin 512) (e : Fin 1024) :
    k0_pay2 x acc g b (ix2 l e) = normed (fun j => Ideal.ofBits .f32 0x3FB504F3#32 * x (ix2 l j) + acc (ix2 l j))
      (fun j => g (ix2 0 j)) (fun j => b (ix2 0 j)) e := by
  pointwise [k0_pay2]
  rfl

/-- Whether a tile is its sequence's first, as the kernel's word says it. -/
theorem first_word : ∀ n < 64, (let v8 : BitVec 1 := Scalar.cmpi .eq 16#32 0#32
    let v9 : BitVec 32 := Scalar.select v8 1#32 16#32
    let v10 : BitVec 32 := Scalar.remsi (BitVec.ofNat 32 n) v9
    let v17 : BitVec 32 := Scalar.select (Scalar.andi (Scalar.xori (Scalar.cmpi .slt v10 0#32) (Scalar.cmpi .slt v9 0#32)) (Scalar.cmpi .ne v10 0#32)) (Scalar.addi v10 v9) v10
    Scalar.cmpi .eq v17 0#32) = if n % 16 = 0 then 1#1 else 0#1 := by decide +kernel

/-- The rows of the tile before that the first convolution reads: zeros at a sequence's first tile. -/
theorem prev_g (i : grid0.Coords) (r : Vec Ideal S1x8x256 .f32) (k : Fin 8) (e : Fin 256) :
    k0_pay8 i r (ix2 k e) = if (i 0).val % 16 = 0 then 0 else r (ix3 0 k e) := by
  have h := first_word (i 0).val (i 0).isLt
  pointwise [k0_pay8]
  refine (congrArg (fun w => Scalar.select w (0 : EReal) (r (ix3 0 k e))) h).trans ?_
  split_ifs <;> rfl

/-- The rows of the tile before that the second convolution reads. -/
theorem prev_u (w : BitVec 1) (r : Vec Ideal S1x8x256 .f32) (k : Fin 8) (e : Fin 256) :
    k0_pay9 w r (ix2 k e) = Scalar.select w 0 (r (ix3 0 k e)) := by
  pointwise [k0_pay9]

end Cert.FfnConv

end
-- ==== Proof.FfnRows.lean ====
/-
  The feed-forward's rows: every token's projections, their convolution over the tokens before it in its sequence, the gated
  product and the normed result, of the call's arguments.
-/
module

public import proofs.«01_k».proof.Proof.LayerNorm

@[expose] public section

noncomputable section

namespace Cert.FfnRows

open Idealize.ShloMosaic
open Cert.LayerNorm

/-- The call's arguments: the rows, the two projections' weights, the convolutions' taps, the down projection, the norm's
gain and bias. -/
structure Args where
  x : Fin 32768 → Fin 1024 → EReal
  wup : Fin 1024 → Fin 5632 → EReal
  cv : Fin 3 → Fin 5632 → EReal
  wd : Fin 2816 → Fin 1024 → EReal
  g : Fin 1024 → EReal
  b : Fin 1024 → EReal

variable (A : Args)

/-- Row `r`'s projection at column `n`. -/
def Args.proj (r : Fin 32768) (n : Fin 5632) : EReal := ∑ k, A.x r k * A.wup k n

/-- The projection `k` rows before row `r`, zero before the sequence's start. -/
def Args.before (k : ℕ) (r : Fin 32768) (n : Fin 5632) : EReal :=
  if r.val % 8192 < k then 0 else A.proj ⟨r.val - k, by omega⟩ n

/-- The convolved projection. -/
def Args.conv (r : Fin 32768) (n : Fin 5632) : EReal :=
  A.proj r n * A.cv 2 n + A.before 1 r n * A.cv 1 n + A.before 2 r n * A.cv 0 n

/-- The column of the first projection that feeds hidden unit `f`. -/
def gcol (f : Fin 2816) : Fin 5632 := ⟨f.val, by omega⟩

/-- The column of the second projection that feeds hidden unit `f`. -/
def ucol (f : Fin 2816) : Fin 5632 := ⟨2816 + f.val, by omega⟩

/-- Hidden unit `f` of row `r`. -/
def Args.hidden (r : Fin 32768) (f : Fin 2816) : EReal :=
  A.conv r (gcol f) * Ideal.logistic (A.conv r (gcol f)) * A.conv r (ucol f)

/-- Hidden unit `f` of tile `q`. -/
def unit (q : ℕ) (f : Fin 256) : Fin 2816 := ⟨(256 * q + f.val) % 2816, Nat.mod_lt _ (by decide)⟩

/-- What tile `q` of the hidden units adds to row `r`. -/
def Args.part (r : Fin 32768) (e : Fin 1024) (q : ℕ) : EReal := ∑ f, A.hidden r (unit q f) * A.wd (unit q f) e

/-- The row's result. -/
def Args.out (r : Fin 32768) (e : Fin 1024) : EReal :=
  normed (fun j => Ideal.ofBits .f32 0x3FB504F3#32 * A.x r j + ∑ f, A.hidden r f * A.wd f j) A.g A.b e

/-- The eleven tiles of hidden units are all of them. -/
theorem Args.sum_parts (r : Fin 32768) (e : Fin 1024) : ∑ q ∈ Finset.range 11, A.part r e q = ∑ f, A.hidden r f * A.wd f e := by
  rw [Finset.sum_range, ← (finProdFinEquiv (m := 11) (n := 256)).sum_comp (fun f : Fin (11 * 256) => A.hidden r f * A.wd f e), Fintype.sum_prod_type]
  refine Finset.sum_congr rfl fun q _ => Finset.sum_congr rfl fun f _ => ?_
  have h : unit q.val f = finProdFinEquiv (q, f) := Fin.ext (by
    show (256 * q.val + f.val) % 2816 = f.val + 256 * q.val
    omega)
  rw [h]

end Cert.FfnRows

end
-- ==== Proof.FfnRun.lean ====
/-
  What the feed-forward kernel's result holds: by induction over the grid's points, the kept tile is the rows, the sum holds
  the tiles of hidden units so far, and the kept last rows are those of the newest tile at each group of columns.
-/
module

public import proofs.«01_k».proof.Proof.FfnConv
public import proofs.«01_k».proof.Proof.FfnRows
public import proofs.«01_k».proof.Proof.Gen.FfnIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.FfnRun

open Idealize.ShloMosaic Idealize.ShloMosaic.TcCoe Idealize.SL.Sem
open Cert.LayerNorm Cert.FfnConv Cert.FfnRows
open Cert.FfnIdeal Cert.FfnIdeal.Gen Cert.FfnIdeal.Value

/-- The rows a load takes at the point's group of columns, of the first projection. -/
theorem off1 (i : grid0.Coords) : k0_off1 i = ![(i 1).val, 0, 0] := by
  have h : ∀ n < 11, (Scalar.indexCast (BitVec.ofNat 32 n)).toNat = n := by decide
  unfold k0_off1
  dsimp only
  rw [h _ (i 1).isLt]

/-- The rows a load takes at the point's group of columns, of the second projection. -/
theorem off2 (i : grid0.Coords) : k0_off2 i = ![(i 1).val, 0, 256] := by
  have h : ∀ n < 11, (Scalar.indexCast (BitVec.ofNat 32 n)).toNat = n := by decide
  unfold k0_off2
  dsimp only
  rw [h _ (i 1).isLt]

/-- The point's group of columns. -/
def grp (i : grid0.Coords) : Fin 11 := i 1

/-- A load of the kept rows at the first projection's columns. -/
theorem ld1 (X : Vec Ideal S11x8x512 .f32) (i : grid0.Coords) (k : Fin 8) (e : Fin 256) :
    View.ld X (Rect.unit (k0_off1 i) ![1, 8, 256] (k0_off1_inb i)) (ix3 0 k e) = X (ix3 (grp i) k ⟨e.val, by omega⟩) := by
  refine congrArg X (funext fun a => Fin.ext ?_)
  have h := congrFun (off1 i) a
  match a with
  | ⟨0, _⟩ => exact h
  | ⟨1, _⟩ => refine (congrArg (· + 1 * k.val) h).trans ?_; show 0 + 1 * k.val = k.val; omega
  | ⟨2, _⟩ => refine (congrArg (· + 1 * e.val) h).trans ?_; show 0 + 1 * e.val = e.val; omega

/-- A load of the kept rows at the second projection's columns. -/
theorem ld2 (X : Vec Ideal S11x8x512 .f32) (i : grid0.Coords) (k : Fin 8) (e : Fin 256) :
    View.ld X (Rect.unit (k0_off2 i) ![1, 8, 256] (k0_off2_inb i)) (ix3 0 k e) = X (ix3 (grp i) k ⟨256 + e.val, by omega⟩) := by
  refine congrArg X (funext fun a => Fin.ext ?_)
  have h := congrFun (off2 i) a
  match a with
  | ⟨0, _⟩ => exact h
  | ⟨1, _⟩ => refine (congrArg (· + 1 * k.val) h).trans ?_; show 0 + 1 * k.val = k.val; omega
  | ⟨2, _⟩ => refine (congrArg (· + 1 * e.val) h).trans ?_; show 256 + 1 * e.val = 256 + e.val; omega

/-- The kept rows after a point: its own group of columns new, the others as before. -/
def kept' (i : grid0.Coords) (X : Vec Ideal S11x8x512 .f32) (u v : FVec Ideal S512x256 .f32) (j : Fin 11) (k : Fin 8) (e : Fin 512) : EReal :=
  if j = grp i then (if h : e.val < 256 then u (ix2 ⟨504 + k.val, by omega⟩ ⟨e.val, h⟩) else v (ix2 ⟨504 + k.val, by omega⟩ ⟨e.val - 256, by omega⟩))
  else X (ix3 j k e)

section Writes

variable {κ : Kind} {sp : Space} (v : View sig κ sp S11x8x512 .f32) (f : v.ty.Contents (Elt Ideal))

/-- A block of kept rows written last, at an index it holds. -/
theorem write_in {off : Fin S11x8x512.rank → ℕ} (a : ℕ) (b : ℕ) (h : off = ![a, 0, b]) (inb : ∀ x, off x + ![1, 8, 256] x ≤ S11x8x512.size x)
    (w : FVec Ideal S1x8x256 .f32) (L : List (View.Piece (Elt Ideal) S11x8x512 .f32)) (j : Fin 11) (k : Fin 8) (e : Fin 512) (d : Fin 256)
    (hj : j.val = a) (he : e.val = b + d.val) :
    v.read (Elt Ideal) (v.writes (Elt Ideal) f ((⟨Rect.unit off ![1, 8, 256] inb, w⟩ : View.Piece (Elt Ideal) S11x8x512 .f32) :: L)) (ix3 j k e) = w (ix3 0 k d) := by
  refine View.read_writes_cons_unit_of_mem v f inb w L (ix3 j k e) (ix3 0 k d) h fun x => ?_
  match x with
  | ⟨0, _⟩ => exact hj
  | ⟨1, _⟩ => show k.val = 0 + k.val; omega
  | ⟨2, _⟩ => exact he

/-- A block of kept rows written last, at an index it does not hold. -/
theorem write_off {off : Fin S11x8x512.rank → ℕ} (a : ℕ) (b : ℕ) (h : off = ![a, 0, b]) (inb : ∀ x, off x + ![1, 8, 256] x ≤ S11x8x512.size x)
    (w : FVec Ideal S1x8x256 .f32) (L : List (View.Piece (Elt Ideal) S11x8x512 .f32)) (j : Fin 11) (k : Fin 8) (e : Fin 512)
    (hn : j.val ≠ a ∨ e.val < b ∨ b + 256 ≤ e.val) :
    v.read (Elt Ideal) (v.writes (Elt Ideal) f ((⟨Rect.unit off ![1, 8, 256] inb, w⟩ : View.Piece (Elt Ideal) S11x8x512 .f32) :: L)) (ix3 j k e)
      = v.read (Elt Ideal) (v.writes (Elt Ideal) f L) (ix3 j k e) := by
  rcases hn with hn | hn
  · refine View.read_writes_cons_unit_of_not_mem v f inb w L (ix3 j k e) h ⟨0, by decide⟩ ?_
    show j.val < a ∨ a + 1 ≤ j.val
    omega
  · refine View.read_writes_cons_unit_of_not_mem v f inb w L (ix3 j k e) h ⟨2, by decide⟩ ?_
    show e.val < b ∨ b + 256 ≤ e.val
    exact hn

end Writes

section Carry

variable {κ : Kind} {sp : Space} (v : View sig κ sp S11x8x512 .f32)

/-- The kept rows after a point that finds them filled. -/
theorem carry_over (i : grid0.Coords) (f : v.ty.Contents (Elt Ideal)) (X : Vec Ideal S11x8x512 .f32)
    (hf : v.read (Elt Ideal) f = X) (p q : FVec Ideal S512x256 .f32) (j : Fin 11) (k : Fin 8) (e : Fin 512) :
    v.read (Elt Ideal) (v.writes (Elt Ideal) f
      [⟨Rect.unit (k0_off2 i) ![1, 8, 256] (k0_off2_inb i), k0_pay11 q⟩, ⟨Rect.unit (k0_off1 i) ![1, 8, 256] (k0_off1_inb i), k0_pay10 p⟩]) (ix3 j k e)
      = kept' i X p q j k e := by
  unfold kept'
  by_cases hj : j = grp i
  · rw [if_pos hj]
    by_cases he : e.val < 256
    · rw [dif_pos he]
      refine (write_off v f _ _ (off2 i) _ _ _ j k e (Or.inr (Or.inl he))).trans ?_
      exact (write_in v f _ _ (off1 i) _ _ _ j k e ⟨e.val, he⟩ (congrArg Fin.val hj) (Nat.zero_add _).symm).trans (last_g p k ⟨e.val, he⟩)
    · rw [dif_neg he]
      refine (write_in v f _ _ (off2 i) _ _ _ j k e ⟨e.val - 256, by omega⟩ (congrArg Fin.val hj) ?_).trans (last_u q k ⟨e.val - 256, by omega⟩)
      show e.val = 256 + (e.val - 256)
      omega
  · rw [if_neg hj]
    have hj' : j.val ≠ (i 1).val := fun h => hj (Fin.ext h)
    refine (write_off v f _ _ (off2 i) _ _ _ j k e (Or.inl hj')).trans ?_
    refine (write_off v f _ _ (off1 i) _ _ _ j k e (Or.inl hj')).trans ?_
    exact congrFun hf _

/-- The rectangle of every kept row holds every index. -/
theorem mem_full (y : S11x8x512.Idx) : y ∈ (Rect.unit ![0, 0, 0] ![11, 8, 512] inb_S11x8x512_S11x8x512_0_0_0 : Rect S11x8x512).set := by
  rw [Rect.mem_set_unit]
  intro a
  match a with
  | ⟨0, h⟩ => exact ⟨Nat.zero_le _, lt_of_lt_of_eq (y ⟨0, h⟩).isLt (Nat.zero_add _).symm⟩
  | ⟨1, h⟩ => exact ⟨Nat.zero_le _, lt_of_lt_of_eq (y ⟨1, h⟩).isLt (Nat.zero_add _).symm⟩
  | ⟨2, h⟩ => exact ⟨Nat.zero_le _, lt_of_lt_of_eq (y ⟨2, h⟩).isLt (Nat.zero_add _).symm⟩

/-- A write of every kept row is what is read afterwards. -/
theorem read_full (f : v.ty.Contents (Elt Ideal)) (X : Vec Ideal S11x8x512 .f32) :
    v.read (Elt Ideal) (v.writes (Elt Ideal) f [⟨Rect.unit ![0, 0, 0] ![11, 8, 512] inb_S11x8x512_S11x8x512_0_0_0, X⟩]) = X := by
  funext y
  refine View.read_writes_cons_unit_of_mem v f _ X [] y y rfl fun a => ?_
  match a with
  | ⟨0, _⟩ => exact (Nat.zero_add _).symm
  | ⟨1, _⟩ => exact (Nat.zero_add _).symm
  | ⟨2, _⟩ => exact (Nat.zero_add _).symm

/-- What three writes leave, the last of them over what the first leaves. -/
theorem canon_three (f : v.ty.Contents (Elt Ideal)) (p q r : View.Piece (Elt Ideal) S11x8x512 .f32) (y : S11x8x512.Idx) (hy : y ∈ r.1.set) :
    v.read (Elt Ideal) (v.writes (Elt Ideal) (v.writes (Elt Ideal) f [r]) [p, q]) y = View.canon [p, q, r] y :=
  View.read_writes_apply_eq_canon v f y [p, q, r] ⟨r, List.mem_cons_of_mem _ (List.mem_cons_of_mem _ List.mem_cons_self), hy⟩

/-- The kept rows after the first point, which clears them. -/
theorem carry_new (f : v.ty.Contents (Elt Ideal)) (i : grid0.Coords) (X : Vec Ideal S11x8x512 .f32) (p q : FVec Ideal S512x256 .f32) (j : Fin 11) (k : Fin 8) (e : Fin 512) :
    View.canon [⟨Rect.unit (k0_off2 i) ![1, 8, 256] (k0_off2_inb i), k0_pay11 q⟩, ⟨Rect.unit (k0_off1 i) ![1, 8, 256] (k0_off1_inb i), k0_pay10 p⟩,
      (⟨Rect.unit ![0, 0, 0] ![11, 8, 512] inb_S11x8x512_S11x8x512_0_0_0, X⟩ : View.Piece (Elt Ideal) S11x8x512 .f32)] (ix3 j k e) = kept' i X p q j k e := by
  refine (canon_three v f _ _ _ (ix3 j k e) (mem_full _)).symm.trans ?_
  exact carry_over v i _ X (read_full v f X) p q j k e

end Carry

variable (m : (ℓ : Loc nD τ sig) → Buf (Elt Ideal) ℓ) (c : Dev nD)

/-- The call's arguments. -/
def args : Args where
  x r k := (m ((c : Thread nD τ).loc main_arg0) : Vec Ideal S32768x1024 .f32) (ix2 r k)
  wup k n := (m ((c : Thread nD τ).loc main_arg1) : Vec Ideal S1024x5632 .f32) (ix2 k n)
  cv k n := (m ((c : Thread nD τ).loc main_arg2) : Vec Ideal S3x5632 .f32) (ix2 k n)
  wd f e := (m ((c : Thread nD τ).loc main_arg3) : Vec Ideal S2816x1024 .f32) (ix2 f e)
  g e := (m ((c : Thread nD τ).loc main_arg4) : Vec Ideal S1024 .f32) (ix1 e)
  b e := (m ((c : Thread nD τ).loc main_arg5) : Vec Ideal S1024 .f32) (ix1 e)

/-- Which block of its array each operand's block is, at each point. -/
theorem win_index : ∀ t : Fin cfg0.N, win0_0.index t = ![t.val / 11, 0] ∧ win0_1.index t = ![0, t.val % 11] ∧ win0_2.index t = ![0, 11 + t.val % 11]
    ∧ win0_3.index t = ![0, t.val % 11] ∧ win0_4.index t = ![0, 11 + t.val % 11] ∧ win0_5.index t = ![t.val % 11, 0] ∧ win0_6.index t = ![0, 0]
    ∧ win0_7.index t = ![0, 0] ∧ win0_8.index t = ![t.val / 11, 0] :=
  (by decide +kernel : ∀ t : Fin grid0.N, _)

/-- A point's coordinates. -/
theorem coords_eq : ∀ t : Fin cfg0.N, (grid0.coords t 0).val = t.val / 11 ∧ (grid0.coords t 1).val = t.val % 11 :=
  (by decide +kernel : ∀ t : Fin grid0.N, _)

/-- The array row that tile row `l` of point `t` is. -/
def brow (t : Fin cfg0.N) (l : Fin 512) : Fin 32768 := ⟨512 * (t.val / 11) + l.val, by have := lt_of_lt_of_eq t.isLt (show cfg0.N = 704 from N_0); omega⟩

/-- The tile of rows. -/
theorem blk0 (t : Fin cfg0.N) (l : Fin 512) (k : Fin 1024) : (iblk m c 0 t : Vec Ideal S512x1024 .f32) (ix2 l k) = (args m c).x (brow t l) k := by
  have ht := t.isLt
  obtain ⟨e0, e1, e2, e3, e4, e5, e6, e7, -⟩ := win_index t
  blk_ext [iblk, V, e0, args]
  show t.val / 11 * 512 + l.val = 512 * (t.val / 11) + l.val; omega

/-- The first projection's weights at the point's columns. -/
theorem blk1 (t : Fin cfg0.N) (k : Fin 1024) (f : Fin 256) : (iblk m c 1 t : Vec Ideal S1024x256 .bf16) (ix2 k f) = (args m c).wup k (gcol (unit (t.val % 11) f)) := by
  have ht := t.isLt
  obtain ⟨e0, e1, e2, e3, e4, e5, e6, e7, -⟩ := win_index t
  blk_ext [iblk, V, e1, args]
  show t.val % 11 * 256 + f.val = (256 * (t.val % 11) + f.val) % 2816; omega

/-- The second projection's weights at the point's columns. -/
theorem blk2 (t : Fin cfg0.N) (k : Fin 1024) (f : Fin 256) : (iblk m c 2 t : Vec Ideal S1024x256 .bf16) (ix2 k f) = (args m c).wup k (ucol (unit (t.val % 11) f)) := by
  have ht := t.isLt
  obtain ⟨e0, e1, e2, e3, e4, e5, e6, e7, -⟩ := win_index t
  blk_ext [iblk, V, e2, args]
  show (11 + t.val % 11) * 256 + f.val = 2816 + (256 * (t.val % 11) + f.val) % 2816; omega

/-- The first convolution's taps at the point's columns. -/
theorem blk3 (t : Fin cfg0.N) (k : Fin 3) (f : Fin 256) : (iblk m c 3 t : Vec Ideal S3x256 .f32) (ix2 k f) = (args m c).cv k (gcol (unit (t.val % 11) f)) := by
  have ht := t.isLt
  obtain ⟨e0, e1, e2, e3, e4, e5, e6, e7, -⟩ := win_index t
  blk_ext [iblk, V, e3, args]
  show t.val % 11 * 256 + f.val = (256 * (t.val % 11) + f.val) % 2816; omega

/-- The second convolution's taps at the point's columns. -/
theorem blk4 (t : Fin cfg0.N) (k : Fin 3) (f : Fin 256) : (iblk m c 4 t : Vec Ideal S3x256 .f32) (ix2 k f) = (args m c).cv k (ucol (unit (t.val % 11) f)) := by
  have ht := t.isLt
  obtain ⟨e0, e1, e2, e3, e4, e5, e6, e7, -⟩ := win_index t
  blk_ext [iblk, V, e4, args]
  show (11 + t.val % 11) * 256 + f.val = 2816 + (256 * (t.val % 11) + f.val) % 2816; omega

/-- The down projection's rows at the point's hidden units. -/
theorem blk5 (t : Fin cfg0.N) (f : Fin 256) (e : Fin 1024) : (iblk m c 5 t : Vec Ideal S256x1024 .bf16) (ix2 f e) = (args m c).wd (unit (t.val % 11) f) e := by
  have ht := t.isLt
  obtain ⟨e0, e1, e2, e3, e4, e5, e6, e7, -⟩ := win_index t
  blk_ext [iblk, V, e5, args]
  show t.val % 11 * 256 + f.val = (256 * (t.val % 11) + f.val) % 2816; omega

/-- The gain the host lays out as one row. -/
theorem gain_row (j : Fin 1024) : (V m c main_v2 : Vec Ideal S1x1024 .f32) (ix2 0 j) = (args m c).g j := by
  unfold_abbrev_sides
  after_results
  pointwise

/-- The bias the host lays out as one row. -/
theorem bias_row (j : Fin 1024) : (V m c main_v3 : Vec Ideal S1x1024 .f32) (ix2 0 j) = (args m c).b j := by
  unfold_abbrev_sides
  after_results
  pointwise

/-- The gain, at every point. -/
theorem blk6 (t : Fin cfg0.N) (j : Fin 1024) : (iblk m c 6 t : Vec Ideal S1x1024 .f32) (ix2 0 j) = (args m c).g j := by
  have ht := t.isLt
  obtain ⟨e0, e1, e2, e3, e4, e5, e6, e7, -⟩ := win_index t
  unfold iblk; rw [View.read_apply]
  show V m c main_v2 _ = _
  refine Eq.trans (congrArg (V m c main_v2) ?_) (gain_row m c j)
  blk_ext [e6]

/-- The bias, at every point. -/
theorem blk7 (t : Fin cfg0.N) (j : Fin 1024) : (iblk m c 7 t : Vec Ideal S1x1024 .f32) (ix2 0 j) = (args m c).b j := by
  have ht := t.isLt
  obtain ⟨e0, e1, e2, e3, e4, e5, e6, e7, -⟩ := win_index t
  unfold iblk; rw [View.read_apply]
  show V m c main_v3 _ = _
  refine Eq.trans (congrArg (V m c main_v3) ?_) (bias_row m c j)
  blk_ext [e7]

/-- What the kept rows hold: of the newest tile of rows at group `j` of columns, the last eight rows of the projection. -/
def tail (A : Args) (i : ℕ) (j : Fin 11) (k : Fin 8) (e : Fin 512) : EReal :=
  A.proj ⟨(512 * i + 504 + k.val) % 32768, Nat.mod_lt _ (by decide)⟩
    (if h : e.val < 256 then gcol (unit j.val ⟨e.val, h⟩) else ucol (unit j.val ⟨e.val - 256, by omega⟩))

/-- The rows before the tile's rows: within the tile its own, before it the kept ones of the tile before, none at a
sequence's start. -/
theorem back_eq (A : Args) (t : Fin cfg0.N) (n : Fin 5632) (k : ℕ) (hk : k = 1 ∨ k = 2) (l : Fin 512) (p : Fin 8 → EReal)
    (hp : ∀ d : Fin 8, p d = if t.val / 11 % 16 = 0 then 0 else A.proj ⟨(512 * (t.val / 11 - 1) + 504 + d.val) % 32768, Nat.mod_lt _ (by decide)⟩ n) :
    back (fun i => A.proj (brow t i) n) p k l = A.before k (brow t l) n := by
  have ht := lt_of_lt_of_eq t.isLt (show cfg0.N = 704 from N_0)
  have hl := l.isLt
  unfold back Args.before
  have hb : (brow t l).val = 512 * (t.val / 11) + l.val := rfl
  by_cases h : l.val < k
  · rw [dif_pos h, hp]
    by_cases h0 : t.val / 11 % 16 = 0
    · rw [if_pos h0, if_pos (by rw [hb]; omega)]
    · rw [if_neg h0, if_neg (by rw [hb]; omega)]
      refine congrArg (A.proj · n) (Fin.ext ?_)
      show (512 * (t.val / 11 - 1) + 504 + (8 + l.val - k) % 8) % 32768 = 512 * (t.val / 11) + l.val - k
      omega
  · rw [dif_neg h, if_neg (by rw [hb]; omega)]
    refine congrArg (A.proj · n) (Fin.ext ?_)
    show 512 * (t.val / 11) + (l.val - k) = 512 * (t.val / 11) + l.val - k
    omega

/-- The kernel's word for whether the point's tile starts a sequence. -/
theorem word_eq : ∀ n < 64, Scalar.cmpi .eq (Scalar.select (Scalar.andi (Scalar.xori (Scalar.cmpi .slt (Scalar.remsi (BitVec.ofNat 32 n) 16#32) 0#32) 0#1)
    (Scalar.cmpi .ne (Scalar.remsi (BitVec.ofNat 32 n) 16#32) 0#32)) (Scalar.addi (Scalar.remsi (BitVec.ofNat 32 n) 16#32) 16#32) (Scalar.remsi (BitVec.ofNat 32 n) 16#32)) 0#32
      = if n % 16 = 0 then 1#1 else 0#1 := by decide +kernel

end Cert.FfnRun

end
-- ==== Proof.FfnPoints.lean ====
/-
  What the feed-forward kernel's body leaves at each kind of grid point, of what it finds.
-/
module

public import proofs.«01_k».proof.Proof.FfnRun

@[expose] public section

set_option maxRecDepth 16384

noncomputable section

namespace Cert.FfnRun

open Idealize.ShloMosaic Idealize.ShloMosaic.TcCoe Idealize.SL.Sem
open Cert.LayerNorm Cert.FfnConv Cert.FfnRows
open Cert.FfnIdeal Cert.FfnIdeal.Gen Cert.FfnIdeal.Value

variable (m : (ℓ : Loc nD τ sig) → Buf (Elt Ideal) ℓ) (c : Dev nD)

/-- The kernel's word for whether tile `n` starts a sequence. -/
def startWord (n : ℕ) : BitVec 1 :=
  Scalar.cmpi .eq (Scalar.select (Scalar.andi (Scalar.xori (Scalar.cmpi .slt (Scalar.remsi (BitVec.ofNat 32 n) 16#32) 0#32) 0#1)
    (Scalar.cmpi .ne (Scalar.remsi (BitVec.ofNat 32 n) 16#32) 0#32)) (Scalar.addi (Scalar.remsi (BitVec.ofNat 32 n) 16#32) 16#32) (Scalar.remsi (BitVec.ofNat 32 n) 16#32)) 0#32

/-- The kept rows at the point's group of columns, of the first projection. -/
def at1 (i : grid0.Coords) (kr : FVec Ideal S11x8x512 .f32) : FVec Ideal S1x8x256 .f32 :=
  View.ld (Val := Elt Ideal) (e' := .f32) kr (Rect.unit (k0_off1 i) ![1, 8, 256] (k0_off1_inb i))

/-- The kept rows at the point's group of columns, of the second projection. -/
def at2 (i : grid0.Coords) (kr : FVec Ideal S11x8x512 .f32) : FVec Ideal S1x8x256 .f32 :=
  View.ld (Val := Elt Ideal) (e' := .f32) kr (Rect.unit (k0_off2 i) ![1, 8, 256] (k0_off2_inb i))

/-- The sum after a point that finds rows `xb`, the sum `acc` and the kept rows `kr`. -/
def accOf (t : Fin cfg0.N) (xb : FVec Ideal S512x1024 .bf16) (acc : FVec Ideal S512x1024 .f32) (kr : FVec Ideal S11x8x512 .f32) : FVec Ideal S512x1024 .f32 :=
  k0_pay1 (k0_pay13 (k0_pay7 xb (iblk m c 2 t)) (k0_pay9 (startWord (grid0.coords t 0).val) (at2 (grid0.coords t) kr))
    (k0_pay12 (k0_pay6 xb (iblk m c 1 t)) (k0_pay8 (grid0.coords t) (at1 (grid0.coords t) kr)) (iblk m c 3 t))
    (iblk m c 4 t) acc (iblk m c 5 t))

/-- The kept rows after a point that finds rows `xb` and the kept rows `kr`. -/
def keepOf (t : Fin cfg0.N) (xb : FVec Ideal S512x1024 .bf16) (kr : FVec Ideal S11x8x512 .f32) : Fin 11 → Fin 8 → Fin 512 → EReal :=
  kept' (grid0.coords t) kr (k0_pay6 xb (iblk m c 1 t)) (k0_pay7 xb (iblk m c 2 t))

/-- The rows the grid's first point keeps. -/
theorem xb_A (t : Fin cfg0.N) (h0 : t.val % 704 = 0) (h1 : t.val % 11 = 0) (h2 : ¬t.val % 11 = 10) :
    (outsAt0 m c t.val t.isLt).2.1 = k0_pay4 (iblk m c 0 t) := by
  rw [outsAt0_A m c t h0 h1 h2]
  frame_out

/-- The sum the grid's first point leaves. -/
theorem acc_A (t : Fin cfg0.N) (h0 : t.val % 704 = 0) (h1 : t.val % 11 = 0) (h2 : ¬t.val % 11 = 10) :
    (outsAt0 m c t.val t.isLt).2.2.1 = accOf m c t (k0_pay4 (iblk m c 0 t)) k0_pay5 k0_pay3 := by
  rw [outsAt0_A m c t h0 h1 h2]
  frame_out
  rfl

/-- The rows the grid's first point keeps for the tiles after. -/
theorem keep_A (t : Fin cfg0.N) (h0 : t.val % 704 = 0) (h1 : t.val % 11 = 0) (h2 : ¬t.val % 11 = 10) (j : Fin 11) (k : Fin 8) (e : Fin 512) :
    (outsAt0 m c t.val t.isLt).2.2.2 (ix3 j k e) = keepOf m c t (k0_pay4 (iblk m c 0 t)) k0_pay3 j k e := by
  have H : (outsAt0 m c t.val t.isLt).2.2.2 = View.canon [⟨Rect.unit (k0_off2 (grid0.coords t)) ![1, 8, 256] (k0_off2_inb _), k0_pay11 (k0_pay7 (k0_pay4 (iblk m c 0 t)) (iblk m c 2 t))⟩,
      ⟨Rect.unit (k0_off1 (grid0.coords t)) ![1, 8, 256] (k0_off1_inb _), k0_pay10 (k0_pay6 (k0_pay4 (iblk m c 0 t)) (iblk m c 1 t))⟩,
      (⟨Rect.unit ![0, 0, 0] ![11, 8, 512] inb_S11x8x512_S11x8x512_0_0_0, k0_pay3 (F := Ideal)⟩ : View.Piece (Elt Ideal) S11x8x512 .f32)] := by
    rw [outsAt0_A m c t h0 h1 h2]
    frame_out
  rw [H]
  exact carry_new (View.whole cc0_scratch2) (View.whole cc0_scratch2).junk (grid0.coords t) (k0_pay3 (F := Ideal)) _ _ j k e

/-- The rows a middle point keeps. -/
theorem xb_B (t : Fin cfg0.N) (h0 : ¬t.val % 704 = 0) (h1 : ¬t.val % 11 = 0) (h2 : ¬t.val % 11 = 10) :
    (outsAt0 m c t.val t.isLt).2.1 = (outsAt0 m c (t.val - 1) (by omega)).2.1 := by
  rw [outsAt0_B m c t h0 h1 h2]
  generalize outsAt0 m c (t.val - 1) _ = st
  rfl

/-- The sum a middle point leaves. -/
theorem acc_B (t : Fin cfg0.N) (h0 : ¬t.val % 704 = 0) (h1 : ¬t.val % 11 = 0) (h2 : ¬t.val % 11 = 10) :
    (outsAt0 m c t.val t.isLt).2.2.1 = accOf m c t (outsAt0 m c (t.val - 1) (by omega)).2.1 (outsAt0 m c (t.val - 1) (by omega)).2.2.1 (outsAt0 m c (t.val - 1) (by omega)).2.2.2 := by
  rw [outsAt0_B m c t h0 h1 h2]
  generalize outsAt0 m c (t.val - 1) _ = st
  frame_out
  simp only [read_unread_whole]
  rfl

/-- The rows a middle point keeps for the tiles after. -/
theorem keep_B (t : Fin cfg0.N) (h0 : ¬t.val % 704 = 0) (h1 : ¬t.val % 11 = 0) (h2 : ¬t.val % 11 = 10) (j : Fin 11) (k : Fin 8) (e : Fin 512) :
    (outsAt0 m c t.val t.isLt).2.2.2 (ix3 j k e) = keepOf m c t (outsAt0 m c (t.val - 1) (by omega)).2.1 (outsAt0 m c (t.val - 1) (by omega)).2.2.2 j k e := by
  rw [outsAt0_B m c t h0 h1 h2]
  generalize outsAt0 m c (t.val - 1) _ = st
  frame_out
  simp only [read_unread_whole]
  exact carry_over (View.whole cc0_scratch2) (grid0.coords t) _ st.2.2.2 (read_unread_whole _ _ _) _ _ j k e

/-- The rows a tile's last point keeps. -/
theorem xb_C (t : Fin cfg0.N) (h0 : ¬t.val % 704 = 0) (h1 : ¬t.val % 11 = 0) (h2 : t.val % 11 = 10) :
    (outsAt0 m c t.val t.isLt).2.1 = (outsAt0 m c (t.val - 1) (by omega)).2.1 := by
  rw [outsAt0_C m c t h0 h1 h2]
  generalize outsAt0 m c (t.val - 1) _ = st
  rfl

/-- The sum a tile's last point leaves. -/
theorem acc_C (t : Fin cfg0.N) (h0 : ¬t.val % 704 = 0) (h1 : ¬t.val % 11 = 0) (h2 : t.val % 11 = 10) :
    (outsAt0 m c t.val t.isLt).2.2.1 = accOf m c t (outsAt0 m c (t.val - 1) (by omega)).2.1 (outsAt0 m c (t.val - 1) (by omega)).2.2.1 (outsAt0 m c (t.val - 1) (by omega)).2.2.2 := by
  rw [outsAt0_C m c t h0 h1 h2]
  generalize outsAt0 m c (t.val - 1) _ = st
  frame_out
  simp only [read_unread_whole]
  rfl

/-- The rows a tile's last point keeps for the tiles after. -/
theorem keep_C (t : Fin cfg0.N) (h0 : ¬t.val % 704 = 0) (h1 : ¬t.val % 11 = 0) (h2 : t.val % 11 = 10) (j : Fin 11) (k : Fin 8) (e : Fin 512) :
    (outsAt0 m c t.val t.isLt).2.2.2 (ix3 j k e) = keepOf m c t (outsAt0 m c (t.val - 1) (by omega)).2.1 (outsAt0 m c (t.val - 1) (by omega)).2.2.2 j k e := by
  rw [outsAt0_C m c t h0 h1 h2]
  generalize outsAt0 m c (t.val - 1) _ = st
  frame_out
  simp only [read_unread_whole]
  exact carry_over (View.whole cc0_scratch2) (grid0.coords t) _ st.2.2.2 (read_unread_whole _ _ _) _ _ j k e

/-- The result a tile's last point leaves. -/
theorem out_C (t : Fin cfg0.N) (h0 : ¬t.val % 704 = 0) (h1 : ¬t.val % 11 = 0) (h2 : t.val % 11 = 10) :
    (outsAt0 m c t.val t.isLt).1 = k0_pay2 (iblk m c 0 t) (accOf m c t (outsAt0 m c (t.val - 1) (by omega)).2.1 (outsAt0 m c (t.val - 1) (by omega)).2.2.1 (outsAt0 m c (t.val - 1) (by omega)).2.2.2)
      (iblk m c 6 t) (iblk m c 7 t) := by
  rw [outsAt0_C m c t h0 h1 h2]
  generalize outsAt0 m c (t.val - 1) _ = st
  frame_out
  simp only [read_unread_whole]
  rfl

/-- The rows a tile's first point keeps. -/
theorem xb_D (t : Fin cfg0.N) (h0 : ¬t.val % 704 = 0) (h1 : t.val % 11 = 0) (h2 : ¬t.val % 11 = 10) :
    (outsAt0 m c t.val t.isLt).2.1 = k0_pay4 (iblk m c 0 t) := by
  rw [outsAt0_D m c t h0 h1 h2]
  generalize outsAt0 m c (t.val - 1) _ = st
  frame_out

/-- The sum a tile's first point leaves. -/
theorem acc_D (t : Fin cfg0.N) (h0 : ¬t.val % 704 = 0) (h1 : t.val % 11 = 0) (h2 : ¬t.val % 11 = 10) :
    (outsAt0 m c t.val t.isLt).2.2.1 = accOf m c t (k0_pay4 (iblk m c 0 t)) k0_pay5 (outsAt0 m c (t.val - 1) (by omega)).2.2.2 := by
  rw [outsAt0_D m c t h0 h1 h2]
  generalize outsAt0 m c (t.val - 1) _ = st
  frame_out
  simp only [read_unread_whole]
  rfl

/-- The rows a tile's first point keeps for the tiles after. -/
theorem keep_D (t : Fin cfg0.N) (h0 : ¬t.val % 704 = 0) (h1 : t.val % 11 = 0) (h2 : ¬t.val % 11 = 10) (j : Fin 11) (k : Fin 8) (e : Fin 512) :
    (outsAt0 m c t.val t.isLt).2.2.2 (ix3 j k e) = keepOf m c t (k0_pay4 (iblk m c 0 t)) (outsAt0 m c (t.val - 1) (by omega)).2.2.2 j k e := by
  rw [outsAt0_D m c t h0 h1 h2]
  generalize outsAt0 m c (t.val - 1) _ = st
  frame_out
  exact carry_over (View.whole cc0_scratch2) (grid0.coords t) _ st.2.2.2 (read_unread_whole _ _ _) _ _ j k e

end Cert.FfnRun

end
-- ==== Proof.FfnSteps.lean ====
/-
  What a grid point of the feed-forward kernel adds to the sum and keeps, of rows that are the array's: the induction over the
  points, and the result.
-/
module

public import proofs.«01_k».proof.Proof.FfnPoints

@[expose] public section

set_option maxRecDepth 16384

noncomputable section

namespace Cert.FfnRun

open Idealize.ShloMosaic Idealize.ShloMosaic.TcCoe Idealize.SL.Sem
open Cert.LayerNorm Cert.FfnConv Cert.FfnRows
open Cert.FfnIdeal Cert.FfnIdeal.Gen Cert.FfnIdeal.Value

variable (m : (ℓ : Loc nD τ sig) → Buf (Elt Ideal) ℓ) (c : Dev nD)

/-- The point's group of columns, by its number. -/
theorem grp_val (t : Fin cfg0.N) : (grp (grid0.coords t)).val = t.val % 11 := (coords_eq t).2

section Point

variable (t : Fin cfg0.N) (xb : FVec Ideal S512x1024 .bf16) (kr : FVec Ideal S11x8x512 .f32)
  (hx : ∀ l k, xb (ix2 l k) = (args m c).x (brow t l) k)

include hx

/-- The first projection at the point's columns. -/
theorem proj1 (l : Fin 512) (f : Fin 256) : k0_pay6 xb (iblk m c 1 t) (ix2 l f) = (args m c).proj (brow t l) (gcol (unit (t.val % 11) f)) := by
  rw [proj_g]
  exact Finset.sum_congr rfl fun k _ => by rw [hx, blk1]

/-- The second projection at the point's columns. -/
theorem proj2 (l : Fin 512) (f : Fin 256) : k0_pay7 xb (iblk m c 2 t) (ix2 l f) = (args m c).proj (brow t l) (ucol (unit (t.val % 11) f)) := by
  rw [proj_u]
  exact Finset.sum_congr rfl fun k _ => by rw [hx, blk2]

/-- The kept rows after the point: its own group new, the others as before. -/
theorem keep_val (j : Fin 11) (k : Fin 8) (e : Fin 512) :
    keepOf m c t xb kr j k e = if j.val = t.val % 11 then tail (args m c) (t.val / 11) j k e else kr (ix3 j k e) := by
  have ht := lt_of_lt_of_eq t.isLt (show cfg0.N = 704 from N_0)
  have hg := grp_val t
  have hr : brow t ⟨504 + k.val, by omega⟩ = ⟨(512 * (t.val / 11) + 504 + k.val) % 32768, Nat.mod_lt _ (by decide)⟩ := Fin.ext (by
    show 512 * (t.val / 11) + (504 + k.val) = (512 * (t.val / 11) + 504 + k.val) % 32768
    omega)
  unfold keepOf kept' tail
  by_cases hj : j = grp (grid0.coords t)
  · have hj' : j.val = t.val % 11 := by rw [hj, hg]
    rw [if_pos hj, if_pos hj', hj']
    by_cases he : e.val < 256
    · rw [dif_pos he, dif_pos he, proj1 m c t xb hx, hr]
    · rw [dif_neg he, dif_neg he, proj2 m c t xb hx, hr]
  · rw [if_neg hj, if_neg (fun h => hj (Fin.ext (h.trans hg.symm)))]

variable (hk : t.val / 11 % 16 ≠ 0 → ∀ (k : Fin 8) (e : Fin 512), kr (ix3 (grp (grid0.coords t)) k e) = tail (args m c) (t.val / 11 - 1) (grp (grid0.coords t)) k e)

include hk

/-- The first convolution at the point's columns. -/
theorem conv1 (l : Fin 512) (f : Fin 256) :
    k0_pay12 (k0_pay6 xb (iblk m c 1 t)) (k0_pay8 (grid0.coords t) (at1 (grid0.coords t) kr)) (iblk m c 3 t) (ix2 l f) = (args m c).conv (brow t l) (gcol (unit (t.val % 11) f)) := by
  have hp : ∀ d : Fin 8, k0_pay8 (F := Ideal) (grid0.coords t) (at1 (grid0.coords t) kr) (ix2 d f) = if t.val / 11 % 16 = 0 then 0 else
      (args m c).proj ⟨(512 * (t.val / 11 - 1) + 504 + d.val) % 32768, Nat.mod_lt _ (by decide)⟩ (gcol (unit (t.val % 11) f)) := fun d => by
    rw [prev_g, (coords_eq t).1]
    by_cases h0 : t.val / 11 % 16 = 0
    · rw [if_pos h0, if_pos h0]
    · rw [if_neg h0, if_neg h0]
      refine (ld1 kr (grid0.coords t) d f).trans ((hk h0 _ _).trans ?_)
      unfold tail
      rw [dif_pos f.isLt, grp_val]
  rw [conv]
  simp only [proj1 m c t xb hx]
  rw [back_eq (args m c) t _ 1 (Or.inl rfl) l _ hp, back_eq (args m c) t _ 2 (Or.inr rfl) l _ hp, blk3, blk3, blk3]
  rfl

/-- The second convolution at the point's columns. -/
theorem conv2 (l : Fin 512) (f : Fin 256) :
    k0_pay12 (k0_pay7 xb (iblk m c 2 t)) (k0_pay9 (startWord (grid0.coords t 0).val) (at2 (grid0.coords t) kr)) (iblk m c 4 t) (ix2 l f) = (args m c).conv (brow t l) (ucol (unit (t.val % 11) f)) := by
  have ht := lt_of_lt_of_eq t.isLt (show cfg0.N = 704 from N_0)
  have hp : ∀ d : Fin 8, k0_pay9 (F := Ideal) (startWord (grid0.coords t 0).val) (at2 (grid0.coords t) kr) (ix2 d f) = if t.val / 11 % 16 = 0 then 0 else
      (args m c).proj ⟨(512 * (t.val / 11 - 1) + 504 + d.val) % 32768, Nat.mod_lt _ (by decide)⟩ (ucol (unit (t.val % 11) f)) := fun d => by
    rw [prev_u, (coords_eq t).1]
    unfold startWord
    rw [word_eq (t.val / 11) (by omega)]
    by_cases h0 : t.val / 11 % 16 = 0
    · rw [if_pos h0, if_pos h0]; rfl
    · rw [if_neg h0, if_neg h0]
      refine Eq.trans rfl ((ld2 kr (grid0.coords t) d f).trans ((hk h0 _ _).trans ?_))
      unfold tail
      rw [dif_neg (show ¬256 + f.val < 256 by omega), grp_val]
      refine congrArg (fun q => (args m c).proj _ (ucol (unit (t.val % 11) q))) (Fin.ext ?_)
      show 256 + f.val - 256 = f.val
      omega
  rw [conv]
  simp only [proj2 m c t xb hx]
  rw [back_eq (args m c) t _ 1 (Or.inl rfl) l _ hp, back_eq (args m c) t _ 2 (Or.inr rfl) l _ hp, blk4, blk4, blk4]
  rfl

/-- The point adds its tile of hidden units to the sum. -/
theorem acc_val (acc : FVec Ideal S512x1024 .f32) (l : Fin 512) (e : Fin 1024) :
    accOf m c t xb acc kr (ix2 l e) = acc (ix2 l e) + (args m c).part (brow t l) e (t.val % 11) := by
  unfold accOf
  rw [stored, second]
  unfold Args.part Args.hidden
  refine congrArg (acc (ix2 l e) + ·) (Finset.sum_congr rfl fun f _ => ?_)
  rw [conv1 m c t xb kr hx hk, conv2 m c t xb kr hx hk, blk5]

end Point

/-- What the buffers hold after point `t`. -/
structure Inv (t : Fin cfg0.N) (xb : FVec Ideal S512x1024 .bf16) (acc : FVec Ideal S512x1024 .f32) (kr : FVec Ideal S11x8x512 .f32) : Prop where
  rows : ∀ l k, xb (ix2 l k) = (args m c).x (brow t l) k
  sum : ∀ l e, acc (ix2 l e) = ∑ q ∈ Finset.range (t.val % 11 + 1), (args m c).part (brow t l) e q
  new : ∀ (j : Fin 11) (k : Fin 8) (e : Fin 512), j.val ≤ t.val % 11 → kr (ix3 j k e) = tail (args m c) (t.val / 11) j k e
  old : t.val / 11 ≠ 0 → ∀ (j : Fin 11) (k : Fin 8) (e : Fin 512), t.val % 11 < j.val → kr (ix3 j k e) = tail (args m c) (t.val / 11 - 1) j k e

/-- What a tile's first point leaves. -/
theorem inv_first (t : Fin cfg0.N) (h1 : t.val % 11 = 0) (kr kr' : FVec Ideal S11x8x512 .f32) (acc xb)
    (hxb : xb = k0_pay4 (iblk m c 0 t)) (hacc : acc = accOf m c t (k0_pay4 (iblk m c 0 t)) k0_pay5 kr)
    (hkeep : ∀ j k e, kr' (ix3 j k e) = keepOf m c t (k0_pay4 (iblk m c 0 t)) kr j k e)
    (hold : t.val / 11 ≠ 0 → ∀ (j : Fin 11) (k : Fin 8) (e : Fin 512), kr (ix3 j k e) = tail (args m c) (t.val / 11 - 1) j k e) :
    Inv m c t xb acc kr' := by
  have hx : ∀ l k, k0_pay4 (iblk m c 0 t) (ix2 l k) = (args m c).x (brow t l) k := fun l k => by rw [kept, blk0]
  refine ⟨fun l k => by rw [hxb, hx], fun l e => ?_, fun j k e hj => ?_, fun h0 j k e hj => ?_⟩
  · rw [hacc, acc_val m c t _ kr hx (fun h => hold (fun h' => h (by rw [h'])) _), zeroed, zero_add, h1]
    simp
  · rw [hkeep, keep_val m c t _ kr hx, if_pos (by omega)]
  · rw [hkeep, keep_val m c t _ kr hx, if_neg (by omega), hold h0]

/-- What the points after a tile's first one leave. -/
theorem inv_next (t s : Fin cfg0.N) (hs : t.val = s.val + 1) (h1 : ¬t.val % 11 = 0) (kr kr' : FVec Ideal S11x8x512 .f32) (acc acc' xb xb')
    (I : Inv m c s xb acc kr)
    (hxb : xb' = xb) (hacc : acc' = accOf m c t xb acc kr) (hkeep : ∀ j k e, kr' (ix3 j k e) = keepOf m c t xb kr j k e) :
    Inv m c t xb' acc' kr' := by
  have hd : t.val / 11 = s.val / 11 := by omega
  have hm : t.val % 11 = s.val % 11 + 1 := by omega
  have hb : ∀ l, brow s l = brow t l := fun l => Fin.ext (by
    show 512 * (s.val / 11) + l.val = 512 * (t.val / 11) + l.val
    rw [hd])
  have hx : ∀ l k, xb (ix2 l k) = (args m c).x (brow t l) k := fun l k => by rw [I.rows, hb]
  have hg := grp_val t
  refine ⟨fun l k => by rw [hxb, hx], fun l e => ?_, fun j k e hj => ?_, fun h0 j k e hj => ?_⟩
  · rw [hacc, acc_val m c t xb kr hx (fun h k e => by rw [I.old (fun h' => h (by rw [hd, h'])) _ _ _ (by omega), hd]), I.sum, Finset.sum_range_succ _ (t.val % 11), hb, hm]
  · rw [hkeep, keep_val m c t xb kr hx]
    by_cases h : j.val = t.val % 11
    · rw [if_pos h]
    · rw [if_neg h, I.new j k e (by omega), hd]
  · rw [hkeep, keep_val m c t xb kr hx, if_neg (by omega), I.old (by rw [← hd]; exact h0) j k e (by omega), hd]

/-- After every point the buffers hold what the invariant says. -/
theorem inv : ∀ (n : ℕ) (hn : n < cfg0.N), Inv m c ⟨n, hn⟩ (outsAt0 m c n hn).2.1 (outsAt0 m c n hn).2.2.1 (outsAt0 m c n hn).2.2.2 := by
  intro n
  induction n with
  | zero =>
    intro hn
    have h2 : ¬(⟨0, hn⟩ : Fin cfg0.N).val % 11 = 10 := by show ¬0 % 11 = 10; decide
    exact inv_first m c ⟨0, hn⟩ rfl k0_pay3 _ _ _ (xb_A m c ⟨0, hn⟩ rfl rfl h2) (acc_A m c ⟨0, hn⟩ rfl rfl h2)
      (keep_A m c ⟨0, hn⟩ rfl rfl h2) (fun h => absurd (Nat.zero_div 11) h)
  | succ n ih =>
    intro hn
    have hN : n + 1 < 704 := lt_of_lt_of_eq hn (show cfg0.N = 704 from N_0)
    have I := ih (by omega)
    have h0 : ¬(⟨n + 1, hn⟩ : Fin cfg0.N).val % 704 = 0 := by show ¬(n + 1) % 704 = 0; omega
    by_cases h1 : (⟨n + 1, hn⟩ : Fin cfg0.N).val % 11 = 0
    · have h1' : (n + 1) % 11 = 0 := h1
      have h2 : ¬(⟨n + 1, hn⟩ : Fin cfg0.N).val % 11 = 10 := by omega
      refine inv_first m c ⟨n + 1, hn⟩ h1 (outsAt0 m c n (by omega)).2.2.2 _ _ _ (xb_D m c _ h0 h1 h2) (acc_D m c _ h0 h1 h2) (keep_D m c _ h0 h1 h2) (fun _ j k e => ?_)
      refine (I.new j k e ?_).trans (congrArg (fun i => tail (args m c) i j k e) ?_)
      · show j.val ≤ n % 11; omega
      · show n / 11 = (n + 1) / 11 - 1; omega
    · by_cases h2 : (⟨n + 1, hn⟩ : Fin cfg0.N).val % 11 = 10
      · exact inv_next m c ⟨n + 1, hn⟩ ⟨n, by omega⟩ rfl h1 _ _ _ _ _ _ I (xb_C m c _ h0 h1 h2) (acc_C m c _ h0 h1 h2) (keep_C m c _ h0 h1 h2)
      · exact inv_next m c ⟨n + 1, hn⟩ ⟨n, by omega⟩ rfl h1 _ _ _ _ _ _ I (xb_B m c _ h0 h1 h2) (acc_B m c _ h0 h1 h2) (keep_B m c _ h0 h1 h2)

/-- What a tile's last point leaves in the result. -/
theorem out_last (t : Fin cfg0.N) (h2 : t.val % 11 = 10) (l : Fin 512) (e : Fin 1024) :
    (outsAt0 m c t.val t.isLt).1 (ix2 l e) = (args m c).out (brow t l) e := by
  have ht := lt_of_lt_of_eq t.isLt (show cfg0.N = 704 from N_0)
  have h0 : ¬t.val % 704 = 0 := by omega
  have h1 : ¬t.val % 11 = 0 := by omega
  have I := inv m c t.val t.isLt
  rw [out_C m c t h0 h1 h2, ← acc_C m c t h0 h1 h2, final]
  unfold Args.out
  simp only [blk0, blk6, blk7, I.sum]
  rw [show t.val % 11 + 1 = 11 by omega]
  simp only [Args.sum_parts]

/-- The kernel's result at every row and column. -/
theorem result (r : Fin 32768) (j : Fin 1024) : (G8 m c : Vec Ideal S32768x1024 .f32) (ix2 r j) = (args m c).out r j := by
  have hN : cfg0.N = 704 := N_0
  have hp : pt8Of (ix2 r j) = 11 * (r.val / 512) + 10 := by
    show 11 * (1 * (r.val / 512 - 0) + 1 * (j.val / 1024 - 0)) + 10 = _; omega
  have hlt : 11 * (r.val / 512) + 10 < cfg0.N := by rw [hN]; omega
  unfold G8
  rw [dif_pos (by rw [hp]; exact hlt), fold0_congr m c _ _ (11 * (r.val / 512) + 10) (by omega) hp, ← outsAt0_sweep m c _ hlt]
  have hl : loc8Of (ix2 r j) = ix2 (⟨r.val % 512, Nat.mod_lt _ (by decide)⟩ : Fin 512) j := by
    funext a; apply Fin.ext
    match a with
    | ⟨0, _⟩ => rfl
    | ⟨1, _⟩ => show j.val % 1024 = j.val; omega
  rw [hl]
  refine (out_last m c ⟨11 * (r.val / 512) + 10, hlt⟩ (by show (11 * (r.val / 512) + 10) % 11 = 10; omega) _ j).trans ?_
  refine congrArg ((args m c).out · j) (Fin.ext ?_)
  show 512 * ((11 * (r.val / 512) + 10) / 11) + r.val % 512 = r.val
  omega

end Cert.FfnRun

end
-- ==== Proof.FfnRef.lean ====
/-
  What the feed-forward's reference returns: its rows, read of its own operations.
-/
module

public import proofs.«01_k».proof.Proof.FfnRows
public import proofs.«01_k».proof.Proof.Gen.FfnRefIdeal.Run
public import Idealize.ShloMosaic.Lib.Pointwise

@[expose] public section

set_option maxRecDepth 16384

noncomputable section

namespace Cert.FfnRef

open Idealize.ShloMosaic Idealize.ShloMosaic.TcCoe Idealize.SL.Sem
open Cert.LayerNorm Cert.FfnRows
open Cert.FfnRefIdeal Cert.FfnRefIdeal.Gen Cert.FfnRefIdeal.Value

/-- The projections, with the sequences apart. -/
def up (x : FVec Ideal S32768x1024 .f32) (w : FVec Ideal S1024x5632 .f32) : FVec Ideal S4x8192x5632 .f32 :=
  Host.dotGeneral dot_S4x8192x1024_S1024x5632_S4x8192x5632_2_0_01_1_n_n none (shapeCast _ x shapeCasts_S32768x1024_S4x8192x1024) w

/-- The projections behind two rows of zeros. -/
def padded (u : FVec Ideal S4x8192x5632 .f32) : FVec Ideal S4x8194x5632 .f32 :=
  pad S4x8194x5632 ![0, 2, 0] ![0, 0, 0] ![0, 0, 0] u (sitofp .f32 (constantI S_ 32 0#32)) pads_S4x8192x5632_S4x8194x5632_000_200_000 h_S_

/-- The convolved projections. -/
def conved (p : FVec Ideal S4x8194x5632 .f32) (w : FVec Ideal S3x5632 .f32) : FVec Ideal S4x8192x5632 .f32 :=
  addf (addf
    (mulf (extractStridedSlice S4x8192x5632 ![0, 0, 0] p slices_S4x8194x5632_S4x8192x5632_0_0_0) (broadcastInDim S4x8192x5632 ![0, 1, 2] bcast_S1x1x5632_S4x8192x5632_0_1_2
      (broadcastInDim S1x1x5632 ![2] bcast_S5632_S1x1x5632_2 (shapeCast _ (extractStridedSlice S1x5632 ![0, 0] w slices_S3x5632_S1x5632_0_0) shapeCasts_S1x5632_S5632))))
    (mulf (extractStridedSlice S4x8192x5632 ![0, 1, 0] p slices_S4x8194x5632_S4x8192x5632_0_1_0) (broadcastInDim S4x8192x5632 ![0, 1, 2] bcast_S1x1x5632_S4x8192x5632_0_1_2
      (broadcastInDim S1x1x5632 ![2] bcast_S5632_S1x1x5632_2 (shapeCast _ (extractStridedSlice S1x5632 ![1, 0] w slices_S3x5632_S1x5632_1_0) shapeCasts_S1x5632_S5632)))))
    (mulf (extractStridedSlice S4x8192x5632 ![0, 2, 0] p slices_S4x8194x5632_S4x8192x5632_0_2_0) (broadcastInDim S4x8192x5632 ![0, 1, 2] bcast_S1x1x5632_S4x8192x5632_0_1_2
      (broadcastInDim S1x1x5632 ![2] bcast_S5632_S1x1x5632_2 (shapeCast _ (extractStridedSlice S1x5632 ![2, 0] w slices_S3x5632_S1x5632_2_0) shapeCasts_S1x5632_S5632))))

/-- The gated product. -/
def gated (v : FVec Ideal S4x8192x5632 .f32) : FVec Ideal S4x8192x2816 .f32 :=
  mulf (mulf (extractStridedSlice S4x8192x2816 ![0, 0, 0] v slices_S4x8192x5632_S4x8192x2816_0_0_0)
      (Host.divf (broadcastInDim S4x8192x2816 ![] bcast_S_S4x8192x2816 (constant S_ .f32 0x3F800000#32))
        (addf (broadcastInDim S4x8192x2816 ![] bcast_S_S4x8192x2816 (constant S_ .f32 0x3F800000#32))
          (Host.exp (Host.negf (extractStridedSlice S4x8192x2816 ![0, 0, 0] v slices_S4x8192x5632_S4x8192x2816_0_0_0))))))
    (extractStridedSlice S4x8192x2816 ![0, 0, 2816] v slices_S4x8192x5632_S4x8192x2816_0_0_2816)

/-- The rows before the norm. -/
def summed (x : FVec Ideal S32768x1024 .f32) (h : FVec Ideal S4x8192x2816 .f32) (w : FVec Ideal S2816x1024 .f32) : FVec Ideal S4x8192x1024 .f32 :=
  addf (mulf (broadcastInDim S4x8192x1024 ![] bcast_S_S4x8192x1024 (constant S_ .f32 0x3FB504F3#32)) (shapeCast _ x shapeCasts_S32768x1024_S4x8192x1024))
    (Host.dotGeneral dot_S4x8192x2816_S2816x1024_S4x8192x1024_2_0_01_1_n_n none h w)

/-- The rows less their means. -/
def centred (z : FVec Ideal S4x8192x1024 .f32) : FVec Ideal S4x8192x1024 .f32 :=
  subf z (broadcastInDim S4x8192x1024 ![0, 1, 2] bcast_S4x8192x1_S4x8192x1024_0_1_2
    (Host.divf (broadcastInDim S4x8192x1 ![0, 1] bcast_S4x8192_S4x8192x1_0_1 (Host.reduceAdd z (constant S_ .f32 0x00000000#32) reducesTo_S4x8192x1024_S4x8192_d2 h_S_))
      (broadcastInDim S4x8192x1 ![] bcast_S_S4x8192x1 (constant S_ .f32 0x44800000#32))))

/-- The normed rows, as one array. -/
def norm (z : FVec Ideal S4x8192x1024 .f32) (g b : FVec Ideal S1024 .f32) : FVec Ideal S32768x1024 .f32 :=
  shapeCast _ (addf (mulf (mulf (centred z) (broadcastInDim S4x8192x1024 ![0, 1, 2] bcast_S4x8192x1_S4x8192x1024_0_1_2
      (Host.rsqrt (addf (Host.divf (broadcastInDim S4x8192x1 ![0, 1] bcast_S4x8192_S4x8192x1_0_1 (Host.reduceAdd (mulf (centred z) (centred z)) (constant S_ .f32 0x00000000#32) reducesTo_S4x8192x1024_S4x8192_d2 h_S_))
        (broadcastInDim S4x8192x1 ![] bcast_S_S4x8192x1 (constant S_ .f32 0x44800000#32))) (broadcastInDim S4x8192x1 ![] bcast_S_S4x8192x1 (constant S_ .f32 0x3727C5AC#32))))))
      (broadcastInDim S4x8192x1024 ![0, 1, 2] bcast_S1x1x1024_S4x8192x1024_0_1_2 (broadcastInDim S1x1x1024 ![2] bcast_S1024_S1x1x1024_2 g)))
      (broadcastInDim S4x8192x1024 ![0, 1, 2] bcast_S1x1x1024_S4x8192x1024_0_1_2 (broadcastInDim S1x1x1024 ![2] bcast_S1024_S1x1x1024_2 b))) shapeCasts_S4x8192x1024_S32768x1024

/-- The array's row that row `t` of sequence `s` is. -/
def row (s : Fin 4) (t : Fin 8192) : Fin 32768 := ⟨s.val * 8192 + t.val, by omega⟩

/-- A projection of a row. -/
theorem up_apply (x : FVec Ideal S32768x1024 .f32) (w : FVec Ideal S1024x5632 .f32) (s : Fin 4) (t : Fin 8192) (n : Fin 5632) :
    up x w (ix3 s t n) = ∑ k : Fin 1024, x (ix2 (row s t) k) * w (ix2 k n) := by
  pointwise [up]
  rfl

/-- The zeros in front, and the projections behind them. -/
theorem padded_apply (u : FVec Ideal S4x8192x5632 .f32) (s : Fin 4) (t : Fin 8194) (n : Fin 5632) :
    padded u (ix3 s t n) = if h : t.val < 2 then 0 else u (ix3 s ⟨t.val - 2, by omega⟩ n) := by
  pointwise [padded]
  by_cases h : t.val < 2
  · rw [dif_neg (by omega), dif_pos h]
    show ((((0#32 : BitVec 32).toInt : ℤ) : ℝ) : EReal) = 0
    norm_num
  · rw [dif_pos (by omega), dif_neg h]

/-- A convolved projection. -/
theorem conved_apply (p : FVec Ideal S4x8194x5632 .f32) (w : FVec Ideal S3x5632 .f32) (s : Fin 4) (t : Fin 8192) (n : Fin 5632) :
    conved p w (ix3 s t n) = p (ix3 s ⟨t.val, by omega⟩ n) * w (ix2 0 n) + p (ix3 s ⟨t.val + 1, by omega⟩ n) * w (ix2 1 n) + p (ix3 s ⟨t.val + 2, by omega⟩ n) * w (ix2 2 n) := by
  pointwise [conved]
  simp only [Nat.add_comm]

/-- A hidden unit. -/
theorem gated_apply (v : FVec Ideal S4x8192x5632 .f32) (s : Fin 4) (t : Fin 8192) (f : Fin 2816) :
    gated v (ix3 s t f) = v (ix3 s t (gcol f)) * Ideal.logistic (v (ix3 s t (gcol f))) * v (ix3 s t (ucol f)) := by
  pointwise [gated]
  rfl

/-- A row before the norm. -/
theorem summed_apply (x : FVec Ideal S32768x1024 .f32) (h : FVec Ideal S4x8192x2816 .f32) (w : FVec Ideal S2816x1024 .f32) (s : Fin 4) (t : Fin 8192) (e : Fin 1024) :
    summed x h w (ix3 s t e) = Ideal.ofBits .f32 0x3FB504F3#32 * x (ix2 (row s t) e) + ∑ f : Fin 2816, h (ix3 s t f) * w (ix2 f e) := by
  pointwise [summed]
  rfl

/-- A row less its mean. -/
theorem centred_apply (z : FVec Ideal S4x8192x1024 .f32) (s : Fin 4) (t : Fin 8192) (e : Fin 1024) :
    centred z (ix3 s t e) = z (ix3 s t e) - mean (fun j => z (ix3 s t j)) := by
  pointwise [centred]
  rfl

/-- A normed row. -/
theorem norm_apply (z : FVec Ideal S4x8192x1024 .f32) (g b : FVec Ideal S1024 .f32) (r : Fin 32768) (e : Fin 1024) :
    norm z g b (ix2 r e) = normed (fun j => z (ix3 ⟨r.val / 8192, by omega⟩ ⟨r.val % 8192, Nat.mod_lt _ (by decide)⟩ j)) (fun j => g (ix1 j)) (fun j => b (ix1 j)) e := by
  pointwise [norm]
  simp only [centred_apply]
  rfl

variable (m : (ℓ : Loc nD τ sig) → Buf (Elt Ideal) ℓ) (c : Dev nD)

/-- The reference's result, in those steps. -/
theorem ref_form : (res_out0 m c : FVec Ideal S32768x1024 .f32) =
    norm (summed (m ((c.tc : Thread nD τ).loc main_arg0)) (gated (conved (padded (up (m ((c.tc : Thread nD τ).loc main_arg0)) (m ((c.tc : Thread nD τ).loc main_arg1)))) (m ((c.tc : Thread nD τ).loc main_arg2))))
      (m ((c.tc : Thread nD τ).loc main_arg3))) (m ((c.tc : Thread nD τ).loc main_arg4)) (m ((c.tc : Thread nD τ).loc main_arg5)) := rfl

/-- The call's arguments. -/
def args : Args where
  x r k := (m ((c.tc : Thread nD τ).loc main_arg0) : Vec Ideal S32768x1024 .f32) (ix2 r k)
  wup k n := (m ((c.tc : Thread nD τ).loc main_arg1) : Vec Ideal S1024x5632 .f32) (ix2 k n)
  cv k n := (m ((c.tc : Thread nD τ).loc main_arg2) : Vec Ideal S3x5632 .f32) (ix2 k n)
  wd f e := (m ((c.tc : Thread nD τ).loc main_arg3) : Vec Ideal S2816x1024 .f32) (ix2 f e)
  g e := (m ((c.tc : Thread nD τ).loc main_arg4) : Vec Ideal S1024 .f32) (ix1 e)
  b e := (m ((c.tc : Thread nD τ).loc main_arg5) : Vec Ideal S1024 .f32) (ix1 e)

/-- The projections some rows before a row, read behind the zeros. -/
theorem padded_up (s : Fin 4) (t : Fin 8192) (n : Fin 5632) (k : ℕ) (hk : k ≤ 2) :
    padded (up (m ((c.tc : Thread nD τ).loc main_arg0)) (m ((c.tc : Thread nD τ).loc main_arg1))) (ix3 s ⟨t.val + (2 - k), by omega⟩ n) = (args m c).before k (row s t) n := by
  have hr : (row s t).val = s.val * 8192 + t.val := rfl
  rw [padded_apply]
  unfold Args.before
  by_cases h : t.val + (2 - k) < 2
  · rw [dif_pos h, if_pos (by omega)]
  · rw [dif_neg h, if_neg (by omega), up_apply]
    refine congrArg ((args m c).proj · n) (Fin.ext ?_)
    show s.val * 8192 + (t.val + (2 - k) - 2) = s.val * 8192 + t.val - k
    omega

/-- The convolution adds the same three terms, from the farthest row on. -/
theorem conved_up (s : Fin 4) (t : Fin 8192) (n : Fin 5632) :
    conved (padded (up (m ((c.tc : Thread nD τ).loc main_arg0)) (m ((c.tc : Thread nD τ).loc main_arg1)))) (m ((c.tc : Thread nD τ).loc main_arg2)) (ix3 s t n) = (args m c).conv (row s t) n := by
  have h0 := padded_up m c s t n 0 (by omega)
  have h1 := padded_up m c s t n 1 (by omega)
  have h2 := padded_up m c s t n 2 (by omega)
  have hb : (args m c).before 0 (row s t) n = (args m c).proj (row s t) n := by
    unfold Args.before
    rw [if_neg (by omega)]
    rfl
  rw [hb] at h0
  rw [conved_apply]
  refine (congrArg₂ (· + ·) (congrArg₂ (· + ·) (congrArg (· * _) h2) (congrArg (· * _) h1)) (congrArg (· * _) h0)).trans ?_
  unfold Args.conv
  show (args m c).before 2 (row s t) n * (args m c).cv 0 n + (args m c).before 1 (row s t) n * (args m c).cv 1 n + (args m c).proj (row s t) n * (args m c).cv 2 n = _
  rw [add_comm, add_comm (_ * (args m c).cv 0 n), ← add_assoc]

/-- The reference's result at every row and column. -/
theorem ref_result (r : Fin 32768) (e : Fin 1024) : (res_out0 m c : FVec Ideal S32768x1024 .f32) (ix2 r e) = (args m c).out r e := by
  have hr : row ⟨r.val / 8192, by omega⟩ ⟨r.val % 8192, Nat.mod_lt _ (by decide)⟩ = r := Fin.ext (by
    show r.val / 8192 * 8192 + r.val % 8192 = r.val
    omega)
  rw [ref_form, norm_apply]
  simp only [summed_apply, gated_apply, conved_up, hr]
  rfl

end Cert.FfnRef

end
-- ==== Proof.FfnClaims.lean ====
/-
  The feed-forward's claims: the reference's frame, and the kernel's result and the reference's equal at every index, both
  being the convolved, gated, projected and normed rows.
-/
module

public import proofs.«01_k».proof.Defs
public import proofs.«01_k».proof.Proof.FfnSteps
public import proofs.«01_k».proof.Proof.FfnRef
public import Idealize.ShloMosaic.Adequacy
public import Idealize.ShloMosaic.Init

@[expose] public section

set_option maxRecDepth 16384

noncomputable section

namespace Cert.FfnClaims

open Idealize.ShloMosaic Idealize.ShloMosaic.TcCoe Idealize.SL.Sem

/-- The reference's frame. -/
theorem ref_frame : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run m ρ)

/-- The kernel's result and the reference's are equal, element by element. -/
theorem algebraic : Cert.algebraic_FfnIdeal_FfnRefIdeal := by
  intro m ρ m' ρ' _ hagree
  refine ⟨fun c => Cert.FfnIdeal.Value.G8 m c, Cert.FfnIdeal.Value.run m ρ, ?_⟩
  refine (θ_run Cert.FfnRefIdeal.defs _ _).mono (fun r h c => ⟨(h c).1.trans ?_, (h c).2⟩) (Cert.FfnRefIdeal.Value.run m' ρ')
  obtain ⟨e0, e1, e2, e3, e4, e5⟩ := hagree c
  have ha : FfnRef.args m' c = FfnRun.args m c := by
    unfold FfnRef.args FfnRun.args
    rw [e0, e1, e2, e3, e4, e5]
  funext i
  idx_vars i
  refine (FfnRef.ref_result m' c _ _).trans ?_
  rw [ha]
  exact (FfnRun.result m c _ _).symm

end Cert.FfnClaims

end
-- ==== Proof.BiasKernel.lean ====
/-
  WHAT A GRID POINT OF THE BIAS TILES WRITES, at the ideal instance: for one head, each entry of the two tiles is the bias
  of the entry's bucket less the last bucket's bias, found by comparing the bucket with each of the thirty-two buckets in
  turn; an entry whose bucket is negative is the mask's number.
-/
module

public import proofs.«01_k».proof.Defs
public import proofs.«01_k».proof.Proof.Gen.BiasIdeal.Value
public import Idealize.ShloMosaic.Lib.Pipeline.ValueKit
public import Idealize.ShloMosaic.Lib.WholeRead

@[expose] public section

set_option maxRecDepth 16384

noncomputable section

namespace Cert.BiasKernel

open Idealize.ShloMosaic Idealize.ShloMosaic.TcCoe Idealize.SL.Sem
open Cert.BiasIdeal Cert.BiasIdeal.Gen Cert.BiasIdeal.Value

/-- The bias of a bucket among the first `n`, found by comparing it with each of them in turn, the last first; zero where none
is it. -/
def chain (f : ℕ → EReal) (b : BitVec 32) : ℕ → EReal
  | 0 => 0
  | n + 1 => Scalar.select (IntOp.cmpi .eq b (BitVec.ofNat 32 n)) (f n) (chain f b n)

/-- An entry of a tile from its bucket: the bucket's bias less the last bucket's, or the mask's number where the bucket is
negative. -/
def tile (f : ℕ → EReal) (b : BitVec 32) : EReal :=
  Scalar.select (IntOp.cmpi .slt b 0#32) (Ideal.ofBits .f32 0xF149F2CA#32) (chain f b 32 - f 31)

/-- The first tile's payload at an entry. -/
theorem pay_own (v2 : Vec Ideal S1x256x256 .i32) (f : ℕ → EReal) (p q : Fin 256) :
    k0_pay9 (F := Ideal) (f 31) (k0_pay2 v2)
      (k0_pay7 (k0_pay2 v2) (k0_pay6 (k0_pay2 v2) (k0_pay4 (k0_pay2 v2) (k0_pay3 v2 (f 0) (f 1) (f 2) (f 3) (f 4) (f 5)) 6#32
          (f 6) (f 7) (f 8) (f 9) (f 10) (f 11) (f 12)) (k0_pay5 (k0_pay2 v2)) (f 13) (f 14) (f 15) (f 16) (f 17) (f 18) (f 19) (f 20)) 21#32
        (f 21) (f 22) (f 23) (f 24) (f 25) (f 26) (f 27)) (k0_pay8 (k0_pay2 v2)) (f 28) (f 29) (f 30) (f 31) (ix4 0 0 p q)
      = tile f (v2 (ix3 0 p q)) := by
  pointwise [k0_pay9, k0_pay8, k0_pay7, k0_pay6, k0_pay5, k0_pay4, k0_pay3, k0_pay2]
  rfl

/-- The second tile's payload at an entry. -/
theorem pay_prev (v2 : Vec Ideal S1x256x256 .i32) (f : ℕ → EReal) (p q : Fin 256) :
    k0_pay1 (F := Ideal) (f 31) (k0_pay10 v2)
      (k0_pay19 (k0_pay10 v2) (k0_pay17 (k0_pay10 v2) (k0_pay15 (k0_pay10 v2) (k0_pay13 (k0_pay10 v2) (k0_pay11 v2 (f 0)) k0_pay12
            (f 1) (f 2) (f 3) (f 4) (f 5) (f 6) (f 7)) (k0_pay14 (k0_pay10 v2)) (f 8) (f 9) (f 10) (f 11) (f 12) (f 13) (f 14) (f 15)) k0_pay16
          (f 16) (f 17) (f 18) (f 19) (f 20) (f 21) (f 22)) (k0_pay18 (k0_pay10 v2)) (f 23) (f 24) (f 25) (f 26) (f 27) (f 28) (f 29) (f 30)) k0_pay20
      (f 31) (ix4 0 0 p q)
      = tile f (v2 (ix3 0 p q)) := by
  pointwise [k0_pay1, k0_pay10, k0_pay11, k0_pay12, k0_pay13, k0_pay14, k0_pay15, k0_pay16, k0_pay17, k0_pay18, k0_pay19, k0_pay20]
  rfl

/-- A head's biases, by bucket. -/
def biases (x0 : Vec Ideal S8x32 .f32) (i : grid0.Coords) (k : ℕ) : EReal := x0 (ix2 (i 0) (Fin.ofNat 32 k))

/-- The load of one bias. -/
theorem ld_bias (x0 : Vec Ideal S8x32 .f32) (i : grid0.Coords) (k : ℕ) (hk : k < 32) {off : Fin 2 → ℕ}
    (ho : off = ![(Scalar.indexCast (BitVec.ofNat 32 (i 0).val)).toNat, k]) (inb : ∀ x, off x + S1x1.size x ≤ S8x32.size x)
    (hn : 0 < (Rect.unit (s := S8x32) off S1x1.size inb).shape.numel) :
    View.ld (Val := Elt Ideal) (e' := .f32) x0 (Rect.unit (s := S8x32) off S1x1.size inb) (Shape.Idx.first hn) = biases x0 i k := by
  subst ho
  refine congrArg x0 (funext fun x => Fin.ext ?_)
  have h0 : ∀ u : Fin 8, (Scalar.indexCast (BitVec.ofNat 32 u.val)).toNat = u.val := by decide
  match x with
  | ⟨0, _⟩ => exact h0 (i 0)
  | ⟨1, _⟩ => show k + 1 * 0 = k % 32; omega

/-- The load of one tile's buckets. -/
theorem ld_tile (x1 : Vec Ideal S2x256x256 .i32) (t : Fin 2) {off : Fin 3 → ℕ} (ho : off = ![t.val, 0, 0])
    (inb : ∀ x, off x + S1x256x256.size x ≤ S2x256x256.size x) (p q : Fin 256) :
    View.ld (Val := Elt Ideal) (e' := .i32) x1 (Rect.unit (s := S2x256x256) off S1x256x256.size inb) (ix3 0 p q) = x1 (ix3 t p q) := by
  subst ho
  refine congrArg x1 (funext fun x => Fin.ext ?_)
  match x with
  | ⟨0, _⟩ => rfl
  | ⟨1, _⟩ => show 0 + 1 * p.val = p.val; omega
  | ⟨2, _⟩ => show 0 + 1 * q.val = q.val; omega

/-- The two tiles' stores, read at an entry. -/
theorem two_apply (inb1 : ∀ x, ![0, 1, 0, 0] x + ![1, 1, 256, 256] x ≤ S1x2x256x256.size x) (inb0 : ∀ x, ![0, 0, 0, 0] x + ![1, 1, 256, 256] x ≤ S1x2x256x256.size x)
    (P0 P1 : Vec Ideal S1x1x256x256 .f32) (t : Fin 2) (p q : Fin 256) :
    View.canon (Val := Elt Ideal) (s := S1x2x256x256) (e := .f32) [⟨Rect.unit (s := S1x2x256x256) ![0, 1, 0, 0] ![1, 1, 256, 256] inb1, P1⟩, ⟨Rect.unit (s := S1x2x256x256) ![0, 0, 0, 0] ![1, 1, 256, 256] inb0, P0⟩] (ix4 0 t p q)
      = if t.val = 0 then P0 (ix4 0 0 p q) else P1 (ix4 0 0 p q) := by
  match t with
  | ⟨0, ht⟩ =>
    rw [View.canon_cons_of_not_mem _ _ (by
      show _ ∉ (Rect.unit (s := S1x2x256x256) ![0, 1, 0, 0] ![1, 1, 256, 256] inb1).set
      rw [Rect.mem_set_unit]; intro h; exact absurd (h 1).1 (by show ¬ 1 ≤ 0; omega))]
    have e : (Rect.unit (s := S1x2x256x256) ![0, 0, 0, 0] ![1, 1, 256, 256] inb0).emb (ix4 0 0 p q) = ix4 0 ⟨0, ht⟩ p q := by
      funext x; apply Fin.ext
      match x with
      | ⟨0, _⟩ => rfl
      | ⟨1, _⟩ => rfl
      | ⟨2, _⟩ => show 0 + 1 * p.val = p.val; omega
      | ⟨3, _⟩ => show 0 + 1 * q.val = q.val; omega
    rw [← e]
    exact View.canon_cons_emb _ _ _ _
  | ⟨1, ht⟩ =>
    have e : (Rect.unit (s := S1x2x256x256) ![0, 1, 0, 0] ![1, 1, 256, 256] inb1).emb (ix4 0 0 p q) = ix4 0 ⟨1, ht⟩ p q := by
      funext x; apply Fin.ext
      match x with
      | ⟨0, _⟩ => rfl
      | ⟨1, _⟩ => rfl
      | ⟨2, _⟩ => show 0 + 1 * p.val = p.val; omega
      | ⟨3, _⟩ => show 0 + 1 * q.val = q.val; omega
    rw [← e]
    exact View.canon_cons_emb _ _ _ _

/-- What a grid point writes, at an entry. -/
theorem out_apply (c : Dev nD) (i : grid0.Coords) (a1 : Memref sig .tc .smem S8x32 .f32) (h1 : a1.IsWhole) (a2 : Memref sig .tc .vmem S2x256x256 .i32) (h2 : a2.IsWhole)
    (a3 : Memref sig .tc .vmem S1x2x256x256 .f32) (h3 : a3.IsWhole) (x0 : Vec Ideal S8x32 .f32) (x1 : Vec Ideal S2x256x256 .i32) (t : Fin 2) (p q : Fin 256) :
    out0_A_2 c i a1 h1 a2 h2 a3 h3 x0 x1 (ix4 0 t p q) = tile (biases x0 i) (x1 (ix3 t p q)) := by
  frame_out
  simp only [ld_bias x0 i 0 (by decide) (off := k0_off2 i) rfl, ld_bias x0 i 1 (by decide) (off := k0_off3 i) rfl, ld_bias x0 i 2 (by decide) (off := k0_off4 i) rfl, ld_bias x0 i 3 (by decide) (off := k0_off5 i) rfl, ld_bias x0 i 4 (by decide) (off := k0_off6 i) rfl, ld_bias x0 i 5 (by decide) (off := k0_off7 i) rfl, ld_bias x0 i 6 (by decide) (off := k0_off8 i) rfl, ld_bias x0 i 7 (by decide) (off := k0_off9 i) rfl, ld_bias x0 i 8 (by decide) (off := k0_off10 i) rfl, ld_bias x0 i 9 (by decide) (off := k0_off11 i) rfl, ld_bias x0 i 10 (by decide) (off := k0_off12 i) rfl, ld_bias x0 i 11 (by decide) (off := k0_off13 i) rfl, ld_bias x0 i 12 (by decide) (off := k0_off14 i) rfl, ld_bias x0 i 13 (by decide) (off := k0_off15 i) rfl, ld_bias x0 i 14 (by decide) (off := k0_off16 i) rfl, ld_bias x0 i 15 (by decide) (off := k0_off17 i) rfl, ld_bias x0 i 16 (by decide) (off := k0_off18 i) rfl, ld_bias x0 i 17 (by decide) (off := k0_off19 i) rfl, ld_bias x0 i 18 (by decide) (off := k0_off20 i) rfl, ld_bias x0 i 19 (by decide) (off := k0_off21 i) rfl, ld_bias x0 i 20 (by decide) (off := k0_off22 i) rfl, ld_bias x0 i 21 (by decide) (off := k0_off23 i) rfl, ld_bias x0 i 22 (by decide) (off := k0_off24 i) rfl, ld_bias x0 i 23 (by decide) (off := k0_off25 i) rfl, ld_bias x0 i 24 (by decide) (off := k0_off26 i) rfl, ld_bias x0 i 25 (by decide) (off := k0_off27 i) rfl, ld_bias x0 i 26 (by decide) (off := k0_off28 i) rfl, ld_bias x0 i 27 (by decide) (off := k0_off29 i) rfl, ld_bias x0 i 28 (by decide) (off := k0_off30 i) rfl, ld_bias x0 i 29 (by decide) (off := k0_off31 i) rfl, ld_bias x0 i 30 (by decide) (off := k0_off32 i) rfl, ld_bias x0 i 31 (by decide) (off := k0_off1 i) rfl]
  refine (two_apply _ _ _ _ t p q).trans ?_
  match t with
  | ⟨0, _⟩ =>
    rw [if_pos rfl]
    exact (pay_own _ (biases x0 i) p q).trans (congrArg (tile (biases x0 i)) (ld_tile x1 0 rfl _ p q))
  | ⟨1, _⟩ =>
    rw [if_neg Nat.one_ne_zero]
    exact (pay_prev _ (biases x0 i) p q).trans (congrArg (tile (biases x0 i)) (ld_tile x1 1 rfl _ p q))

end Cert.BiasKernel

end
-- ==== Proof.BiasWords.lean ====
/-
  THE BUCKET OF A RELATIVE POSITION, as the call's words compute it, and that it is one of thirty-two: a position below
  sixteen is its own bucket, a later one sixteen more than a rounded-down logarithm, cut off at thirty-one.
-/
module

public import Idealize.ShloMosaic.PureOps
public import Idealize.ShloMosaic.PureOps.Ideal
public import Idealize.ShloMosaic.Lib.Pipeline.ValueKit
public import Mathlib.Analysis.SpecialFunctions.Log.Basic
public import Mathlib.Tactic.Linarith
public import Idealize.ShloMosaic.Lib.WordCmp

@[expose] public section

noncomputable section

namespace Cert.BiasWords

open Idealize.ShloMosaic Idealize.ShloMosaic.WordCmp

/-- A query's position less a key's, both in the block. -/
def rel (p q : Fin 256) : BitVec 32 := IntOp.subi (BitVec.ofNat 32 p.val) (BitVec.ofNat 32 q.val)

/-- The same with the key in the tile's own block or in the one before it. -/
def relAt (t : Fin 2) (p q : Fin 256) : BitVec 32 := if _h : t.val < 1 then rel p q else IntOp.addi (rel p q) 256#32

/-- The position with the future counted as the present. -/
def past (r : BitVec 32) : BitVec 32 := IntOp.maxsi r 0#32

/-- The scaled logarithm of a position. -/
def scaled (n : BitVec 32) : EReal :=
  Ideal.div (Ideal.log (Ideal.div (FloatOps.sitofp (F := Ideal) FTy.f32 n) (Ideal.ofBits FTy.f32 0x41800000#32))) (Ideal.ofBits FTy.f32 0x40051592#32)
    * Ideal.ofBits FTy.f32 0x41800000#32

/-- The bucket of a relative position. -/
def bucket (r : BitVec 32) : BitVec 32 :=
  Scalar.select (IntOp.cmpi .slt (past r) 16#32) (past r)
    (IntOp.minsi (IntOp.addi 16#32 (FloatOps.fptosi (F := Ideal) (φ := FTy.f32) 32 (scaled (IntOp.maxsi (past r) 16#32)))) 31#32)

/-- A signed comparison chooses by the numbers. -/
theorem select_slt {α : Type} (x y : BitVec 32) (a b : α) : Scalar.select (IntOp.cmpi .slt x y) a b = if x.toInt < y.toInt then a else b := by
  rw [cmpi_slt_eq, select_decide]

/-- A signed comparison chooses by the numbers. -/
theorem select_sge {α : Type} (x y : BitVec 32) (a b : α) : Scalar.select (IntOp.cmpi .sge x y) a b = if y.toInt ≤ x.toInt then a else b := by
  rw [cmpi_sge_eq, select_decide]

/-- The signed maximum as a number. -/
theorem maxsi_toInt (x y : BitVec 32) : (IntOp.maxsi x y).toInt = max x.toInt y.toInt := by
  unfold IntOp.maxsi
  by_cases h : y.toInt < x.toInt
  · rw [if_pos (BitVec.slt_iff_toInt_lt.mpr h)]; omega
  · rw [if_neg fun k => h (BitVec.slt_iff_toInt_lt.mp k)]; omega

/-- The signed minimum as a number. -/
theorem minsi_toInt (x y : BitVec 32) : (IntOp.minsi x y).toInt = min x.toInt y.toInt := by
  unfold IntOp.minsi
  by_cases h : x.toInt < y.toInt
  · rw [if_pos (BitVec.slt_iff_toInt_lt.mpr h)]; omega
  · rw [if_neg fun k => h (BitVec.slt_iff_toInt_lt.mp k)]; omega

/-- The number sixteen. -/
theorem sixteen : Ideal.ofBits FTy.f32 0x41800000#32 = ((16 : ℝ) : EReal) := by
  simp [Ideal.ofBits, Ideal.ieee, -EReal.coe_mul]; norm_num

/-- The divisor of the logarithm is a number of at least two. -/
theorem log_eight : ∃ d : ℝ, 2 ≤ d ∧ Ideal.ofBits FTy.f32 0x40051592#32 = (d : EReal) := by
  refine ⟨8721810 / 4194304, by norm_num, ?_⟩
  simp [Ideal.ofBits, Ideal.ieee, -EReal.coe_mul]; norm_num

/-- The quotient of two numbers, the divisor positive. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The scaled logarithm of a position of at least sixteen is a number from zero to two to the thirtieth. -/
theorem scaled_range (n : BitVec 32) (hn : 16 ≤ n.toInt) : ∃ s : ℝ, 0 ≤ s ∧ s ≤ 2 ^ 30 ∧ scaled n = (s : EReal) := by
  obtain ⟨d, hd, ed⟩ := log_eight
  have hn1 : (16 : ℝ) ≤ (n.toInt : ℝ) := by exact_mod_cast hn
  have hn2 : (n.toInt : ℝ) ≤ 2 ^ 31 := by
    have h := BitVec.toInt_lt (x := n)
    have h' : n.toInt ≤ 2 ^ 31 := le_of_lt (by simpa using h)
    exact_mod_cast h'
  have hx : (1 : ℝ) ≤ (n.toInt : ℝ) / 16 := by rw [le_div_iff₀ (by norm_num)]; linarith
  have hl0 : 0 ≤ Real.log ((n.toInt : ℝ) / 16) := Real.log_nonneg hx
  have hl1 : Real.log ((n.toInt : ℝ) / 16) ≤ 2 ^ 27 := by
    have h := Real.log_le_sub_one_of_pos (lt_of_lt_of_le one_pos hx)
    have : (n.toInt : ℝ) / 16 ≤ 2 ^ 27 := by rw [div_le_iff₀ (by norm_num)]; norm_num at hn2 ⊢; linarith
    linarith
  have hd0 : (0 : ℝ) < d := by linarith
  refine ⟨Real.log ((n.toInt : ℝ) / 16) / d * 16, by positivity, ?_, ?_⟩
  · have : Real.log ((n.toInt : ℝ) / 16) / d ≤ 2 ^ 26 := by
      rw [div_le_iff₀ hd0]
      nlinarith
    norm_num at this ⊢
    linarith
  · unfold scaled
    rw [ed, sixteen]
    have e1 : FloatOps.sitofp (F := Ideal) FTy.f32 n = ((n.toInt : ℝ) : EReal) := rfl
    rw [e1, div_coe _ _ (by norm_num : (0 : ℝ) < 16)]
    have e2 : Ideal.log (((n.toInt : ℝ) / 16 : ℝ) : EReal) = ((Real.log ((n.toInt : ℝ) / 16) : ℝ) : EReal) := by
      show (if (n.toInt : ℝ) / 16 ≤ 0 then (⊥ : EReal) else _) = _
      rw [if_neg (by linarith)]
    rw [e2, div_coe _ _ hd0, ← EReal.coe_mul]

/-- The whole part of such a number as a word. -/
theorem whole_range (s : ℝ) (h0 : 0 ≤ s) (h1 : s ≤ 2 ^ 30) :
    0 ≤ (FloatOps.fptosi (F := Ideal) (φ := FTy.f32) 32 (s : EReal)).toInt ∧ (FloatOps.fptosi (F := Ideal) (φ := FTy.f32) 32 (s : EReal)).toInt ≤ 2 ^ 30 := by
  have e : FloatOps.fptosi (F := Ideal) (φ := FTy.f32) 32 (s : EReal)
      = BitVec.ofInt 32 (max (-(2 ^ (32 - 1) : ℕ)) (min ((2 ^ (32 - 1) : ℕ) - 1) (if 0 ≤ s then ⌊s⌋ else ⌈s⌉))) := rfl
  rw [if_pos h0] at e
  have f0 : 0 ≤ ⌊s⌋ := Int.floor_nonneg.mpr h0
  have f1 : ⌊s⌋ ≤ 2 ^ 30 := by
    have : (⌊s⌋ : ℝ) ≤ 2 ^ 30 := (Int.floor_le s).trans h1
    exact_mod_cast this
  rw [e, BitVec.toInt_ofInt]
  generalize ⌊s⌋ = k at f0 f1
  norm_num at f1 ⊢
  have hk : max (-2147483648) (min 2147483647 k) = k := by omega
  rw [hk, Int.bmod_def]
  omega

/-- A bucket is one of thirty-two. -/
theorem bucket_range (r : BitVec 32) : 0 ≤ (bucket r).toInt ∧ (bucket r).toInt ≤ 31 := by
  have hp : (past r).toInt = max r.toInt 0 := maxsi_toInt r 0#32
  have e16 : (16#32 : BitVec 32).toInt = 16 := rfl
  have e31 : (31#32 : BitVec 32).toInt = 31 := rfl
  unfold bucket
  rw [select_slt, e16]
  by_cases h : (past r).toInt < 16
  · rw [if_pos h]; omega
  · rw [if_neg h, minsi_toInt, e31]
    have hm : (IntOp.maxsi (past r) 16#32).toInt = max (past r).toInt 16 := maxsi_toInt _ _
    obtain ⟨s, s0, s1, es⟩ := scaled_range (IntOp.maxsi (past r) 16#32) (by omega)
    obtain ⟨w0, w1⟩ := whole_range s s0 s1
    rw [es]
    generalize FloatOps.fptosi (F := Ideal) (φ := FTy.f32) 32 (s : EReal) = w at w0 w1
    have ea : (IntOp.addi 16#32 w).toInt = 16 + w.toInt := by
      show (16#32 + w).toInt = _
      rw [BitVec.toInt_add, e16, Int.bmod_def]
      norm_num at w1 ⊢
      omega
    rw [ea]
    omega

/-- A bucket as a plain number. -/
theorem bucket_nat (r : BitVec 32) : (bucket r).toNat < 32 := by
  obtain ⟨h0, h1⟩ := bucket_range r
  rw [BitVec.toInt_eq_toNat_cond] at h0 h1
  have := (bucket r).isLt
  norm_num at h0 h1 this
  omega

/-- A bucket's number, signed or not. -/
theorem bucket_toInt (r : BitVec 32) : (bucket r).toInt = ((bucket r).toNat : ℤ) := by
  have := bucket_nat r
  rw [BitVec.toInt_eq_toNat_cond, if_pos (by norm_num; omega)]

/-- A key of the block before is in the past of every query. -/
theorem before_past (p q : Fin 256) : 0 ≤ (IntOp.addi (rel p q) 256#32).toInt := by
  show 0 ≤ (BitVec.ofNat 32 p.val - BitVec.ofNat 32 q.val + 256#32).toInt
  rw [BitVec.toInt_eq_toNat_cond]
  simp only [BitVec.toNat_add, BitVec.toNat_sub, BitVec.toNat_ofNat]
  have := p.isLt
  have := q.isLt
  norm_num
  omega

end Cert.BiasWords

end
-- ==== Proof.BiasHost.lean ====
/-
  What the bias tiles' kernel is given: the transposed biases and the two tiles' buckets, and what each grid point writes of them.
-/
module

public import proofs.«01_k».proof.Proof.BiasKernel
public import proofs.«01_k».proof.Proof.BiasWords
public import Idealize.ShloMosaic.Lib.Pipeline.ReadBack

@[expose] public section

set_option maxRecDepth 16384

noncomputable section

namespace Cert.BiasHost

open Idealize.ShloMosaic Idealize.ShloMosaic.TcCoe Idealize.SL.Sem
open Cert.BiasWords Cert.BiasKernel

/-- The result at an entry: the bias of the entry's bucket less the last bucket's, or the mask's number in the future. -/
def biasAt (a : Fin 32 → Fin 8 → EReal) (h : Fin 8) (t : Fin 2) (p q : Fin 256) : EReal :=
  if 0 ≤ (relAt t p q).toInt then a ⟨(bucket (relAt t p q)).toNat, bucket_nat _⟩ h - a 31 h else Ideal.ofBits FTy.f32 0xF149F2CA#32

/-- The chain of comparisons finds the bucket's bias. -/
theorem chain_eq (f : ℕ → EReal) (b : BitVec 32) : ∀ n : ℕ, n ≤ 32 → b.toNat < n → chain f b n = f b.toNat
  | 0, _, h => absurd h (Nat.not_lt_zero _)
  | n + 1, hn, h => by
    have e : IntOp.cmpi .eq b (BitVec.ofNat 32 n) = BitVec.ofBool (decide (b = BitVec.ofNat 32 n)) := by
      show BitVec.ofBool (b == BitVec.ofNat 32 n) = _
      by_cases k : b = BitVec.ofNat 32 n
      · rw [decide_eq_true k, beq_iff_eq.mpr k]
      · rw [decide_eq_false k, beq_eq_false_iff_ne.mpr k]
    show Scalar.select (IntOp.cmpi .eq b (BitVec.ofNat 32 n)) (f n) (chain f b n) = _
    rw [e, WordCmp.select_decide]
    by_cases k : b = BitVec.ofNat 32 n
    · rw [if_pos k, k, BitVec.toNat_ofNat, Nat.mod_eq_of_lt (by omega)]
    · rw [if_neg k]
      refine chain_eq f b n (by omega) ?_
      have : b.toNat ≠ n := fun w => k (by rw [← w]; simp)
      omega

/-- The bucket word of an entry as the host lays it out: negative in the future. -/
def word (t : Fin 2) (p q : Fin 256) : BitVec 32 :=
  if _h : t.val < 1 then Scalar.select (IntOp.cmpi .sge (rel p q) 0#32) (bucket (rel p q)) 4294967295#32 else bucket (IntOp.addi (rel p q) 256#32)

/-- An entry of a tile from its word. -/
theorem tile_word (f : ℕ → EReal) (t : Fin 2) (p q : Fin 256) :
    tile f (word t p q) = if 0 ≤ (relAt t p q).toInt then f (bucket (relAt t p q)).toNat - f 31 else Ideal.ofBits FTy.f32 0xF149F2CA#32 := by
  have key : ∀ r : BitVec 32, tile f (bucket r) = f (bucket r).toNat - f 31 := fun r => by
    have h0 := (bucket_range r).1
    unfold tile
    rw [select_slt, if_neg (by show ¬ (bucket r).toInt < 0; omega), chain_eq f _ 32 le_rfl (bucket_nat r)]
  have e0 : (0#32 : BitVec 32).toInt = 0 := rfl
  unfold word relAt
  by_cases ht : t.val < 1
  · rw [dif_pos ht, dif_pos ht, select_sge, e0]
    by_cases h : 0 ≤ (rel p q).toInt
    · rw [if_pos h, if_pos h]; exact key _
    · rw [if_neg h, if_neg h]
      unfold tile
      rw [select_slt, if_pos (by decide)]
  · rw [dif_neg ht, dif_neg ht, if_pos (before_past p q)]; exact key _

section Arrays

open Cert.BiasIdeal Cert.BiasIdeal.Gen Cert.BiasIdeal.Value

variable (m : (ℓ : Loc nD τ sig) → Buf (Elt Ideal) ℓ) (c : Dev nD)

/-- The call's argument. -/
def arg (k : Fin 32) (h : Fin 8) : EReal := (m ((c : Thread nD τ).loc main_arg0) : Vec Ideal S32x8 .f32) (ix2 k h)

/-- The buckets. -/
theorem word_at (t : Fin 2) (p q : Fin 256) : (V m c main_v54 : Vec Ideal S2x256x256 .i32) (ix3 t p q) = word t p q := by
  simp only [V, hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.ternary, StableHlo.TRef.toBuf, StableHlo.TRef.ofBuf, cast_eq]
  after_results
  pointwise []
  rfl

/-- The transposed biases. -/
theorem bias_at (h : Fin 8) (k : Fin 32) : (V m c main_v55 : Vec Ideal S8x32 .f32) (ix2 h k) = arg m c k h := by
  simp only [V, hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.ternary, StableHlo.TRef.toBuf, StableHlo.TRef.ofBuf, cast_eq]
  after_results
  pointwise [arg]

/-- Which block of its array each operand's block is, at each point. -/
theorem win_index : ∀ t : Fin cfg0.N, win0_0.index t = ![0, 0] ∧ win0_1.index t = ![0, 0, 0] ∧ win0_2.index t = ![t.val, 0, 0, 0] ∧ (grid0.coords t 0).val = t.val :=
  (by decide +kernel : ∀ t : Fin grid0.N, _)

/-- The block of biases is the array. -/
theorem blk0 (t : Fin cfg0.N) (h : Fin 8) (k : Fin 32) : (iblk m c 0 t : Vec Ideal S8x32 .f32) (ix2 h k) = (V m c main_v55 : Vec Ideal S8x32 .f32) (ix2 h k) := by
  obtain ⟨e0, e1, -⟩ := win_index t
  blk_ext [iblk, e0]

/-- The block of buckets is the array. -/
theorem blk1 (t : Fin cfg0.N) (u : Fin 2) (p q : Fin 256) : (iblk m c 1 t : Vec Ideal S2x256x256 .i32) (ix3 u p q) = (V m c main_v54 : Vec Ideal S2x256x256 .i32) (ix3 u p q) := by
  obtain ⟨e0, e1, -⟩ := win_index t
  blk_ext [iblk, e1]

/-- What point `t` writes, at an entry: head `t`'s tiles. -/
theorem out_at (t : Fin cfg0.N) (h : Fin 8) (ht : h.val = t.val) (u : Fin 2) (p q : Fin 256) :
    out0_A_2 c (grid0.coords t) (ms0_0 t) (hs0_0 t) (ms0_1 t) (hs0_1 t) (ms0_2 t) (hs0_2 t) (iblk m c 0 t) (iblk m c 1 t) (ix4 0 u p q) = biasAt (arg m c) h u p q := by
  obtain ⟨-, -, -, e3⟩ := win_index t
  have hh : (grid0.coords t 0 : Fin 8) = h := Fin.ext (e3.trans ht.symm)
  have hf : ∀ k : ℕ, ∀ hk : k < 32, biases (iblk m c 0 t) (grid0.coords t) k = arg m c ⟨k, hk⟩ h := fun k hk => by
    show (iblk m c 0 t : Vec Ideal S8x32 .f32) (ix2 (grid0.coords t 0 : Fin 8) (Fin.ofNat 32 k)) = _
    rw [hh, blk0, bias_at]
    exact congrArg (fun z => arg m c z h) (Fin.ext (Nat.mod_eq_of_lt hk))
  refine (out_apply c (grid0.coords t) _ _ _ _ _ _ _ _ u p q).trans ?_
  rw [blk1, word_at, tile_word, hf _ (bucket_nat _), hf 31 (by decide)]
  rfl

end Arrays

end Cert.BiasHost

end
-- ==== Proof.BiasRef.lean ====
/-
  What the bias tiles' reference computes, at each index: the bias of the entry's bucket less the last bucket's, the table's row
  looked up by the bucket.
-/
module

public import proofs.«01_k».proof.Proof.BiasHost
public import proofs.«01_k».proof.Proof.Gen.BiasRefIdeal.Run
public import Idealize.ShloMosaic.Lib.Pipeline.ValueKit

@[expose] public section

set_option maxRecDepth 16384

noncomputable section

namespace Cert.BiasRef

open Idealize.ShloMosaic Idealize.ShloMosaic.TcCoe Idealize.SL.Sem
open Cert.BiasWords Cert.BiasHost
open Cert.BiasRefIdeal

/-- The table's row that an index word names. -/
def rowOf (b : BitVec 32) : Fin 32 := ⟨min b.toInt.toNat 31, by omega⟩

/-- The lookup read at an index. -/
theorem gather_at (x : Vec Ideal S32x8 .f32) (idx : IVec S2x256x256x1 32) (t : Fin 2) (p q : Fin 256) (h : Fin 8) :
    Host.gather gather_S32x8_S2x256x256x1_S2x256x256x8_3_0_n_n_0_3_18 x idx (ix4 t p q h) = x (ix2 (rowOf (idx (ix4 t p q 0))) h) := by
  unfold Host.gather
  refine congrArg x ?_
  funext a
  refine Fin.ext ?_
  show gather_S32x8_S2x256x256x1_S2x256x256x8_3_0_n_n_0_3_18.start (ix4 t p q h) idx a
      + gather_S32x8_S2x256x256x1_S2x256x256x8_3_0_n_n_0_3_18.batchCoord (ix4 t p q h) a
      + gather_S32x8_S2x256x256x1_S2x256x256x8_3_0_n_n_0_3_18.offCoord (ix4 t p q h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2x256x256x1_S2x256x256x8_3_0_n_n_0_3_18.startIndexMap from List.mem_singleton.mpr rfl)]
    have hsi : gather_S32x8_S2x256x256x1_S2x256x256x8_3_0_n_n_0_3_18.siIdx (ix4 t p q h)
        ⟨List.idxOf (0 : Fin 2) gather_S32x8_S2x256x256x1_S2x256x256x8_3_0_n_n_0_3_18.startIndexMap,
          List.idxOf_lt_length_iff.2 (List.mem_singleton.mpr rfl)⟩ = ix4 t p q 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (show ¬ (1 : Fin 2) ∈ gather_S32x8_S2x256x256x1_S2x256x256x8_3_0_n_n_0_3_18.startIndexMap from by
      show ¬ (1 : Fin 2) ∈ ([0] : List (Fin 2)); decide)]
    simp only [Nat.zero_add, Nat.add_zero]
    rfl

variable (m : (ℓ : Loc nD τ sig) → Buf (Elt Ideal) ℓ) (c : Dev nD)

/-- The call's argument. -/
def arg (k : Fin 32) (h : Fin 8) : EReal := (m ((c : Thread nD τ).loc main_arg0) : Vec Ideal S32x8 .f32) (ix2 k h)

/-- The reference's result, before its words are read as numbers. -/
theorem ref_words (h : Fin 8) (t : Fin 2) (p q : Fin 256) :
    (Value.res_main_v46 m c : Vec Ideal S8x2x256x256 .f32) (ix4 h t p q)
      = Scalar.select (IntOp.cmpi .sge (relAt t p q) 0#32)
          (arg m c (rowOf (Scalar.select (IntOp.cmpi .slt (bucket (relAt t p q)) 0#32) (IntOp.addi (bucket (relAt t p q)) 32#32) (bucket (relAt t p q)))) h - arg m c 31 h)
          (Ideal.ofBits FTy.f32 0xF149F2CA#32) := by
  pointwise [Value.res_main_v46]
  rw [gather_at]
  pointwise []
  rfl

/-- The reference's result. -/
theorem ref_at (h : Fin 8) (t : Fin 2) (p q : Fin 256) :
    (Value.res_main_v46 m c : Vec Ideal S8x2x256x256 .f32) (ix4 h t p q) = biasAt (arg m c) h t p q := by
  rw [ref_words, select_sge, select_slt]
  unfold biasAt
  have h0 := (bucket_range (relAt t p q)).1
  have hr : rowOf (bucket (relAt t p q)) = ⟨(bucket (relAt t p q)).toNat, bucket_nat _⟩ := by
    refine Fin.ext ?_
    show min (bucket (relAt t p q)).toInt.toNat 31 = _
    have := bucket_nat (relAt t p q)
    rw [bucket_toInt]
    show min (Int.toNat ((bucket (relAt t p q)).toNat : ℤ)) 31 = (bucket (relAt t p q)).toNat
    omega
  rw [if_neg (show ¬ (bucket (relAt t p q)).toInt < (0#32 : BitVec 32).toInt by show ¬ (bucket (relAt t p q)).toInt < 0; omega), hr]
  rfl

end Cert.BiasRef

end
-- ==== Proof.BiasClaims.lean ====
/-
  The bias tiles' claims: the array the kernel's run leaves, the reference's frame, and both programs' results equal at every
  index, both being the bias of the entry's bucket less the last bucket's.
-/
module

public import proofs.«01_k».proof.Defs
public import proofs.«01_k».proof.Proof.BiasHost
public import proofs.«01_k».proof.Proof.BiasRef
public import Idealize.ShloMosaic.Lib.Pipeline.Value
public import Idealize.ShloMosaic.Adequacy
public import Idealize.ShloMosaic.Init

@[expose] public section

set_option maxRecDepth 16384

noncomputable section

namespace Cert.BiasClaims

open Idealize.ShloMosaic Idealize.ShloMosaic.TcCoe Idealize.SL.Sem

section Kernel

open Cert.BiasHost
open Cert.BiasIdeal Cert.BiasIdeal.Gen Cert.BiasIdeal.Value

variable (m : (ℓ : Loc nD τ sig) → Buf (Elt Ideal) ℓ) (ρ : Dev nD → PrngReg) (c : Dev nD)

/-- The result's array. -/
def G (c : Dev nD) : Buf (Elt Ideal) ((c : Thread nD τ).loc main_v56) := fun i => biasAt (arg m c) (i 0) (i 1) (i 2) (i 3)

/-- What a point writes back is its block of that array. -/
theorem flushed (t : Fin cfg0.N) : (dats m 0 c).flushed 2 t = ((cfg0.win 2).blk t).view.read (Elt Ideal) (G m c) := by
  have ht := lt_of_lt_of_eq t.isLt (show cfg0.N = 8 from N_0)
  obtain ⟨-, -, e2, -⟩ := win_index t
  have i0 : win0_2.index t (0 : Fin 4) = t.val := congrFun e2 0
  have i1 : win0_2.index t (1 : Fin 4) = 0 := congrFun e2 1
  have i2 : win0_2.index t (2 : Fin 4) = 0 := congrFun e2 2
  have i3 : win0_2.index t (3 : Fin 4) = 0 := congrFun e2 3
  rw [flushed2_A]
  funext y
  have hy0 : (y 0).val < 1 := (y 0).isLt
  have hy1 : (y 1).val < 2 := (y 1).isLt
  have hy2 : (y 2).val < 256 := (y 2).isLt
  have hy3 : (y 3).val < 256 := (y 3).isLt
  have hb0 : (((cfg0.win 2).blk t).view.emb y 0).val = win0_2.index t (0 : Fin 4) * 1 + 1 * (y 0).val := rfl
  have hb1 : (((cfg0.win 2).blk t).view.emb y 1).val = win0_2.index t (1 : Fin 4) * 2 + 1 * (y 1).val := rfl
  have hb2 : (((cfg0.win 2).blk t).view.emb y 2).val = win0_2.index t (2 : Fin 4) * 256 + 1 * (y 2).val := rfl
  have hb3 : (((cfg0.win 2).blk t).view.emb y 3).val = win0_2.index t (3 : Fin 4) * 256 + 1 * (y 3).val := rfl
  have hx : (cfg0.win 2).xinj (grid0.coords t) y = ix4 0 ⟨(y 1).val, hy1⟩ ⟨(y 2).val, hy2⟩ ⟨(y 3).val, hy3⟩ := by
    funext a
    match a with
    | ⟨0, _⟩ => exact Fin.ext (Nat.lt_one_iff.mp hy0)
    | ⟨1, _⟩ => rfl
    | ⟨2, _⟩ => rfl
    | ⟨3, _⟩ => rfl
  show out0_A_2 c (grid0.coords t) (ms0_0 t) (hs0_0 t) (ms0_1 t) (hs0_1 t) (ms0_2 t) (hs0_2 t) (iblk m c 0 t) (iblk m c 1 t) ((cfg0.win 2).xinj (grid0.coords t) y)
    = biasAt (arg m c) (((cfg0.win 2).blk t).view.emb y 0) (((cfg0.win 2).blk t).view.emb y 1) (((cfg0.win 2).blk t).view.emb y 2) (((cfg0.win 2).blk t).view.emb y 3)
  rw [hx]
  refine (out_at m c t ⟨t.val, ht⟩ rfl _ _ _).trans ?_
  have f0 : (((cfg0.win 2).blk t).view.emb y 0 : Fin 8) = ⟨t.val, ht⟩ := Fin.ext (by rw [hb0, i0]; show t.val * 1 + 1 * (y 0).val = t.val; omega)
  have f1 : (((cfg0.win 2).blk t).view.emb y 1 : Fin 2) = ⟨(y 1).val, hy1⟩ := Fin.ext (by rw [hb1, i1]; show 0 * 2 + 1 * (y 1).val = (y 1).val; omega)
  have f2 : (((cfg0.win 2).blk t).view.emb y 2 : Fin 256) = ⟨(y 2).val, hy2⟩ := Fin.ext (by rw [hb2, i2]; show 0 * 256 + 1 * (y 2).val = (y 2).val; omega)
  have f3 : (((cfg0.win 2).blk t).view.emb y 3 : Fin 256) = ⟨(y 3).val, hy3⟩ := Fin.ext (by rw [hb3, i3]; show 0 * 256 + 1 * (y 3).val = (y 3).val; omega)
  exact congr (congr (congr (congrArg (biasAt (arg m c)) f0.symm) f1.symm) f2.symm) f3.symm

/-- Which indices of the result a point's block holds. -/
theorem mem_blk (t : Fin cfg0.N) (i : S8x2x256x256.Idx) : i ∈ ((cfg0.win 2).blk t).view.set
    ↔ ∀ a : Fin 4, win0_2.index t a * S1x2x256x256.size a ≤ (i a).val ∧ (i a).val < win0_2.index t a * S1x2x256x256.size a + S1x2x256x256.size a := by
  show i ∈ ((View.whole main_v56).slice (win0_2.rect t)).set ↔ _
  rw [View.set_slice_whole, Rect.mem_set_unit]
  exact Iff.rfl

/-- Every index of the result is in its head's block. -/
theorem cover (i : S8x2x256x256.Idx) : ∃ t : Fin cfg0.N, (cfg0.win 2).flush t = true ∧ i ∈ ((cfg0.win 2).blk t).view.set := by
  have hi0 : (i 0).val < 8 := (i 0).isLt
  have hi1 : (i 1).val < 2 := (i 1).isLt
  have hi2 : (i 2).val < 256 := (i 2).isLt
  have hi3 : (i 3).val < 256 := (i 3).isLt
  have hlt : (i 0).val < cfg0.N := lt_of_lt_of_eq hi0 N_0.symm
  refine ⟨⟨(i 0).val, hlt⟩, flush0_2 _, ?_⟩
  obtain ⟨-, -, e2, -⟩ := win_index ⟨(i 0).val, hlt⟩
  have i0 : win0_2.index ⟨(i 0).val, hlt⟩ (0 : Fin 4) = (i 0).val := congrFun e2 0
  have i1 : win0_2.index ⟨(i 0).val, hlt⟩ (1 : Fin 4) = 0 := congrFun e2 1
  have i2 : win0_2.index ⟨(i 0).val, hlt⟩ (2 : Fin 4) = 0 := congrFun e2 2
  have i3 : win0_2.index ⟨(i 0).val, hlt⟩ (3 : Fin 4) = 0 := congrFun e2 3
  rw [mem_blk]
  intro a
  match a with
  | ⟨0, _⟩ => show win0_2.index _ (0 : Fin 4) * 1 ≤ (i 0).val ∧ (i 0).val < win0_2.index _ (0 : Fin 4) * 1 + 1; rw [i0]; omega
  | ⟨1, _⟩ => show win0_2.index _ (1 : Fin 4) * 2 ≤ (i 1).val ∧ (i 1).val < win0_2.index _ (1 : Fin 4) * 2 + 2; rw [i1]; omega
  | ⟨2, _⟩ => show win0_2.index _ (2 : Fin 4) * 256 ≤ (i 2).val ∧ (i 2).val < win0_2.index _ (2 : Fin 4) * 256 + 256; rw [i2]; omega
  | ⟨3, _⟩ => show win0_2.index _ (3 : Fin 4) * 256 ≤ (i 3).val ∧ (i 3).val < win0_2.index _ (3 : Fin 4) * 256 + 256; rw [i3]; omega

/-- The run leaves the array and the argument as it was. -/
theorem run : θ_run defs (onTc (τ := τ) (main (F := Ideal))) ⟨m, fun _ => 0, ρ⟩ fun r => ∀ c : Dev nD,
      r.2.mem ((c : Thread nD τ).loc main_v56) = G m c
      ∧ r.2.mem ((c : Thread nD τ).loc main_arg0) = m ((c : Thread nD τ).loc main_arg0) :=
  (θ_run defs _ _).mono (fun _ h c => ⟨(h c).1.trans ((dats m 0 c).arrAt_eq_of_cover 2 _ (fun t _ => flushed m c t) cover), (h c).2⟩)
    (run_blocks m ρ)

end Kernel

/-- The reference's frame. -/
theorem ref_frame : Cert.quiescent_BiasRefIdeal := fun m ρ _ =>
  (θ_run Cert.BiasRefIdeal.defs _ _).mono (fun r h => ⟨fun c => (h c).2, sem_eq_zero_of_no_sems (by decide) r.2⟩) (Cert.BiasRefIdeal.Value.run m ρ)

/-- The kernel's result and the reference's are equal, element by element. -/
theorem algebraic : Cert.algebraic_BiasIdeal_BiasRefIdeal := by
  intro m ρ m' ρ' _ hagree
  refine ⟨fun c => G m c, run m ρ, ?_⟩
  refine (θ_run Cert.BiasRefIdeal.defs _ _).mono (fun r h c => ⟨(h c).1.trans ?_, (h c).2⟩) (Cert.BiasRefIdeal.Value.run m' ρ')
  have e0 := hagree c
  have ha : BiasRef.arg m' c = BiasHost.arg m c := by
    unfold BiasRef.arg BiasHost.arg
    rw [e0]
  funext i
  idx_vars i
  refine (BiasRef.ref_at m' c _ _ _ _).trans ?_
  rw [ha]
  rfl

end Cert.BiasClaims

end
-- ==== Proof.InProjRuns.lean ====
/-
  The input projection's body at each kind of grid point: what its stores leave in the buffers it writes, as the list of
  the stores, newest first.
-/
module

public import proofs.«01_k».proof.Proof.Gen.InProjIdeal.Frame
public import proofs.«01_k».proof.Proof.Gen.InProjIdeal.Skeleton

@[expose] public section

set_option maxRecDepth 16384

noncomputable section

namespace Cert.InProjFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

/-- The body's first condition: the grid's first point. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

variable (c : Dev nD) (i : grid0.Coords) (arg2 : Memref sig .tc .vmem S512x1024 .f32) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1024x128 .bf16) (harg5 : arg5.IsWhole) (arg6 : Memref sig .tc .vmem S1x128 .f32) (harg6 : arg6.IsWhole)
  (arg7 : Memref sig .tc .vmem S4x1024 .f32) (harg7 : arg7.IsWhole) (arg8 : Memref sig .tc .vmem S512x1024 .bf16) (harg8 : arg8.IsWhole)
  (arg9 : Memref sig .tc .vmem S512x128 .f32) (harg9 : arg9.IsWhole) (arg10 : Memref sig .tc .vmem S512x1024 .bf16) (harg10 : arg10.IsWhole)
  (arg11 : Memref sig .tc .vmem S512x1024 .f32) (harg11 : arg11.IsWhole) (arg12 : Memref sig .tc .vmem S2x8x1024 .f32) (harg12 : arg12.IsWhole)
  (x0 : Vec F S512x1024 .f32) (x1 : Vec F S1024x1024 .bf16) (x2 : Vec F S1x1024 .f32) (x3 : Vec F S1024x128 .bf16) (x4 : Vec F S1x128 .f32)
  (x5 : Vec F S4x1024 .f32) (g : Vec F S512x128 .f32) (xb : Vec F S512x1024 .bf16) (acc : Vec F S512x1024 .f32) (kr : Vec F S2x8x1024 .f32)

/-- The six operands the body only reads, each at its contents. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The body, run with the written buffers at given contents, ends with `o'`, …, `kr'` in them. -/
def Runs (o' : Vec F S512x1024 .bf16) (g' : Vec F S512x128 .f32) (xb' : Vec F S512x1024 .bf16) (acc' : Vec F S512x1024 .f32) (kr' : Vec F S2x8x1024 .f32) : Prop :=
  ∀ (o : Vec F S512x1024 .bf16) (E : Set ℕ) (K : PUnit → sProp 𝕄),
    iprop(ins c arg2 arg3 arg4 arg5 arg6 arg7 x0 x1 x2 x3 x4 x5
        ∗ owns (c : Thread nD τ) arg8 fullShare o ∗ owns (c : Thread nD τ) arg9 fullShare g ∗ owns (c : Thread nD τ) arg10 fullShare xb
        ∗ owns (c : Thread nD τ) arg11 fullShare acc ∗ owns (c : Thread nD τ) arg12 fullShare kr
        ∗ (iprop(ins c arg2 arg3 arg4 arg5 arg6 arg7 x0 x1 x2 x3 x4 x5
            ∗ owns (c : Thread nD τ) arg8 fullShare o' ∗ owns (c : Thread nD τ) arg9 fullShare g' ∗ owns (c : Thread nD τ) arg10 fullShare xb'
            ∗ owns (c : Thread nD τ) arg11 fullShare acc' ∗ owns (c : Thread nD τ) arg12 fullShare kr') -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11 arg12 harg12) K

/-- The kernel's word for whether the point's tile starts a sequence. -/
def startWord (i : grid0.Coords) : BitVec 1 :=
  Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32))
    (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32

/-- Columns 0 to 255 of a tile. -/
def col0 (A : Vec F S512x1024 .f32) : Vec F S512x256 .f32 := View.ld (Val := Elt F) (e' := .f32) A (Rect.unit (s := S512x1024) ![0, 0] S512x256.size inb_S512x1024_S512x256_0_0)
/-- Columns 256 to 511 of a tile. -/
def col1 (A : Vec F S512x1024 .f32) : Vec F S512x256 .f32 := View.ld (Val := Elt F) (e' := .f32) A (Rect.unit (s := S512x1024) ![0, 256] S512x256.size inb_S512x1024_S512x256_0_256)
/-- Columns 512 to 767 of a tile. -/
def col2 (A : Vec F S512x1024 .f32) : Vec F S512x256 .f32 := View.ld (Val := Elt F) (e' := .f32) A (Rect.unit (s := S512x1024) ![0, 512] S512x256.size inb_S512x1024_S512x256_0_512)
/-- Columns 768 to 1023 of a tile. -/
def col3 (A : Vec F S512x1024 .f32) : Vec F S512x256 .f32 := View.ld (Val := Elt F) (e' := .f32) A (Rect.unit (s := S512x1024) ![0, 768] S512x256.size inb_S512x1024_S512x256_0_768)

/-- Columns 0 to 255 of the taps. -/
def tap0 (T : Vec F S4x1024 .f32) : Vec F S4x256 .f32 := View.ld (Val := Elt F) (e' := .f32) T (Rect.unit (s := S4x1024) ![0, 0] S4x256.size inb_S4x1024_S4x256_0_0)
/-- Columns 256 to 511 of the taps. -/
def tap1 (T : Vec F S4x1024 .f32) : Vec F S4x256 .f32 := View.ld (Val := Elt F) (e' := .f32) T (Rect.unit (s := S4x1024) ![0, 256] S4x256.size inb_S4x1024_S4x256_0_256)
/-- Columns 512 to 767 of the taps. -/
def tap2 (T : Vec F S4x1024 .f32) : Vec F S4x256 .f32 := View.ld (Val := Elt F) (e' := .f32) T (Rect.unit (s := S4x1024) ![0, 512] S4x256.size inb_S4x1024_S4x256_0_512)
/-- Columns 768 to 1023 of the taps. -/
def tap3 (T : Vec F S4x1024 .f32) : Vec F S4x256 .f32 := View.ld (Val := Elt F) (e' := .f32) T (Rect.unit (s := S4x1024) ![0, 768] S4x256.size inb_S4x1024_S4x256_0_768)

/-- The kept rows at the point's group, columns 0 to 255. -/
def row0 (h : k0_cond3 i = 1#1) (X : Vec F S2x8x1024 .f32) : Vec F S1x8x256 .f32 := View.ld (Val := Elt F) (e' := .f32) X (Rect.unit (s := S2x8x1024) (k0_off1 i) S1x8x256.size (k0_off1_inb i h))
/-- The kept rows at the point's group, columns 256 to 511. -/
def row1 (h : k0_cond3 i = 1#1) (X : Vec F S2x8x1024 .f32) : Vec F S1x8x256 .f32 := View.ld (Val := Elt F) (e' := .f32) X (Rect.unit (s := S2x8x1024) (k0_off2 i) S1x8x256.size (k0_off2_inb i h))
/-- The kept rows at the point's group, columns 512 to 767. -/
def row2 (h : k0_cond3 i = 1#1) (X : Vec F S2x8x1024 .f32) : Vec F S1x8x256 .f32 := View.ld (Val := Elt F) (e' := .f32) X (Rect.unit (s := S2x8x1024) (k0_off3 i) S1x8x256.size (k0_off3_inb i h))
/-- The kept rows at the point's group, columns 768 to 1023. -/
def row3 (h : k0_cond3 i = 1#1) (X : Vec F S2x8x1024 .f32) : Vec F S1x8x256 .f32 := View.ld (Val := Elt F) (e' := .f32) X (Rect.unit (s := S2x8x1024) (k0_off4 i) S1x8x256.size (k0_off4_inb i h))

/-- The point's factor. -/
def fac (i : grid0.Coords) : F .f32 := k0_pay2 (BitVec.ofNat 32 (i 1).val)

/-- The four stores of a convolved tile. -/
def convPieces (h : k0_cond3 i = 1#1) (A : Vec F S512x1024 .f32) (X : Vec F S2x8x1024 .f32) (T : Vec F S4x1024 .f32) : List (View.Piece (Elt F) S512x1024 .bf16) :=
  [⟨Rect.unit (s := S512x1024) ![0, 768] S512x256.size inb_S512x1024_S512x256_0_768, k0_pay36 (fac i) (k0_pay25 (startWord i) (col3 A) (k0_pay21 (row3 i h X)) k0_pay22 (tap3 T)) (k0_pay26 (startWord i) (col3 A) (k0_pay21 (row3 i h X)) k0_pay22 (tap3 T))⟩,
    ⟨Rect.unit (s := S512x1024) ![0, 512] S512x256.size inb_S512x1024_S512x256_0_512, k0_pay20 (fac i) (col2 A) (k0_pay15 (startWord i) (row2 i h X)) (tap2 T) (iota .tc S8x256 32 [0] iota_S8x256_d0_w32) (k0_pay17 (col2 A) (tap2 T)) (k0_pay18 (startWord i) (col2 A) (row2 i h X)) (k0_pay19 (tap2 T))⟩,
    ⟨Rect.unit (s := S512x1024) ![0, 256] S512x256.size inb_S512x1024_S512x256_0_256, k0_pay14 (fac i) (k0_pay11 (startWord i) (col1 A) (k0_pay8 (row1 i h X)) (tap1 T)) (k0_pay12 (startWord i) (col1 A) (k0_pay8 (row1 i h X))) (k0_pay13 (tap1 T))⟩,
    ⟨Rect.unit (s := S512x1024) ![0, 0] S512x256.size inb_S512x1024_S512x256_0_0, k0_pay7 (fac i) (col0 A) (k0_pay3 (BitVec.ofNat 32 (i 0).val) (row0 i h X)) (tap0 T) (iota .tc S8x256 32 [0] iota_S8x256_d0_w32) (k0_pay5 (col0 A) (tap0 T)) (k0_pay6 (BitVec.ofNat 32 (i 0).val) (col0 A) (row0 i h X))⟩]

/-- A convolved tile. -/
def convOut (h : k0_cond3 i = 1#1) (A : Vec F S512x1024 .f32) (X : Vec F S2x8x1024 .f32) (T : Vec F S4x1024 .f32) : Vec F S512x1024 .bf16 :=
  View.canon (convPieces i h A X T)

/-- The four stores of a tile's last rows. -/
def keepPieces (h : k0_cond3 i = 1#1) (A : Vec F S512x1024 .f32) : List (View.Piece (Elt F) S2x8x1024 .f32) :=
  [⟨Rect.unit (s := S2x8x1024) (k0_off4 i) S1x8x256.size (k0_off4_inb i h), k0_pay24 (col3 A)⟩, ⟨Rect.unit (s := S2x8x1024) (k0_off3 i) S1x8x256.size (k0_off3_inb i h), k0_pay16 (col2 A)⟩,
    ⟨Rect.unit (s := S2x8x1024) (k0_off2 i) S1x8x256.size (k0_off2_inb i h), k0_pay10 (col1 A)⟩, ⟨Rect.unit (s := S2x8x1024) (k0_off1 i) S1x8x256.size (k0_off1_inb i h), k0_pay4 (col0 A)⟩]

/-- The kept rows after a tile's last rows are stored at the point's group. -/
def keepOut (h : k0_cond3 i = 1#1) (A : Vec F S512x1024 .f32) (X : Vec F S2x8x1024 .f32) : Vec F S2x8x1024 .f32 :=
  arg12.view.read (Elt F) (arg12.view.writes (Elt F) (harg12.unread X) (keepPieces i h A))

/-- The four stores of a gated tile. -/
def gatePieces (A : Vec F S512x1024 .f32) : List (View.Piece (Elt F) S512x1024 .bf16) :=
  [⟨Rect.unit (s := S512x1024) ![0, 768] S512x256.size inb_S512x1024_S512x256_0_768, k0_pay37 (k0_pay30 (col3 A))⟩,
    ⟨Rect.unit (s := S512x1024) ![0, 512] S512x256.size inb_S512x1024_S512x256_0_512, k0_pay29 (col2 A)⟩,
    ⟨Rect.unit (s := S512x1024) ![0, 256] S512x256.size inb_S512x1024_S512x256_0_256, k0_pay28 (col1 A)⟩,
    (⟨Rect.unit (s := S512x1024) ![0, 0] S512x256.size inb_S512x1024_S512x256_0_0, k0_pay27 (col0 A)⟩ : View.Piece (Elt F) S512x1024 .bf16)]

/-- A gated tile. -/
def gateOut (A : Vec F S512x1024 .f32) : Vec F S512x1024 .bf16 := View.canon (gatePieces A)

end Cert.InProjFrame

end
-- ==== Proof.InProjBody.lean ====
/-
  The input projection's body, run at each kind of grid point: the grid's first point, a tile's first point, the second
  convolved group, the gated groups and the copied groups.
-/
module

public import proofs.«01_k».proof.Proof.InProjRuns
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.InProjFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1024x128 .bf16) (harg5 : arg5.IsWhole) (arg6 : Memref sig .tc .vmem S1x128 .f32) (harg6 : arg6.IsWhole)
  (arg7 : Memref sig .tc .vmem S4x1024 .f32) (harg7 : arg7.IsWhole) (arg8 : Memref sig .tc .vmem S512x1024 .bf16) (harg8 : arg8.IsWhole)
  (arg9 : Memref sig .tc .vmem S512x128 .f32) (harg9 : arg9.IsWhole) (arg10 : Memref sig .tc .vmem S512x1024 .bf16) (harg10 : arg10.IsWhole)
  (arg11 : Memref sig .tc .vmem S512x1024 .f32) (harg11 : arg11.IsWhole) (arg12 : Memref sig .tc .vmem S2x8x1024 .f32) (harg12 : arg12.IsWhole)
  (x0 : Vec F S512x1024 .f32) (x1 : Vec F S1024x1024 .bf16) (x2 : Vec F S1x1024 .f32) (x3 : Vec F S1024x128 .bf16) (x4 : Vec F S1x128 .f32)
  (x5 : Vec F S4x1024 .f32) (g : Vec F S512x128 .f32) (xb : Vec F S512x1024 .bf16) (acc : Vec F S512x1024 .f32) (kr : Vec F S2x8x1024 .f32)

/-- A convolved tile's stores cover it. -/
theorem conv_cover (h : k0_cond3 i = 1#1) (A : Vec F S512x1024 .f32) (X : Vec F S2x8x1024 .f32) (T : Vec F S4x1024 .f32) (y : S512x1024.Idx) :
    ∃ p ∈ convPieces i h A X T, y ∈ p.1.set :=
  View.cover_of_tiledL (convPieces i h A X T) S512x256.size (by sl_kernel_rfl) y

/-- A store of a whole buffer is what is read afterwards. -/
theorem read_whole {S : Shape} {e : EltTy} {κ : Kind} {sp : Space} (v : View sig κ sp S e) (f : v.ty.Contents (Elt F)) {off : Fin S.rank → ℕ} (inb : ∀ a, off a + S.size a ≤ S.size a)
    (h : ∀ a, off a = 0) (X : S.Idx → Elt F e) :
    v.read (Elt F) (v.writes (Elt F) f [⟨Rect.unit off S.size inb, X⟩]) = X := by
  funext y
  exact View.read_writes_cons_unit_of_mem v f inb X [] y y (funext h : off = fun _ => 0) fun a => (Nat.zero_add _).symm

/-- A gated tile's stores cover it. -/
theorem gate_cover (A : Vec F S512x1024 .f32) (y : S512x1024.Idx) : ∃ p ∈ gatePieces A, y ∈ p.1.set :=
  View.cover_of_tiledL (gatePieces A) S512x256.size (by sl_kernel_rfl) y

/-- A load of columns past the last store's reads what the earlier stores left. -/
theorem ld_skip {e : EltTy} {off size off' size' : Fin 3 → ℕ} (inb : ∀ a, off a + size a ≤ S2x8x1024.size a) (inb' : ∀ a, off' a + size' a ≤ S2x8x1024.size a)
    (w : (Rect.unit (s := S2x8x1024) off size inb).shape.Idx → Elt F e) (L : List (View.Piece (Elt F) S2x8x1024 e)) (h : off 2 + size 2 ≤ off' 2) :
    View.ld (View.canon ((⟨Rect.unit (s := S2x8x1024) off size inb, w⟩ : View.Piece (Elt F) S2x8x1024 e) :: L)) (Rect.unit (s := S2x8x1024) off' size' inb')
      = View.ld (View.canon L) (Rect.unit (s := S2x8x1024) off' size' inb') := by
  funext y
  refine View.canon_cons_of_not_mem _ L fun hm => ?_
  have := ((Rect.mem_set_unit (s := S2x8x1024) (off := off) (size := size) (inb := inb)).mp hm (2 : Fin 3)).2
  have h2 : (((Rect.unit (s := S2x8x1024) off' size' inb').idx y (2 : Fin 3)).val) = off' 2 + 1 * (y (2 : Fin 3)).val := rfl
  have h3 : (((Rect.unit (s := S2x8x1024) off' size' inb').idx y (2 : Fin 3)).val) < off 2 + size 2 := this
  omega

/-- Stores over a whole store are the stores written on its contents. -/
theorem canon_over {S : Shape} {e : EltTy} {a : Memref sig .tc .vmem S e} (ha : a.IsWhole) {off : Fin S.rank → ℕ} (inb : ∀ a, off a + S.size a ≤ S.size a)
    (h : ∀ a, off a = 0) (Z : S.Idx → Elt F e) (L : List (View.Piece (Elt F) S e)) :
    View.canon (L ++ [⟨Rect.unit off S.size inb, Z⟩]) = a.view.read (Elt F) (a.view.writes (Elt F) (ha.unread Z) L) := by
  have hc : ∀ y : S.Idx, ∃ p ∈ L ++ [(⟨Rect.unit off S.size inb, Z⟩ : View.Piece (Elt F) S e)], y ∈ p.1.set := by
    intro y
    refine ⟨⟨Rect.unit off S.size inb, Z⟩, List.mem_append_right L (List.mem_singleton.mpr rfl), ?_⟩
    exact (Rect.mem_set_unit (off := off) (size := S.size) (inb := inb)).mpr fun a => ⟨by rw [h a]; exact Nat.zero_le _, by rw [h a, Nat.zero_add]; exact (y a).isLt⟩
  rw [← View.read_writes_eq_canon a.view (ha.unread Z) _ hc]
  have h1 : a.view.writes (Elt F) (ha.unread Z) [⟨Rect.unit off S.size inb, Z⟩] = ha.unread Z := ha.eq_unread (read_whole a.view _ inb h Z)
  have h2 : ∀ L : List (View.Piece (Elt F) S e), a.view.writes (Elt F) (ha.unread Z) (L ++ [⟨Rect.unit off S.size inb, Z⟩]) = a.view.writes (Elt F) (ha.unread Z) L := by
    intro L
    induction L with
    | nil => exact h1
    | cons p L ih => exact congrArg (fun f => a.view.writes (Elt F) f [p]) ih
  rw [h2]

set_option maxHeartbeats 1200000 in
/-- The grid's first point: the kept rows are cleared first. -/
theorem run_A (h1 : cond1 i) (h2 : k0_cond2 i = 1#1) (h3 : k0_cond3 i = 1#1) (h4 : ¬k0_cond4 i = 1#1) (h5 : ¬k0_cond5 i = 1#1) :
    Runs c i arg2 harg2 arg3 harg3 arg4 harg4 arg5 harg5 arg6 harg6 arg7 harg7 arg8 harg8 arg9 harg9 arg10 harg10 arg11 harg11 arg12 harg12
      x0 x1 x2 x3 x4 x5 g xb acc kr (convOut i h3 (k0_pay35 (k0_pay33 x0) x1 x2) (k0_pay31 (F := F)) x5) (k0_pay34 x0 x3 x4) (k0_pay33 x0) (k0_pay35 (k0_pay33 x0) x1 x2) (keepOut i arg12 harg12 h3 (k0_pay35 (k0_pay33 x0) x1 x2) (k0_pay31 (F := F))) := by
  intro o E K
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
  sl_exec (disch := first | sl_exact h1 | sl_exact h2 | sl_exact h3 | sl_exact h4 | sl_exact h5)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    on_goal 2 => iexact H6
    ipureintro
    frame_out
    simp (disch := first | decide | exact Nat.le_of_ble_eq_true rfl) only [View.readCov_fill, ld_skip, View.canon_cons_unit_lit]
    exact View.read_writes_eq_canon _ _ (convPieces i h3 (k0_pay35 (k0_pay33 x0) x1 x2) (k0_pay31 (F := F)) x5) (conv_cover i _ _ _ _)
  isplitl [H7]
  · iexists _; isplitr
    on_goal 2 => iexact H7
    ipureintro
    frame_out
    exact read_whole _ _ _ (by decide) _
  isplitl [HS0]
  · iexists _; isplitr
    on_goal 2 => iexact HS0
    ipureintro
    frame_out
    exact read_whole _ _ _ (by decide) _
  isplitl [HS1]
  · iexists _; isplitr
    on_goal 2 => iexact HS1
    ipureintro
    frame_out
    exact read_whole _ _ _ (by decide) _
  iexists _; isplitr
  on_goal 2 => iexact HS2
  ipureintro
  frame_out
  try simp (disch := decide) only [View.readCov_fill]
  exact canon_over harg12 _ (by decide) _ (keepPieces i h3 (k0_pay35 (k0_pay33 x0) x1 x2))

set_option maxHeartbeats 1200000 in
/-- A later tile's first point. -/
theorem run_B (h1 : ¬cond1 i) (h2 : k0_cond2 i = 1#1) (h3 : k0_cond3 i = 1#1) (h4 : ¬k0_cond4 i = 1#1) (h5 : ¬k0_cond5 i = 1#1) :
    Runs c i arg2 harg2 arg3 harg3 arg4 harg4 arg5 harg5 arg6 harg6 arg7 harg7 arg8 harg8 arg9 harg9 arg10 harg10 arg11 harg11 arg12 harg12
      x0 x1 x2 x3 x4 x5 g xb acc kr (convOut i h3 (k0_pay35 (k0_pay33 x0) x1 x2) kr x5) (k0_pay34 x0 x3 x4) (k0_pay33 x0) (k0_pay35 (k0_pay33 x0) x1 x2) (keepOut i arg12 harg12 h3 (k0_pay35 (k0_pay33 x0) x1 x2) kr) := by
  intro o E K
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
  sl_exec (disch := first | sl_exact h1 | sl_exact h2 | sl_exact h3 | sl_exact h4 | sl_exact h5)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    on_goal 2 => iexact H6
    ipureintro
    frame_out
    try simp (disch := decide) only [View.readCov_fill]
    exact View.read_writes_eq_canon _ _ (convPieces i h3 (k0_pay35 (k0_pay33 x0) x1 x2) kr x5) (conv_cover i _ _ _ _)
  isplitl [H7]
  · iexists _; isplitr
    on_goal 2 => iexact H7
    ipureintro
    frame_out
    exact read_whole _ _ _ (by decide) _
  isplitl [HS0]
  · iexists _; isplitr
    on_goal 2 => iexact HS0
    ipureintro
    frame_out
    exact read_whole _ _ _ (by decide) _
  isplitl [HS1]
  · iexists _; isplitr
    on_goal 2 => iexact HS1
    ipureintro
    frame_out
    exact read_whole _ _ _ (by decide) _
  iexists _; isplitr
  on_goal 2 => iexact HS2
  ipureintro
  frame_out
  try simp (disch := decide) only [View.readCov_fill]
  rfl

set_option maxHeartbeats 1200000 in
/-- The second convolved group. -/
theorem run_C (h1 : ¬cond1 i) (h2 : ¬k0_cond2 i = 1#1) (h3 : k0_cond3 i = 1#1) (h4 : ¬k0_cond4 i = 1#1) (h5 : ¬k0_cond5 i = 1#1) :
    Runs c i arg2 harg2 arg3 harg3 arg4 harg4 arg5 harg5 arg6 harg6 arg7 harg7 arg8 harg8 arg9 harg9 arg10 harg10 arg11 harg11 arg12 harg12
      x0 x1 x2 x3 x4 x5 g xb acc kr (convOut i h3 (k0_pay35 xb x1 x2) kr x5) g xb (k0_pay35 xb x1 x2) (keepOut i arg12 harg12 h3 (k0_pay35 xb x1 x2) kr) := by
  intro o E K
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
  sl_exec (disch := first | sl_exact h1 | sl_exact h2 | sl_exact h3 | sl_exact h4 | sl_exact h5)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    on_goal 2 => iexact H6
    ipureintro
    frame_out
    try simp (disch := decide) only [View.readCov_fill]
    exact View.read_writes_eq_canon _ _ (convPieces i h3 (k0_pay35 xb x1 x2) kr x5) (conv_cover i _ _ _ _)
  isplitl [H7]
  · iexists _; isplitr
    on_goal 2 => iexact H7
    ipureintro
    exact harg9.read_unread _
  isplitl [HS0]
  · iexists _; isplitr
    on_goal 2 => iexact HS0
    ipureintro
    exact harg10.read_unread _
  isplitl [HS1]
  · iexists _; isplitr
    on_goal 2 => iexact HS1
    ipureintro
    frame_out
    exact read_whole _ _ _ (by decide) _
  iexists _; isplitr
  on_goal 2 => iexact HS2
  ipureintro
  frame_out
  try simp (disch := decide) only [View.readCov_fill]
  rfl

set_option maxHeartbeats 1200000 in
/-- A gated group. -/
theorem run_D (h1 : ¬cond1 i) (h2 : ¬k0_cond2 i = 1#1) (h3 : ¬k0_cond3 i = 1#1) (h4 : k0_cond4 i = 1#1) (h5 : ¬k0_cond5 i = 1#1) :
    Runs c i arg2 harg2 arg3 harg3 arg4 harg4 arg5 harg5 arg6 harg6 arg7 harg7 arg8 harg8 arg9 harg9 arg10 harg10 arg11 harg11 arg12 harg12
      x0 x1 x2 x3 x4 x5 g xb acc kr (gateOut (k0_pay35 xb x1 x2)) g xb (k0_pay35 xb x1 x2) kr := by
  intro o E K
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
  sl_exec (disch := first | sl_exact h1 | sl_exact h2 | sl_exact h3 | sl_exact h4 | sl_exact h5)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    on_goal 2 => iexact H6
    ipureintro
    frame_out
    try simp (disch := decide) only [View.readCov_fill]
    exact View.read_writes_eq_canon _ _ (gatePieces (k0_pay35 xb x1 x2)) (gate_cover _)
  isplitl [H7]
  · iexists _; isplitr
    on_goal 2 => iexact H7
    ipureintro
    exact harg9.read_unread _
  isplitl [HS0]
  · iexists _; isplitr
    on_goal 2 => iexact HS0
    ipureintro
    exact harg10.read_unread _
  isplitl [HS1]
  · iexists _; isplitr
    on_goal 2 => iexact HS1
    ipureintro
    frame_out
    exact read_whole _ _ _ (by decide) _
  iexists _; isplitr
  on_goal 2 => iexact HS2
  ipureintro
  exact harg12.read_unread _

set_option maxHeartbeats 1200000 in
/-- A copied group. -/
theorem run_E (h1 : ¬cond1 i) (h2 : ¬k0_cond2 i = 1#1) (h3 : ¬k0_cond3 i = 1#1) (h4 : ¬k0_cond4 i = 1#1) (h5 : k0_cond5 i = 1#1) :
    Runs c i arg2 harg2 arg3 harg3 arg4 harg4 arg5 harg5 arg6 harg6 arg7 harg7 arg8 harg8 arg9 harg9 arg10 harg10 arg11 harg11 arg12 harg12
      x0 x1 x2 x3 x4 x5 g xb acc kr (k0_pay1 (k0_pay35 xb x1 x2)) g xb (k0_pay35 xb x1 x2) kr := by
  intro o E K
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
  sl_exec (disch := first | sl_exact h1 | sl_exact h2 | sl_exact h3 | sl_exact h4 | sl_exact h5)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    on_goal 2 => iexact H6
    ipureintro
    frame_out
    exact read_whole _ _ _ (by decide) _
  isplitl [H7]
  · iexists _; isplitr
    on_goal 2 => iexact H7
    ipureintro
    exact harg9.read_unread _
  isplitl [HS0]
  · iexists _; isplitr
    on_goal 2 => iexact HS0
    ipureintro
    exact harg10.read_unread _
  isplitl [HS1]
  · iexists _; isplitr
    on_goal 2 => iexact HS1
    ipureintro
    frame_out
    exact read_whole _ _ _ (by decide) _
  iexists _; isplitr
  on_goal 2 => iexact HS2
  ipureintro
  exact harg12.read_unread _

end Cert.InProjFrame

end
-- ==== Proof.InProjFrame.lean ====
/-
  The input projection's grid: what each point leaves in the written buffers, the pipeline's proof data, and the frame.
-/
module

public import proofs.«01_k».proof.Proof.InProjBody
public import Idealize.ShloMosaic.Lib.Pipeline.TableIdle
public import Idealize.ShloMosaic.Lib.Claim

@[expose] public section

set_option maxRecDepth 16384

noncomputable section

namespace Cert.InProjFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

/-! ## The points' conditions -/

/-- The first condition holds at the grid's first point. -/
theorem hcond1 (t : Fin cfg0.N) : cond1 (grid0.coords t) ↔ t.val = 0 := by
  have ht : t.val < 576 := Nat.lt_of_lt_of_eq t.isLt N_0
  have e0 : (grid0.coords t 0).val = t.val / 9 % 64 := Pipeline.Grid.coords_val t 0 (by decide) rfl
  have e1 : (grid0.coords t 1).val = t.val / 1 % 9 := Pipeline.Grid.coords_val t 1 (by decide) rfl
  simp only [cond1, e0, e1]
  word_cmp

/-- The second holds at a tile's first point. -/
theorem hcond2 (t : Fin cfg0.N) : k0_cond2 (grid0.coords t) = 1#1 ↔ t.val % 9 = 0 := by
  have ht : t.val < 576 := Nat.lt_of_lt_of_eq t.isLt N_0
  have e1 : (grid0.coords t 1).val = t.val / 1 % 9 := Pipeline.Grid.coords_val t 1 (by decide) rfl
  simp only [k0_cond2, e1]
  word_cmp

/-- The third holds at a tile's first two points. -/
theorem hcond3 (t : Fin cfg0.N) : k0_cond3 (grid0.coords t) = 1#1 ↔ t.val % 9 ≤ 1 := by
  have ht : t.val < 576 := Nat.lt_of_lt_of_eq t.isLt N_0
  have e1 : (grid0.coords t 1).val = t.val / 1 % 9 := Pipeline.Grid.coords_val t 1 (by decide) rfl
  simp only [k0_cond3, e1]
  word_cmp

/-- The fourth holds at a tile's fourth point and its last two. -/
theorem hcond4 (t : Fin cfg0.N) : k0_cond4 (grid0.coords t) = 1#1 ↔ (t.val % 9 = 3 ∨ 7 ≤ t.val % 9) := by
  have ht : t.val < 576 := Nat.lt_of_lt_of_eq t.isLt N_0
  have e1 : (grid0.coords t 1).val = t.val / 1 % 9 := Pipeline.Grid.coords_val t 1 (by decide) rfl
  simp only [k0_cond4, e1]
  word_cmp

/-- The fifth holds at a tile's third point and its fifth, sixth and seventh. -/
theorem hcond5 (t : Fin cfg0.N) : k0_cond5 (grid0.coords t) = 1#1 ↔ (t.val % 9 = 2 ∨ (4 ≤ t.val % 9 ∧ t.val % 9 ≤ 6)) := by
  have ht : t.val < 576 := Nat.lt_of_lt_of_eq t.isLt N_0
  have e1 : (grid0.coords t 1).val = t.val / 1 % 9 := Pipeline.Grid.coords_val t 1 (by decide) rfl
  simp only [k0_cond5, e1]
  word_cmp

/-! ## One point -/

variable (c : Dev nD) (i : grid0.Coords) (arg2 : Memref sig .tc .vmem S512x1024 .f32) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1024x128 .bf16) (harg5 : arg5.IsWhole) (arg6 : Memref sig .tc .vmem S1x128 .f32) (harg6 : arg6.IsWhole)
  (arg7 : Memref sig .tc .vmem S4x1024 .f32) (harg7 : arg7.IsWhole) (arg8 : Memref sig .tc .vmem S512x1024 .bf16) (harg8 : arg8.IsWhole)
  (arg9 : Memref sig .tc .vmem S512x128 .f32) (harg9 : arg9.IsWhole) (arg10 : Memref sig .tc .vmem S512x1024 .bf16) (harg10 : arg10.IsWhole)
  (arg11 : Memref sig .tc .vmem S512x1024 .f32) (harg11 : arg11.IsWhole) (arg12 : Memref sig .tc .vmem S2x8x1024 .f32) (harg12 : arg12.IsWhole)
  (x0 : Vec F S512x1024 .f32) (x1 : Vec F S1024x1024 .bf16) (x2 : Vec F S1x1024 .f32) (x3 : Vec F S1024x128 .bf16) (x4 : Vec F S1x128 .f32)
  (x5 : Vec F S4x1024 .f32) (g : Vec F S512x128 .f32) (xb : Vec F S512x1024 .bf16) (acc : Vec F S512x1024 .f32) (kr : Vec F S2x8x1024 .f32)

/-- The rounded tile a point works on. -/
def xbN : Vec F S512x1024 .bf16 := if k0_cond2 i = 1#1 then k0_pay33 x0 else xb
/-- The gates' buffer after a point. -/
def gN : Vec F S512x128 .f32 := if k0_cond2 i = 1#1 then k0_pay34 x0 x3 x4 else g
/-- The accumulator after a point. -/
def accN : Vec F S512x1024 .f32 := k0_pay35 (xbN i x0 xb) x1 x2
/-- The kept rows a point finds. -/
def krIn : Vec F S2x8x1024 .f32 := if cond1 i then k0_pay31 else kr
/-- The kept rows after a point. -/
def krN : Vec F S2x8x1024 .f32 := if h : k0_cond3 i = 1#1 then keepOut i arg12 harg12 h (accN i x0 x1 x2 xb) (krIn i kr) else kr
/-- The tile a point leaves. -/
def outN : Vec F S512x1024 .bf16 :=
  if h : k0_cond3 i = 1#1 then convOut i h (accN i x0 x1 x2 xb) (krIn i kr) x5
  else if k0_cond4 i = 1#1 then gateOut (accN i x0 x1 x2 xb) else k0_pay1 (accN i x0 x1 x2 xb)

/-- The body at any point, run from any contents. -/
theorem runs_at (t : Fin cfg0.N) :
    Runs c (grid0.coords t) arg2 harg2 arg3 harg3 arg4 harg4 arg5 harg5 arg6 harg6 arg7 harg7 arg8 harg8 arg9 harg9 arg10 harg10 arg11 harg11 arg12 harg12
      x0 x1 x2 x3 x4 x5 g xb acc kr (outN (grid0.coords t) x0 x1 x2 x5 xb kr) (gN (grid0.coords t) x0 x3 x4 g) (xbN (grid0.coords t) x0 xb)
      (accN (grid0.coords t) x0 x1 x2 xb) (krN (grid0.coords t) arg12 harg12 x0 x1 x2 xb kr) := by
  have q1 := hcond1 t; have q2 := hcond2 t; have q3 := hcond3 t; have q4 := hcond4 t; have q5 := hcond5 t
  by_cases h3 : k0_cond3 (grid0.coords t) = 1#1
  · have p3 := q3.mp h3
    have h4 : ¬k0_cond4 (grid0.coords t) = 1#1 := fun h => by have := q4.mp h; omega
    have h5 : ¬k0_cond5 (grid0.coords t) = 1#1 := fun h => by have := q5.mp h; omega
    by_cases h2 : k0_cond2 (grid0.coords t) = 1#1
    · by_cases h1 : cond1 (grid0.coords t)
      · have := run_A c (grid0.coords t) arg2 harg2 arg3 harg3 arg4 harg4 arg5 harg5 arg6 harg6 arg7 harg7 arg8 harg8 arg9 harg9 arg10 harg10 arg11 harg11 arg12 harg12 x0 x1 x2 x3 x4 x5 g xb acc kr h1 h2 h3 h4 h5
        unfold outN krN accN gN xbN krIn
        rw [dif_pos h3, dif_pos h3, if_pos h2, if_pos h2, if_pos h1]; exact this
      · have := run_B c (grid0.coords t) arg2 harg2 arg3 harg3 arg4 harg4 arg5 harg5 arg6 harg6 arg7 harg7 arg8 harg8 arg9 harg9 arg10 harg10 arg11 harg11 arg12 harg12 x0 x1 x2 x3 x4 x5 g xb acc kr h1 h2 h3 h4 h5
        unfold outN krN accN gN xbN krIn
        rw [dif_pos h3, dif_pos h3, if_pos h2, if_pos h2, if_neg h1]; exact this
    · have h1 : ¬cond1 (grid0.coords t) := fun h => h2 (q2.mpr (by have := q1.mp h; omega))
      have := run_C c (grid0.coords t) arg2 harg2 arg3 harg3 arg4 harg4 arg5 harg5 arg6 harg6 arg7 harg7 arg8 harg8 arg9 harg9 arg10 harg10 arg11 harg11 arg12 harg12 x0 x1 x2 x3 x4 x5 g xb acc kr h1 h2 h3 h4 h5
      unfold outN krN accN gN xbN krIn
      rw [dif_pos h3, dif_pos h3, if_neg h2, if_neg h2, if_neg h1]; exact this
  · have p3 : ¬t.val % 9 ≤ 1 := fun h => h3 (q3.mpr h)
    have h2 : ¬k0_cond2 (grid0.coords t) = 1#1 := fun h => by have := q2.mp h; omega
    have h1 : ¬cond1 (grid0.coords t) := fun h => h2 (q2.mpr (by have := q1.mp h; omega))
    by_cases h4 : k0_cond4 (grid0.coords t) = 1#1
    · have h5 : ¬k0_cond5 (grid0.coords t) = 1#1 := fun h => by have := q5.mp h; have := q4.mp h4; omega
      have := run_D c (grid0.coords t) arg2 harg2 arg3 harg3 arg4 harg4 arg5 harg5 arg6 harg6 arg7 harg7 arg8 harg8 arg9 harg9 arg10 harg10 arg11 harg11 arg12 harg12 x0 x1 x2 x3 x4 x5 g xb acc kr h1 h2 h3 h4 h5
      unfold outN krN accN gN xbN
      rw [dif_neg h3, dif_neg h3, if_pos h4, if_neg h2, if_neg h2]; exact this
    · have h5 : k0_cond5 (grid0.coords t) = 1#1 := q5.mpr (by
        have p4 : ¬(t.val % 9 = 3 ∨ 7 ≤ t.val % 9) := fun h => h4 (q4.mpr h)
        omega)
      have := run_E c (grid0.coords t) arg2 harg2 arg3 harg3 arg4 harg4 arg5 harg5 arg6 harg6 arg7 harg7 arg8 harg8 arg9 harg9 arg10 harg10 arg11 harg11 arg12 harg12 x0 x1 x2 x3 x4 x5 g xb acc kr h1 h2 h3 h4 h5
      unfold outN krN accN gN xbN
      rw [dif_neg h3, dif_neg h3, if_neg h4, if_neg h2, if_neg h2]; exact this

end Cert.InProjFrame

namespace Cert.InProjFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Window 0's staging buffer at a point. -/
abbrev ms0 (t : Fin cfg0.N) : Memref sig .tc .vmem S512x1024 .f32 := win0_0.stage (cfg0.slots t 0)
/-- Window 1's staging buffer at a point. -/
abbrev ms1 (t : Fin cfg0.N) : Memref sig .tc .vmem S1024x1024 .bf16 := win0_1.stage (cfg0.slots t 1)
/-- Window 2's staging buffer at a point. -/
abbrev ms2 (t : Fin cfg0.N) : Memref sig .tc .vmem S1x1024 .f32 := win0_2.stage (cfg0.slots t 2)
/-- Window 3's staging buffer at a point. -/
abbrev ms3 (t : Fin cfg0.N) : Memref sig .tc .vmem S1024x128 .bf16 := win0_3.stage (cfg0.slots t 3)
/-- Window 4's staging buffer at a point. -/
abbrev ms4 (t : Fin cfg0.N) : Memref sig .tc .vmem S1x128 .f32 := win0_4.stage (cfg0.slots t 4)
/-- Window 5's staging buffer at a point. -/
abbrev ms5 (t : Fin cfg0.N) : Memref sig .tc .vmem S4x1024 .f32 := win0_5.stage (cfg0.slots t 5)
/-- Window 6's staging buffer at a point. -/
abbrev ms6 (t : Fin cfg0.N) : Memref sig .tc .vmem S512x1024 .bf16 := win0_6.stage (cfg0.slots t 6)
/-- Window 7's staging buffer at a point. -/
abbrev ms7 (t : Fin cfg0.N) : Memref sig .tc .vmem S512x128 .f32 := win0_7.stage (cfg0.slots t 7)
/-- It is a whole buffer. -/
abbrev hs0 (t : Fin cfg0.N) : (ms0 t).IsWhole := hstage0_0 ((cfg0.slots t 0).cast nbuf0_0)
/-- It is a whole buffer. -/
abbrev hs1 (t : Fin cfg0.N) : (ms1 t).IsWhole := hstage0_1 ((cfg0.slots t 1).cast nbuf0_1)
/-- It is a whole buffer. -/
abbrev hs2 (t : Fin cfg0.N) : (ms2 t).IsWhole := hstage0_2 ((cfg0.slots t 2).cast nbuf0_2)
/-- It is a whole buffer. -/
abbrev hs3 (t : Fin cfg0.N) : (ms3 t).IsWhole := hstage0_3 ((cfg0.slots t 3).cast nbuf0_3)
/-- It is a whole buffer. -/
abbrev hs4 (t : Fin cfg0.N) : (ms4 t).IsWhole := hstage0_4 ((cfg0.slots t 4).cast nbuf0_4)
/-- It is a whole buffer. -/
abbrev hs5 (t : Fin cfg0.N) : (ms5 t).IsWhole := hstage0_5 ((cfg0.slots t 5).cast nbuf0_5)
/-- It is a whole buffer. -/
abbrev hs6 (t : Fin cfg0.N) : (ms6 t).IsWhole := hstage0_6 ((cfg0.slots t 6).cast nbuf0_6)
/-- It is a whole buffer. -/
abbrev hs7 (t : Fin cfg0.N) : (ms7 t).IsWhole := hstage0_7 ((cfg0.slots t 7).cast nbuf0_7)
/-- The scratch of the rounded tile. -/
abbrev sc0 : Memref sig .tc .vmem S512x1024 .bf16 := Memref.whole cc0_scratch0
/-- The accumulator. -/
abbrev sc1 : Memref sig .tc .vmem S512x1024 .f32 := Memref.whole cc0_scratch1
/-- The scratch of the kept rows. -/
abbrev sc2 : Memref sig .tc .vmem S2x8x1024 .f32 := Memref.whole cc0_scratch2
/-- It is a whole buffer. -/
theorem hsc2 : sc2.IsWhole := Memref.isWhole_whole _

/-- The scratch before the launch, at any contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The written buffers point by point -/

variable (F) in
/-- What the scratch and the gates' buffer hold between points. -/
structure St where
  /-- the rounded tile -/
  xb : Vec F S512x1024 .bf16
  /-- the accumulator -/
  acc : Vec F S512x1024 .f32
  /-- the kept rows -/
  kr : Vec F S2x8x1024 .f32
  /-- the gates -/
  g : Vec F S512x128 .f32

/-- One point's change of what is held. -/
def next (c : Dev nD) (t : Fin cfg0.N) (s : St F) : St F where
  xb := xbN (grid0.coords t) (iblk m c 0 t) s.xb
  acc := accN (grid0.coords t) (iblk m c 0 t) (iblk m c 1 t) (iblk m c 2 t) s.xb
  kr := krN (grid0.coords t) sc2 hsc2 (iblk m c 0 t) (iblk m c 1 t) (iblk m c 2 t) s.xb s.kr
  g := gN (grid0.coords t) (iblk m c 0 t) (iblk m c 3 t) (iblk m c 4 t) s.g

/-- What is held before point `n`. -/
def st (c : Dev nD) : (n : ℕ) → n ≤ cfg0.N → St F
  | 0, _ => ⟨View.canon (Val := Elt F) (e := .bf16) [], View.canon (Val := Elt F) (e := .f32) [], View.canon (Val := Elt F) (e := .f32) [], View.canon (Val := Elt F) (e := .f32) []⟩
  | n + 1, h => next m c ⟨n, h⟩ (st c n (Nat.le_of_lt h))

/-- The tile point `t` leaves. -/
def outAt (c : Dev nD) (t : Fin cfg0.N) : Vec F S512x1024 .bf16 :=
  outN (grid0.coords t) (iblk m c 0 t) (iblk m c 1 t) (iblk m c 2 t) (iblk m c 5 t) (st m c t.val (Nat.le_of_lt t.isLt)).xb (st m c t.val (Nat.le_of_lt t.isLt)).kr

/-- The scratch at what is held, and the generator's register. -/
def held (c : Dev nD) (s : St F) : sProp 𝕄 :=
  iprop(iprop(owns (c : Thread nD τ) sc0 fullShare s.xb ∗ owns (c : Thread nD τ) sc1 fullShare s.acc ∗ owns (c : Thread nD τ) sc2 fullShare s.kr) ∗ (∃ r, prngReg c r))

/-- The scratch between points. -/
def PhiS (c : Dev nD) : (n : ℕ) → n ≤ cfg0.N → sProp 𝕄
  | 0, _ => Pipeline.ΦA spec0 c
  | n + 1, h => held c (st m c (n + 1) h)

/-- Before the first point it is at anything. -/
theorem PhiS_zero (c : Dev nD) (n : ℕ) (h : n ≤ cfg0.N) (hz : n = 0) : PhiS m c n h = Pipeline.ΦA spec0 c := by
  subst hz; rfl

/-- Before any other it is at what is held. -/
theorem PhiS_pos (c : Dev nD) (n : ℕ) (h : n ≤ cfg0.N) (hz : n ≠ 0) : PhiS m c n h = held c (st m c n h) := by
  cases n with
  | zero => exact absurd rfl hz
  | succ n => rfl

/-! ## The pipeline's proof data -/

/-- The arrays as the launch finds them, each window's buffer after each point, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => (st m c (t.val + 1) t.isLt).g
  Φ t := PhiS m c t.val (Nat.le_of_lt_succ t.isLt)
  q w := Pipeline.shareOf spec0 w
  owed _ := 0

/-- The proof data's arrays are those the launch finds. -/
theorem A_eq (c : Dev nD) (w : Fin cfg0.W) : (dats m 0 c).A w = V m c (Pipeline.arrRef spec0 w) := by
  dsimp only [dats]

/-- The scratch at a point's start. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- The tile's window after a point. -/
theorem after_6 (c : Dev nD) (t : Fin cfg0.N) : (dats m 0 c).after 6 t = outAt m c t := by dsimp only [dats]
/-- The gates' window after a point. -/
theorem after_7 (c : Dev nD) (t : Fin cfg0.N) : (dats m 0 c).after 7 t = (st m c (t.val + 1) t.isLt).g := by dsimp only [dats]

/-- Input 0 is its block at every point. -/
theorem before_0 (c : Dev nD) (t : Fin cfg0.N) (d) : (dats m 0 c).before 0 t d = iblk m c 0 t :=
  before0_0_of m (dats m 0 c) (A_eq m c 0) (fun t => by dsimp only [dats]) t d
/-- Input 1 is its block at every point. -/
theorem before_1 (c : Dev nD) (t : Fin cfg0.N) (d) : (dats m 0 c).before 1 t d = iblk m c 1 t :=
  before0_1_of m (dats m 0 c) (A_eq m c 1) (fun t => by dsimp only [dats]) t d
/-- Input 2 is its block at every point. -/
theorem before_2 (c : Dev nD) (t : Fin cfg0.N) (d) : (dats m 0 c).before 2 t d = iblk m c 2 t :=
  before0_2_of m (dats m 0 c) (A_eq m c 2) (fun t => by dsimp only [dats]) t d
/-- Input 3 is its block at every point. -/
theorem before_3 (c : Dev nD) (t : Fin cfg0.N) (d) : (dats m 0 c).before 3 t d = iblk m c 3 t :=
  before0_3_of m (dats m 0 c) (A_eq m c 3) (fun t => by dsimp only [dats]) t d
/-- Input 4 is its block at every point. -/
theorem before_4 (c : Dev nD) (t : Fin cfg0.N) (d) : (dats m 0 c).before 4 t d = iblk m c 4 t :=
  before0_4_of m (dats m 0 c) (A_eq m c 4) (fun t => by dsimp only [dats]) t d
/-- Input 5 is its block at every point. -/
theorem before_5 (c : Dev nD) (t : Fin cfg0.N) (d) : (dats m 0 c).before 5 t d = iblk m c 5 t :=
  before0_5_of m (dats m 0 c) (A_eq m c 5) (fun t => by dsimp only [dats]) t d

/-- A tile's gates are not yet stored before its first point only. -/
theorem fresh_7 : ∀ n, n ≤ cfg0.N → cfg0.fresh 7 n = decide (n % 9 = 0) :=
  Pipeline.Cfg.fresh_tab cfg0 7 (fun n => decide (n % 9 = 0)) rfl fun t => by
    have hf := flush0_7 t
    have hi : cfg0.idle 7 (grid0.coords t) = !(k0_cond2 (grid0.coords t) == 1#1) := rfl
    have h2 := hcond2 t
    show decide ((t.val + 1) % 9 = 0) = ((cfg0.win 7).flush t || (cfg0.idle 7 (grid0.coords t) && decide (t.val % 9 = 0)))
    rw [hi]
    by_cases h : t.val % 9 = 0
    · have e : (k0_cond2 (grid0.coords t) == 1#1) = true := beq_iff_eq.mpr (h2.mpr h)
      have f : (cfg0.win 7).flush t = false := Bool.eq_false_iff.mpr fun hh => by have := hf.mp hh; omega
      rw [e, f]
      exact decide_eq_false (by omega)
    · rw [decide_eq_false h, Bool.and_false, Bool.or_false]
      by_cases h8 : t.val % 9 = 8
      · rw [hf.mpr h8]; exact decide_eq_true (by omega)
      · have f : (cfg0.win 7).flush t = false := Bool.eq_false_iff.mpr fun hh => h8 (hf.mp hh)
        rw [f]; exact decide_eq_false (by omega)

/-- At a point that is no tile's first, the gates are those of the point before. -/
theorem g_kept (c : Dev nD) (t : Fin cfg0.N) (h : ¬t.val % 9 = 0) :
    (st m c (t.val + 1) t.isLt).g = (st m c t.val (Nat.le_of_lt t.isLt)).g := by
  show gN (grid0.coords t) (iblk m c 0 t) (iblk m c 3 t) (iblk m c 4 t) (st m c t.val (Nat.le_of_lt t.isLt)).g = _
  unfold gN
  rw [if_neg fun h2 => h ((hcond2 t).mp h2)]

/-- What the gates' buffer holds at such a point. -/
theorem before_7 (c : Dev nD) (t : Fin cfg0.N) (h : ¬t.val % 9 = 0) (d) :
    (dats m 0 c).before 7 t d = (st m c t.val (Nat.le_of_lt t.isLt)).g := by
  obtain ⟨n, hn⟩ : ∃ n, t.val = n + 1 := Nat.exists_eq_succ_of_ne_zero fun h0 => h (by omega)
  rw [(dats m 0 c).before_out_traj 7 rfl (fun _ _ => rfl) (fun u hu hi hfr => ?_) t.val t rfl d, fresh_7 t.val (Nat.le_of_lt t.isLt), decide_eq_false h]
  · rw [if_neg Bool.false_ne_true, after_7]
    congr 2
    show t.val - 1 + 1 = t.val
    omega
  · have hu9 : ¬u.val % 9 = 0 := by
      rw [fresh_7 u.val (Nat.le_of_lt u.isLt)] at hfr
      exact of_decide_eq_false hfr
    rw [after_7, after_7, g_kept m c u hu9]
    congr 1
    have : u.val - 1 + 1 = u.val := by omega
    simp only [this]

/-! ## The body at every point -/

/-- Input 0's buffer is left at its block. -/
theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl]; dsimp only [dats]
/-- Input 1's buffer is left at its block. -/
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl]; dsimp only [dats]
/-- Input 2's buffer is left at its block. -/
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl]; dsimp only [dats]
/-- Input 3's buffer is left at its block. -/
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl]; dsimp only [dats]
/-- Input 4's buffer is left at its block. -/
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl]; dsimp only [dats]
/-- Input 5's buffer is left at its block. -/
theorem leaves_5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl]; dsimp only [dats]
/-- The tile's buffer is left at the point's tile. -/
theorem leaves_6 (c : Dev nD) (t : Fin cfg0.N) : (dats m 0 c).leavesExact 6 t = owns (c : Thread nD τ) (ms6 t) fullShare (outAt m c t) := by
  have hi : cfg0.idle 6 (grid0.coords t) = false := by
    show (!(k0_cond3 (grid0.coords t) == 1#1) && !(k0_cond4 (grid0.coords t) == 1#1) && !(k0_cond5 (grid0.coords t) == 1#1)) = false
    have q3 := hcond3 t; have q4 := hcond4 t; have q5 := hcond5 t
    by_cases h3 : k0_cond3 (grid0.coords t) = 1#1
    · rw [beq_iff_eq.mpr h3]; rfl
    · by_cases h4 : k0_cond4 (grid0.coords t) = 1#1
      · rw [beq_iff_eq.mpr h4, Bool.not_true, Bool.and_false, Bool.false_and]
      · have h5 : k0_cond5 (grid0.coords t) = 1#1 := q5.mpr (by
          have p3 : ¬t.val % 9 ≤ 1 := fun h => h3 (q3.mpr h)
          have p4 : ¬(t.val % 9 = 3 ∨ 7 ≤ t.val % 9) := fun h => h4 (q4.mpr h)
          omega)
        rw [beq_iff_eq.mpr h5, Bool.not_true, Bool.and_false]
  unfold Dat.leavesExact; rw [hi]; dsimp only [dats]

/-- The gates' buffer, at the gates held after the point, is left as the pipeline asks. -/
theorem leaves_7 (c : Dev nD) (t : Fin cfg0.N) :
    owns (c : Thread nD τ) (ms7 t) fullShare (st m c (t.val + 1) t.isLt).g ⊢ ((dats m 0 c).leavesExact 7 t : sProp 𝕄) := by
  have hi : cfg0.idle 7 (grid0.coords t) = !(k0_cond2 (grid0.coords t) == 1#1) := rfl
  by_cases h : t.val % 9 = 0
  · have e : cfg0.idle 7 (grid0.coords t) = false := by rw [hi, beq_iff_eq.mpr ((hcond2 t).mpr h)]; rfl
    have : (dats m 0 c).leavesExact 7 t = owns (c : Thread nD τ) (ms7 t) fullShare (st m c (t.val + 1) t.isLt).g := by
      unfold Dat.leavesExact; rw [e]; dsimp only [dats]
    rw [this]
  · have e : cfg0.idle 7 (grid0.coords t) = true := by
      rw [hi, beq_eq_false_iff_ne.mpr fun hh => h ((hcond2 t).mp hh)]; rfl
    by_cases h8 : t.val % 9 = 8
    · have : (dats m 0 c).leavesExact 7 t = owns (c : Thread nD τ) (ms7 t) fullShare (st m c (t.val + 1) t.isLt).g := by
        unfold Dat.leavesExact; rw [e, (flush0_7 t).mpr h8]; dsimp only [dats]
      rw [this]
    · rw [Dat.leavesExact_idle (dats m 0 c) 7 t e (Bool.eq_false_iff.mpr fun hh => h8 ((flush0_7 t).mp hh)), g_kept m c t h]
      iintro H
      iexists (fun _ => Classical.choice inferInstance)
      rw [before_7 m c t h]
      iexact H

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The gates a point leaves, from whatever its buffer held. -/
theorem g_next (c : Dev nD) (t : Fin cfg0.N) (d) :
    gN (grid0.coords t) (iblk m c 0 t) (iblk m c 3 t) (iblk m c 4 t) ((dats m 0 c).before 7 t d) = (st m c (t.val + 1) t.isLt).g := by
  show _ = gN (grid0.coords t) (iblk m c 0 t) (iblk m c 3 t) (iblk m c 4 t) (st m c t.val (Nat.le_of_lt t.isLt)).g
  by_cases h : t.val % 9 = 0
  · unfold gN; rw [if_pos ((hcond2 t).mpr h), if_pos ((hcond2 t).mpr h)]
  · rw [before_7 m c t h]

/-- The body runs from what is held before a point to what is held after it. -/
theorem run_held (c : Dev nD) (t : Fin cfg0.N) (xb : Vec F S512x1024 .bf16) (acc : Vec F S512x1024 .f32) (kr : Vec F S2x8x1024 .f32)
    (ho : outN (grid0.coords t) (iblk m c 0 t) (iblk m c 1 t) (iblk m c 2 t) (iblk m c 5 t) xb kr = outAt m c t)
    (hx : xbN (grid0.coords t) (iblk m c 0 t) xb = (st m c (t.val + 1) t.isLt).xb)
    (ha : accN (grid0.coords t) (iblk m c 0 t) (iblk m c 1 t) (iblk m c 2 t) xb = (st m c (t.val + 1) t.isLt).acc)
    (hk : krN (grid0.coords t) sc2 hsc2 (iblk m c 0 t) (iblk m c 1 t) (iblk m c 2 t) xb kr = (st m c (t.val + 1) t.isLt).kr) :
    iprop(iprop(iprop(owns (c : Thread nD τ) sc0 fullShare xb ∗ owns (c : Thread nD τ) sc1 fullShare acc ∗ owns (c : Thread nD τ) sc2 fullShare kr) ∗ (∃ r, prngReg c r))
      ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d))
      ∗ (∃ d, owns (c : Thread nD τ) (ms5 t) fullShare ((dats m 0 c).before 5 t d))
      ∗ (∃ d, owns (c : Thread nD τ) (ms6 t) fullShare ((dats m 0 c).before 6 t d))
      ∗ (∃ d, owns (c : Thread nD τ) (ms7 t) fullShare ((dats m 0 c).before 7 t d)))
    ⊢ wp frame (wpE (defs₀ (F := F)) Variants.none c none) Set.univ (bodyAt0 t) (fun _ => bodyPost m c t) := by
  unfold bodyPost bodyAt0
  simp only [before_0, before_1, before_2, before_3, before_4, before_5]
  rw [show (dats m 0 c).owesAt () t.succ = (dats m 0 c).owesAt () t.castSucc from rfl, show (dats m 0 c).Φ t.succ = held c (st m c (t.val + 1) t.isLt) from rfl,
    leaves_0, leaves_1, leaves_2, leaves_3, leaves_4, leaves_5, leaves_6]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (runs_at c (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 hsc2
    (iblk m c 0 t) (iblk m c 1 t) (iblk m c 2 t) (iblk m c 3 t) (iblk m c 4 t) (iblk m c 5 t) ((dats m 0 c).before 7 t d7) xb acc kr t ((dats m 0 c).before 6 t d6) Set.univ _)
  unfold ins
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [HS0]; · iexact HS0
  isplitl [HS1]; · iexact HS1
  isplitl [HS2]; · iexact HS2
  rw [ho, hx, ha, hk, g_next]
  iintro ⟨⟨H0, H1, H2, H3, H4, H5⟩, H6, H7, HS0, HS1, HS2⟩
  isplitl [HS0 HS1 HS2 Hg]
  · unfold held
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7 m c t) $$ [H7]
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc m c t]
  by_cases hz : t.val = 0
  · rw [PhiS_zero m c _ _ hz, PhiA_eq]
    have h1 : cond1 (grid0.coords t) := (hcond1 t).mpr hz
    have h2 : k0_cond2 (grid0.coords t) = 1#1 := (hcond2 t).mpr (by omega)
    have h3 : k0_cond3 (grid0.coords t) = 1#1 := (hcond3 t).mpr (by omega)
    have hx : ∀ xb xb' : Vec F S512x1024 .bf16, xbN (grid0.coords t) (iblk m c 0 t) xb = xbN (grid0.coords t) (iblk m c 0 t) xb' := fun xb xb' => by
      unfold xbN; rw [if_pos h2, if_pos h2]
    have ha : ∀ xb xb' : Vec F S512x1024 .bf16, accN (grid0.coords t) (iblk m c 0 t) (iblk m c 1 t) (iblk m c 2 t) xb = accN (grid0.coords t) (iblk m c 0 t) (iblk m c 1 t) (iblk m c 2 t) xb' := fun xb xb' => by
      unfold accN; rw [hx xb xb']
    iintro ⟨⟨⟨⟨%xb, HS0⟩, ⟨%acc, HS1⟩, ⟨%kr, HS2⟩⟩, Hg⟩, H⟩
    iapply (run_held m c t xb acc kr (by unfold outAt outN krIn; rw [dif_pos h3, dif_pos h3, if_pos h1, if_pos h1, ha xb (st m c t.val (Nat.le_of_lt t.isLt)).xb])
      (hx xb (st m c t.val (Nat.le_of_lt t.isLt)).xb) (ha xb (st m c t.val (Nat.le_of_lt t.isLt)).xb)
      (by
        show _ = krN (grid0.coords t) sc2 hsc2 (iblk m c 0 t) (iblk m c 1 t) (iblk m c 2 t) (st m c t.val (Nat.le_of_lt t.isLt)).xb (st m c t.val (Nat.le_of_lt t.isLt)).kr
        unfold krN krIn; rw [dif_pos h3, dif_pos h3, if_pos h1, if_pos h1, ha xb (st m c t.val (Nat.le_of_lt t.isLt)).xb]))
    isplitl [HS0 HS1 HS2 Hg]
    · isplitl [HS0 HS1 HS2]
      · isplitl [HS0]; · iexact HS0
        isplitl [HS1]; · iexact HS1
        iexact HS2
      iexact Hg
    iexact H
  · rw [PhiS_pos m c _ _ hz]
    exact run_held m c t _ _ _ rfl rfl rfl rfl

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the scratch before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- The scratch after the last point is what the launch takes back. -/
theorem hout (c : Dev nD) : (dats m 0 c).Φ (Fin.last cfg0.N) ⊢ Pipeline.ΦA spec0 c := by
  have hz : (Fin.last cfg0.N).val ≠ 0 := by rw [Fin.val_last]; have : cfg0.N = 576 := N_0; omega
  rw [show (dats m 0 c).Φ (Fin.last cfg0.N) = PhiS m c (Fin.last cfg0.N).val (Nat.le_of_lt_succ (Fin.last cfg0.N).isLt) from rfl, PhiS_pos m c _ _ hz, PhiA_eq]
  unfold held
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- The run ends with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run, the arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InProjFrame

end
-- ==== Proof.InProjBits.lean ====
/-
  The input projection as printed and as idealized are one program, so the frame proved of the one is the other's.
-/
module

public import proofs.«01_k».proof.Defs
public import proofs.«01_k».proof.Proof.InProjFrame
public import proofs.«01_k».proof.Proof.Gen.InProj

@[expose] public section

set_option maxRecDepth 16384

noncomputable section

namespace Cert.InProjFrame

open Idealize.ShloMosaic Idealize.ShloMosaic.TcCoe Idealize.SL.Sem

set_option maxHeartbeats 4000000 in
/-- The two printings of the input projection are the same program. -/
theorem same_main [h1 : Cert.InProj.Facts] [h2 : Cert.InProjIdeal.Facts] : Cert.InProj.main (F := Bits) = Cert.InProjIdeal.main (F := Bits) := rfl

/-- The kernels' own body tables are the same. -/
theorem same_bodies [h1 : Cert.InProj.Facts] [h2 : Cert.InProjIdeal.Facts] : Cert.InProj.defs₀ (F := Bits) = Cert.InProjIdeal.defs₀ (F := Bits) := by
  unfold Cert.InProj.defs₀ Cert.InProjIdeal.defs₀
  refine congrArg _ ?_
  funext x y
  match x, y with
  | 0, (t, s) => rfl
  | ⟨_ + 1, h⟩, _ => exact absurd h (Nat.not_lt.2 (Nat.le_add_left _ _))

/-- The whole body tables are the same. -/
theorem same_defs [h1 : Cert.InProj.Facts] [h2 : Cert.InProjIdeal.Facts] : Cert.InProj.defs (F := Bits) = Cert.InProjIdeal.defs (F := Bits) := by
  unfold Cert.InProj.defs Cert.InProjIdeal.defs
  rw [same_bodies]
  rfl

set_option maxHeartbeats 4000000 in
/-- The frame of the input projection as printed. -/
theorem frame_bits : Cert.quiescent_InProj (hInProj := Cert.InProj.Gen.facts) := fun m ρ _ => by
  haveI := Cert.InProj.Gen.facts; haveI := Cert.InProjIdeal.Gen.facts
  rw [same_main, same_defs]
  exact frame (F := Bits) m ρ

end Cert.InProjFrame

end
-- ==== Proof.InProjRows.lean ====
/-
  The input projection's rows: every token's projections, the first two groups of columns convolved over the tokens before it
  in its sequence, the gates through their sigmoids, of the call's arguments.
-/
module

public import proofs.«01_k».proof.Proof.LayerNorm

@[expose] public section

noncomputable section

namespace Cert.InProjRows

open Idealize.ShloMosaic

/-- The call's arguments: the rows, the projections' weights and biases, the convolutions' taps. -/
structure Args where
  x : Fin 32768 → Fin 1024 → EReal
  w : Fin 1024 → Fin 9224 → EReal
  b : Fin 9224 → EReal
  cv : Fin 4 → Fin 2048 → EReal

variable (A : Args)

/-- Row `r`'s projection at column `n`. -/
def Args.proj (r : Fin 32768) (n : Fin 9224) : EReal := ∑ k, A.x r k * A.w k n + A.b n

/-- The projection `k` rows before row `r`, zero before the sequence's start. -/
def Args.before (k : ℕ) (r : Fin 32768) (n : Fin 9224) : EReal :=
  if r.val % 8192 < k then 0 else A.proj ⟨r.val - k, by omega⟩ n

/-- The convolved projection. -/
def Args.conv (r : Fin 32768) (n : Fin 2048) : EReal :=
  A.proj r ⟨n.val, by omega⟩ * A.cv 3 n + A.before 1 r ⟨n.val, by omega⟩ * A.cv 2 n + A.before 2 r ⟨n.val, by omega⟩ * A.cv 1 n + A.before 3 r ⟨n.val, by omega⟩ * A.cv 0 n

/-- The factor of a group of convolved columns. -/
def factor (j : ℕ) : EReal := if j = 1 then Ideal.ofBits .f32 0x3D800000#32 else 1

/-- The projection's column that feeds column `n` of the first result: the eight columns of the second are left out. -/
def mcol (n : Fin 9216) : Fin 9224 := ⟨if n.val < 4096 then n.val else n.val + 8, by split <;> omega⟩

/-- A group of columns that goes through the sigmoid. -/
def isGate (j : ℕ) : Prop := j = 3 ∨ 7 ≤ j

instance (j : ℕ) : Decidable (isGate j) := by unfold isGate; infer_instance

/-- The first result. -/
def Args.main (r : Fin 32768) (n : Fin 9216) : EReal :=
  if h : n.val / 1024 ≤ 1 then A.conv r ⟨n.val, by omega⟩ * Ideal.logistic (A.conv r ⟨n.val, by omega⟩) * factor (n.val / 1024)
  else if isGate (n.val / 1024) then Ideal.logistic (A.proj r (mcol n)) else A.proj r (mcol n)

/-- The second result: eight columns, the others zero. -/
def Args.gates (r : Fin 32768) (n : Fin 128) : EReal := if h : n.val < 8 then A.proj r ⟨4096 + n.val, by omega⟩ else 0

/-- Column `e` of group `j`. -/
def gcol (j : ℕ) (e : Fin 1024) : Fin 9216 := ⟨(1024 * j + e.val) % 9216, Nat.mod_lt _ (by decide)⟩

end Cert.InProjRows

end
-- ==== Proof.InProjConv.lean ====
/-
  What the input projection's kernel computes of one tile, element by element.
-/
module

public import proofs.«01_k».proof.Proof.InProjRuns
public import proofs.«01_k».proof.Proof.InProjRows
public import proofs.«01_k».proof.Proof.FfnConv
public import Idealize.ShloMosaic.Lib.Pipeline.ValueKit
public import Idealize.ShloMosaic.Lib.WritesUnit

@[expose] public section

set_option maxRecDepth 16384

noncomputable section

namespace Cert.InProjConv

open Idealize.ShloMosaic Idealize.ShloMosaic.TcCoe
open Cert.InProjRows Cert.InProjFrame
open Cert.FfnConv (back first_word)
open Cert.InProjIdeal Cert.InProjIdeal.Gen

/-- A convolved quarter of a tile: of its columns, the rows kept of the tile before, and the taps. -/
def quarter (f : EReal) (s : BitVec 1) (u : Vec Ideal S512x256 .f32) (R : Vec Ideal S1x8x256 .f32) (T : Vec Ideal S4x256 .f32) : FVec Ideal S512x256 .bf16 :=
  k0_pay36 (F := Ideal) f (k0_pay25 s u (k0_pay21 R) k0_pay22 T) (k0_pay26 s u (k0_pay21 R) k0_pay22 T)

/-- The convolution's sum. -/
def sum4 (u : Fin 512 → EReal) (p : Fin 8 → EReal) (t : Fin 4 → EReal) (l : Fin 512) : EReal :=
  u l * t 3 + back u p 1 l * t 2 + back u p 2 l * t 1 + back u p 3 l * t 0

/-- The third quarter's arithmetic is the same. -/
theorem quarter2 (f : EReal) (s : BitVec 1) (u : Vec Ideal S512x256 .f32) (R : Vec Ideal S1x8x256 .f32) (T : Vec Ideal S4x256 .f32) :
    k0_pay20 (F := Ideal) f u (k0_pay15 s R) T (iota .tc S8x256 32 [0] iota_S8x256_d0_w32) (k0_pay17 u T) (k0_pay18 s u R) (k0_pay19 T) = quarter f s u R T := rfl

/-- The second quarter's arithmetic is the same. -/
theorem quarter1 (f : EReal) (s : BitVec 1) (u : Vec Ideal S512x256 .f32) (R : Vec Ideal S1x8x256 .f32) (T : Vec Ideal S4x256 .f32) :
    k0_pay14 (F := Ideal) f (k0_pay11 s u (k0_pay8 R) T) (k0_pay12 s u (k0_pay8 R)) (k0_pay13 T) = quarter f s u R T := rfl

/-- The first quarter's arithmetic is the same. -/
theorem quarter0 (i : grid0.Coords) (f : EReal) (u : Vec Ideal S512x256 .f32) (R : Vec Ideal S1x8x256 .f32) (T : Vec Ideal S4x256 .f32) :
    k0_pay7 (F := Ideal) f u (k0_pay3 (BitVec.ofNat 32 (i 0).val) R) T (iota .tc S8x256 32 [0] iota_S8x256_d0_w32) (k0_pay5 u T) (k0_pay6 (BitVec.ofNat 32 (i 0).val) u R) = quarter f (startWord i) u R T := rfl

/-- The kernel's choice of the row some rows before. -/
theorem shift (k : ℕ) (w : BitVec 32) (hk : k ≤ 8) (hw : ∀ n < 8, IntOp.cmpi CmpIPredicate.slt (BitVec.ofNat 32 n) w = if n < k then 1#1 else 0#1)
    (u : Fin 512 → EReal) (p : Fin 8 → EReal) (l : Fin 512) :
    (if h : l.val < 8 then Scalar.select (IntOp.cmpi CmpIPredicate.slt (BitVec.ofNat 32 l.val) w)
      (p ⟨(l.val + 8 - k) % 8, Nat.mod_lt _ (by decide)⟩) (u ⟨(l.val + 512 - k) % 512, Nat.mod_lt _ (by decide)⟩)
      else u ⟨(8 + (l.val - 8) + 512 - k) % 512, Nat.mod_lt _ (by decide)⟩) = back u p k l := by
  unfold back
  split_ifs with a b b
  · rw [hw _ a, if_pos b]; show p _ = p _; congr 2; omega
  · rw [hw _ a, if_neg b]; show u _ = u _; congr 2; omega
  · omega
  · congr 2; omega

/-- A quarter, element by element. -/
theorem quarter_apply (f : EReal) (s : BitVec 1) (u : Vec Ideal S512x256 .f32) (R : Vec Ideal S1x8x256 .f32) (T : Vec Ideal S4x256 .f32) (l : Fin 512) (e : Fin 256) :
    quarter f s u R T (ix2 l e) = sum4 (fun i => u (ix2 i e)) (fun k => Scalar.select s 0 (R (ix3 0 k e))) (fun k => T (ix2 k e)) l
      * Ideal.logistic (sum4 (fun i => u (ix2 i e)) (fun k => Scalar.select s 0 (R (ix3 0 k e))) (fun k => T (ix2 k e)) l) * f := by
  pointwise [quarter, k0_pay36, k0_pay25, k0_pay26, k0_pay21, k0_pay22, k0_pay23]
  have e1 := shift 1 1#32 (by decide) (by decide) (fun i => u (ix2 i e)) (fun k => Scalar.select s (0 : EReal) (R (ix3 0 k e))) l
  have e2 := shift 2 2#32 (by decide) (by decide) (fun i => u (ix2 i e)) (fun k => Scalar.select s (0 : EReal) (R (ix3 0 k e))) l
  have e3 := shift 3 3#32 (by decide) (by decide) (fun i => u (ix2 i e)) (fun k => Scalar.select s (0 : EReal) (R (ix3 0 k e))) l
  rw [e1, e2, e3]
  simp only [zero_sub]
  rfl

/-- The accumulator: the projection and its bias. -/
theorem acc_apply (x : Vec Ideal S512x1024 .bf16) (w : Vec Ideal S1024x1024 .bf16) (b : Vec Ideal S1x1024 .f32) (l : Fin 512) (e : Fin 1024) :
    k0_pay35 x w b (ix2 l e) = ∑ k : Fin 1024, x (ix2 l k) * w (ix2 k e) + b (ix2 0 e) := by
  pointwise [k0_pay35]

/-- The gates' product and bias. -/
theorem gates_apply (x : Vec Ideal S512x1024 .f32) (w : Vec Ideal S1024x128 .bf16) (b : Vec Ideal S1x128 .f32) (l : Fin 512) (e : Fin 128) :
    k0_pay34 x w b (ix2 l e) = ∑ k : Fin 1024, x (ix2 l k) * w (ix2 k e) + b (ix2 0 e) := by
  pointwise [k0_pay34, k0_pay32]

/-- The tile kept at its own type. -/
theorem kept_apply (x : Vec Ideal S512x1024 .f32) (l : Fin 512) (e : Fin 1024) : k0_pay33 x (ix2 l e) = x (ix2 l e) := by
  pointwise [k0_pay33, k0_pay32]

/-- A copied tile is the tile. -/
theorem copy_apply (a : Vec Ideal S512x1024 .f32) (l : Fin 512) (e : Fin 1024) : k0_pay1 a (ix2 l e) = a (ix2 l e) := by
  pointwise [k0_pay1]

/-- The kept rows start at zero. -/
theorem cleared (j : Fin 2) (k : Fin 8) (e : Fin 1024) : (k0_pay31 (F := Ideal)) (ix3 j k e) = 0 := by
  pointwise [k0_pay31]

/-- The rows kept of a quarter are its last eight. -/
theorem last_apply (u : FVec Ideal S512x256 .f32) (k : Fin 8) (e : Fin 256) : k0_pay4 u (ix3 0 k e) = u (ix2 ⟨504 + k.val, by omega⟩ e) := by
  pointwise [k0_pay4]

/-- A quarter through the sigmoid. -/
theorem gate_apply (u : Vec Ideal S512x256 .f32) (l : Fin 512) (e : Fin 256) : k0_pay27 u (ix2 l e) = Ideal.logistic (u (ix2 l e)) := by
  pointwise [k0_pay27]
  simp only [zero_sub]
  rfl

/-! ## Tiles of four quarters -/

/-- A load of 256 columns. -/
theorem ld_cols {n : ℕ} (A : Vec Ideal ⟨2, ![n, 1024]⟩ .f32) (b : ℕ) (inb : ∀ a, ![0, b] a + ![n, 256] a ≤ ![n, 1024] a) (l : Fin n) (e : Fin 256) (hb : b + e.val < 1024) :
    View.ld (Val := Elt Ideal) (e' := .f32) A (Rect.unit (s := ⟨2, ![n, 1024]⟩) ![0, b] ![n, 256] inb) (ix2 l e) = A (ix2 l ⟨b + e.val, hb⟩) := by
  refine congrArg A (funext fun a => Fin.ext ?_)
  match a with
  | ⟨0, _⟩ => show 0 + 1 * l.val = l.val; omega
  | ⟨1, _⟩ => show b + 1 * e.val = b + e.val; omega

/-- A load of 256 columns of a group's kept rows. -/
theorem ld_rows (X : Vec Ideal S2x8x1024 .f32) {off : Fin 3 → ℕ} (a b : ℕ) (ho : off = ![a, 0, b]) (inb : ∀ x, off x + S1x8x256.size x ≤ S2x8x1024.size x)
    (j : Fin 2) (hj : a = j.val) (k : Fin 8) (e : Fin 256) (hb : b + e.val < 1024) :
    View.ld (Val := Elt Ideal) (e' := .f32) X (Rect.unit (s := S2x8x1024) off S1x8x256.size inb) (ix3 0 k e) = X (ix3 j k ⟨b + e.val, hb⟩) := by
  subst ho
  refine congrArg X (funext fun x => Fin.ext ?_)
  match x with
  | ⟨0, _⟩ => exact hj
  | ⟨1, _⟩ => show 0 + 1 * k.val = k.val; omega
  | ⟨2, _⟩ => show b + 1 * e.val = b + e.val; omega

/-- The group a point's offset names. -/
theorem word_nat : ∀ n < 9, (Scalar.indexCast (BitVec.ofNat 32 n)).toNat = n := by decide

/-- Where the first quarter of the kept rows lies. -/
theorem off1 (i : grid0.Coords) : k0_off1 i = ![(i 1).val, 0, 0] := by
  unfold k0_off1
  dsimp only
  rw [word_nat _ (i 1).isLt]

/-- Where the second quarter of the kept rows lies. -/
theorem off2 (i : grid0.Coords) : k0_off2 i = ![(i 1).val, 0, 256] := by
  unfold k0_off2
  dsimp only
  rw [word_nat _ (i 1).isLt]

/-- Where the third quarter of the kept rows lies. -/
theorem off3 (i : grid0.Coords) : k0_off3 i = ![(i 1).val, 0, 512] := by
  unfold k0_off3
  dsimp only
  rw [word_nat _ (i 1).isLt]

/-- Where the fourth quarter of the kept rows lies. -/
theorem off4 (i : grid0.Coords) : k0_off4 i = ![(i 1).val, 0, 768] := by
  unfold k0_off4
  dsimp only
  rw [word_nat _ (i 1).isLt]

/-- A value of the activated convolution from the rows, kept rows and taps it is made of. -/
theorem act_congr (i : grid0.Coords) (l : Fin 512) {u u' : Fin 512 → EReal} {p p' : Fin 8 → EReal} {t t' : Fin 4 → EReal}
    (hu : ∀ x, u x = u' x) (hp : ∀ x, p x = p' x) (ht : ∀ x, t x = t' x) :
    sum4 u (fun k => Scalar.select (startWord i) 0 (p k)) t l * Ideal.logistic (sum4 u (fun k => Scalar.select (startWord i) 0 (p k)) t l) * fac (F := Ideal) i
      = sum4 u' (fun k => Scalar.select (startWord i) 0 (p' k)) t' l * Ideal.logistic (sum4 u' (fun k => Scalar.select (startWord i) 0 (p' k)) t' l) * fac (F := Ideal) i := by
  rw [funext hu, funext hp, funext ht]

section Writes

variable {κ : Kind} {sp : Space} (v : View sig κ sp S512x1024 .bf16) (f : v.ty.Contents (Elt Ideal))

/-- A quarter written last, at a column it holds. -/
theorem quarter_in {off : Fin S512x1024.rank → ℕ} (b : ℕ) (h : off = ![0, b]) (inb : ∀ x, off x + S512x256.size x ≤ S512x1024.size x)
    (w : FVec Ideal S512x256 .bf16) (L : List (View.Piece (Elt Ideal) S512x1024 .bf16)) (l : Fin 512) (e : Fin 1024) (d : Fin 256) (he : e.val = b + d.val) :
    v.read (Elt Ideal) (v.writes (Elt Ideal) f ((⟨Rect.unit off S512x256.size inb, w⟩ : View.Piece (Elt Ideal) S512x1024 .bf16) :: L)) (ix2 l e) = w (ix2 l d) := by
  refine View.read_writes_cons_unit_of_mem v f inb w L (ix2 l e) (ix2 l d) h fun x => ?_
  match x with
  | ⟨0, _⟩ => show l.val = 0 + l.val; omega
  | ⟨1, _⟩ => exact he

/-- A quarter written last, at a column it does not hold. -/
theorem quarter_off {off : Fin S512x1024.rank → ℕ} (b : ℕ) (h : off = ![0, b]) (inb : ∀ x, off x + S512x256.size x ≤ S512x1024.size x)
    (w : FVec Ideal S512x256 .bf16) (L : List (View.Piece (Elt Ideal) S512x1024 .bf16)) (l : Fin 512) (e : Fin 1024) (hn : e.val < b ∨ b + 256 ≤ e.val) :
    v.read (Elt Ideal) (v.writes (Elt Ideal) f ((⟨Rect.unit off S512x256.size inb, w⟩ : View.Piece (Elt Ideal) S512x1024 .bf16) :: L)) (ix2 l e)
      = v.read (Elt Ideal) (v.writes (Elt Ideal) f L) (ix2 l e) := by
  refine View.read_writes_cons_unit_of_not_mem v f inb w L (ix2 l e) h ⟨1, by decide⟩ ?_
  exact hn

end Writes

/-- The four stores of a tile. -/
def four (P0 P1 P2 P3 : FVec Ideal S512x256 .bf16) : List (View.Piece (Elt Ideal) S512x1024 .bf16) :=
  [⟨Rect.unit (s := S512x1024) ![0, 768] S512x256.size inb_S512x1024_S512x256_0_768, P3⟩,
    ⟨Rect.unit (s := S512x1024) ![0, 512] S512x256.size inb_S512x1024_S512x256_0_512, P2⟩,
    ⟨Rect.unit (s := S512x1024) ![0, 256] S512x256.size inb_S512x1024_S512x256_0_256, P1⟩,
    (⟨Rect.unit (s := S512x1024) ![0, 0] S512x256.size inb_S512x1024_S512x256_0_0, P0⟩ : View.Piece (Elt Ideal) S512x1024 .bf16)]

/-- A tile stored in four quarters, element by element. -/
theorem four_apply (P0 P1 P2 P3 : FVec Ideal S512x256 .bf16) (g : Fin 512 → Fin 1024 → EReal)
    (h0 : ∀ l (e : Fin 256), P0 (ix2 l e) = g l ⟨0 + e.val, by omega⟩) (h1 : ∀ l (e : Fin 256), P1 (ix2 l e) = g l ⟨256 + e.val, by omega⟩)
    (h2 : ∀ l (e : Fin 256), P2 (ix2 l e) = g l ⟨512 + e.val, by omega⟩) (h3 : ∀ l (e : Fin 256), P3 (ix2 l e) = g l ⟨768 + e.val, by omega⟩)
    (l : Fin 512) (e : Fin 1024) : View.canon (four P0 P1 P2 P3) (ix2 l e) = g l e := by
  have key : (View.whole cc0_scratch0).read (Elt Ideal) ((View.whole cc0_scratch0).writes (Elt Ideal) (View.whole cc0_scratch0).junk (four P0 P1 P2 P3)) (ix2 l e) = g l e := by
    unfold four
    by_cases c3 : 768 ≤ e.val
    · exact ((quarter_in _ _ 768 rfl _ P3 _ l e ⟨e.val - 768, by omega⟩ (by show e.val = 768 + (e.val - 768); omega)).trans (h3 l _)).trans
        (congrArg (g l) (Fin.ext (by show 768 + (e.val - 768) = e.val; omega)))
    refine (quarter_off _ _ 768 rfl _ P3 _ l e (by omega)).trans ?_
    by_cases c2 : 512 ≤ e.val
    · exact ((quarter_in _ _ 512 rfl _ P2 _ l e ⟨e.val - 512, by omega⟩ (by show e.val = 512 + (e.val - 512); omega)).trans (h2 l _)).trans
        (congrArg (g l) (Fin.ext (by show 512 + (e.val - 512) = e.val; omega)))
    refine (quarter_off _ _ 512 rfl _ P2 _ l e (by omega)).trans ?_
    by_cases c1 : 256 ≤ e.val
    · exact ((quarter_in _ _ 256 rfl _ P1 _ l e ⟨e.val - 256, by omega⟩ (by show e.val = 256 + (e.val - 256); omega)).trans (h1 l _)).trans
        (congrArg (g l) (Fin.ext (by show 256 + (e.val - 256) = e.val; omega)))
    refine (quarter_off _ _ 256 rfl _ P1 _ l e (by omega)).trans ?_
    exact ((quarter_in _ _ 0 rfl _ P0 _ l e ⟨e.val, by omega⟩ (by show e.val = 0 + e.val; omega)).trans (h0 l _)).trans
        (congrArg (g l) (Fin.ext (by show 0 + e.val = e.val; omega)))
  refine (View.read_writes_apply_eq_canon (View.whole cc0_scratch0) (View.whole cc0_scratch0).junk (ix2 l e) (four P0 P1 P2 P3) (View.cover_of_tiledL (four P0 P1 P2 P3) S512x256.size (by sl_kernel_rfl) (ix2 l e))).symm.trans key

/-- A gated tile, element by element. -/
theorem gateOut_apply (A : Vec Ideal S512x1024 .f32) (l : Fin 512) (e : Fin 1024) : gateOut A (ix2 l e) = Ideal.logistic (A (ix2 l e)) := by
  refine four_apply (k0_pay27 (col0 A)) (k0_pay28 (col1 A)) (k0_pay29 (col2 A)) (k0_pay37 (k0_pay30 (col3 A))) (fun l e => Ideal.logistic (A (ix2 l e))) ?_ ?_ ?_ ?_ l e
  · intro l e; exact (gate_apply (col0 A) l e).trans (congrArg Ideal.logistic (ld_cols A 0 _ l e _))
  · intro l e; exact (gate_apply (col1 A) l e).trans (congrArg Ideal.logistic (ld_cols A 256 _ l e _))
  · intro l e; exact (gate_apply (col2 A) l e).trans (congrArg Ideal.logistic (ld_cols A 512 _ l e _))
  · intro l e; exact (gate_apply (col3 A) l e).trans (congrArg Ideal.logistic (ld_cols A 768 _ l e _))

/-- The sum a convolved tile has at an element. -/
def tileSum (i : grid0.Coords) (A : Vec Ideal S512x1024 .f32) (X : Vec Ideal S2x8x1024 .f32) (T : Vec Ideal S4x1024 .f32) (j : Fin 2) (l : Fin 512) (e : Fin 1024) : EReal :=
  sum4 (fun i => A (ix2 i e)) (fun k => Scalar.select (startWord i) 0 (X (ix3 j k e))) (fun k => T (ix2 k e)) l

/-- A convolved tile, element by element. -/
theorem convOut_apply (i : grid0.Coords) (h : k0_cond3 i = 1#1) (A : Vec Ideal S512x1024 .f32) (X : Vec Ideal S2x8x1024 .f32) (T : Vec Ideal S4x1024 .f32)
    (j : Fin 2) (hj : (i 1).val = j.val) (l : Fin 512) (e : Fin 1024) :
    convOut i h A X T (ix2 l e) = tileSum i A X T j l e * Ideal.logistic (tileSum i A X T j l e) * fac (F := Ideal) i := by
  refine four_apply (quarter (fac (F := Ideal) i) (startWord i) (col0 A) (row0 i h X) (tap0 T)) (quarter (fac (F := Ideal) i) (startWord i) (col1 A) (row1 i h X) (tap1 T))
    (quarter (fac (F := Ideal) i) (startWord i) (col2 A) (row2 i h X) (tap2 T)) (quarter (fac (F := Ideal) i) (startWord i) (col3 A) (row3 i h X) (tap3 T))
    (fun l e => tileSum i A X T j l e * Ideal.logistic (tileSum i A X T j l e) * fac (F := Ideal) i) ?_ ?_ ?_ ?_ l e
  · intro l e
    exact (quarter_apply _ _ _ _ _ l e).trans (act_congr i l (fun x => ld_cols A 0 inb_S512x1024_S512x256_0_0 x e (by omega))
      (fun x => ld_rows X (i 1).val 0 (off1 i) (k0_off1_inb i h) j hj x e (by omega)) fun x => ld_cols T 0 inb_S4x1024_S4x256_0_0 x e (by omega))
  · intro l e
    exact (quarter_apply _ _ _ _ _ l e).trans (act_congr i l (fun x => ld_cols A 256 inb_S512x1024_S512x256_0_256 x e (by omega))
      (fun x => ld_rows X (i 1).val 256 (off2 i) (k0_off2_inb i h) j hj x e (by omega)) fun x => ld_cols T 256 inb_S4x1024_S4x256_0_256 x e (by omega))
  · intro l e
    exact (quarter_apply _ _ _ _ _ l e).trans (act_congr i l (fun x => ld_cols A 512 inb_S512x1024_S512x256_0_512 x e (by omega))
      (fun x => ld_rows X (i 1).val 512 (off3 i) (k0_off3_inb i h) j hj x e (by omega)) fun x => ld_cols T 512 inb_S4x1024_S4x256_0_512 x e (by omega))
  · intro l e
    exact (quarter_apply _ _ _ _ _ l e).trans (act_congr i l (fun x => ld_cols A 768 inb_S512x1024_S512x256_0_768 x e (by omega))
      (fun x => ld_rows X (i 1).val 768 (off4 i) (k0_off4_inb i h) j hj x e (by omega)) fun x => ld_cols T 768 inb_S4x1024_S4x256_0_768 x e (by omega))

section Keep

variable {κ : Kind} {sp : Space} (v : View sig κ sp S2x8x1024 .f32) (f : v.ty.Contents (Elt Ideal))

/-- A quarter of kept rows written last, at an index it holds. -/
theorem keep_in {off : Fin S2x8x1024.rank → ℕ} (a b : ℕ) (h : off = ![a, 0, b]) (inb : ∀ x, off x + S1x8x256.size x ≤ S2x8x1024.size x)
    (w : FVec Ideal S1x8x256 .f32) (L : List (View.Piece (Elt Ideal) S2x8x1024 .f32)) (j : Fin 2) (k : Fin 8) (e : Fin 1024) (d : Fin 256)
    (hj : j.val = a) (he : e.val = b + d.val) :
    v.read (Elt Ideal) (v.writes (Elt Ideal) f ((⟨Rect.unit off S1x8x256.size inb, w⟩ : View.Piece (Elt Ideal) S2x8x1024 .f32) :: L)) (ix3 j k e) = w (ix3 0 k d) := by
  refine View.read_writes_cons_unit_of_mem v f inb w L (ix3 j k e) (ix3 0 k d) h fun x => ?_
  match x with
  | ⟨0, _⟩ => exact hj
  | ⟨1, _⟩ => show k.val = 0 + k.val; omega
  | ⟨2, _⟩ => exact he

/-- A quarter of kept rows written last, at an index it does not hold. -/
theorem keep_off {off : Fin S2x8x1024.rank → ℕ} (a b : ℕ) (h : off = ![a, 0, b]) (inb : ∀ x, off x + S1x8x256.size x ≤ S2x8x1024.size x)
    (w : FVec Ideal S1x8x256 .f32) (L : List (View.Piece (Elt Ideal) S2x8x1024 .f32)) (j : Fin 2) (k : Fin 8) (e : Fin 1024)
    (hn : j.val ≠ a ∨ e.val < b ∨ b + 256 ≤ e.val) :
    v.read (Elt Ideal) (v.writes (Elt Ideal) f ((⟨Rect.unit off S1x8x256.size inb, w⟩ : View.Piece (Elt Ideal) S2x8x1024 .f32) :: L)) (ix3 j k e)
      = v.read (Elt Ideal) (v.writes (Elt Ideal) f L) (ix3 j k e) := by
  rcases hn with hn | hn
  · refine View.read_writes_cons_unit_of_not_mem v f inb w L (ix3 j k e) h ⟨0, by decide⟩ ?_
    show j.val < a ∨ a + 1 ≤ j.val
    omega
  · refine View.read_writes_cons_unit_of_not_mem v f inb w L (ix3 j k e) h ⟨2, by decide⟩ ?_
    exact hn

/-- The kept rows after a tile's last rows are stored, element by element. -/
theorem keep_apply (i : grid0.Coords) (h : k0_cond3 i = 1#1) (A : Vec Ideal S512x1024 .f32) (X : Vec Ideal S2x8x1024 .f32) (hf : v.read (Elt Ideal) f = X)
    (j : Fin 2) (k : Fin 8) (e : Fin 1024) :
    v.read (Elt Ideal) (v.writes (Elt Ideal) f (keepPieces i h A)) (ix3 j k e)
      = if (i 1).val = j.val then A (ix2 ⟨504 + k.val, by omega⟩ e) else X (ix3 j k e) := by
  unfold keepPieces
  by_cases hj : (i 1).val = j.val
  · rw [if_pos hj]
    by_cases c3 : 768 ≤ e.val
    · refine ((keep_in v f _ 768 (off4 i) _ _ _ j k e ⟨e.val - 768, by omega⟩ hj.symm (by show e.val = 768 + (e.val - 768); omega)).trans (last_apply (col3 A) k _)).trans ?_
      refine (ld_cols A 768 _ _ _ (by show 768 + (e.val - 768) < 1024; omega)).trans ?_
      exact congrArg (fun z => A (ix2 _ z)) (Fin.ext (by show 768 + (e.val - 768) = e.val; omega))
    refine (keep_off v f _ 768 (off4 i) _ _ _ j k e (by omega)).trans ?_
    by_cases c2 : 512 ≤ e.val
    · refine ((keep_in v f _ 512 (off3 i) _ _ _ j k e ⟨e.val - 512, by omega⟩ hj.symm (by show e.val = 512 + (e.val - 512); omega)).trans (last_apply (col2 A) k _)).trans ?_
      refine (ld_cols A 512 _ _ _ (by show 512 + (e.val - 512) < 1024; omega)).trans ?_
      exact congrArg (fun z => A (ix2 _ z)) (Fin.ext (by show 512 + (e.val - 512) = e.val; omega))
    refine (keep_off v f _ 512 (off3 i) _ _ _ j k e (by omega)).trans ?_
    by_cases c1 : 256 ≤ e.val
    · refine ((keep_in v f _ 256 (off2 i) _ _ _ j k e ⟨e.val - 256, by omega⟩ hj.symm (by show e.val = 256 + (e.val - 256); omega)).trans (last_apply (col1 A) k _)).trans ?_
      refine (ld_cols A 256 _ _ _ (by show 256 + (e.val - 256) < 1024; omega)).trans ?_
      exact congrArg (fun z => A (ix2 _ z)) (Fin.ext (by show 256 + (e.val - 256) = e.val; omega))
    refine (keep_off v f _ 256 (off2 i) _ _ _ j k e (by omega)).trans ?_
    refine ((keep_in v f _ 0 (off1 i) _ _ _ j k e ⟨e.val, by omega⟩ hj.symm (by show e.val = 0 + e.val; omega)).trans (last_apply (col0 A) k _)).trans ?_
    refine (ld_cols A 0 _ _ _ (by show 0 + e.val < 1024; omega)).trans ?_
    exact congrArg (fun z => A (ix2 _ z)) (Fin.ext (by show 0 + e.val = e.val; omega))
  · rw [if_neg hj]
    have hj' : j.val ≠ (i 1).val := fun hh => hj hh.symm
    refine (keep_off v f _ 768 (off4 i) _ _ _ j k e (Or.inl hj')).trans ?_
    refine (keep_off v f _ 512 (off3 i) _ _ _ j k e (Or.inl hj')).trans ?_
    refine (keep_off v f _ 256 (off2 i) _ _ _ j k e (Or.inl hj')).trans ?_
    refine (keep_off v f _ 0 (off1 i) _ _ _ j k e (Or.inl hj')).trans ?_
    exact congrFun hf _

end Keep

/-- The kept rows after a point, element by element. -/
theorem keepOut_apply (i : grid0.Coords) (arg12 : Memref sig .tc .vmem S2x8x1024 .f32) (harg12 : arg12.IsWhole) (h : k0_cond3 i = 1#1)
    (A : Vec Ideal S512x1024 .f32) (X : Vec Ideal S2x8x1024 .f32) (j : Fin 2) (k : Fin 8) (e : Fin 1024) :
    keepOut i arg12 harg12 h A X (ix3 j k e) = if (i 1).val = j.val then A (ix2 ⟨504 + k.val, by omega⟩ e) else X (ix3 j k e) :=
  keep_apply arg12.view _ i h A X (harg12.read_unread X) j k e

end Cert.InProjConv

end
-- ==== Proof.InProjHost.lean ====
/-
  What the input projection's kernel is given: the arrays the host lays out, and each operand's block at each point.
-/
module

public import proofs.«01_k».proof.Proof.InProjRows
public import proofs.«01_k».proof.Proof.Gen.InProjIdeal.Frame
public import Idealize.ShloMosaic.Lib.Pipeline.ValueKit
public import Idealize.ShloMosaic.Lib.Pipeline.ReadBack

@[expose] public section

set_option maxRecDepth 16384

noncomputable section

namespace Cert.InProjHost

open Idealize.ShloMosaic Idealize.ShloMosaic.TcCoe Idealize.SL.Sem
open Cert.InProjRows
open Cert.InProjIdeal Cert.InProjIdeal.Gen

variable (m : (ℓ : Loc nD τ sig) → Buf (Elt Ideal) ℓ) (c : Dev nD)

/-- The call's arguments. -/
def args : Args where
  x r k := (m ((c : Thread nD τ).loc main_arg0) : Vec Ideal S4x8192x1024 .f32) (ix3 ⟨r.val / 8192, by omega⟩ ⟨r.val % 8192, by omega⟩ k)
  w k n := (m ((c : Thread nD τ).loc main_arg1) : Vec Ideal S1024x9224 .f32) (ix2 k n)
  b n := (m ((c : Thread nD τ).loc main_arg2) : Vec Ideal S9224 .f32) (ix1 n)
  cv k n := (m ((c : Thread nD τ).loc main_arg3) : Vec Ideal S4x2048 .f32) (ix2 k n)

/-- The word zero as a number. -/
theorem zero_word : FloatOps.sitofp (F := Ideal) FTy.f32 0#32 = 0 := by
  show ((((0#32 : BitVec 32).toInt : ℤ) : ℝ) : EReal) = 0
  norm_num

/-! ## The host's arrays -/

/-- The rows. -/
theorem x_row (r : Fin 32768) (k : Fin 1024) : (V m c main_v0 : Vec Ideal S32768x1024 .f32) (ix2 r k) = (args m c).x r k := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise [args]

/-- The weights of the first result's columns. -/
theorem w_col (k : Fin 1024) (n : Fin 9216) : (V m c main_v4 : Vec Ideal S1024x9216 .bf16) (ix2 k n) = (args m c).w k (mcol n) := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise [args]
  by_cases h : n.val < 4096
  · rw [dif_pos h]
    refine congrArg (fun z => m ((c : Thread nD τ).loc main_arg1) (ix2 k z)) (Fin.ext ?_)
    show n.val = if n.val < 4096 then n.val else n.val + 8
    rw [if_pos h]
  · rw [dif_neg h]
    refine congrArg (fun z => m ((c : Thread nD τ).loc main_arg1) (ix2 k z)) (Fin.ext ?_)
    show 4104 + (n.val - 4096) = if n.val < 4096 then n.val else n.val + 8
    rw [if_neg h]
    omega

/-- Their biases. -/
theorem b_col (n : Fin 9216) : (V m c main_v8 : Vec Ideal S1x9216 .f32) (ix2 0 n) = (args m c).b (mcol n) := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise [args]
  by_cases h : n.val < 4096
  · rw [dif_pos h]
    refine congrArg (fun z => m ((c : Thread nD τ).loc main_arg2) (ix1 z)) (Fin.ext ?_)
    show n.val = if n.val < 4096 then n.val else n.val + 8
    rw [if_pos h]
  · rw [dif_neg h]
    refine congrArg (fun z => m ((c : Thread nD τ).loc main_arg2) (ix1 z)) (Fin.ext ?_)
    show 4104 + (n.val - 4096) = if n.val < 4096 then n.val else n.val + 8
    rw [if_neg h]
    omega

/-- The weights of the second result's columns. -/
theorem wg_col (k : Fin 1024) (n : Fin 128) : (V m c main_v11 : Vec Ideal S1024x128 .bf16) (ix2 k n) = if h : n.val < 8 then (args m c).w k ⟨4096 + n.val, by omega⟩ else 0 := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise [args]
  by_cases h : n.val < 8
  · rw [dif_pos h, dif_pos h]
  · rw [dif_neg h, dif_neg h]
    exact zero_word

/-- Their biases. -/
theorem bg_col (n : Fin 128) : (V m c main_v14 : Vec Ideal S1x128 .f32) (ix2 0 n) = if h : n.val < 8 then (args m c).b ⟨4096 + n.val, by omega⟩ else 0 := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise [args]
  by_cases h : n.val < 8
  · rw [dif_pos h, dif_pos h]
  · rw [dif_neg h, dif_neg h]
    exact zero_word

/-! ## The blocks -/

/-- Which block of its array each operand's block is, at each point. -/
theorem win_index : ∀ t : Fin cfg0.N, win0_0.index t = ![t.val / 9, 0] ∧ win0_1.index t = ![0, t.val % 9] ∧ win0_2.index t = ![0, t.val % 9]
    ∧ win0_3.index t = ![0, 0] ∧ win0_4.index t = ![0, 0] ∧ win0_5.index t = ![0, min (t.val % 9) 1] ∧ win0_6.index t = ![t.val / 9, t.val % 9]
    ∧ win0_7.index t = ![t.val / 9, 0] :=
  (by decide +kernel : ∀ t : Fin grid0.N, _)

/-- A point's coordinates. -/
theorem coords_eq : ∀ t : Fin cfg0.N, (grid0.coords t 0).val = t.val / 9 ∧ (grid0.coords t 1).val = t.val % 9 :=
  (by decide +kernel : ∀ t : Fin grid0.N, _)

/-- The array row that tile row `l` of tile `i` is. -/
def trow (i : ℕ) (l : Fin 512) : Fin 32768 := ⟨(512 * i + l.val) % 32768, Nat.mod_lt _ (by decide)⟩

/-- The tile of rows. -/
theorem blk0 (t : Fin cfg0.N) (l : Fin 512) (k : Fin 1024) : (iblk m c 0 t : Vec Ideal S512x1024 .f32) (ix2 l k) = (args m c).x (trow (t.val / 9) l) k := by
  have ht := lt_of_lt_of_eq t.isLt (show cfg0.N = 576 from N_0)
  obtain ⟨e0, -⟩ := win_index t
  unfold iblk; rw [View.read_apply]
  show V m c main_v0 _ = _
  refine Eq.trans (congrArg (V m c main_v0) ?_) (x_row m c _ k)
  blk_ext [e0]
  show t.val / 9 * 512 + l.val = (512 * (t.val / 9) + l.val) % 32768; omega

/-- The weights at the point's columns. -/
theorem blk1 (t : Fin cfg0.N) (k : Fin 1024) (e : Fin 1024) : (iblk m c 1 t : Vec Ideal S1024x1024 .bf16) (ix2 k e) = (args m c).w k (mcol (gcol (t.val % 9) e)) := by
  have ht := lt_of_lt_of_eq t.isLt (show cfg0.N = 576 from N_0)
  obtain ⟨-, e1, -⟩ := win_index t
  unfold iblk; rw [View.read_apply]
  show V m c main_v4 _ = _
  refine Eq.trans (congrArg (V m c main_v4) ?_) (w_col m c k _)
  blk_ext [e1]
  show t.val % 9 * 1024 + e.val = (1024 * (t.val % 9) + e.val) % 9216; omega

/-- The biases at the point's columns. -/
theorem blk2 (t : Fin cfg0.N) (e : Fin 1024) : (iblk m c 2 t : Vec Ideal S1x1024 .f32) (ix2 0 e) = (args m c).b (mcol (gcol (t.val % 9) e)) := by
  have ht := lt_of_lt_of_eq t.isLt (show cfg0.N = 576 from N_0)
  obtain ⟨-, -, e2, -⟩ := win_index t
  unfold iblk; rw [View.read_apply]
  show V m c main_v8 _ = _
  refine Eq.trans (congrArg (V m c main_v8) ?_) (b_col m c _)
  blk_ext [e2]
  show t.val % 9 * 1024 + e.val = (1024 * (t.val % 9) + e.val) % 9216; omega

/-- The weights of the gates, at every point. -/
theorem blk3 (t : Fin cfg0.N) (k : Fin 1024) (n : Fin 128) :
    (iblk m c 3 t : Vec Ideal S1024x128 .bf16) (ix2 k n) = if h : n.val < 8 then (args m c).w k ⟨4096 + n.val, by omega⟩ else 0 := by
  obtain ⟨-, -, -, e3, -⟩ := win_index t
  unfold iblk; rw [View.read_apply]
  show V m c main_v11 _ = _
  refine Eq.trans (congrArg (V m c main_v11) ?_) (wg_col m c k n)
  blk_ext [e3]

/-- The biases of the gates, at every point. -/
theorem blk4 (t : Fin cfg0.N) (n : Fin 128) :
    (iblk m c 4 t : Vec Ideal S1x128 .f32) (ix2 0 n) = if h : n.val < 8 then (args m c).b ⟨4096 + n.val, by omega⟩ else 0 := by
  obtain ⟨-, -, -, -, e4, -⟩ := win_index t
  unfold iblk; rw [View.read_apply]
  show V m c main_v14 _ = _
  refine Eq.trans (congrArg (V m c main_v14) ?_) (bg_col m c n)
  blk_ext [e4]

/-- The taps at the point's columns. -/
theorem blk5 (t : Fin cfg0.N) (k : Fin 4) (e : Fin 1024) :
    (iblk m c 5 t : Vec Ideal S4x1024 .f32) (ix2 k e) = (args m c).cv k ⟨1024 * min (t.val % 9) 1 + e.val, by omega⟩ := by
  obtain ⟨-, -, -, -, -, e5, -⟩ := win_index t
  unfold iblk; rw [View.read_apply]
  show V m c main_arg3 _ = _
  rw [V_main_arg3]
  refine congrArg (m ((c : Thread nD τ).loc main_arg3)) ?_
  blk_ext [e5]

end Cert.InProjHost

end
-- ==== Proof.InProjSteps.lean ====
/-
  What the input projection's kernel holds between its grid's points: by induction over them, the kept tile is the rows, the
  gates' buffer is the tile's gates, and the kept last rows are those of the newest tile at each convolved group of columns.
-/
module

public import proofs.«01_k».proof.Proof.InProjConv
public import proofs.«01_k».proof.Proof.InProjHost
public import proofs.«01_k».proof.Proof.InProjFrame
public import Idealize.ShloMosaic.Lib.IdealHost

@[expose] public section

set_option maxRecDepth 16384

noncomputable section

namespace Cert.InProjSteps

open Idealize.ShloMosaic Idealize.ShloMosaic.TcCoe Idealize.SL.Sem
open Cert.InProjRows Cert.InProjFrame Cert.InProjConv Cert.InProjHost
open Cert.FfnConv (back first_word)
open Cert.InProjIdeal Cert.InProjIdeal.Gen

variable (m : (ℓ : Loc nD τ sig) → Buf (Elt Ideal) ℓ) (c : Dev nD)

/-- Whether the point's tile starts a sequence. -/
theorem start_eq (t : Fin cfg0.N) : startWord (grid0.coords t) = if t.val / 9 % 16 = 0 then 1#1 else 0#1 := by
  have h : startWord (grid0.coords t) = if (grid0.coords t 0).val % 16 = 0 then 1#1 else 0#1 := first_word _ (grid0.coords t 0).isLt
  rw [h, (coords_eq t).1]

/-- The factor of the point's group of columns. -/
theorem fac_eq (t : Fin cfg0.N) (h : t.val % 9 ≤ 1) : fac (F := Ideal) (grid0.coords t) = factor (t.val % 9) := by
  unfold fac factor
  rw [(coords_eq t).2]
  rcases Nat.le_one_iff_eq_zero_or_eq_one.mp h with h | h
  · rw [h, if_neg (by decide)]
    exact Ideal.ofBits_one_f32
  · rw [h, if_pos rfl]
    rfl

/-- The column that feeds a convolved group's column. -/
theorem mcol_conv (j : ℕ) (hj : j ≤ 1) (e : Fin 1024) : mcol (gcol j e) = ⟨1024 * j + e.val, by omega⟩ := by
  refine Fin.ext ?_
  show (if (1024 * j + e.val) % 9216 < 4096 then (1024 * j + e.val) % 9216 else (1024 * j + e.val) % 9216 + 8) = 1024 * j + e.val
  rw [if_pos (by omega)]
  omega

/-- What is held before point `n`, once a point has run. -/
structure Inv (n : ℕ) (s : St Ideal) : Prop where
  xb : ∀ (l : Fin 512) (k : Fin 1024), s.xb (ix2 l k) = (args m c).x (trow ((n - 1) / 9) l) k
  g : ∀ (l : Fin 512) (e : Fin 128), s.g (ix2 l e) = (args m c).gates (trow ((n - 1) / 9) l) e
  kr : ∀ (j : Fin 2), j.val < n → ∀ (k : Fin 8) (e : Fin 1024),
    s.kr (ix3 j k e) = (args m c).proj (trow ((n - 1 - j.val) / 9) ⟨504 + k.val, by omega⟩) ⟨1024 * j.val + e.val, by omega⟩

variable (t : Fin cfg0.N) (s : St Ideal) (hs : t.val ≠ 0 → Inv m c t.val s)

include hs

/-- The tile of rows a point works on. -/
theorem xb_at (l : Fin 512) (k : Fin 1024) : xbN (grid0.coords t) (iblk m c 0 t) s.xb (ix2 l k) = (args m c).x (trow (t.val / 9) l) k := by
  unfold xbN
  by_cases h : t.val % 9 = 0
  · rw [if_pos ((hcond2 t).mpr h)]
    exact (kept_apply _ l k).trans (blk0 m c t l k)
  · rw [if_neg fun hh => h ((hcond2 t).mp hh), (hs (by omega)).xb l k, show (t.val - 1) / 9 = t.val / 9 by omega]

/-- The gates after a point. -/
theorem g_at (l : Fin 512) (e : Fin 128) : gN (grid0.coords t) (iblk m c 0 t) (iblk m c 3 t) (iblk m c 4 t) s.g (ix2 l e) = (args m c).gates (trow (t.val / 9) l) e := by
  unfold gN
  by_cases h : t.val % 9 = 0
  · rw [if_pos ((hcond2 t).mpr h)]
    refine (gates_apply _ _ _ l e).trans ?_
    refine (congrArg₂ (· + ·) (Finset.sum_congr rfl fun k _ => congrArg₂ (fun a b : EReal => a * b) (blk0 m c t l k) (blk3 m c t k e)) (blk4 m c t e)).trans ?_
    unfold Args.gates
    by_cases h8 : e.val < 8
    · simp only [dif_pos h8]
      rfl
    · simp only [dif_neg h8, add_zero]
      exact Finset.sum_eq_zero fun x _ => mul_zero _
  · rw [if_neg fun hh => h ((hcond2 t).mp hh), (hs (by omega)).g l e, show (t.val - 1) / 9 = t.val / 9 by omega]

/-- The accumulator after a point. -/
theorem acc_at (l : Fin 512) (e : Fin 1024) :
    accN (grid0.coords t) (iblk m c 0 t) (iblk m c 1 t) (iblk m c 2 t) s.xb (ix2 l e) = (args m c).proj (trow (t.val / 9) l) (mcol (gcol (t.val % 9) e)) := by
  unfold accN
  refine (acc_apply _ _ _ l e).trans ?_
  exact congrArg₂ (· + ·) (Finset.sum_congr rfl fun k _ => congrArg₂ (· * ·) (xb_at m c t s hs l k) (blk1 m c t k e)) (blk2 m c t e)

/-- The kept rows a point finds, at a group stored before it. -/
theorem found (j : Fin 2) (hj : j.val < t.val) (k : Fin 8) (e : Fin 1024) :
    krIn (grid0.coords t) s.kr (ix3 j k e) = (args m c).proj (trow ((t.val - 1 - j.val) / 9) ⟨504 + k.val, by omega⟩) ⟨1024 * j.val + e.val, by omega⟩ := by
  have h0 : t.val ≠ 0 := by omega
  unfold krIn
  rw [if_neg fun hh => h0 ((hcond1 t).mp hh)]
  exact (hs h0).kr j hj k e

/-- The kept rows after a point. -/
theorem kr_at (j : Fin 2) (hj : j.val < t.val + 1) (k : Fin 8) (e : Fin 1024) :
    krN (grid0.coords t) sc2 hsc2 (iblk m c 0 t) (iblk m c 1 t) (iblk m c 2 t) s.xb s.kr (ix3 j k e)
      = (args m c).proj (trow ((t.val - j.val) / 9) ⟨504 + k.val, by omega⟩) ⟨1024 * j.val + e.val, by omega⟩ := by
  have hj2 := j.isLt
  unfold krN
  by_cases h : t.val % 9 ≤ 1
  · rw [dif_pos ((hcond3 t).mpr h)]
    refine (keepOut_apply _ sc2 hsc2 _ _ _ j k e).trans ?_
    rw [(coords_eq t).2]
    by_cases hje : t.val % 9 = j.val
    · rw [if_pos hje]
      refine (acc_at m c t s hs _ e).trans ?_
      rw [hje, mcol_conv j.val (by omega) e, show (t.val - j.val) / 9 = t.val / 9 by omega]
    · rw [if_neg hje]
      refine (found m c t s hs j (by omega) k e).trans ?_
      rw [show (t.val - 1 - j.val) / 9 = (t.val - j.val) / 9 by omega]
  · rw [dif_neg fun hh => h ((hcond3 t).mp hh), (hs (by omega)).kr j (by omega) k e, show (t.val - 1 - j.val) / 9 = (t.val - j.val) / 9 by omega]

/-- What is held after a point. -/
theorem inv_next : Inv m c (t.val + 1) (next m c t s) where
  xb l k := xb_at m c t s hs l k
  g l e := g_at m c t s hs l e
  kr j hj k e := kr_at m c t s hs j hj k e

omit hs in
/-- The rows before a tile's rows: within the tile its own, before it the kept ones of the tile before, none at a
sequence's start. -/
theorem back_eq (A : Args) (i : ℕ) (hi : i < 64) (n : Fin 9224) (k : ℕ) (hk : k ≤ 3) (hk' : 1 ≤ k) (l : Fin 512) (p : Fin 8 → EReal)
    (hp : ∀ d : Fin 8, p d = if i % 16 = 0 then 0 else A.proj (trow (i - 1) ⟨504 + d.val, by omega⟩) n) :
    back (fun x => A.proj (trow i x) n) p k l = A.before k (trow i l) n := by
  have hl := l.isLt
  unfold back Args.before
  have hb : (trow i l).val = (512 * i + l.val) % 32768 := rfl
  by_cases h : l.val < k
  · rw [dif_pos h, hp]
    by_cases h0 : i % 16 = 0
    · rw [if_pos h0, if_pos (by rw [hb]; omega)]
    · rw [if_neg h0, if_neg (by rw [hb]; omega)]
      refine congrArg (A.proj · n) (Fin.ext ?_)
      show (512 * (i - 1) + (504 + (8 + l.val - k) % 8)) % 32768 = (512 * i + l.val) % 32768 - k
      omega
  · rw [dif_neg h, if_neg (by rw [hb]; omega)]
    refine congrArg (A.proj · n) (Fin.ext ?_)
    show (512 * i + (l.val - k)) % 32768 = (512 * i + l.val) % 32768 - k
    omega

/-- The kept rows a convolved point reads: none at a sequence's start, else the tile before's. -/
theorem kept_eq (j : Fin 2) (hj : t.val % 9 = j.val) (d : Fin 8) (e : Fin 1024) :
    Scalar.select (startWord (grid0.coords t)) 0 (krIn (grid0.coords t) s.kr (ix3 j d e))
      = if t.val / 9 % 16 = 0 then 0 else (args m c).proj (trow (t.val / 9 - 1) ⟨504 + d.val, by omega⟩) ⟨1024 * j.val + e.val, by omega⟩ := by
  rw [start_eq]
  by_cases h : t.val / 9 % 16 = 0
  · rw [if_pos h, if_pos h]
    rfl
  · rw [if_neg h, if_neg h]
    refine Eq.trans ?_ ((found m c t s hs j (by omega) d e).trans ?_)
    · rfl
    · rw [show (t.val - 1 - j.val) / 9 = t.val / 9 - 1 by omega]

/-- The sum of a convolved tile. -/
theorem sum_at (j : Fin 2) (hj : t.val % 9 = j.val) (l : Fin 512) (e : Fin 1024) :
    tileSum (grid0.coords t) (accN (grid0.coords t) (iblk m c 0 t) (iblk m c 1 t) (iblk m c 2 t) s.xb) (krIn (grid0.coords t) s.kr) (iblk m c 5 t) j l e
      = (args m c).conv (trow (t.val / 9) l) ⟨1024 * j.val + e.val, by omega⟩ := by
  have ht := lt_of_lt_of_eq t.isLt (show cfg0.N = 576 from N_0)
  have hj2 := j.isLt
  have ha : (fun x => accN (grid0.coords t) (iblk m c 0 t) (iblk m c 1 t) (iblk m c 2 t) s.xb (ix2 x e))
      = fun x => (args m c).proj (trow (t.val / 9) x) ⟨1024 * j.val + e.val, by omega⟩ := funext fun x => by
    rw [acc_at m c t s hs x e, hj, mcol_conv j.val (by omega) e]
  have htap : ∀ k : Fin 4, (iblk m c 5 t : Vec Ideal S4x1024 .f32) (ix2 k e) = (args m c).cv k ⟨1024 * j.val + e.val, by omega⟩ := fun k => by
    refine (blk5 m c t k e).trans (congrArg ((args m c).cv k) (Fin.ext ?_))
    show 1024 * min (t.val % 9) 1 + e.val = 1024 * j.val + e.val
    omega
  have hb := fun k hk hk' => back_eq (args m c) (t.val / 9) (by omega) ⟨1024 * j.val + e.val, by omega⟩ k hk hk' l
    (fun d => Scalar.select (startWord (grid0.coords t)) 0 (krIn (grid0.coords t) s.kr (ix3 j d e))) (fun d => kept_eq m c t s hs j hj d e)
  unfold tileSum sum4 Args.conv
  rw [ha, hb 1 (by decide) (by decide), hb 2 (by decide) (by decide), hb 3 (by decide) (by decide)]
  simp only [htap]

/-- The tile a point leaves. -/
theorem out_at (l : Fin 512) (e : Fin 1024) :
    outN (grid0.coords t) (iblk m c 0 t) (iblk m c 1 t) (iblk m c 2 t) (iblk m c 5 t) s.xb s.kr (ix2 l e) = (args m c).main (trow (t.val / 9) l) (gcol (t.val % 9) e) := by
  have hg : (gcol (t.val % 9) e).val / 1024 = t.val % 9 := by
    show (1024 * (t.val % 9) + e.val) % 9216 / 1024 = t.val % 9
    omega
  unfold outN Args.main
  simp only [hg]
  by_cases h : t.val % 9 ≤ 1
  · rw [dif_pos ((hcond3 t).mpr h), dif_pos h]
    have hc : (⟨(gcol (t.val % 9) e).val, by omega⟩ : Fin 2048) = ⟨1024 * (t.val % 9) + e.val, by omega⟩ := Fin.ext (by
      show (1024 * (t.val % 9) + e.val) % 9216 = 1024 * (t.val % 9) + e.val
      omega)
    refine (convOut_apply _ _ _ _ _ ⟨t.val % 9, by omega⟩ (coords_eq t).2 l e).trans ?_
    rw [sum_at m c t s hs ⟨t.val % 9, by omega⟩ rfl l e, fac_eq t h, hc]
  · rw [dif_neg fun hh => h ((hcond3 t).mp hh), dif_neg h]
    by_cases h4 : t.val % 9 = 3 ∨ 7 ≤ t.val % 9
    · rw [if_pos ((hcond4 t).mpr h4), if_pos (show isGate _ from h4)]
      exact (gateOut_apply _ l e).trans (congrArg Ideal.logistic (acc_at m c t s hs l e))
    · rw [if_neg fun hh => h4 ((hcond4 t).mp hh), if_neg (show ¬isGate _ from h4)]
      exact (copy_apply _ l e).trans (acc_at m c t s hs l e)

omit hs t s in
/-- What is held before every point but the first. -/
theorem inv : ∀ (n : ℕ) (hn : n ≤ cfg0.N), n ≠ 0 → Inv m c n (st m c n hn)
  | 0, _, h => absurd rfl h
  | n + 1, hn, _ => inv_next m c ⟨n, hn⟩ (st m c n (Nat.le_of_lt hn)) fun h => inv n (Nat.le_of_lt hn) h

end Cert.InProjSteps

end
-- ==== Proof.InProjRef.lean ====
/-
  What the input projection's reference returns: its rows and gates, read of its own operations.
-/
module

public import proofs.«01_k».proof.Proof.InProjRows
public import proofs.«01_k».proof.Proof.Gen.InProjRefIdeal.Run
public import Idealize.ShloMosaic.Lib.Pointwise

@[expose] public section

set_option maxRecDepth 16384

noncomputable section

namespace Cert.InProjRef

open Idealize.ShloMosaic Idealize.ShloMosaic.TcCoe Idealize.SL.Sem
open Cert.InProjRows
open Cert.InProjRefIdeal Cert.InProjRefIdeal.Gen Cert.InProjRefIdeal.Value

/-- The projections and their biases. -/
def proj (x : FVec Ideal S4x8192x1024 .f32) (w : FVec Ideal S1024x9224 .f32) (b : FVec Ideal S9224 .f32) : FVec Ideal S4x8192x9224 .f32 :=
  addf (Host.dotGeneral dot_S4x8192x1024_S1024x9224_S4x8192x9224_2_0_01_1_n_n none x w)
    (broadcastInDim S4x8192x9224 ![0, 1, 2] bcast_S1x1x9224_S4x8192x9224_0_1_2 (broadcastInDim S1x1x9224 ![2] bcast_S9224_S1x1x9224_2 b))

/-- The two groups of columns to convolve, behind three rows of zeros. -/
def padded (p : FVec Ideal S4x8192x9224 .f32) : FVec Ideal S4x8195x2048 .f32 :=
  pad S4x8195x2048 ![0, 3, 0] ![0, 0, 0] ![0, 0, 0]
    (concatenate S4x8192x2048 2 [⟨S4x8192x1024, extractStridedSlice S4x8192x1024 ![0, 0, 0] p slices_S4x8192x9224_S4x8192x1024_0_0_0⟩,
      ⟨S4x8192x1024, extractStridedSlice S4x8192x1024 ![0, 0, 1024] p slices_S4x8192x9224_S4x8192x1024_0_0_1024⟩] concatenates_S4x8192x1024_S4x8192x1024_S4x8192x2048_d2)
    (sitofp .f32 (constantI S_ 32 0#32)) pads_S4x8192x2048_S4x8195x2048_000_300_000 h_S_

/-- One row of taps, at every row. -/
def taps (w : FVec Ideal S1x2048 .f32) : FVec Ideal S4x8192x2048 .f32 :=
  broadcastInDim S4x8192x2048 ![0, 1, 2] bcast_S1x1x2048_S4x8192x2048_0_1_2 (broadcastInDim S1x1x2048 ![2] bcast_S2048_S1x1x2048_2 (shapeCast _ w shapeCasts_S1x2048_S2048))

/-- The convolution. -/
def conved (p : FVec Ideal S4x8195x2048 .f32) (w : FVec Ideal S4x2048 .f32) : FVec Ideal S4x8192x2048 .f32 :=
  addf (addf (addf
    (mulf (extractStridedSlice S4x8192x2048 ![0, 0, 0] p slices_S4x8195x2048_S4x8192x2048_0_0_0) (taps (extractStridedSlice S1x2048 ![0, 0] w slices_S4x2048_S1x2048_0_0)))
    (mulf (extractStridedSlice S4x8192x2048 ![0, 1, 0] p slices_S4x8195x2048_S4x8192x2048_0_1_0) (taps (extractStridedSlice S1x2048 ![1, 0] w slices_S4x2048_S1x2048_1_0))))
    (mulf (extractStridedSlice S4x8192x2048 ![0, 2, 0] p slices_S4x8195x2048_S4x8192x2048_0_2_0) (taps (extractStridedSlice S1x2048 ![2, 0] w slices_S4x2048_S1x2048_2_0))))
    (mulf (extractStridedSlice S4x8192x2048 ![0, 3, 0] p slices_S4x8195x2048_S4x8192x2048_0_3_0) (taps (extractStridedSlice S1x2048 ![3, 0] w slices_S4x2048_S1x2048_3_0)))

/-- The convolution times its sigmoid. -/
def silu (v : FVec Ideal S4x8192x2048 .f32) : FVec Ideal S4x8192x2048 .f32 :=
  mulf v (Host.divf (broadcastInDim S4x8192x2048 ![] bcast_S_S4x8192x2048 (constant S_ .f32 0x3F800000#32))
    (addf (broadcastInDim S4x8192x2048 ![] bcast_S_S4x8192x2048 (constant S_ .f32 0x3F800000#32)) (Host.exp (Host.negf v))))

/-- A group of columns through the sigmoid. -/
def gate (v : FVec Ideal S4x8192x1024 .f32) : FVec Ideal S4x8192x1024 .f32 :=
  Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf v)))

/-- The groups side by side. -/
def joined (p : FVec Ideal S4x8192x9224 .f32) (a : FVec Ideal S4x8192x2048 .f32) : FVec Ideal S4x8192x9216 .f32 :=
  concatenate S4x8192x9216 2 [⟨S4x8192x1024, extractStridedSlice S4x8192x1024 ![0, 0, 0] a slices_S4x8192x2048_S4x8192x1024_0_0_0⟩,
    ⟨S4x8192x1024, mulf (extractStridedSlice S4x8192x1024 ![0, 0, 1024] a slices_S4x8192x2048_S4x8192x1024_0_0_1024) (broadcastInDim S4x8192x1024 ![] bcast_S_S4x8192x1024 (constant S_ .f32 0x3D800000#32))⟩,
    ⟨S4x8192x1024, extractStridedSlice S4x8192x1024 ![0, 0, 2048] p slices_S4x8192x9224_S4x8192x1024_0_0_2048⟩,
    ⟨S4x8192x1024, gate (extractStridedSlice S4x8192x1024 ![0, 0, 3072] p slices_S4x8192x9224_S4x8192x1024_0_0_3072)⟩,
    ⟨S4x8192x3072, extractStridedSlice S4x8192x3072 ![0, 0, 4104] p slices_S4x8192x9224_S4x8192x3072_0_0_4104⟩,
    ⟨S4x8192x1024, gate (extractStridedSlice S4x8192x1024 ![0, 0, 7176] p slices_S4x8192x9224_S4x8192x1024_0_0_7176)⟩,
    ⟨S4x8192x1024, gate (extractStridedSlice S4x8192x1024 ![0, 0, 8200] p slices_S4x8192x9224_S4x8192x1024_0_0_8200)⟩]
    concatenates_S4x8192x1024_S4x8192x1024_S4x8192x1024_S4x8192x1024_S4x8192x3072_S4x8192x1024_S4x8192x1024_S4x8192x9216_d2

/-- The groups as one array of rows. -/
def flat (v : FVec Ideal S4x8192x9216 .f32) : FVec Ideal S32768x9216 .bf16 := shapeCast _ (truncf .bf16 v bitsLt_bf16_f32) shapeCasts_S4x8192x9216_S32768x9216

/-- The gates' columns with zeros behind them. -/
def wide (p : FVec Ideal S4x8192x9224 .f32) : FVec Ideal S4x8192x128 .f32 :=
  pad S4x8192x128 ![0, 0, 0] ![0, 0, 120] ![0, 0, 0]
    (concatenate S4x8192x8 2 [⟨S4x8192x4, extractStridedSlice S4x8192x4 ![0, 0, 4096] p slices_S4x8192x9224_S4x8192x4_0_0_4096⟩,
      ⟨S4x8192x4, extractStridedSlice S4x8192x4 ![0, 0, 4100] p slices_S4x8192x9224_S4x8192x4_0_0_4100⟩] concatenates_S4x8192x4_S4x8192x4_S4x8192x8_d2)
    (sitofp .f32 (constantI S_ 32 0#32)) pads_S4x8192x8_S4x8192x128_000_000_01200 h_S_

/-- They as one array of rows. -/
def gates (v : FVec Ideal S4x8192x128 .f32) : FVec Ideal S32768x128 .f32 := shapeCast _ v shapeCasts_S4x8192x128_S32768x128

/-- A projection of a row. -/
theorem proj_apply (x : FVec Ideal S4x8192x1024 .f32) (w : FVec Ideal S1024x9224 .f32) (b : FVec Ideal S9224 .f32) (s : Fin 4) (t : Fin 8192) (n : Fin 9224) :
    proj x w b (ix3 s t n) = ∑ k : Fin 1024, x (ix3 s t k) * w (ix2 k n) + b (ix1 n) := by
  pointwise [proj]

/-- The zeros in front, and the projections behind them. -/
theorem padded_apply (p : FVec Ideal S4x8192x9224 .f32) (s : Fin 4) (t : Fin 8195) (n : Fin 2048) :
    padded p (ix3 s t n) = if h : t.val < 3 then 0 else p (ix3 s ⟨t.val - 3, by omega⟩ ⟨n.val, by omega⟩) := by
  pointwise [padded]
  by_cases h : t.val < 3
  · rw [dif_neg (by omega), dif_pos h]
    show ((((0#32 : BitVec 32).toInt : ℤ) : ℝ) : EReal) = 0
    norm_num
  · rw [dif_pos (by omega), dif_neg h]
    by_cases hn : n.val < 1024
    · rw [dif_pos hn]
    · rw [dif_neg hn]
      congr 2
      refine Fin.ext ?_
      show 1024 + (n.val - 1024) = n.val
      omega

/-- A convolved projection. -/
theorem conved_apply (p : FVec Ideal S4x8195x2048 .f32) (w : FVec Ideal S4x2048 .f32) (s : Fin 4) (t : Fin 8192) (n : Fin 2048) :
    conved p w (ix3 s t n) = p (ix3 s ⟨t.val, by omega⟩ n) * w (ix2 0 n) + p (ix3 s ⟨1 + t.val, by omega⟩ n) * w (ix2 1 n) + p (ix3 s ⟨2 + t.val, by omega⟩ n) * w (ix2 2 n)
      + p (ix3 s ⟨3 + t.val, by omega⟩ n) * w (ix2 3 n) := by
  pointwise [conved, taps]

/-- The convolution times its sigmoid, at an element. -/
theorem silu_apply (v : FVec Ideal S4x8192x2048 .f32) (s : Fin 4) (t : Fin 8192) (n : Fin 2048) :
    silu v (ix3 s t n) = v (ix3 s t n) * Ideal.logistic (v (ix3 s t n)) := by
  pointwise [silu]
  rfl

/-- A column through the sigmoid. -/
theorem gate_apply (v : FVec Ideal S4x8192x1024 .f32) (s : Fin 4) (t : Fin 8192) (n : Fin 1024) : gate v (ix3 s t n) = Ideal.logistic (v (ix3 s t n)) := by
  pointwise [gate]
  rfl

/-- The gates' columns, at an element. -/
theorem wide_apply (p : FVec Ideal S4x8192x9224 .f32) (s : Fin 4) (t : Fin 8192) (n : Fin 128) :
    wide p (ix3 s t n) = if h : n.val < 8 then p (ix3 s t ⟨4096 + n.val, by omega⟩) else 0 := by
  pointwise [wide]
  by_cases h : n.val < 8
  · rw [dif_pos h, dif_pos h]
    by_cases h4 : n.val < 4
    · rw [dif_pos h4]
    · rw [dif_neg h4]
      refine congrArg (fun z => p (ix3 _ _ z)) (Fin.ext ?_)
      show 4100 + (n.val - 4) = 4096 + n.val
      omega
  · rw [dif_neg h, dif_neg h]
    show ((((0#32 : BitVec 32).toInt : ℤ) : ℝ) : EReal) = 0
    norm_num

/-- Their array of rows, at an element. -/
theorem gates_apply (v : FVec Ideal S4x8192x128 .f32) (r : Fin 32768) (n : Fin 128) : gates v (ix2 r n) = v (ix3 ⟨r.val / 8192, by omega⟩ ⟨r.val % 8192, by omega⟩ n) := by
  pointwise [gates]

/-- The groups side by side, at an element, from the first group on. -/
theorem joined_apply (p : FVec Ideal S4x8192x9224 .f32) (a : FVec Ideal S4x8192x2048 .f32) (s : Fin 4) (t : Fin 8192) (n : Fin 9216) :
    joined p a (ix3 s t n) = if h : n.val < 1024 then a (ix3 s t ⟨n.val, by omega⟩)
      else if h : n.val - 1024 < 1024 then a (ix3 s t ⟨1024 + (n.val - 1024), by omega⟩) * Ideal.ofBits .f32 0x3D800000#32
      else if h : n.val - 1024 - 1024 < 1024 then p (ix3 s t ⟨2048 + (n.val - 1024 - 1024), by omega⟩)
      else if h : n.val - 1024 - 1024 - 1024 < 1024 then gate (extractStridedSlice S4x8192x1024 ![0, 0, 3072] p slices_S4x8192x9224_S4x8192x1024_0_0_3072) (ix3 s t ⟨n.val - 1024 - 1024 - 1024, h⟩)
      else if h : n.val - 1024 - 1024 - 1024 - 1024 < 3072 then p (ix3 s t ⟨4104 + (n.val - 1024 - 1024 - 1024 - 1024), by omega⟩)
      else if h : n.val - 1024 - 1024 - 1024 - 1024 - 3072 < 1024 then
        gate (extractStridedSlice S4x8192x1024 ![0, 0, 7176] p slices_S4x8192x9224_S4x8192x1024_0_0_7176) (ix3 s t ⟨n.val - 1024 - 1024 - 1024 - 1024 - 3072, h⟩)
      else gate (extractStridedSlice S4x8192x1024 ![0, 0, 8200] p slices_S4x8192x9224_S4x8192x1024_0_0_8200) (ix3 s t ⟨n.val - 1024 - 1024 - 1024 - 1024 - 3072 - 1024, by omega⟩) := by
  pointwise [joined]

/-- The array of rows, at an element. -/
theorem flat_apply (v : FVec Ideal S4x8192x9216 .f32) (r : Fin 32768) (n : Fin 9216) : flat v (ix2 r n) = v (ix3 ⟨r.val / 8192, by omega⟩ ⟨r.val % 8192, by omega⟩ n) := by
  pointwise [flat]

/-- The groups side by side, at an element. -/
theorem group_apply (p : FVec Ideal S4x8192x9224 .f32) (a : FVec Ideal S4x8192x2048 .f32) (s : Fin 4) (t : Fin 8192) (n : Fin 9216) :
    joined p a (ix3 s t n) = if h : n.val / 1024 ≤ 1 then a (ix3 s t ⟨n.val, by omega⟩) * factor (n.val / 1024)
      else if isGate (n.val / 1024) then Ideal.logistic (p (ix3 s t (mcol n))) else p (ix3 s t (mcol n)) := by
  have hm : (mcol n).val = if n.val < 4096 then n.val else n.val + 8 := rfl
  rw [joined_apply]
  by_cases c0 : n.val < 1024
  · rw [dif_pos c0, dif_pos (by omega)]
    unfold factor
    rw [if_neg (by omega), mul_one]
  rw [dif_neg c0]
  by_cases c1 : n.val - 1024 < 1024
  · rw [dif_pos c1, dif_pos (by omega)]
    unfold factor
    rw [if_pos (by omega)]
    refine congrArg (fun z => a (ix3 _ _ z) * _) (Fin.ext ?_)
    show 1024 + (n.val - 1024) = n.val
    omega
  have k : ¬n.val / 1024 ≤ 1 := by omega
  rw [dif_neg c1, dif_neg k]
  by_cases c2 : n.val - 1024 - 1024 < 1024
  · rw [dif_pos c2, if_neg (show ¬isGate (n.val / 1024) by unfold isGate; omega)]
    refine congrArg (fun z => p (ix3 _ _ z)) (Fin.ext ?_)
    show 2048 + (n.val - 1024 - 1024) = (mcol n).val
    rw [hm, if_pos (by omega)]
    omega
  rw [dif_neg c2]
  by_cases c3 : n.val - 1024 - 1024 - 1024 < 1024
  · rw [dif_pos c3, if_pos (show isGate (n.val / 1024) by unfold isGate; omega)]
    refine (gate_apply _ _ _ _).trans (congrArg Ideal.logistic ?_)
    pointwise
    refine congrArg (fun z => p (ix3 _ _ z)) (Fin.ext ?_)
    show 3072 + (n.val - 1024 - 1024 - 1024) = (mcol n).val
    rw [hm, if_pos (by omega)]
    omega
  rw [dif_neg c3]
  by_cases c4 : n.val - 1024 - 1024 - 1024 - 1024 < 3072
  · rw [dif_pos c4, if_neg (show ¬isGate (n.val / 1024) by unfold isGate; omega)]
    refine congrArg (fun z => p (ix3 _ _ z)) (Fin.ext ?_)
    show 4104 + (n.val - 1024 - 1024 - 1024 - 1024) = (mcol n).val
    rw [hm, if_neg (by omega)]
    omega
  rw [dif_neg c4, if_pos (show isGate (n.val / 1024) by unfold isGate; omega)]
  by_cases c5 : n.val - 1024 - 1024 - 1024 - 1024 - 3072 < 1024
  · rw [dif_pos c5]
    refine (gate_apply _ _ _ _).trans (congrArg Ideal.logistic ?_)
    pointwise
    refine congrArg (fun z => p (ix3 _ _ z)) (Fin.ext ?_)
    show 7176 + (n.val - 1024 - 1024 - 1024 - 1024 - 3072) = (mcol n).val
    rw [hm, if_neg (by omega)]
    omega
  · rw [dif_neg c5]
    refine (gate_apply _ _ _ _).trans (congrArg Ideal.logistic ?_)
    pointwise
    refine congrArg (fun z => p (ix3 _ _ z)) (Fin.ext ?_)
    show 8200 + (n.val - 1024 - 1024 - 1024 - 1024 - 3072 - 1024) = (mcol n).val
    rw [hm, if_neg (by omega)]
    omega

variable (m : (ℓ : Loc nD τ sig) → Buf (Elt Ideal) ℓ) (c : Dev nD)

/-- The projections of the call's arguments. -/
def projOf : FVec Ideal S4x8192x9224 .f32 := proj (m ((c.tc : Thread nD τ).loc main_arg0)) (m ((c.tc : Thread nD τ).loc main_arg1)) (m ((c.tc : Thread nD τ).loc main_arg2))

/-- The reference's first result, in those steps. -/
theorem ref_form : (res_out0 m c : FVec Ideal S32768x9216 .bf16) =
    flat (joined (projOf m c) (silu (conved (padded (projOf m c)) (m ((c.tc : Thread nD τ).loc main_arg3))))) := rfl

/-- The call's arguments. -/
def args : Args where
  x r k := (m ((c.tc : Thread nD τ).loc main_arg0) : Vec Ideal S4x8192x1024 .f32) (ix3 ⟨r.val / 8192, by omega⟩ ⟨r.val % 8192, by omega⟩ k)
  w k n := (m ((c.tc : Thread nD τ).loc main_arg1) : Vec Ideal S1024x9224 .f32) (ix2 k n)
  b n := (m ((c.tc : Thread nD τ).loc main_arg2) : Vec Ideal S9224 .f32) (ix1 n)
  cv k n := (m ((c.tc : Thread nD τ).loc main_arg3) : Vec Ideal S4x2048 .f32) (ix2 k n)

/-- The projections, of the arguments. -/
theorem projOf_apply (s : Fin 4) (t : Fin 8192) (n : Fin 9224) (r : Fin 32768) (hs : s.val = r.val / 8192) (ht : t.val = r.val % 8192) :
    projOf m c (ix3 s t n) = (args m c).proj r n := by
  have es : s = ⟨r.val / 8192, by omega⟩ := Fin.ext hs
  have et : t = ⟨r.val % 8192, by omega⟩ := Fin.ext ht
  rw [es, et]
  unfold projOf
  rw [proj_apply]
  rfl

/-- The projections some rows before a row, read behind the zeros. -/
theorem padded_proj (s : Fin 4) (t : Fin 8192) (n : Fin 2048) (r : Fin 32768) (hs : s.val = r.val / 8192) (ht : t.val = r.val % 8192) (k j : ℕ) (hk : j + k = 3) :
    padded (projOf m c) (ix3 s ⟨j + t.val, by omega⟩ n) = (args m c).before k r ⟨n.val, by omega⟩ := by
  rw [padded_apply]
  unfold Args.before
  by_cases h : j + t.val < 3
  · rw [dif_pos h, if_pos (by omega)]
  · rw [dif_neg h, if_neg (by omega)]
    refine projOf_apply m c s _ _ ⟨r.val - k, by omega⟩ ?_ ?_
    · show s.val = (r.val - k) / 8192; omega
    · show j + t.val - 3 = (r.val - k) % 8192; omega

/-- Four terms added from the last on. -/
theorem add_rev (a b d e : EReal) : a + b + d + e = e + d + b + a := by
  rw [add_comm (a + b + d) e, add_comm (a + b) d, add_comm a b, ← add_assoc, ← add_assoc]

/-- The convolution adds the same four terms, from the farthest row on. -/
theorem conved_proj (s : Fin 4) (t : Fin 8192) (n : Fin 2048) (r : Fin 32768) (hs : s.val = r.val / 8192) (ht : t.val = r.val % 8192) :
    conved (padded (projOf m c)) (m ((c.tc : Thread nD τ).loc main_arg3)) (ix3 s t n) = (args m c).conv r n := by
  have h0 : padded (projOf m c) (ix3 s ⟨t.val, by omega⟩ n) = (args m c).before 3 r ⟨n.val, by omega⟩ := by
    rw [← padded_proj m c s t n r hs ht 3 0 rfl]
    exact congrArg (fun z => padded (projOf m c) (ix3 s z n)) (Fin.ext (Nat.zero_add _).symm)
  have h1 := padded_proj m c s t n r hs ht 2 1 rfl
  have h2 := padded_proj m c s t n r hs ht 1 2 rfl
  have h3 : padded (projOf m c) (ix3 s ⟨3 + t.val, by omega⟩ n) = (args m c).proj r ⟨n.val, by omega⟩ := by
    rw [padded_proj m c s t n r hs ht 0 3 rfl]
    unfold Args.before
    rw [if_neg (by omega)]
    rfl
  rw [conved_apply, h0, h1, h2, h3, add_rev]
  rfl

/-- The reference's first result at every row and column. -/
theorem ref_main (r : Fin 32768) (n : Fin 9216) : (res_out0 m c : FVec Ideal S32768x9216 .bf16) (ix2 r n) = (args m c).main r n := by
  have hp := fun k => projOf_apply m c ⟨r.val / 8192, by omega⟩ ⟨r.val % 8192, by omega⟩ k r rfl rfl
  have hc := fun k => conved_proj m c ⟨r.val / 8192, by omega⟩ ⟨r.val % 8192, by omega⟩ k r rfl rfl
  rw [ref_form, flat_apply, group_apply]
  unfold Args.main
  simp only [hp, silu_apply, hc]

/-- Its second at every row and column. -/
theorem ref_gates (r : Fin 32768) (n : Fin 128) : gates (wide (projOf m c)) (ix2 r n) = (args m c).gates r n := by
  have hp := fun k => projOf_apply m c ⟨r.val / 8192, by omega⟩ ⟨r.val % 8192, by omega⟩ k r rfl rfl
  rw [gates_apply, wide_apply]
  unfold Args.gates
  simp only [hp]

end Cert.InProjRef

end
-- ==== Proof.InProjClaims.lean ====
/-
  The input projection's claims: the arrays the kernel's run leaves, the reference's frame, and both programs' results equal at
  every index, both being the projected, convolved and gated rows.
-/
module

public import proofs.«01_k».proof.Defs
public import proofs.«01_k».proof.Proof.InProjSteps
public import proofs.«01_k».proof.Proof.InProjRef
public import Idealize.ShloMosaic.Lib.Pipeline.Value
public import Idealize.ShloMosaic.Adequacy
public import Idealize.ShloMosaic.Init

@[expose] public section

set_option maxRecDepth 16384

noncomputable section

namespace Cert.InProjClaims

open Idealize.ShloMosaic Idealize.ShloMosaic.TcCoe Idealize.SL.Sem

section Kernel

open Cert.InProjRows Cert.InProjFrame Cert.InProjHost Cert.InProjSteps
open Cert.InProjIdeal Cert.InProjIdeal.Gen

variable (m : (ℓ : Loc nD τ sig) → Buf (Elt Ideal) ℓ) (ρ : Dev nD → PrngReg) (c : Dev nD)

/-- The first result's array. -/
def G6 (c : Dev nD) : Buf (Elt Ideal) ((c : Thread nD τ).loc main_v15_0) := fun i => (args m c).main (i 0) (i 1)

/-- The second's. -/
def G7 (c : Dev nD) : Buf (Elt Ideal) ((c : Thread nD τ).loc main_v15_1) := fun i => (args m c).gates (i 0) (i 1)

/-- What a point writes back of the first result is its block of that array. -/
theorem flushed6 (t : Fin cfg0.N) : (dats m 0 c).flushed 6 t = ((cfg0.win 6).blk t).view.read (Elt Ideal) (G6 m c) := by
  have ht := lt_of_lt_of_eq t.isLt (show cfg0.N = 576 from N_0)
  obtain ⟨-, -, -, -, -, -, e6, -⟩ := win_index t
  have i0 : win0_6.index t (0 : Fin 2) = t.val / 9 := congrFun e6 0
  have i1 : win0_6.index t (1 : Fin 2) = t.val % 9 := congrFun e6 1
  show (cfg0.win 6).cut (grid0.coords t) ((dats m 0 c).after 6 t) = _
  rw [after_6]
  funext y
  have hy0 : (y 0).val < 512 := (y 0).isLt
  have hy1 : (y 1).val < 1024 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  have hx : (cfg0.win 6).xinj (grid0.coords t) y = ix2 ⟨(y 0).val, hy0⟩ ⟨(y 1).val, hy1⟩ := by
    funext a
    match a with
    | ⟨0, _⟩ => rfl
    | ⟨1, _⟩ => rfl
  show outAt m c t ((cfg0.win 6).xinj (grid0.coords t) y) = (args m c).main (((cfg0.win 6).blk t).view.emb y 0) (((cfg0.win 6).blk t).view.emb y 1)
  rw [hx]
  refine (out_at m c t _ (fun h => inv m c t.val (Nat.le_of_lt t.isLt) h) _ _).trans ?_
  refine congrArg₂ (args m c).main (Fin.ext ?_) (Fin.ext ?_)
  · rw [hb0, i0]
    show (512 * (t.val / 9) + (y 0).val) % 32768 = _
    omega
  · rw [hb1, i1]
    show (1024 * (t.val % 9) + (y 1).val) % 9216 = _
    omega

/-- What a tile's last point writes back of the second result is its block of that array. -/
theorem flushed7 (t : Fin cfg0.N) : (dats m 0 c).flushed 7 t = ((cfg0.win 7).blk t).view.read (Elt Ideal) (G7 m c) := by
  have ht := lt_of_lt_of_eq t.isLt (show cfg0.N = 576 from N_0)
  obtain ⟨-, -, -, -, -, -, -, e7⟩ := win_index t
  have i0 : win0_7.index t (0 : Fin 2) = t.val / 9 := congrFun e7 0
  have i1 : win0_7.index t (1 : Fin 2) = 0 := congrFun e7 1
  show (cfg0.win 7).cut (grid0.coords t) ((dats m 0 c).after 7 t) = _
  rw [after_7]
  funext y
  have hy0 : (y 0).val < 512 := (y 0).isLt
  have hy1 : (y 1).val < 128 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 128 + 1 * (y 1).val := rfl
  have hx : (cfg0.win 7).xinj (grid0.coords t) y = ix2 ⟨(y 0).val, hy0⟩ ⟨(y 1).val, hy1⟩ := by
    funext a
    match a with
    | ⟨0, _⟩ => rfl
    | ⟨1, _⟩ => rfl
  show (st m c (t.val + 1) t.isLt).g ((cfg0.win 7).xinj (grid0.coords t) y) = (args m c).gates (((cfg0.win 7).blk t).view.emb y 0) (((cfg0.win 7).blk t).view.emb y 1)
  rw [hx]
  refine ((inv m c (t.val + 1) t.isLt (Nat.succ_ne_zero _)).g _ _).trans ?_
  refine congrArg₂ (args m c).gates (Fin.ext ?_) (Fin.ext ?_)
  · rw [hb0, i0]
    show (512 * ((t.val + 1 - 1) / 9) + (y 0).val) % 32768 = _
    omega
  · rw [hb1, i1]
    show (y 1).val = _
    omega

/-- Which indices of the first result a point's block holds. -/
theorem mem_blk6 (t : Fin cfg0.N) (i : S32768x9216.Idx) : i ∈ ((cfg0.win 6).blk t).view.set
    ↔ ∀ a : Fin 2, win0_6.index t a * S512x1024.size a ≤ (i a).val ∧ (i a).val < win0_6.index t a * S512x1024.size a + S512x1024.size a := by
  show i ∈ ((View.whole main_v15_0).slice (win0_6.rect t)).set ↔ _
  rw [View.set_slice_whole, Rect.mem_set_unit]
  exact Iff.rfl

/-- Every index of the first result is in some point's block. -/
theorem cover6 (i : S32768x9216.Idx) : ∃ t : Fin cfg0.N, (cfg0.win 6).flush t = true ∧ i ∈ ((cfg0.win 6).blk t).view.set := by
  have hi0 : (i 0).val < 32768 := (i 0).isLt
  have hi1 : (i 1).val < 9216 := (i 1).isLt
  have hlt : 9 * ((i 0).val / 512) + (i 1).val / 1024 < cfg0.N := lt_of_lt_of_eq (by omega) N_0.symm
  refine ⟨⟨9 * ((i 0).val / 512) + (i 1).val / 1024, hlt⟩, flush0_6 _, ?_⟩
  obtain ⟨-, -, -, -, -, -, e6, -⟩ := win_index ⟨9 * ((i 0).val / 512) + (i 1).val / 1024, hlt⟩
  have i0 : win0_6.index ⟨9 * ((i 0).val / 512) + (i 1).val / 1024, hlt⟩ (0 : Fin 2) = (9 * ((i 0).val / 512) + (i 1).val / 1024) / 9 := congrFun e6 0
  have i1 : win0_6.index ⟨9 * ((i 0).val / 512) + (i 1).val / 1024, hlt⟩ (1 : Fin 2) = (9 * ((i 0).val / 512) + (i 1).val / 1024) % 9 := congrFun e6 1
  rw [mem_blk6]
  intro a
  match a with
  | ⟨0, _⟩ => show win0_6.index _ (0 : Fin 2) * 512 ≤ (i 0).val ∧ (i 0).val < win0_6.index _ (0 : Fin 2) * 512 + 512; rw [i0]; omega
  | ⟨1, _⟩ => show win0_6.index _ (1 : Fin 2) * 1024 ≤ (i 1).val ∧ (i 1).val < win0_6.index _ (1 : Fin 2) * 1024 + 1024; rw [i1]; omega

/-- Which of the second. -/
theorem mem_blk7 (t : Fin cfg0.N) (i : S32768x128.Idx) : i ∈ ((cfg0.win 7).blk t).view.set
    ↔ ∀ a : Fin 2, win0_7.index t a * S512x128.size a ≤ (i a).val ∧ (i a).val < win0_7.index t a * S512x128.size a + S512x128.size a := by
  show i ∈ ((View.whole main_v15_1).slice (win0_7.rect t)).set ↔ _
  rw [View.set_slice_whole, Rect.mem_set_unit]
  exact Iff.rfl

/-- Every index of the second is in some tile's block. -/
theorem cover7 (i : S32768x128.Idx) : ∃ t : Fin cfg0.N, (cfg0.win 7).flush t = true ∧ i ∈ ((cfg0.win 7).blk t).view.set := by
  have hi0 : (i 0).val < 32768 := (i 0).isLt
  have hi1 : (i 1).val < 128 := (i 1).isLt
  have hlt : 9 * ((i 0).val / 512) + 8 < cfg0.N := lt_of_lt_of_eq (by omega) N_0.symm
  refine ⟨⟨9 * ((i 0).val / 512) + 8, hlt⟩, (flush0_7 _).mpr (by show (9 * ((i 0).val / 512) + 8) % 9 = 8; omega), ?_⟩
  obtain ⟨-, -, -, -, -, -, -, e7⟩ := win_index ⟨9 * ((i 0).val / 512) + 8, hlt⟩
  have i0 : win0_7.index ⟨9 * ((i 0).val / 512) + 8, hlt⟩ (0 : Fin 2) = (9 * ((i 0).val / 512) + 8) / 9 := congrFun e7 0
  have i1 : win0_7.index ⟨9 * ((i 0).val / 512) + 8, hlt⟩ (1 : Fin 2) = 0 := congrFun e7 1
  rw [mem_blk7]
  intro a
  match a with
  | ⟨0, _⟩ => show win0_7.index _ (0 : Fin 2) * 512 ≤ (i 0).val ∧ (i 0).val < win0_7.index _ (0 : Fin 2) * 512 + 512; rw [i0]; omega
  | ⟨1, _⟩ => show win0_7.index _ (1 : Fin 2) * 128 ≤ (i 1).val ∧ (i 1).val < win0_7.index _ (1 : Fin 2) * 128 + 128; rw [i1]; omega

/-- The run leaves both arrays and the arguments as they were. -/
theorem run : θ_run defs (onTc (τ := τ) (main (F := Ideal))) ⟨m, fun _ => 0, ρ⟩ fun r => ∀ c : Dev nD,
      r.2.mem ((c : Thread nD τ).loc main_v15_0) = G6 m c ∧ r.2.mem ((c : Thread nD τ).loc main_v15_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 6).trans ((dats m 0 c).arrAt_eq_of_cover 6 _ (fun t _ => flushed6 m c t) cover6),
      ((h c).1 7).trans ((dats m 0 c).arrAt_eq_of_cover 7 _ (fun t _ => flushed7 m c t) cover7),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c)))⟩)
    (run_main m ρ)

end Kernel

/-- The reference's frame. -/
theorem ref_frame : Cert.quiescent_InProjRefIdeal := fun m ρ _ =>
  (θ_run Cert.InProjRefIdeal.defs _ _).mono (fun r h => ⟨fun c => (h c).2.2, sem_eq_zero_of_no_sems (by decide) r.2⟩) (Cert.InProjRefIdeal.Value.run m ρ)

/-- The kernel's frame over the extended reals. -/
theorem frame_ideal : Cert.quiescent_InProjIdeal := fun m ρ _ => InProjFrame.frame m ρ

/-- The kernel's results and the reference's are equal, element by element. -/
theorem algebraic : Cert.algebraic_InProjIdeal_InProjRefIdeal := by
  intro m ρ m' ρ' _ hagree
  refine ⟨fun c => G6 m c, fun c => G7 m c, run m ρ, ?_⟩
  refine (θ_run Cert.InProjRefIdeal.defs _ _).mono (fun r h c => ⟨(h c).1.trans ?_, (h c).2.1.trans ?_, (h c).2.2⟩) (Cert.InProjRefIdeal.Value.run m' ρ')
  all_goals
    obtain ⟨e0, e1, e2, e3⟩ := hagree c
    have ha : InProjRef.args m' c = InProjHost.args m c := by
      unfold InProjRef.args InProjHost.args
      rw [e0, e1, e2, e3]
    funext i
    idx_vars i
  · refine (InProjRef.ref_main m' c _ _).trans ?_
    rw [ha]
    rfl
  · refine (InProjRef.ref_gates m' c _ _).trans ?_
    rw [ha]
    rfl

end Cert.InProjClaims

end
-- ==== Proof.lean ====
/-
  The certificate's claim. The kernels' frames are the generated ones, but for the input projection's, which are
  Proof/InProjBits.lean's and Proof/InProjClaims.lean's; the references' frames and the value claims are in the five modules
  named after the calls' claims.
-/
module

public import proofs.«01_k».proof.Defs
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmRefIdeal
public import proofs.«01_k».proof.Proof.Gen.Pre_finite
public import proofs.«01_k».proof.Proof.Gen.MlstmIdeal.Value
public import proofs.«01_k».proof.Proof.Gen.MlstmRefIdeal.Run
public import proofs.«01_k».proof.Proof.Gen.MlstmRefIdeal.Step
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.MlstmClaims
public import proofs.«01_k».proof.Proof.MergeClaims
public import proofs.«01_k».proof.Proof.FfnClaims
public import proofs.«01_k».proof.Proof.BiasClaims
public import proofs.«01_k».proof.Proof.Gen.InProj.Frame
public import proofs.«01_k».proof.Proof.Gen.InProjIdeal.Frame
public import proofs.«01_k».proof.Proof.Gen.InProjIdeal.Skeleton
public import proofs.«01_k».proof.Proof.Gen.InProjRefIdeal.Run
public import proofs.«01_k».proof.Proof.InProjBits
public import proofs.«01_k».proof.Proof.InProjClaims
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasRefIdeal
public import proofs.«01_k».proof.Proof.Gen.BiasRefIdeal.Run
public import Idealize.ShloMosaic.Adequacy
public import Idealize.ShloMosaic.Init

@[expose] public section

noncomputable section

namespace Cert.Proof

open Idealize.ShloMosaic Idealize.SL.Sem Cert.Mlstm

/-- Everything the certificate claims. -/
theorem claim : Cert.Claim := ⟨Cert.Mlstm.Gen.facts, Cert.MlstmIdeal.Gen.facts, Cert.MlstmRefIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts,
  Cert.Ffn.Gen.facts, Cert.FfnIdeal.Gen.facts, Cert.FfnRefIdeal.Gen.facts,
  Cert.Bias.Gen.facts, Cert.BiasIdeal.Gen.facts, Cert.BiasRefIdeal.Gen.facts, Cert.Pre_finite.Gen.facts,
  fun m ρ _ => Cert.Mlstm.Gen.frame m ρ,
  fun m ρ _ => Cert.MlstmIdeal.Gen.frame m ρ,
  fun m ρ _ => Cert.MlstmIdeal.Gen.frame m ρ,
  MlstmClaims.ref_frame,
  fun m ρ _ => MlstmClaims.ref_frame m ρ trivial,
  InProjFrame.frame_bits,
  InProjClaims.frame_ideal,
  InProjClaims.ref_frame,
  fun m ρ _ => Cert.Merge.Gen.frame m ρ,
  fun m ρ _ => Cert.MergeIdeal.Gen.frame m ρ,
  MergeClaims.ref_frame,
  fun m ρ _ => Cert.Ffn.Gen.frame m ρ,
  fun m ρ _ => Cert.FfnIdeal.Gen.frame m ρ,
  FfnClaims.ref_frame,
  fun m ρ _ => Cert.Bias.Gen.frame m ρ,
  fun m ρ _ => Cert.BiasIdeal.Gen.frame m ρ,
  BiasClaims.ref_frame,
  trivial,
  MlstmClaims.algebraic,
  trivial,
  InProjClaims.algebraic,
  trivial,
  MergeClaims.algebraic,
  trivial,
  FfnClaims.algebraic,
  trivial,
  BiasClaims.algebraic⟩

end Cert.Proof

end
